-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 [hPre_experts_in_range : Cert.Pre_experts_in_range.Facts] (m : (ℓ : Loc Cert.Kernel2.nD Cert.Kernel2.τ Cert.Kernel2.sig) → Buf (Elt Bits) ℓ) : Prop :=
  ∀ c : Dev Cert.Kernel2.nD,
    (Cert.Pre_experts_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2Ideal [hPre_experts_in_range : Cert.Pre_experts_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Kernel2Ideal_rows_routed [hPre_rows_routed : Cert.Pre_rows_routed.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_rows_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_rows_routed [hPre_rows_routed : Cert.Pre_rows_routed.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_rows_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] [hPre_experts_in_range : Cert.Pre_experts_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_experts_in_range : Cert.Pre_experts_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_rows_routed [hKernel2Ideal : Cert.Kernel2Ideal.Facts] [hPre_rows_routed : Cert.Pre_rows_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_rows_routed m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_rows_routed [hReference2Ideal : Cert.Reference2Ideal.Facts] [hPre_rows_routed : Cert.Pre_rows_routed.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_rows_routed m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_rows_routed [hKernel2Ideal : Cert.Kernel2Ideal.Facts] [hReference2Ideal : Cert.Reference2Ideal.Facts] [hPre_rows_routed : Cert.Pre_rows_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_rows_routed m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v5_0)) (v1 : (c : Dev Cert.Kernel4Ideal.nD) → Buf (Elt Ideal) ((c.tc : Thread Cert.Kernel4Ideal.nD Cert.Kernel4Ideal.τ).loc Cert.Kernel4Ideal.main_v5_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5_0) = v0 c
          ∧ r.2.mem ((c.tc : Thread Cert.Kernel4Ideal.nD Cert.Kernel4Ideal.τ).loc Cert.Kernel4Ideal.main_v5_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v36) = v0 c
          ∧ r.2.mem ((c.tc : Thread Cert.Reference4Ideal.nD Cert.Reference4Ideal.τ).loc Cert.Reference4Ideal.main_v50) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v10_0)) (v1 : (c : Dev Cert.Kernel5Ideal.nD) → Buf (Elt Ideal) ((c.tc : Thread Cert.Kernel5Ideal.nD Cert.Kernel5Ideal.τ).loc Cert.Kernel5Ideal.main_v10_1)) (v2 : (c : Dev Cert.Kernel5Ideal.nD) → Buf (Elt Ideal) ((c.tc : Thread Cert.Kernel5Ideal.nD Cert.Kernel5Ideal.τ).loc Cert.Kernel5Ideal.main_v10_2)) (v3 : (c : Dev Cert.Kernel5Ideal.nD) → Buf (Elt Ideal) ((c.tc : Thread Cert.Kernel5Ideal.nD Cert.Kernel5Ideal.τ).loc Cert.Kernel5Ideal.main_v10_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10_0) = v0 c
          ∧ r.2.mem ((c.tc : Thread Cert.Kernel5Ideal.nD Cert.Kernel5Ideal.τ).loc Cert.Kernel5Ideal.main_v10_1) = v1 c
          ∧ r.2.mem ((c.tc : Thread Cert.Kernel5Ideal.nD Cert.Kernel5Ideal.τ).loc Cert.Kernel5Ideal.main_v10_2) = v2 c
          ∧ r.2.mem ((c.tc : Thread Cert.Kernel5Ideal.nD Cert.Kernel5Ideal.τ).loc Cert.Kernel5Ideal.main_v10_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v22) = v0 c
          ∧ r.2.mem ((c.tc : Thread Cert.Reference5Ideal.nD Cert.Reference5Ideal.τ).loc Cert.Reference5Ideal.main_v23) = v1 c
          ∧ r.2.mem ((c.tc : Thread Cert.Reference5Ideal.nD Cert.Reference5Ideal.τ).loc Cert.Reference5Ideal.main_v24) = v2 c
          ∧ r.2.mem ((c.tc : Thread Cert.Reference5Ideal.nD Cert.Reference5Ideal.τ).loc Cert.Reference5Ideal.main_v25) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) →
    ∃ (v0 : (c : Dev Cert.Kernel6Ideal.nD) → Buf (Elt Ideal) ((c.tc : Thread Cert.Kernel6Ideal.nD Cert.Kernel6Ideal.τ).loc Cert.Kernel6Ideal.main_v7_0)) (v1 : (c : Dev Cert.Kernel6Ideal.nD) → Buf (Elt Ideal) ((c.tc : Thread Cert.Kernel6Ideal.nD Cert.Kernel6Ideal.τ).loc Cert.Kernel6Ideal.main_v7_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v7_0) = v0 c
          ∧ r.2.mem ((c.tc : Thread Cert.Kernel6Ideal.nD Cert.Kernel6Ideal.τ).loc Cert.Kernel6Ideal.main_v7_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v36) = v0 c
          ∧ r.2.mem ((c.tc : Thread Cert.Reference6Ideal.nD Cert.Reference6Ideal.τ).loc Cert.Reference6Ideal.main_v50) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_scores : Cert.Pre_finite_scores.Facts) (hPre_experts_in_range : Cert.Pre_experts_in_range.Facts) (hPre_rows_routed : Cert.Pre_rows_routed.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2) (hPre_experts_in_range := hPre_experts_in_range)
    ∧ quiescent_Kernel2Ideal (hKernel2Ideal := hKernel2Ideal) (hPre_experts_in_range := hPre_experts_in_range)
    ∧ quiescent_Kernel2Ideal_pre_rows_routed (hKernel2Ideal := hKernel2Ideal) (hPre_rows_routed := hPre_rows_routed)
    ∧ quiescent_Reference2Ideal (hReference2Ideal := hReference2Ideal)
    ∧ quiescent_Reference2Ideal_pre_rows_routed (hReference2Ideal := hReference2Ideal) (hPre_rows_routed := hPre_rows_routed)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal_pre_rows_routed (hKernel2Ideal := hKernel2Ideal) (hReference2Ideal := hReference2Ideal) (hPre_rows_routed := hPre_rows_routed)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_experts_in_range.lean ====
abbrev S72 : Shape := ⟨1, ![72]⟩
abbrev S1 : Shape := ⟨1, ![1]⟩
abbrev S294912x128 : Shape := ⟨2, ![294912, 128]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S72 : S_.BroadcastsInDim S72 (![] : Fin 0 → Fin S72.rank)
  reducesTo_S72_S_d0 : S72.ReducesTo [0] S_
  h_S_ : 0 < S_.numel

variable [Facts]

def fn {F : FTy → Type} [FloatOps F] (main_arg0 : IVec S72 32) (main_arg1 : IVec S1 32) (main_arg2 : IVec S72 32) (main_arg3 : FVec F S294912x128 .f32) (main_arg4 : FVec F S8x1024x3584 .bf16) (main_arg5 : FVec F S8x1024x3584 .bf16) (main_arg6 : FVec F S8x3584x1024 .bf16) : IVec S_ 1 :=
  let main_c : IVec S_ 32 := constantI S_ 32 0#32
  let main_v0 : IVec S72 32 := broadcastInDim S72 ![] bcast_S_S72 main_c
  let main_v1 : IVec S72 1 := cmpi .sge main_arg0 main_v0
  let main_c_0 : IVec S_ 32 := constantI S_ 32 8#32
  let main_v2 : IVec S72 32 := broadcastInDim S72 ![] bcast_S_S72 main_c_0
  let main_v3 : IVec S72 1 := cmpi .slt main_arg0 main_v2
  let main_v4 : IVec S72 1 := andi main_v1 main_v3
  let main_c_1 : IVec S_ 1 := constantI S_ 1 1#1
  let main_v5 : IVec S_ 1 := (fun x v => Host.reduce IntOp.andi x v reducesTo_S72_S_d0 h_S_) main_v4 main_c_1
  main_v5
-- ==== Pre_finite_scores.lean ====
abbrev S8x512x2048 : Shape := ⟨3, ![8, 512, 2048]⟩
abbrev S8x2048x4096 : Shape := ⟨3, ![8, 2048, 4096]⟩
abbrev S8x16x512x128 : Shape := ⟨4, ![8, 16, 512, 128]⟩
abbrev S8x257 : Shape := ⟨2, ![8, 257]⟩
abbrev S_ : Shape := ⟨0, ![]⟩
abbrev S8x2048x512 : Shape := ⟨3, ![8, 2048, 512]⟩

class Facts : Prop where
  bcast_S_S8x512x2048 : S_.BroadcastsInDim S8x512x2048 (![] : Fin 0 → Fin S8x512x2048.rank)
  reducesTo_S8x512x2048_S_d0_1_2 : S8x512x2048.ReducesTo [0, 1, 2] S_
  h_S_ : 0 < S_.numel
  slices_S8x2048x4096_S8x2048x512_0_0_0 : S8x2048x4096.Slices ![0, 0, 0] S8x2048x512
  bcast_S_S8x2048x512 : S_.BroadcastsInDim S8x2048x512 (![] : Fin 0 → Fin S8x2048x512.rank)
  reducesTo_S8x2048x512_S_d0_1_2 : S8x2048x512.ReducesTo [0, 1, 2] S_
  bcast_S_S8x257 : S_.BroadcastsInDim S8x257 (![] : Fin 0 → Fin S8x257.rank)
  reducesTo_S8x257_S_d0_1 : S8x257.ReducesTo [0, 1] S_

variable [Facts]

def fn {F : FTy → Type} [FloatOps F] (main_arg0 : FVec F S8x512x2048 .bf16) (main_arg1 : FVec F S8x2048x4096 .bf16) (main_arg2 : FVec F S8x16x512x128 .bf16) (main_arg3 : FVec F S8x257 .f32) : IVec S_ 1 :=
  let main_v0 : FVec F S8x512x2048 .bf16 := Host.absf main_arg0
  let main_cst : FVec F S_ .bf16 := constant S_ .bf16 0x7F80#16
  let main_v1 : FVec F S8x512x2048 .bf16 := broadcastInDim S8x512x2048 ![] bcast_S_S8x512x2048 main_cst
  let main_v2 : IVec S8x512x2048 1 := cmpf .olt main_v0 main_v1
  let main_c : IVec S_ 1 := constantI S_ 1 1#1
  let main_v3 : IVec S_ 1 := (fun x v => Host.reduce IntOp.andi x v reducesTo_S8x512x2048_S_d0_1_2 h_S_) main_v2 main_c
  let main_v4 : FVec F S8x2048x512 .bf16 := (extractStridedSlice S8x2048x512 ![0, 0, 0] · slices_S8x2048x4096_S8x2048x512_0_0_0) main_arg1
  let main_v5 : FVec F S8x2048x512 .bf16 := Host.absf main_v4
  let main_cst_0 : FVec F S_ .bf16 := constant S_ .bf16 0x7F80#16
  let main_v6 : FVec F S8x2048x512 .bf16 := broadcastInDim S8x2048x512 ![] bcast_S_S8x2048x512 main_cst_0
  let main_v7 : IVec S8x2048x512 1 := cmpf .olt main_v5 main_v6
  let main_c_1 : IVec S_ 1 := constantI S_ 1 1#1
  let main_v8 : IVec S_ 1 := (fun x v => Host.reduce IntOp.andi x v reducesTo_S8x2048x512_S_d0_1_2 h_S_) main_v7 main_c_1
  let main_v9 : IVec S_ 1 := andi main_v3 main_v8
  let main_v10 : FVec F S8x257 .f32 := Host.absf main_arg3
  let main_cst_2 : FVec F S_ .f32 := constant S_ .f32 0x7F800000#32
  let main_v11 : FVec F S8x257 .f32 := broadcastInDim S8x257 ![] bcast_S_S8x257 main_cst_2
  let main_v12 : IVec S8x257 1 := cmpf .olt main_v10 main_v11
  let main_c_3 : IVec S_ 1 := constantI S_ 1 1#1
  let main_v13 : IVec S_ 1 := (fun x v => Host.reduce IntOp.andi x v reducesTo_S8x257_S_d0_1 h_S_) main_v12 main_c_3
  let main_v14 : IVec S_ 1 := andi main_v9 main_v13
  main_v14
-- ==== Pre_rows_routed.lean ====
abbrev S72 : Shape := ⟨1, ![72]⟩
abbrev S1 : Shape := ⟨1, ![1]⟩
abbrev S294912x128 : Shape := ⟨2, ![294912, 128]⟩
abbrev S8x1024x3584 : Shape := ⟨3, ![8, 1024, 3584]⟩
abbrev S8x3584x1024 : Shape := ⟨3, ![8, 3584, 1024]⟩
abbrev S72x512x1024 : Shape := ⟨3, ![72, 512, 1024]⟩
abbrev S_ : Shape := ⟨0, ![]⟩
abbrev S72x1x1 : Shape := ⟨3, ![72, 1, 1]⟩

class Facts : Prop where
  shapeCasts_S1_S_ : S1.ShapeCasts S_
  bcast_S_S72x512x1024 : S_.BroadcastsInDim S72x512x1024 (![] : Fin 0 → Fin S72x512x1024.rank)
  bcast_S72_S72x1x1_0 : S72.BroadcastsInDim S72x1x1 (![0] : Fin 1 → Fin S72x1x1.rank)
  bcast_S72x1x1_S72x512x1024_0_1_2 : S72x1x1.BroadcastsInDim S72x512x1024 (![0, 1, 2] : Fin 3 → Fin S72x512x1024.rank)
  bcast_S_S72 : S_.BroadcastsInDim S72 (![] : Fin 0 → Fin S72.rank)
  reducesTo_S72_S_d0 : S72.ReducesTo [0] S_
  h_S_ : 0 < S_.numel
  shapeCasts_S294912x128_S72x512x1024 : S294912x128.ShapeCasts S72x512x1024
  reducesTo_S72x512x1024_S_d0_1_2 : S72x512x1024.ReducesTo [0, 1, 2] S_

variable [Facts]

def fn_part1 {F : FTy → Type} [FloatOps F] (main_v14 : IVec S_ 1) (main_v18 : IVec S72x512x1024 1) (main_c_2 : IVec S_ 1) : IVec S_ 1 :=
  let main_v19 : IVec S_ 1 := (fun x v => Host.reduce IntOp.andi x v reducesTo_S72x512x1024_S_d0_1_2 h_S_) main_v18 main_c_2
  let main_v20 : IVec S_ 1 := andi main_v14 main_v19
  main_v20

def fn {F : FTy → Type} [FloatOps F] (main_arg0 : IVec S72 32) (main_arg1 : IVec S1 32) (main_arg2 : IVec S72 32) (main_arg3 : FVec F S294912x128 .f32) (main_arg4 : FVec F S8x1024x3584 .bf16) (main_arg5 : FVec F S8x1024x3584 .bf16) (main_arg6 : FVec F S8x3584x1024 .bf16) : IVec S_ 1 :=
  let main_v0 : IVec S72x512x1024 32 := iotaInDim S72x512x1024 32 0
  let main_v1 : IVec S72x512x1024 32 := iotaInDim S72x512x1024 32 1
  let main_v2 : IVec S_ 32 := shapeCast S_ main_arg1 shapeCasts_S1_S_
  let main_v3 : IVec S72x512x1024 32 := broadcastInDim S72x512x1024 ![] bcast_S_S72x512x1024 main_v2
  let main_v4 : IVec S72x512x1024 1 := cmpi .slt main_v0 main_v3
  let main_v5 : IVec S72x1x1 32 := broadcastInDim S72x1x1 ![0] bcast_S72_S72x1x1_0 main_arg2
  let main_v6 : IVec S72x512x1024 32 := broadcastInDim S72x512x1024 ![0, 1, 2] bcast_S72x1x1_S72x512x1024_0_1_2 main_v5
  let main_v7 : IVec S72x512x1024 1 := cmpi .slt main_v1 main_v6
  let main_v8 : IVec S72x512x1024 1 := andi main_v4 main_v7
  let main_c : IVec S_ 32 := constantI S_ 32 0#32
  let main_v9 : IVec S72 32 := broadcastInDim S72 ![] bcast_S_S72 main_c
  let main_v10 : IVec S72 1 := cmpi .sge main_arg0 main_v9
  let main_c_0 : IVec S_ 32 := constantI S_ 32 8#32
  let main_v11 : IVec S72 32 := broadcastInDim S72 ![] bcast_S_S72 main_c_0
  let main_v12 : IVec S72 1 := cmpi .slt main_arg0 main_v11
  let main_v13 : IVec S72 1 := andi main_v10 main_v12
  let main_c_1 : IVec S_ 1 := constantI S_ 1 1#1
  let main_v14 : IVec S_ 1 := (fun x v => Host.reduce IntOp.andi x v reducesTo_S72_S_d0 h_S_) main_v13 main_c_1
  let main_v15 : FVec F S72x512x1024 .f32 := shapeCast S72x512x1024 main_arg3 shapeCasts_S294912x128_S72x512x1024
  let main_cst : FVec F S_ .f32 := constant S_ .f32 0x00000000#32
  let main_v16 : FVec F S72x512x1024 .f32 := broadcastInDim S72x512x1024 ![] bcast_S_S72x512x1024 main_cst
  let main_v17 : IVec S72x512x1024 1 := cmpf .oeq main_v15 main_v16
  let main_v18 : IVec S72x512x1024 1 := ori main_v8 main_v17
  let main_c_2 : IVec S_ 1 := constantI S_ 1 1#1
  fn_part1 (F := F) main_v14 main_v18 main_c_2
-- ==== Kernel.lean ====
abbrev S8x512x2048 : Shape := ⟨3, ![8, 512, 2048]⟩
abbrev S8x2048x4096 : Shape := ⟨3, ![8, 2048, 4096]⟩
abbrev S8x16x512x128 : Shape := ⟨4, ![8, 16, 512, 128]⟩
abbrev S8x257 : Shape := ⟨2, ![8, 257]⟩
abbrev S128 : Shape := ⟨1, ![128]⟩
abbrev S128x1 : Shape := ⟨2, ![128, 1]⟩
abbrev S640 : Shape := ⟨1, ![640]⟩
abbrev S1x640 : Shape := ⟨2, ![1, 640]⟩
abbrev S_ : Shape := ⟨0, ![]⟩
abbrev S128x640 : Shape := ⟨2, ![128, 640]⟩
abbrev S8x1 : Shape := ⟨2, ![8, 1]⟩
abbrev S8x511 : Shape := ⟨2, ![8, 511]⟩
abbrev S8x256 : Shape := ⟨2, ![8, 256]⟩
abbrev S8x767 : Shape := ⟨2, ![8, 767]⟩
abbrev S8x768 : Shape := ⟨2, ![8, 768]⟩
abbrev S1x8x1x768 : Shape := ⟨4, ![1, 8, 1, 768]⟩
abbrev S1x8x128x768 : Shape := ⟨4, ![1, 8, 128, 768]⟩
abbrev S8x98304 : Shape := ⟨2, ![8, 98304]⟩
abbrev S8x98176 : Shape := ⟨2, ![8, 98176]⟩
abbrev S8x128x767 : Shape := ⟨3, ![8, 128, 767]⟩
abbrev S1x128x640 : Shape := ⟨3, ![1, 128, 640]⟩
abbrev S8x128x640 : Shape := ⟨3, ![8, 128, 640]⟩
abbrev S8x640x128 : Shape := ⟨3, ![8, 640, 128]⟩
abbrev S8x5x128x128 : Shape := ⟨4, ![8, 5, 128, 128]⟩
abbrev S8x2048x512 : Shape := ⟨3, ![8, 2048, 512]⟩
abbrev S1x512x128 : Shape := ⟨3, ![1, 512, 128]⟩
abbrev S1x2048x512 : Shape := ⟨3, ![1, 2048, 512]⟩
abbrev S1x16x512x128 : Shape := ⟨4, ![1, 16, 512, 128]⟩
abbrev S1x128x512 : Shape := ⟨3, ![1, 128, 512]⟩
abbrev S128x128 : Shape := ⟨2, ![128, 128]⟩
abbrev S1x128x128 : Shape := ⟨3, ![1, 128, 128]⟩
abbrev S1x1x128x128 : Shape := ⟨4, ![1, 1, 128, 128]⟩
abbrev S1x128 : Shape := ⟨2, ![1, 128]⟩
abbrev S1x1x64x128 : Shape := ⟨4, ![1, 1, 64, 128]⟩
abbrev S64x128 : Shape := ⟨2, ![64, 128]⟩

abbrev nBuf : Space → Nat
  | .hbm => 44
  | .vmem => 9
  | .smem => 0
  | _ => 0

abbrev bufTy : (tb : Table) → Fin (tcTables nBuf tb) → BufTy
  | .hbm, ⟨0, _⟩ => ⟨S8x512x2048, .bf16⟩
  | .hbm, ⟨1, _⟩ => ⟨S8x2048x4096, .bf16⟩
  | .hbm, ⟨2, _⟩ => ⟨S8x16x512x128, .bf16⟩
  | .hbm, ⟨3, _⟩ => ⟨S8x257, .f32⟩
  | .hbm, ⟨4, _⟩ => ⟨S128, .i32⟩
  | .hbm, ⟨5, _⟩ => ⟨S128x1, .i32⟩
  | .hbm, ⟨6, _⟩ => ⟨S640, .i32⟩
  | .hbm, ⟨7, _⟩ => ⟨S1x640, .i32⟩
  | .hbm, ⟨8, _⟩ => ⟨S_, .i32⟩
  | .hbm, ⟨9, _⟩ => ⟨S128x1, .i32⟩
  | .hbm, ⟨10, _⟩ => ⟨S128x1, .i1⟩
  | .hbm, ⟨11, _⟩ => ⟨S_, .i32⟩
  | .hbm, ⟨12, _⟩ => ⟨S1x640, .i32⟩
  | .hbm, ⟨13, _⟩ => ⟨S1x640, .i1⟩
  | .hbm, ⟨14, _⟩ => ⟨S_, .i32⟩
  | .hbm, ⟨15, _⟩ => ⟨S1x640, .i32⟩
  | .hbm, ⟨16, _⟩ => ⟨S1x640, .i1⟩
  | .hbm, ⟨17, _⟩ => ⟨S128x640, .i1⟩
  | .hbm, ⟨18, _⟩ => ⟨S128x640, .i1⟩
  | .hbm, ⟨19, _⟩ => ⟨S128x640, .i1⟩
  | .hbm, ⟨20, _⟩ => ⟨S128x640, .i1⟩
  | .hbm, ⟨21, _⟩ => ⟨S8x1, .f32⟩
  | .hbm, ⟨22, _⟩ => ⟨S8x511, .f32⟩
  | .hbm, ⟨23, _⟩ => ⟨S8x256, .f32⟩
  | .hbm, ⟨24, _⟩ => ⟨S8x256, .f32⟩
  | .hbm, ⟨25, _⟩ => ⟨S8x767, .f32⟩
  | .hbm, ⟨26, _⟩ => ⟨S_, .i32⟩
  | .hbm, ⟨27, _⟩ => ⟨S_, .f32⟩
  | .hbm, ⟨28, _⟩ => ⟨S8x768, .f32⟩
  | .hbm, ⟨29, _⟩ => ⟨S1x8x1x768, .f32⟩
  | .hbm, ⟨30, _⟩ => ⟨S1x8x128x768, .f32⟩
  | .hbm, ⟨31, _⟩ => ⟨S8x98304, .f32⟩
  | .hbm, ⟨32, _⟩ => ⟨S8x98176, .f32⟩
  | .hbm, ⟨33, _⟩ => ⟨S8x128x767, .f32⟩
  | .hbm, ⟨34, _⟩ => ⟨S1x128x640, .i1⟩
  | .hbm, ⟨35, _⟩ => ⟨S8x128x640, .f32⟩
  | .hbm, ⟨36, _⟩ => ⟨S_, .f32⟩
  | .hbm, ⟨37, _⟩ => ⟨S_, .f32⟩
  | .hbm, ⟨38, _⟩ => ⟨S8x128x640, .i1⟩
  | .hbm, ⟨39, _⟩ => ⟨S8x128x640, .f32⟩
  | .hbm, ⟨40, _⟩ => ⟨S8x128x640, .f32⟩
  | .hbm, ⟨41, _⟩ => ⟨S8x640x128, .f32⟩
  | .hbm, ⟨42, _⟩ => ⟨S8x5x128x128, .f32⟩
  | .hbm, ⟨43, _⟩ => ⟨S8x2048x512, .bf16⟩
  | .local _ .vmem, ⟨0, _⟩ => ⟨S1x512x128, .bf16⟩
  | .local _ .vmem, ⟨1, _⟩ => ⟨S1x512x128, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x16x512x128, .bf16⟩
  | .local _ .vmem, ⟨5, _⟩ => ⟨S1x16x512x128, .bf16⟩
  | .local _ .vmem, ⟨6, _⟩ => ⟨S8x5x128x128, .f32⟩
  | .local _ .vmem, ⟨7, _⟩ => ⟨S1x128x512, .bf16⟩
  | .local _ .vmem, ⟨8, _⟩ => ⟨S1x128x512, .bf16⟩
  | _, _ => ⟨S8x512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_call1_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst : Ref sig .tc := ⟨.hbm, 36, rfl⟩
abbrev main_call2_v0 : Ref sig .tc := ⟨.hbm, 37, rfl⟩
abbrev main_call2_v1 : Ref sig .tc := ⟨.hbm, 38, rfl⟩
abbrev main_call2_v2 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c0_i32 : BitVec 32 := 0#32
  let v3 : BitVec 32 := Scalar.addi arg1 c0_i32
  let c4_i32 : BitVec 32 := 4#32
  let v4 : BitVec 32 := Scalar.subi v3 c4_i32
  let c0_i32_5 : BitVec 32 := 0#32
  let v13 : BitVec 32 := Scalar.maxsi v4 c0_i32_5
  let c128_i32 : BitVec 32 := 128#32
  let v22 : BitVec 32 := Scalar.muli v13 c128_i32
  v22
def k0_off1 (i : grid0.Coords) (c0_i32 : BitVec 32) : Fin 3 → Nat :=
  let c0_12 : Index := 0#32
  let arg1 : BitVec 32 := BitVec.ofNat 32 (i 1).val
  let v3 : BitVec 32 := Scalar.addi arg1 c0_i32
  let c4_i32 : BitVec 32 := 4#32
  let v4 : BitVec 32 := Scalar.subi v3 c4_i32
  let c0_i32_5 : BitVec 32 := 0#32
  let v13 : BitVec 32 := Scalar.maxsi v4 c0_i32_5
  let c128_i32 : BitVec 32 := 128#32
  let v22 : BitVec 32 := Scalar.muli v13 c128_i32
  let v23 : BitVec 32 := v22
  let v24 : Index := Scalar.indexCast v23
  let c0_13 : Index := 0#32
  ![0, v24.toNat, 0]
def k0_mult2 (i : grid0.Coords) : BitVec 32 :=
  let arg1 : BitVec 32 := BitVec.ofNat 32 (i 1).val
  let c1_i32 : BitVec 32 := 1#32
  let v5 : BitVec 32 := Scalar.addi arg1 c1_i32
  let c4_i32_0 : BitVec 32 := 4#32
  let v6 : BitVec 32 := Scalar.subi v5 c4_i32_0
  let c0_i32_6 : BitVec 32 := 0#32
  let v14 : BitVec 32 := Scalar.maxsi v6 c0_i32_6
  let c128_i32_14 : BitVec 32 := 128#32
  let v27 : BitVec 32 := Scalar.muli v14 c128_i32_14
  v27
def k0_mult3 (i : grid0.Coords) : BitVec 32 :=
  let arg1 : BitVec 32 := BitVec.ofNat 32 (i 1).val
  let c2_i32 : BitVec 32 := 2#32
  let v7 : BitVec 32 := Scalar.addi arg1 c2_i32
  let c4_i32_1 : BitVec 32 := 4#32
  let v8 : BitVec 32 := Scalar.subi v7 c4_i32_1
  let c0_i32_7 : BitVec 32 := 0#32
  let v15 : BitVec 32 := Scalar.maxsi v8 c0_i32_7
  let c128_i32_17 : BitVec 32 := 128#32
  let v32 : BitVec 32 := Scalar.muli v15 c128_i32_17
  v32
def k0_mult4 (i : grid0.Coords) : BitVec 32 :=
  let arg1 : BitVec 32 := BitVec.ofNat 32 (i 1).val
  let c3_i32 : BitVec 32 := 3#32
  let v9 : BitVec 32 := Scalar.addi arg1 c3_i32
  let c4_i32_2 : BitVec 32 := 4#32
  let v10 : BitVec 32 := Scalar.subi v9 c4_i32_2
  let c0_i32_8 : BitVec 32 := 0#32
  let v16 : BitVec 32 := Scalar.maxsi v10 c0_i32_8
  let c128_i32_20 : BitVec 32 := 128#32
  let v37 : BitVec 32 := Scalar.muli v16 c128_i32_20
  v37
def k0_mult5 (i : grid0.Coords) : BitVec 32 :=
  let arg1 : BitVec 32 := BitVec.ofNat 32 (i 1).val
  let c4_i32_3 : BitVec 32 := 4#32
  let v11 : BitVec 32 := Scalar.addi arg1 c4_i32_3
  let c4_i32_4 : BitVec 32 := 4#32
  let v12 : BitVec 32 := Scalar.subi v11 c4_i32_4
  let c0_i32_9 : BitVec 32 := 0#32
  let v17 : BitVec 32 := Scalar.maxsi v12 c0_i32_9
  let c128_i32_23 : BitVec 32 := 128#32
  let v42 : BitVec 32 := Scalar.muli v17 c128_i32_23
  v42
def k0_off2 (i : grid0.Coords) (c0_i32 : BitVec 32) : Fin 4 → Nat :=
  let c0_61 : Index := 0#32
  let arg1 : BitVec 32 := BitVec.ofNat 32 (i 1).val
  let v3 : BitVec 32 := Scalar.addi arg1 c0_i32
  let c4_i32 : BitVec 32 := 4#32
  let v4 : BitVec 32 := Scalar.subi v3 c4_i32
  let c0_i32_5 : BitVec 32 := 0#32
  let v13 : BitVec 32 := Scalar.maxsi v4 c0_i32_5
  let v99 : Index := Scalar.indexCast v13
  let c0_62 : Index := 0#32
  let c0_63 : Index := 0#32
  ![0, v99.toNat, 0, 0]
def k0_off3 (i : grid0.Coords) (c0_i32 : BitVec 32) : Fin 4 → Nat :=
  let c0_124 : Index := 0#32
  let arg1 : BitVec 32 := BitVec.ofNat 32 (i 1).val
  let v3 : BitVec 32 := Scalar.addi arg1 c0_i32
  let c4_i32 : BitVec 32 := 4#32
  let v4 : BitVec 32 := Scalar.subi v3 c4_i32
  let c0_i32_5 : BitVec 32 := 0#32
  let v13 : BitVec 32 := Scalar.maxsi v4 c0_i32_5
  let v206 : Index := Scalar.indexCast v13
  let c64 : Index := 64#32
  let c0_125 : Index := 0#32
  ![0, v206.toNat, 64, 0]
def k0_mult6 (i : grid0.Coords) : BitVec 32 :=
  let arg1 : BitVec 32 := BitVec.ofNat 32 (i 1).val
  let c0_i32 : BitVec 32 := 0#32
  let v3 : BitVec 32 := Scalar.addi arg1 c0_i32
  let c4_i32 : BitVec 32 := 4#32
  let v4 : BitVec 32 := Scalar.subi v3 c4_i32
  let c0_i32_5 : BitVec 32 := 0#32
  let v13 : BitVec 32 := Scalar.maxsi v4 c0_i32_5
  let c128_i32_153 : BitVec 32 := 128#32
  let v271 : BitVec 32 := Scalar.muli v13 c128_i32_153
  v271
def k0_off4 (i : grid0.Coords) (c0_i32 : BitVec 32) : Fin 3 → Nat :=
  let c0_154 : Index := 0#32
  let arg1 : BitVec 32 := BitVec.ofNat 32 (i 1).val
  let v3 : BitVec 32 := Scalar.addi arg1 c0_i32
  let c4_i32 : BitVec 32 := 4#32
  let v4 : BitVec 32 := Scalar.subi v3 c4_i32
  let c0_i32_5 : BitVec 32 := 0#32
  let v13 : BitVec 32 := Scalar.maxsi v4 c0_i32_5
  let c128_i32_153 : BitVec 32 := 128#32
  let v271 : BitVec 32 := Scalar.muli v13 c128_i32_153
  let v272 : BitVec 32 := v271
  let v273 : Index := Scalar.indexCast v272
  let c128_155 : Index := 128#32
  ![0, v273.toNat, 128]
def k0_mult7 (i : grid0.Coords) : BitVec 32 :=
  let arg1 : BitVec 32 := BitVec.ofNat 32 (i 1).val
  let c1_i32 : BitVec 32 := 1#32
  let v5 : BitVec 32 := Scalar.addi arg1 c1_i32
  let c4_i32_0 : BitVec 32 := 4#32
  let v6 : BitVec 32 := Scalar.subi v5 c4_i32_0
  let c0_i32_6 : BitVec 32 := 0#32
  let v14 : BitVec 32 := Scalar.maxsi v6 c0_i32_6
  let c128_i32_156 : BitVec 32 := 128#32
  let v276 : BitVec 32 := Scalar.muli v14 c128_i32_156
  v276
def k0_mult8 (i : grid0.Coords) : BitVec 32 :=
  let arg1 : BitVec 32 := BitVec.ofNat 32 (i 1).val
  let c2_i32 : BitVec 32 := 2#32
  let v7 : BitVec 32 := Scalar.addi arg1 c2_i32
  let c4_i32_1 : BitVec 32 := 4#32
  let v8 : BitVec 32 := Scalar.subi v7 c4_i32_1
  let c0_i32_7 : BitVec 32 := 0#32
  let v15 : BitVec 32 := Scalar.maxsi v8 c0_i32_7
  let c128_i32_159 : BitVec 32 := 128#32
  let v281 : BitVec 32 := Scalar.muli v15 c128_i32_159
  v281
def k0_mult9 (i : grid0.Coords) : BitVec 32 :=
  let arg1 : BitVec 32 := BitVec.ofNat 32 (i 1).val
  let c3_i32 : BitVec 32 := 3#32
  let v9 : BitVec 32 := Scalar.addi arg1 c3_i32
  let c4_i32_2 : BitVec 32 := 4#32
  let v10 : BitVec 32 := Scalar.subi v9 c4_i32_2
  let c0_i32_8 : BitVec 32 := 0#32
  let v16 : BitVec 32 := Scalar.maxsi v10 c0_i32_8
  let c128_i32_162 : BitVec 32 := 128#32
  let v286 : BitVec 32 := Scalar.muli v16 c128_i32_162
  v286
def k0_mult10 (i : grid0.Coords) : BitVec 32 :=
  let arg1 : BitVec 32 := BitVec.ofNat 32 (i 1).val
  let c4_i32_3 : BitVec 32 := 4#32
  let v11 : BitVec 32 := Scalar.addi arg1 c4_i32_3
  let c4_i32_4 : BitVec 32 := 4#32
  let v12 : BitVec 32 := Scalar.subi v11 c4_i32_4
  let c0_i32_9 : BitVec 32 := 0#32
  let v17 : BitVec 32 := Scalar.maxsi v12 c0_i32_9
  let c128_i32_165 : BitVec 32 := 128#32
  let v291 : BitVec 32 := Scalar.muli v17 c128_i32_165
  v291
def k0_off5 (i : grid0.Coords) (c0_i32 : BitVec 32) : Fin 4 → Nat :=
  let c0_208 : Index := 0#32
  let arg1 : BitVec 32 := BitVec.ofNat 32 (i 1).val
  let v3 : BitVec 32 := Scalar.addi arg1 c0_i32
  let c4_i32 : BitVec 32 := 4#32
  let v4 : BitVec 32 := Scalar.subi v3 c4_i32
  let c0_i32_5 : BitVec 32 := 0#32
  let v13 : BitVec 32 := Scalar.maxsi v4 c0_i32_5
  let v348 : Index := Scalar.indexCast v13
  let c128_209 : Index := 128#32
  let c0_210 : Index := 0#32
  ![0, v348.toNat, 128, 0]
def k0_off6 (i : grid0.Coords) (c0_i32 : BitVec 32) : Fin 4 → Nat :=
  let c0_272 : Index := 0#32
  let arg1 : BitVec 32 := BitVec.ofNat 32 (i 1).val
  let v3 : BitVec 32 := Scalar.addi arg1 c0_i32
  let c4_i32 : BitVec 32 := 4#32
  let v4 : BitVec 32 := Scalar.subi v3 c4_i32
  let c0_i32_5 : BitVec 32 := 0#32
  let v13 : BitVec 32 := Scalar.maxsi v4 c0_i32_5
  let v455 : Index := Scalar.indexCast v13
  let c192 : Index := 192#32
  let c0_273 : Index := 0#32
  ![0, v455.toNat, 192, 0]
def k0_mult11 (i : grid0.Coords) : BitVec 32 :=
  let arg1 : BitVec 32 := BitVec.ofNat 32 (i 1).val
  let c0_i32 : BitVec 32 := 0#32
  let v3 : BitVec 32 := Scalar.addi arg1 c0_i32
  let c4_i32 : BitVec 32 := 4#32
  let v4 : BitVec 32 := Scalar.subi v3 c4_i32
  let c0_i32_5 : BitVec 32 := 0#32
  let v13 : BitVec 32 := Scalar.maxsi v4 c0_i32_5
  let c128_i32_301 : BitVec 32 := 128#32
  let v520 : BitVec 32 := Scalar.muli v13 c128_i32_301
  v520
def k0_off7 (i : grid0.Coords) (c0_i32 : BitVec 32) : Fin 3 → Nat :=
  let c0_302 : Index := 0#32
  let arg1 : BitVec 32 := BitVec.ofNat 32 (i 1).val
  let v3 : BitVec 32 := Scalar.addi arg1 c0_i32
  let c4_i32 : BitVec 32 := 4#32
  let v4 : BitVec 32 := Scalar.subi v3 c4_i32
  let c0_i32_5 : BitVec 32 := 0#32
  let v13 : BitVec 32 := Scalar.maxsi v4 c0_i32_5
  let c128_i32_301 : BitVec 32 := 128#32
  let v520 : BitVec 32 := Scalar.muli v13 c128_i32_301
  let v521 : BitVec 32 := v520
  let v522 : Index := Scalar.indexCast v521
  let c256_303 : Index := 256#32
  ![0, v522.toNat, 256]
def k0_mult12 (i : grid0.Coords) : BitVec 32 :=
  let arg1 : BitVec 32 := BitVec.ofNat 32 (i 1).val
  let c1_i32 : BitVec 32 := 1#32
  let v5 : BitVec 32 := Scalar.addi arg1 c1_i32
  let c4_i32_0 : BitVec 32 := 4#32
  let v6 : BitVec 32 := Scalar.subi v5 c4_i32_0
  let c0_i32_6 : BitVec 32 := 0#32
  let v14 : BitVec 32 := Scalar.maxsi v6 c0_i32_6
  let c128_i32_304 : BitVec 32 := 128#32
  let v525 : BitVec 32 := Scalar.muli v14 c128_i32_304
  v525
def k0_mult13 (i : grid0.Coords) : BitVec 32 :=
  let arg1 : BitVec 32 := BitVec.ofNat 32 (i 1).val
  let c2_i32 : BitVec 32 := 2#32
  let v7 : BitVec 32 := Scalar.addi arg1 c2_i32
  let c4_i32_1 : BitVec 32 := 4#32
  let v8 : BitVec 32 := Scalar.subi v7 c4_i32_1
  let c0_i32_7 : BitVec 32 := 0#32
  let v15 : BitVec 32 := Scalar.maxsi v8 c0_i32_7
  let c128_i32_307 : BitVec 32 := 128#32
  let v530 : BitVec 32 := Scalar.muli v15 c128_i32_307
  v530
def k0_mult14 (i : grid0.Coords) : BitVec 32 :=
  let arg1 : BitVec 32 := BitVec.ofNat 32 (i 1).val
  let c3_i32 : BitVec 32 := 3#32
  let v9 : BitVec 32 := Scalar.addi arg1 c3_i32
  let c4_i32_2 : BitVec 32 := 4#32
  let v10 : BitVec 32 := Scalar.subi v9 c4_i32_2
  let c0_i32_8 : BitVec 32 := 0#32
  let v16 : BitVec 32 := Scalar.maxsi v10 c0_i32_8
  let c128_i32_310 : BitVec 32 := 128#32
  let v535 : BitVec 32 := Scalar.muli v16 c128_i32_310
  v535
def k0_mult15 (i : grid0.Coords) : BitVec 32 :=
  let arg1 : BitVec 32 := BitVec.ofNat 32 (i 1).val
  let c4_i32_3 : BitVec 32 := 4#32
  let v11 : BitVec 32 := Scalar.addi arg1 c4_i32_3
  let c4_i32_4 : BitVec 32 := 4#32
  let v12 : BitVec 32 := Scalar.subi v11 c4_i32_4
  let c0_i32_9 : BitVec 32 := 0#32
  let v17 : BitVec 32 := Scalar.maxsi v12 c0_i32_9
  let c128_i32_313 : BitVec 32 := 128#32
  let v540 : BitVec 32 := Scalar.muli v17 c128_i32_313
  v540
def k0_off8 (i : grid0.Coords) (c0_i32 : BitVec 32) : Fin 4 → Nat :=
  let c0_356 : Index := 0#32
  let arg1 : BitVec 32 := BitVec.ofNat 32 (i 1).val
  let v3 : BitVec 32 := Scalar.addi arg1 c0_i32
  let c4_i32 : BitVec 32 := 4#32
  let v4 : BitVec 32 := Scalar.subi v3 c4_i32
  let c0_i32_5 : BitVec 32 := 0#32
  let v13 : BitVec 32 := Scalar.maxsi v4 c0_i32_5
  let v597 : Index := Scalar.indexCast v13
  let c256_357 : Index := 256#32
  let c0_358 : Index := 0#32
  ![0, v597.toNat, 256, 0]
def k0_off9 (i : grid0.Coords) (c0_i32 : BitVec 32) : Fin 4 → Nat :=
  let c0_419 : Index := 0#32
  let arg1 : BitVec 32 := BitVec.ofNat 32 (i 1).val
  let v3 : BitVec 32 := Scalar.addi arg1 c0_i32
  let c4_i32 : BitVec 32 := 4#32
  let v4 : BitVec 32 := Scalar.subi v3 c4_i32
  let c0_i32_5 : BitVec 32 := 0#32
  let v13 : BitVec 32 := Scalar.maxsi v4 c0_i32_5
  let v704 : Index := Scalar.indexCast v13
  let c320 : Index := 320#32
  let c0_420 : Index := 0#32
  ![0, v704.toNat, 320, 0]
def k0_mult16 (i : grid0.Coords) : BitVec 32 :=
  let arg1 : BitVec 32 := BitVec.ofNat 32 (i 1).val
  let c0_i32 : BitVec 32 := 0#32
  let v3 : BitVec 32 := Scalar.addi arg1 c0_i32
  let c4_i32 : BitVec 32 := 4#32
  let v4 : BitVec 32 := Scalar.subi v3 c4_i32
  let c0_i32_5 : BitVec 32 := 0#32
  let v13 : BitVec 32 := Scalar.maxsi v4 c0_i32_5
  let c128_i32_448 : BitVec 32 := 128#32
  let v769 : BitVec 32 := Scalar.muli v13 c128_i32_448
  v769
def k0_off10 (i : grid0.Coords) (c0_i32 : BitVec 32) : Fin 3 → Nat :=
  let c0_449 : Index := 0#32
  let arg1 : BitVec 32 := BitVec.ofNat 32 (i 1).val
  let v3 : BitVec 32 := Scalar.addi arg1 c0_i32
  let c4_i32 : BitVec 32 := 4#32
  let v4 : BitVec 32 := Scalar.subi v3 c4_i32
  let c0_i32_5 : BitVec 32 := 0#32
  let v13 : BitVec 32 := Scalar.maxsi v4 c0_i32_5
  let c128_i32_448 : BitVec 32 := 128#32
  let v769 : BitVec 32 := Scalar.muli v13 c128_i32_448
  let v770 : BitVec 32 := v769
  let v771 : Index := Scalar.indexCast v770
  let c384_450 : Index := 384#32
  ![0, v771.toNat, 384]
def k0_mult17 (i : grid0.Coords) : BitVec 32 :=
  let arg1 : BitVec 32 := BitVec.ofNat 32 (i 1).val
  let c1_i32 : BitVec 32 := 1#32
  let v5 : BitVec 32 := Scalar.addi arg1 c1_i32
  let c4_i32_0 : BitVec 32 := 4#32
  let v6 : BitVec 32 := Scalar.subi v5 c4_i32_0
  let c0_i32_6 : BitVec 32 := 0#32
  let v14 : BitVec 32 := Scalar.maxsi v6 c0_i32_6
  let c128_i32_451 : BitVec 32 := 128#32
  let v774 : BitVec 32 := Scalar.muli v14 c128_i32_451
  v774
def k0_mult18 (i : grid0.Coords) : BitVec 32 :=
  let arg1 : BitVec 32 := BitVec.ofNat 32 (i 1).val
  let c2_i32 : BitVec 32 := 2#32
  let v7 : BitVec 32 := Scalar.addi arg1 c2_i32
  let c4_i32_1 : BitVec 32 := 4#32
  let v8 : BitVec 32 := Scalar.subi v7 c4_i32_1
  let c0_i32_7 : BitVec 32 := 0#32
  let v15 : BitVec 32 := Scalar.maxsi v8 c0_i32_7
  let c128_i32_454 : BitVec 32 := 128#32
  let v779 : BitVec 32 := Scalar.muli v15 c128_i32_454
  v779
def k0_mult19 (i : grid0.Coords) : BitVec 32 :=
  let arg1 : BitVec 32 := BitVec.ofNat 32 (i 1).val
  let c3_i32 : BitVec 32 := 3#32
  let v9 : BitVec 32 := Scalar.addi arg1 c3_i32
  let c4_i32_2 : BitVec 32 := 4#32
  let v10 : BitVec 32 := Scalar.subi v9 c4_i32_2
  let c0_i32_8 : BitVec 32 := 0#32
  let v16 : BitVec 32 := Scalar.maxsi v10 c0_i32_8
  let c128_i32_457 : BitVec 32 := 128#32
  let v784 : BitVec 32 := Scalar.muli v16 c128_i32_457
  v784
def k0_mult20 (i : grid0.Coords) : BitVec 32 :=
  let arg1 : BitVec 32 := BitVec.ofNat 32 (i 1).val
  let c4_i32_3 : BitVec 32 := 4#32
  let v11 : BitVec 32 := Scalar.addi arg1 c4_i32_3
  let c4_i32_4 : BitVec 32 := 4#32
  let v12 : BitVec 32 := Scalar.subi v11 c4_i32_4
  let c0_i32_9 : BitVec 32 := 0#32
  let v17 : BitVec 32 := Scalar.maxsi v12 c0_i32_9
  let c128_i32_460 : BitVec 32 := 128#32
  let v789 : BitVec 32 := Scalar.muli v17 c128_i32_460
  v789
def k0_off11 (i : grid0.Coords) (c0_i32 : BitVec 32) : Fin 4 → Nat :=
  let c0_502 : Index := 0#32
  let arg1 : BitVec 32 := BitVec.ofNat 32 (i 1).val
  let v3 : BitVec 32 := Scalar.addi arg1 c0_i32
  let c4_i32 : BitVec 32 := 4#32
  let v4 : BitVec 32 := Scalar.subi v3 c4_i32
  let c0_i32_5 : BitVec 32 := 0#32
  let v13 : BitVec 32 := Scalar.maxsi v4 c0_i32_5
  let v846 : Index := Scalar.indexCast v13
  let c384_503 : Index := 384#32
  let c0_504 : Index := 0#32
  ![0, v846.toNat, 384, 0]
def k0_off12 (i : grid0.Coords) (c0_i32 : BitVec 32) : Fin 4 → Nat :=
  let c0_565 : Index := 0#32
  let arg1 : BitVec 32 := BitVec.ofNat 32 (i 1).val
  let v3 : BitVec 32 := Scalar.addi arg1 c0_i32
  let c4_i32 : BitVec 32 := 4#32
  let v4 : BitVec 32 := Scalar.subi v3 c4_i32
  let c0_i32_5 : BitVec 32 := 0#32
  let v13 : BitVec 32 := Scalar.maxsi v4 c0_i32_5
  let v953 : Index := Scalar.indexCast v13
  let c448 : Index := 448#32
  let c0_566 : Index := 0#32
  ![0, v953.toNat, 448, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S8x5x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x512x2048 : Shape := ⟨3, ![8, 512, 2048]⟩
abbrev S8x2048x4096 : Shape := ⟨3, ![8, 2048, 4096]⟩
abbrev S8x16x512x128 : Shape := ⟨4, ![8, 16, 512, 128]⟩
abbrev S8x257 : Shape := ⟨2, ![8, 257]⟩
abbrev S8x2048x512 : Shape := ⟨3, ![8, 2048, 512]⟩
abbrev S8x16x128x512 : Shape := ⟨4, ![8, 16, 128, 512]⟩
abbrev S8x32x64x8x64 : Shape := ⟨5, ![8, 32, 64, 8, 64]⟩
abbrev S_ : Shape := ⟨0, ![]⟩
abbrev S8x40x64x8x64 : Shape := ⟨5, ![8, 40, 64, 8, 64]⟩
abbrev S8x32x576x8x64 : Shape := ⟨5, ![8, 32, 576, 8, 64]⟩
abbrev S8x32x8x64x576 : Shape := ⟨5, ![8, 32, 8, 64, 576]⟩
abbrev S64x576 : Shape := ⟨2, ![64, 576]⟩
abbrev S64x576x1 : Shape := ⟨3, ![64, 576, 1]⟩
abbrev S8x64x576 : Shape := ⟨3, ![8, 64, 576]⟩
abbrev S32x576 : Shape := ⟨2, ![32, 576]⟩
abbrev S1x32x1x1x576 : Shape := ⟨5, ![1, 32, 1, 1, 576]⟩
abbrev S1x1x8x64x576 : Shape := ⟨5, ![1, 1, 8, 64, 576]⟩
abbrev S8x32x8x64 : Shape := ⟨4, ![8, 32, 8, 64]⟩
abbrev S8x32x8x64x1 : Shape := ⟨5, ![8, 32, 8, 64, 1]⟩
abbrev S8x32x8x64x64 : Shape := ⟨5, ![8, 32, 8, 64, 64]⟩

abbrev nBuf : Space → Nat
  | .hbm => 106
  | .vmem => 0
  | .smem => 0
  | _ => 0

abbrev bufTy : (tb : Table) → Fin (tcTables nBuf tb) → BufTy
  | .hbm, ⟨0, _⟩ => ⟨S8x512x2048, .bf16⟩
  | .hbm, ⟨1, _⟩ => ⟨S8x2048x4096, .bf16⟩
  | .hbm, ⟨2, _⟩ => ⟨S8x16x512x128, .bf16⟩
  | .hbm, ⟨3, _⟩ => ⟨S8x257, .f32⟩
  | .hbm, ⟨4, _⟩ => ⟨S8x512x2048, .f32⟩
  | .hbm, ⟨5, _⟩ => ⟨S8x2048x512, .f32⟩
  | .hbm, ⟨6, _⟩ => ⟨S8x2048x512, .bf16⟩
  | .hbm, ⟨7, _⟩ => ⟨S8x2048x512, .f32⟩
  | .hbm, ⟨8, _⟩ => ⟨S8x16x512x128, .f32⟩
  | .hbm, ⟨9, _⟩ => ⟨S8x16x128x512, .f32⟩
  | .hbm, ⟨10, _⟩ => ⟨S8x2048x512, .f32⟩
  | .hbm, ⟨11, _⟩ => ⟨S8x32x64x8x64, .f32⟩
  | .hbm, ⟨12, _⟩ => ⟨S_, .f32⟩
  | .hbm, ⟨13, _⟩ => ⟨S8x32x64x8x64, .f32⟩
  | .hbm, ⟨14, _⟩ => ⟨S8x32x64x8x64, .f32⟩
  | .hbm, ⟨15, _⟩ => ⟨S8x32x64x8x64, .f32⟩
  | .hbm, ⟨16, _⟩ => ⟨S_, .i32⟩
  | .hbm, ⟨17, _⟩ => ⟨S_, .f32⟩
  | .hbm, ⟨18, _⟩ => ⟨S8x40x64x8x64, .f32⟩
  | .hbm, ⟨19, _⟩ => ⟨S8x32x64x8x64, .f32⟩
  | .hbm, ⟨20, _⟩ => ⟨S8x32x64x8x64, .f32⟩
  | .hbm, ⟨21, _⟩ => ⟨S8x32x64x8x64, .f32⟩
  | .hbm, ⟨22, _⟩ => ⟨S8x32x64x8x64, .f32⟩
  | .hbm, ⟨23, _⟩ => ⟨S8x32x64x8x64, .f32⟩
  | .hbm, ⟨24, _⟩ => ⟨S8x32x64x8x64, .f32⟩
  | .hbm, ⟨25, _⟩ => ⟨S8x32x64x8x64, .f32⟩
  | .hbm, ⟨26, _⟩ => ⟨S8x32x64x8x64, .f32⟩
  | .hbm, ⟨27, _⟩ => ⟨S8x32x64x8x64, .f32⟩
  | .hbm, ⟨28, _⟩ => ⟨S8x32x576x8x64, .f32⟩
  | .hbm, ⟨29, _⟩ => ⟨S8x32x64x8x64, .f32⟩
  | .hbm, ⟨30, _⟩ => ⟨S_, .i32⟩
  | .hbm, ⟨31, _⟩ => ⟨S_, .f32⟩
  | .hbm, ⟨32, _⟩ => ⟨S8x40x64x8x64, .f32⟩
  | .hbm, ⟨33, _⟩ => ⟨S8x32x64x8x64, .f32⟩
  | .hbm, ⟨34, _⟩ => ⟨S8x32x64x8x64, .f32⟩
  | .hbm, ⟨35, _⟩ => ⟨S8x32x64x8x64, .f32⟩
  | .hbm, ⟨36, _⟩ => ⟨S8x32x64x8x64, .f32⟩
  | .hbm, ⟨37, _⟩ => ⟨S8x32x64x8x64, .f32⟩
  | .hbm, ⟨38, _⟩ => ⟨S8x32x64x8x64, .f32⟩
  | .hbm, ⟨39, _⟩ => ⟨S8x32x64x8x64, .f32⟩
  | .hbm, ⟨40, _⟩ => ⟨S8x32x64x8x64, .f32⟩
  | .hbm, ⟨41, _⟩ => ⟨S8x32x64x8x64, .f32⟩
  | .hbm, ⟨42, _⟩ => ⟨S8x32x576x8x64, .f32⟩
  | .hbm, ⟨43, _⟩ => ⟨S8x32x8x64x576, .f32⟩
  | .hbm, ⟨44, _⟩ => ⟨S64x576, .i32⟩
  | .hbm, ⟨45, _⟩ => ⟨S_, .i32⟩
  | .hbm, ⟨46, _⟩ => ⟨S64x576, .i32⟩
  | .hbm, ⟨47, _⟩ => ⟨S64x576, .i32⟩
  | .hbm, ⟨48, _⟩ => ⟨S64x576, .i32⟩
  | .hbm, ⟨49, _⟩ => ⟨S64x576, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S64x576, .i32⟩
  | .hbm, ⟨54, _⟩ => ⟨S64x576, .i32⟩
  | .hbm, ⟨55, _⟩ => ⟨S_, .i32⟩
  | .hbm, ⟨56, _⟩ => ⟨S64x576, .i32⟩
  | .hbm, ⟨57, _⟩ => ⟨S64x576, .i32⟩
  | .hbm, ⟨58, _⟩ => ⟨S_, .i32⟩
  | .hbm, ⟨59, _⟩ => ⟨S64x576, .i32⟩
  | .hbm, ⟨60, _⟩ => ⟨S64x576, .i32⟩
  | .hbm, ⟨61, _⟩ => ⟨S_, .i32⟩
  | .hbm, ⟨62, _⟩ => ⟨S64x576, .i32⟩
  | .hbm, ⟨63, _⟩ => ⟨S64x576, .i1⟩
  | .hbm, ⟨64, _⟩ => ⟨S_, .i32⟩
  | .hbm, ⟨65, _⟩ => ⟨S64x576, .i32⟩
  | .hbm, ⟨66, _⟩ => ⟨S64x576, .i32⟩
  | .hbm, ⟨67, _⟩ => ⟨S64x576, .i32⟩
  | .hbm, ⟨68, _⟩ => ⟨S64x576x1, .i32⟩
  | .hbm, ⟨69, _⟩ => ⟨S8x64x576, .f32⟩
  | .hbm, ⟨70, _⟩ => ⟨S32x576, .i32⟩
  | .hbm, ⟨71, _⟩ => ⟨S_, .i32⟩
  | .hbm, ⟨72, _⟩ => ⟨S32x576, .i32⟩
  | .hbm, ⟨73, _⟩ => ⟨S32x576, .i32⟩
  | .hbm, ⟨74, _⟩ => ⟨S32x576, .i32⟩
  | .hbm, ⟨75, _⟩ => ⟨S32x576, .i32⟩
  | .hbm, ⟨76, _⟩ => ⟨S_, .i32⟩
  | .hbm, ⟨77, _⟩ => ⟨S32x576, .i32⟩
  | .hbm, ⟨78, _⟩ => ⟨S32x576, .i1⟩
  | .hbm, ⟨79, _⟩ => ⟨S1x32x1x1x576, .i1⟩
  | .hbm, ⟨80, _⟩ => ⟨S1x1x8x64x576, .f32⟩
  | .hbm, ⟨81, _⟩ => ⟨S8x32x8x64x576, .f32⟩
  | .hbm, ⟨82, _⟩ => ⟨S8x32x8x64x576, .f32⟩
  | .hbm, ⟨83, _⟩ => ⟨S_, .f32⟩
  | .hbm, ⟨84, _⟩ => ⟨S_, .f32⟩
  | .hbm, ⟨85, _⟩ => ⟨S8x32x8x64x576, .i1⟩
  | .hbm, ⟨86, _⟩ => ⟨S8x32x8x64x576, .f32⟩
  | .hbm, ⟨87, _⟩ => ⟨S8x32x8x64x576, .f32⟩
  | .hbm, ⟨88, _⟩ => ⟨S_, .f32⟩
  | .hbm, ⟨89, _⟩ => ⟨S8x32x8x64, .f32⟩
  | .hbm, ⟨90, _⟩ => ⟨S_, .f32⟩
  | .hbm, ⟨91, _⟩ => ⟨S8x32x8x64, .f32⟩
  | .hbm, ⟨92, _⟩ => ⟨S8x32x8x64, .f32⟩
  | .hbm, ⟨93, _⟩ => ⟨S8x32x8x64x1, .f32⟩
  | .hbm, ⟨94, _⟩ => ⟨S8x32x8x64x576, .f32⟩
  | .hbm, ⟨95, _⟩ => ⟨S8x32x8x64x576, .f32⟩
  | .hbm, ⟨96, _⟩ => ⟨S8x32x8x64x576, .f32⟩
  | .hbm, ⟨97, _⟩ => ⟨S_, .f32⟩
  | .hbm, ⟨98, _⟩ => ⟨S8x32x8x64, .f32⟩
  | .hbm, ⟨99, _⟩ => ⟨S8x32x8x64x1, .f32⟩
  | .hbm, ⟨100, _⟩ => ⟨S8x32x8x64x576, .f32⟩
  | .hbm, ⟨101, _⟩ => ⟨S8x32x8x64x576, .f32⟩
  | .hbm, ⟨102, _⟩ => ⟨S8x32x8x64x64, .f32⟩
  | .hbm, ⟨103, _⟩ => ⟨S8x32x64x8x64, .f32⟩
  | .hbm, ⟨104, _⟩ => ⟨S8x2048x512, .f32⟩
  | .hbm, ⟨105, _⟩ => ⟨S8x2048x512, .bf16⟩
  | _, _ => ⟨S8x512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_call0_v0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_0 : Ref sig .tc := ⟨.hbm, 30, rfl⟩
abbrev main_call1_v0 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_c_1 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_c_2 : Ref sig .tc := ⟨.hbm, 50, rfl⟩
abbrev main_c_3 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_v40 : Ref sig .tc := ⟨.hbm, 57, rfl⟩
abbrev main_c_4 : Ref sig .tc := ⟨.hbm, 58, rfl⟩
abbrev main_v41 : Ref sig .tc := ⟨.hbm, 59, rfl⟩
abbrev main_v42 : Ref sig .tc := ⟨.hbm, 60, rfl⟩
abbrev main_c_5 : Ref sig .tc := ⟨.hbm, 61, rfl⟩
abbrev main_v43 : Ref sig .tc := ⟨.hbm, 62, rfl⟩
abbrev main_v44 : Ref sig .tc := ⟨.hbm, 63, rfl⟩
abbrev main_c_6 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_7 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c_8 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_9 : Ref sig .tc := ⟨.hbm, 83, rfl⟩
abbrev main_call3_v0 : Ref sig .tc := ⟨.hbm, 84, rfl⟩
abbrev main_call3_v1 : Ref sig .tc := ⟨.hbm, 85, rfl⟩
abbrev main_call3_v2 : Ref sig .tc := ⟨.hbm, 86, rfl⟩
abbrev main_v61 : Ref sig .tc := ⟨.hbm, 87, rfl⟩
abbrev main_cst_10 : Ref sig .tc := ⟨.hbm, 88, rfl⟩
abbrev main_v62 : Ref sig .tc := ⟨.hbm, 89, rfl⟩
abbrev main_cst_11 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_12 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩

abbrev nD : Nat := 1
abbrev τ : Topo := Topo.v7x

variable {F : FTy → Type} [FloatOps F]
-- ==== Kernel2.lean ====
abbrev S72 : Shape := ⟨1, ![72]⟩
abbrev S1 : Shape := ⟨1, ![1]⟩
abbrev S294912x128 : Shape := ⟨2, ![294912, 128]⟩
abbrev S8x1024x3584 : Shape := ⟨3, ![8, 1024, 3584]⟩
abbrev S8x3584x1024 : Shape := ⟨3, ![8, 3584, 1024]⟩
abbrev S4096x128 : Shape := ⟨2, ![4096, 128]⟩
abbrev S1x1024x1792 : Shape := ⟨3, ![1, 1024, 1792]⟩
abbrev S1x1792x1024 : Shape := ⟨3, ![1, 1792, 1024]⟩
abbrev S512x1024 : Shape := ⟨2, ![512, 1024]⟩
abbrev S512x128 : Shape := ⟨2, ![512, 128]⟩
abbrev S1x1024x512 : Shape := ⟨3, ![1, 1024, 512]⟩
abbrev S1024x512 : Shape := ⟨2, ![1024, 512]⟩
abbrev S512x512 : Shape := ⟨2, ![512, 512]⟩
abbrev S1x512x1024 : Shape := ⟨3, ![1, 512, 1024]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩
abbrev S256x128 : Shape := ⟨2, ![256, 128]⟩
abbrev S256x512 : Shape := ⟨2, ![256, 512]⟩
abbrev S256x256 : Shape := ⟨2, ![256, 256]⟩
abbrev S2048x128 : Shape := ⟨2, ![2048, 128]⟩

abbrev nBuf : Space → Nat
  | .hbm => 5
  | .vmem => 11
  | .smem => 3
  | _ => 0

abbrev bufTy : (tb : Table) → Fin (tcTables nBuf tb) → BufTy
  | .hbm, ⟨0, _⟩ => ⟨S294912x128, .f32⟩
  | .hbm, ⟨1, _⟩ => ⟨S8x1024x3584, .bf16⟩
  | .hbm, ⟨2, _⟩ => ⟨S8x1024x3584, .bf16⟩
  | .hbm, ⟨3, _⟩ => ⟨S8x3584x1024, .bf16⟩
  | .hbm, ⟨4, _⟩ => ⟨S294912x128, .f32⟩
  | .local _ .vmem, ⟨0, _⟩ => ⟨S4096x128, .f32⟩
  | .local _ .vmem, ⟨1, _⟩ => ⟨S4096x128, .f32⟩
  | .local _ .vmem, ⟨2, _⟩ => ⟨S1x1024x1792, .bf16⟩
  | .local _ .vmem, ⟨3, _⟩ => ⟨S1x1024x1792, .bf16⟩
  | .local _ .vmem, ⟨4, _⟩ => ⟨S1x1024x1792, .bf16⟩
  | .local _ .vmem, ⟨5, _⟩ => ⟨S1x1024x1792, .bf16⟩
  | .local _ .vmem, ⟨6, _⟩ => ⟨S1x1792x1024, .bf16⟩
  | .local _ .vmem, ⟨7, _⟩ => ⟨S1x1792x1024, .bf16⟩
  | .local _ .vmem, ⟨8, _⟩ => ⟨S4096x128, .f32⟩
  | .local _ .vmem, ⟨9, _⟩ => ⟨S4096x128, .f32⟩
  | .local _ .vmem, ⟨10, _⟩ => ⟨S512x1024, .f32⟩
  | .local _ .smem, ⟨0, _⟩ => ⟨S72, .i32⟩
  | .local _ .smem, ⟨1, _⟩ => ⟨S1, .i32⟩
  | .local _ .smem, ⟨2, _⟩ => ⟨S72, .i32⟩
  | _, _ => ⟨S294912x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![72, 2], ![false, false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) (v3 : BitVec 32) : BitVec 1 :=
  let arg0 : BitVec 32 := BitVec.ofNat 32 (i 0).val
  let v1 : BitVec 1 := Scalar.cmpi .slt arg0 v0
  let c256_i32 : BitVec 32 := 256#32
  let v4 : BitVec 1 := Scalar.cmpi .sle v3 c256_i32
  let v_true : BitVec 1 := 1#1
  let v6 : BitVec 1 := Scalar.xori v4 v_true
  let v7 : BitVec 1 := Scalar.andi v1 v6
  let v8 : BitVec 32 := Scalar.extui v7
  let c0_i32 : BitVec 32 := 0#32
  let v9 : BitVec 1 := Scalar.cmpi .ne v8 c0_i32
  v9

def k0_cond4 (i : grid0.Coords) : BitVec 1 :=
  let arg1 : BitVec 32 := BitVec.ofNat 32 (i 1).val
  let c1_i32 : BitVec 32 := 1#32
  let v5 : BitVec 1 := Scalar.cmpi .eq arg1 c1_i32
  let v112 : BitVec 32 := Scalar.extui v5
  let c0_i32_72 : BitVec 32 := 0#32
  let v113 : BitVec 1 := Scalar.cmpi .ne v112 c0_i32_72
  v113

def k0_cond5 (i : grid0.Coords) (v0 : BitVec 32) (v3 : BitVec 32) : BitVec 1 :=
  let arg0 : BitVec 32 := BitVec.ofNat 32 (i 0).val
  let v1 : BitVec 1 := Scalar.cmpi .slt arg0 v0
  let c256_i32 : BitVec 32 := 256#32
  let v4 : BitVec 1 := Scalar.cmpi .sle v3 c256_i32
  let v10 : BitVec 1 := Scalar.andi v1 v4
  let v11 : BitVec 32 := Scalar.extui v10
  let c0_i32_0 : BitVec 32 := 0#32
  let v12 : BitVec 1 := Scalar.cmpi .ne v11 c0_i32_0
  v12

def k0_cond8 (i : grid0.Coords) : BitVec 1 :=
  let arg1 : BitVec 32 := BitVec.ofNat 32 (i 1).val
  let c1_i32 : BitVec 32 := 1#32
  let v5 : BitVec 1 := Scalar.cmpi .eq arg1 c1_i32
  let v112 : BitVec 32 := Scalar.extui v5
  let c0_i32_72 : BitVec 32 := 0#32
  let v113 : BitVec 1 := Scalar.cmpi .ne v112 c0_i32_72
  v113

def k0_cond9 (i : grid0.Coords) : BitVec 1 :=
  let arg1 : BitVec 32 := BitVec.ofNat 32 (i 1).val
  let c1_i32 : BitVec 32 := 1#32
  let v5 : BitVec 1 := Scalar.cmpi .eq arg1 c1_i32
  let v114 : BitVec 32 := Scalar.extui v5
  let c0_i32_73 : BitVec 32 := 0#32
  let v115 : BitVec 1 := Scalar.cmpi .ne v114 c0_i32_73
  v115

def k0_cond10 (i : grid0.Coords) (v0 : BitVec 32) : BitVec 1 :=
  let arg1 : BitVec 32 := BitVec.ofNat 32 (i 1).val
  let c1_i32 : BitVec 32 := 1#32
  let v5 : BitVec 1 := Scalar.cmpi .eq arg1 c1_i32
  let arg0 : BitVec 32 := BitVec.ofNat 32 (i 0).val
  let v1 : BitVec 1 := Scalar.cmpi .slt arg0 v0
  let true_1 : BitVec 1 := 1#1
  let v13 : BitVec 1 := Scalar.xori v1 true_1
  let v14 : BitVec 1 := Scalar.andi v5 v13
  let v15 : BitVec 32 := Scalar.extui v14
  let c0_i32_2 : BitVec 32 := 0#32
  let v16 : BitVec 1 := Scalar.cmpi .ne v15 c0_i32_2
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, v4.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1792x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S72 : Shape := ⟨1, ![72]⟩
abbrev S1 : Shape := ⟨1, ![1]⟩
abbrev S294912x128 : Shape := ⟨2, ![294912, 128]⟩
abbrev S8x1024x3584 : Shape := ⟨3, ![8, 1024, 3584]⟩
abbrev S8x3584x1024 : Shape := ⟨3, ![8, 3584, 1024]⟩
abbrev S36864x1024 : Shape := ⟨2, ![36864, 1024]⟩
abbrev S72x1 : Shape := ⟨2, ![72, 1]⟩
abbrev S72x512 : Shape := ⟨2, ![72, 512]⟩
abbrev S36864 : Shape := ⟨1, ![36864]⟩
abbrev S36864x1 : Shape := ⟨2, ![36864, 1]⟩
abbrev S1x8 : Shape := ⟨2, ![1, 8]⟩
abbrev S36864x8 : Shape := ⟨2, ![36864, 8]⟩
abbrev S8x3584x36864 : Shape := ⟨3, ![8, 3584, 36864]⟩
abbrev S8x36864x3584 : Shape := ⟨3, ![8, 36864, 3584]⟩
abbrev S_ : Shape := ⟨0, ![]⟩
abbrev S8x36864x1024 : Shape := ⟨3, ![8, 36864, 1024]⟩
abbrev S8x36864 : Shape := ⟨2, ![8, 36864]⟩
abbrev S8x36864x1 : Shape := ⟨3, ![8, 36864, 1]⟩

abbrev nBuf : Space → Nat
  | .hbm => 42
  | .vmem => 0
  | .smem => 0
  | _ => 0

abbrev bufTy : (tb : Table) → Fin (tcTables nBuf tb) → BufTy
  | .hbm, ⟨0, _⟩ => ⟨S72, .i32⟩
  | .hbm, ⟨1, _⟩ => ⟨S1, .i32⟩
  | .hbm, ⟨2, _⟩ => ⟨S72, .i32⟩
  | .hbm, ⟨3, _⟩ => ⟨S294912x128, .f32⟩
  | .hbm, ⟨4, _⟩ => ⟨S8x1024x3584, .bf16⟩
  | .hbm, ⟨5, _⟩ => ⟨S8x1024x3584, .bf16⟩
  | .hbm, ⟨6, _⟩ => ⟨S8x3584x1024, .bf16⟩
  | .hbm, ⟨7, _⟩ => ⟨S36864x1024, .f32⟩
  | .hbm, ⟨8, _⟩ => ⟨S8x1024x3584, .f32⟩
  | .hbm, ⟨9, _⟩ => ⟨S8x1024x3584, .f32⟩
  | .hbm, ⟨10, _⟩ => ⟨S8x3584x1024, .f32⟩
  | .hbm, ⟨11, _⟩ => ⟨S72x1, .i32⟩
  | .hbm, ⟨12, _⟩ => ⟨S72x512, .i32⟩
  | .hbm, ⟨13, _⟩ => ⟨S36864, .i32⟩
  | .hbm, ⟨14, _⟩ => ⟨S36864x1, .i32⟩
  | .hbm, ⟨15, _⟩ => ⟨S1x8, .i32⟩
  | .hbm, ⟨16, _⟩ => ⟨S36864x8, .i32⟩
  | .hbm, ⟨17, _⟩ => ⟨S36864x8, .i32⟩
  | .hbm, ⟨18, _⟩ => ⟨S36864x8, .i1⟩
  | .hbm, ⟨19, _⟩ => ⟨S36864x8, .f32⟩
  | .hbm, ⟨20, _⟩ => ⟨S8x3584x36864, .f32⟩
  | .hbm, ⟨21, _⟩ => ⟨S8x36864x3584, .f32⟩
  | .hbm, ⟨22, _⟩ => ⟨S8x3584x36864, .f32⟩
  | .hbm, ⟨23, _⟩ => ⟨S8x36864x3584, .f32⟩
  | .hbm, ⟨24, _⟩ => ⟨S8x36864x3584, .f32⟩
  | .hbm, ⟨25, _⟩ => ⟨S8x36864x3584, .f32⟩
  | .hbm, ⟨26, _⟩ => ⟨S_, .f32⟩
  | .hbm, ⟨27, _⟩ => ⟨S8x36864x3584, .f32⟩
  | .hbm, ⟨28, _⟩ => ⟨S8x36864x3584, .f32⟩
  | .hbm, ⟨29, _⟩ => ⟨S_, .f32⟩
  | .hbm, ⟨30, _⟩ => ⟨S8x36864x3584, .f32⟩
  | .hbm, ⟨31, _⟩ => ⟨S8x36864x3584, .f32⟩
  | .hbm, ⟨32, _⟩ => ⟨S8x36864x3584, .f32⟩
  | .hbm, ⟨33, _⟩ => ⟨S8x36864x3584, .f32⟩
  | .hbm, ⟨34, _⟩ => ⟨S8x36864x1024, .f32⟩
  | .hbm, ⟨35, _⟩ => ⟨S8x36864, .f32⟩
  | .hbm, ⟨36, _⟩ => ⟨S8x36864x1, .f32⟩
  | .hbm, ⟨37, _⟩ => ⟨S8x36864x1024, .f32⟩
  | .hbm, ⟨38, _⟩ => ⟨S8x36864x1024, .f32⟩
  | .hbm, ⟨39, _⟩ => ⟨S_, .f32⟩
  | .hbm, ⟨40, _⟩ => ⟨S36864x1024, .f32⟩
  | .hbm, ⟨41, _⟩ => ⟨S294912x128, .f32⟩
  | _, _ => ⟨S72, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_call1_v0 : Ref sig .tc := ⟨.hbm, 24, rfl⟩
abbrev main_call1_v1 : Ref sig .tc := ⟨.hbm, 25, rfl⟩
abbrev main_call1_cst : Ref sig .tc := ⟨.hbm, 26, rfl⟩
abbrev main_call1_v2 : Ref sig .tc := ⟨.hbm, 27, rfl⟩
abbrev main_call1_v3 : Ref sig .tc := ⟨.hbm, 28, rfl⟩
abbrev main_call1_cst_0 : Ref sig .tc := ⟨.hbm, 29, rfl⟩
abbrev main_call1_v4 : Ref sig .tc := ⟨.hbm, 30, rfl⟩
abbrev main_call1_v5 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst : Ref sig .tc := ⟨.hbm, 39, rfl⟩
abbrev main_v19 : Ref sig .tc := ⟨.hbm, 40, rfl⟩
abbrev main_v20 : Ref sig .tc := ⟨.hbm, 41, rfl⟩

abbrev nD : Nat := 1
abbrev τ : Topo := Topo.v7x

variable {F : FTy → Type} [FloatOps F]
-- ==== Kernel3.lean ====
abbrev S16384x1024 : Shape := ⟨2, ![16384, 1024]⟩
abbrev S1024x5136 : Shape := ⟨2, ![1024, 5136]⟩
abbrev S1024x512 : Shape := ⟨2, ![1024, 512]⟩
abbrev S1024x1024 : Shape := ⟨2, ![1024, 1024]⟩
abbrev S1024x2560 : Shape := ⟨2, ![1024, 2560]⟩
abbrev S1024x4096 : Shape := ⟨2, ![1024, 4096]⟩
abbrev S16384x4096 : Shape := ⟨2, ![16384, 4096]⟩
abbrev S1024x2048 : Shape := ⟨2, ![1024, 2048]⟩

abbrev nBuf : Space → Nat
  | .hbm => 8
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x5136, .f32⟩
  | .hbm, ⟨2, _⟩ => ⟨S1024x512, .f32⟩
  | .hbm, ⟨3, _⟩ => ⟨S1024x1024, .f32⟩
  | .hbm, ⟨4, _⟩ => ⟨S1024x2560, .f32⟩
  | .hbm, ⟨5, _⟩ => ⟨S1024x4096, .f32⟩
  | .hbm, ⟨6, _⟩ => ⟨S1024x4096, .bf16⟩
  | .hbm, ⟨7, _⟩ => ⟨S16384x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S16384x1024 : Shape := ⟨2, ![16384, 1024]⟩
abbrev S1024x5136 : Shape := ⟨2, ![1024, 5136]⟩
abbrev S16384x5136 : Shape := ⟨2, ![16384, 5136]⟩
abbrev S16384x512 : Shape := ⟨2, ![16384, 512]⟩
abbrev S16384x2560 : Shape := ⟨2, ![16384, 2560]⟩
abbrev S16384x4096 : Shape := ⟨2, ![16384, 4096]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x5136, .f32⟩
  | .hbm, ⟨2, _⟩ => ⟨S16384x1024, .f32⟩
  | .hbm, ⟨3, _⟩ => ⟨S16384x5136, .f32⟩
  | .hbm, ⟨4, _⟩ => ⟨S16384x512, .f32⟩
  | .hbm, ⟨5, _⟩ => ⟨S16384x1024, .f32⟩
  | .hbm, ⟨6, _⟩ => ⟨S16384x2560, .f32⟩
  | .hbm, ⟨7, _⟩ => ⟨S16384x4096, .f32⟩
  | .hbm, ⟨8, _⟩ => ⟨S16384x4096, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel4.lean ====
abbrev S16384x512 : Shape := ⟨2, ![16384, 512]⟩
abbrev S16384x4096 : Shape := ⟨2, ![16384, 4096]⟩
abbrev S16384x1024 : Shape := ⟨2, ![16384, 1024]⟩
abbrev S512x1024 : Shape := ⟨2, ![512, 1024]⟩
abbrev S1024x1024 : Shape := ⟨2, ![1024, 1024]⟩
abbrev S1024 : Shape := ⟨1, ![1024]⟩
abbrev S1x1024 : Shape := ⟨2, ![1, 1024]⟩
abbrev S1024x512 : Shape := ⟨2, ![1024, 512]⟩
abbrev S1024x1 : Shape := ⟨2, ![1024, 1]⟩

abbrev nBuf : Space → Nat
  | .hbm => 16
  | .vmem => 19
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x4096, .bf16⟩
  | .hbm, ⟨3, _⟩ => ⟨S16384x1024, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S512x1024, .bf16⟩
  | .hbm, ⟨10, _⟩ => ⟨S512x1024, .bf16⟩
  | .hbm, ⟨11, _⟩ => ⟨S1024x1024, .bf16⟩
  | .hbm, ⟨12, _⟩ => ⟨S1x1024, .f32⟩
  | .hbm, ⟨13, _⟩ => ⟨S1x1024, .f32⟩
  | .hbm, ⟨14, _⟩ => ⟨S16384x1024, .f32⟩
  | .hbm, ⟨15, _⟩ => ⟨S16384x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .bf16⟩
  | .local _ .vmem, ⟨18, _⟩ => ⟨S1024x1024, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference4Ideal.lean ====
abbrev S16384x512 : Shape := ⟨2, ![16384, 512]⟩
abbrev S16384x4096 : Shape := ⟨2, ![16384, 4096]⟩
abbrev S16384x1024 : Shape := ⟨2, ![16384, 1024]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 70
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x4096, .bf16⟩
  | .hbm, ⟨3, _⟩ => ⟨S16384x1024, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S16384x512, .f32⟩
  | .hbm, ⟨10, _⟩ => ⟨S16384x512, .f32⟩
  | .hbm, ⟨11, _⟩ => ⟨S16384x4096, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S16384x1, .f32⟩
  | .hbm, ⟨47, _⟩ => ⟨S16384x1024, .f32⟩
  | .hbm, ⟨48, _⟩ => ⟨S16384x1024, .f32⟩
  | .hbm, ⟨49, _⟩ => ⟨S1x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S_, .f32⟩
  | .hbm, ⟨55, _⟩ => ⟨S16384, .f32⟩
  | .hbm, ⟨56, _⟩ => ⟨S16384x1, .f32⟩
  | .hbm, ⟨57, _⟩ => ⟨S_, .f32⟩
  | .hbm, ⟨58, _⟩ => ⟨S16384x1, .f32⟩
  | .hbm, ⟨59, _⟩ => ⟨S16384x1, .f32⟩
  | .hbm, ⟨60, _⟩ => ⟨S_, .f32⟩
  | .hbm, ⟨61, _⟩ => ⟨S16384x1, .f32⟩
  | .hbm, ⟨62, _⟩ => ⟨S16384x1, .f32⟩
  | .hbm, ⟨63, _⟩ => ⟨S16384x1, .f32⟩
  | .hbm, ⟨64, _⟩ => ⟨S16384x1024, .f32⟩
  | .hbm, ⟨65, _⟩ => ⟨S16384x1024, .f32⟩
  | .hbm, ⟨66, _⟩ => ⟨S1x1024, .f32⟩
  | .hbm, ⟨67, _⟩ => ⟨S16384x1024, .f32⟩
  | .hbm, ⟨68, _⟩ => ⟨S16384x1024, .f32⟩
  | .hbm, ⟨69, _⟩ => ⟨S16384x1024, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== Kernel5.lean ====
abbrev S16384x1024 : Shape := ⟨2, ![16384, 1024]⟩
abbrev S1024 : Shape := ⟨1, ![1024]⟩
abbrev S1024x5136 : Shape := ⟨2, ![1024, 5136]⟩
abbrev S1024x512 : Shape := ⟨2, ![1024, 512]⟩
abbrev S512x1024 : Shape := ⟨2, ![512, 1024]⟩
abbrev S1024x16 : Shape := ⟨2, ![1024, 16]⟩
abbrev S_ : Shape := ⟨0, ![]⟩
abbrev S1024x128 : Shape := ⟨2, ![1024, 128]⟩
abbrev S1x1024 : Shape := ⟨2, ![1, 1024]⟩
abbrev S8x512x2048 : Shape := ⟨3, ![8, 512, 2048]⟩
abbrev S8x16x512x128 : Shape := ⟨4, ![8, 16, 512, 128]⟩
abbrev S16384x128 : Shape := ⟨2, ![16384, 128]⟩
abbrev S1024x1024 : Shape := ⟨2, ![1024, 1024]⟩
abbrev S1x512x1024 : Shape := ⟨3, ![1, 512, 1024]⟩
abbrev S1x8x512x128 : Shape := ⟨4, ![1, 8, 512, 128]⟩
abbrev S1024x1 : Shape := ⟨2, ![1024, 1]⟩
abbrev S512x128 : Shape := ⟨2, ![512, 128]⟩
abbrev S1x1x512x128 : Shape := ⟨4, ![1, 1, 512, 128]⟩

abbrev nBuf : Space → Nat
  | .hbm => 19
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5136, .f32⟩
  | .hbm, ⟨3, _⟩ => ⟨S1024x512, .f32⟩
  | .hbm, ⟨4, _⟩ => ⟨S512x1024, .f32⟩
  | .hbm, ⟨5, _⟩ => ⟨S1024x512, .f32⟩
  | .hbm, ⟨6, _⟩ => ⟨S512x1024, .f32⟩
  | .hbm, ⟨7, _⟩ => ⟨S1024x16, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1x1024, .f32⟩
  | .hbm, ⟨12, _⟩ => ⟨S512x1024, .bf16⟩
  | .hbm, ⟨13, _⟩ => ⟨S512x1024, .bf16⟩
  | .hbm, ⟨14, _⟩ => ⟨S1024x128, .bf16⟩
  | .hbm, ⟨15, _⟩ => ⟨S16384x1024, .bf16⟩
  | .hbm, ⟨16, _⟩ => ⟨S8x512x2048, .bf16⟩
  | .hbm, ⟨17, _⟩ => ⟨S8x16x512x128, .bf16⟩
  | .hbm, ⟨18, _⟩ => ⟨S16384x128, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S1024x128, .bf16⟩
  | .local _ .vmem, ⟨6, _⟩ => ⟨S1024x1024, .bf16⟩
  | .local _ .vmem, ⟨7, _⟩ => ⟨S1024x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x8x512x128, .bf16⟩
  | .local _ .vmem, ⟨11, _⟩ => ⟨S1x8x512x128, .bf16⟩
  | .local _ .vmem, ⟨12, _⟩ => ⟨S1024x128, .bf16⟩
  | .local _ .vmem, ⟨13, _⟩ => ⟨S1024x128, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev main_v10_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_7 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference5Ideal.lean ====
abbrev S16384x1024 : Shape := ⟨2, ![16384, 1024]⟩
abbrev S1024 : Shape := ⟨1, ![1024]⟩
abbrev S1024x5136 : Shape := ⟨2, ![1024, 5136]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5136 : Shape := ⟨2, ![16384, 5136]⟩
abbrev S16384x512 : Shape := ⟨2, ![16384, 512]⟩
abbrev S16384x16 : Shape := ⟨2, ![16384, 16]⟩
abbrev S8x2048x512 : Shape := ⟨3, ![8, 2048, 512]⟩
abbrev S8x512x2048 : Shape := ⟨3, ![8, 512, 2048]⟩
abbrev S8x16x128x512 : Shape := ⟨4, ![8, 16, 128, 512]⟩
abbrev S8x16x512x128 : Shape := ⟨4, ![8, 16, 512, 128]⟩
abbrev S16384x128 : Shape := ⟨2, ![16384, 128]⟩

abbrev nBuf : Space → Nat
  | .hbm => 34
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5136, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x5136, .f32⟩
  | .hbm, ⟨20, _⟩ => ⟨S16384x512, .f32⟩
  | .hbm, ⟨21, _⟩ => ⟨S16384x512, .f32⟩
  | .hbm, ⟨22, _⟩ => ⟨S16384x16, .f32⟩
  | .hbm, ⟨23, _⟩ => ⟨S8x2048x512, .f32⟩
  | .hbm, ⟨24, _⟩ => ⟨S8x512x2048, .f32⟩
  | .hbm, ⟨25, _⟩ => ⟨S8x16x128x512, .f32⟩
  | .hbm, ⟨26, _⟩ => ⟨S8x16x512x128, .f32⟩
  | .hbm, ⟨27, _⟩ => ⟨S_, .i32⟩
  | .hbm, ⟨28, _⟩ => ⟨S_, .f32⟩
  | .hbm, ⟨29, _⟩ => ⟨S16384x128, .f32⟩
  | .hbm, ⟨30, _⟩ => ⟨S16384x1024, .bf16⟩
  | .hbm, ⟨31, _⟩ => ⟨S8x512x2048, .bf16⟩
  | .hbm, ⟨32, _⟩ => ⟨S8x16x512x128, .bf16⟩
  | .hbm, ⟨33, _⟩ => ⟨S16384x128, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c : Ref sig .tc := ⟨.hbm, 27, rfl⟩
abbrev main_call0_v0 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Kernel6.lean ====
abbrev S16384x512 : Shape := ⟨2, ![16384, 512]⟩
abbrev S16384x4096 : Shape := ⟨2, ![16384, 4096]⟩
abbrev S16384x1024 : Shape := ⟨2, ![16384, 1024]⟩
abbrev S512x1024 : Shape := ⟨2, ![512, 1024]⟩
abbrev S1024x1024 : Shape := ⟨2, ![1024, 1024]⟩
abbrev S1024 : Shape := ⟨1, ![1024]⟩
abbrev S1024x8 : Shape := ⟨2, ![1024, 8]⟩
abbrev S_ : Shape := ⟨0, ![]⟩
abbrev S1024x128 : Shape := ⟨2, ![1024, 128]⟩
abbrev S1x1024 : Shape := ⟨2, ![1, 1024]⟩
abbrev S131072x128 : Shape := ⟨2, ![131072, 128]⟩
abbrev S16384x128 : Shape := ⟨2, ![16384, 128]⟩
abbrev S1024x512 : Shape := ⟨2, ![1024, 512]⟩
abbrev S8192x128 : Shape := ⟨2, ![8192, 128]⟩
abbrev S1024x1 : Shape := ⟨2, ![1024, 1]⟩

abbrev nBuf : Space → Nat
  | .hbm => 22
  | .vmem => 22
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x4096, .bf16⟩
  | .hbm, ⟨3, _⟩ => ⟨S16384x1024, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x8, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x128, .bf16⟩
  | .hbm, ⟨14, _⟩ => ⟨S512x1024, .bf16⟩
  | .hbm, ⟨15, _⟩ => ⟨S512x1024, .bf16⟩
  | .hbm, ⟨16, _⟩ => ⟨S1024x1024, .bf16⟩
  | .hbm, ⟨17, _⟩ => ⟨S1x1024, .f32⟩
  | .hbm, ⟨18, _⟩ => ⟨S1x1024, .f32⟩
  | .hbm, ⟨19, _⟩ => ⟨S16384x1024, .f32⟩
  | .hbm, ⟨20, _⟩ => ⟨S131072x128, .f32⟩
  | .hbm, ⟨21, _⟩ => ⟨S16384x128, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S1024x128, .bf16⟩
  | .local _ .vmem, ⟨16, _⟩ => ⟨S1024x1024, .f32⟩
  | .local _ .vmem, ⟨17, _⟩ => ⟨S1024x1024, .f32⟩
  | .local _ .vmem, ⟨18, _⟩ => ⟨S8192x128, .f32⟩
  | .local _ .vmem, ⟨19, _⟩ => ⟨S8192x128, .f32⟩
  | .local _ .vmem, ⟨20, _⟩ => ⟨S1024x128, .f32⟩
  | .local _ .vmem, ⟨21, _⟩ => ⟨S1024x128, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7_0 : Ref sig .tc := ⟨.hbm, 19, rfl⟩
abbrev main_v7_1 : Ref sig .tc := ⟨.hbm, 20, rfl⟩
abbrev main_v7_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8192x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference6Ideal.lean ====
abbrev S16384x512 : Shape := ⟨2, ![16384, 512]⟩
abbrev S16384x4096 : Shape := ⟨2, ![16384, 4096]⟩
abbrev S16384x1024 : Shape := ⟨2, ![16384, 1024]⟩
abbrev S512x1024 : Shape := ⟨2, ![512, 1024]⟩
abbrev S1024x1024 : Shape := ⟨2, ![1024, 1024]⟩
abbrev S1024 : Shape := ⟨1, ![1024]⟩
abbrev S1024x8 : Shape := ⟨2, ![1024, 8]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S131072x128 : Shape := ⟨2, ![131072, 128]⟩

abbrev nBuf : Space → Nat
  | .hbm => 71
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x4096, .bf16⟩
  | .hbm, ⟨3, _⟩ => ⟨S16384x1024, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x8, .f32⟩
  | .hbm, ⟨10, _⟩ => ⟨S16384x512, .f32⟩
  | .hbm, ⟨11, _⟩ => ⟨S16384x512, .f32⟩
  | .hbm, ⟨12, _⟩ => ⟨S16384x4096, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S16384x1, .f32⟩
  | .hbm, ⟨48, _⟩ => ⟨S16384x1024, .f32⟩
  | .hbm, ⟨49, _⟩ => ⟨S16384x1024, .f32⟩
  | .hbm, ⟨50, _⟩ => ⟨S1x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S_, .f32⟩
  | .hbm, ⟨56, _⟩ => ⟨S16384, .f32⟩
  | .hbm, ⟨57, _⟩ => ⟨S16384x1, .f32⟩
  | .hbm, ⟨58, _⟩ => ⟨S_, .f32⟩
  | .hbm, ⟨59, _⟩ => ⟨S16384x1, .f32⟩
  | .hbm, ⟨60, _⟩ => ⟨S16384x1, .f32⟩
  | .hbm, ⟨61, _⟩ => ⟨S_, .f32⟩
  | .hbm, ⟨62, _⟩ => ⟨S16384x1, .f32⟩
  | .hbm, ⟨63, _⟩ => ⟨S16384x1, .f32⟩
  | .hbm, ⟨64, _⟩ => ⟨S16384x1, .f32⟩
  | .hbm, ⟨65, _⟩ => ⟨S16384x1024, .f32⟩
  | .hbm, ⟨66, _⟩ => ⟨S16384x1024, .f32⟩
  | .hbm, ⟨67, _⟩ => ⟨S1x1024, .f32⟩
  | .hbm, ⟨68, _⟩ => ⟨S16384x1024, .f32⟩
  | .hbm, ⟨69, _⟩ => ⟨S16384x1024, .f32⟩
  | .hbm, ⟨70, _⟩ => ⟨S131072x128, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]
-- ==== Proof.Softmax.lean ====
/- Softmax over the extended reals. A kernel that spreads a query's keys over a larger index set, the further places masked, and
   divides once at the end computes what the plain softmax-weighted sum computes. -/
module

public import Idealize.ShloMosaic.PureOps.Ideal
public import Idealize.ShloMosaic.PureOps.Ideal.Laws

@[expose] public section

noncomputable section

namespace Cert.Softmax

open Idealize.ShloMosaic

/-- A factor that is a non-negative real distributes over a finite sum of extended reals. -/
theorem sum_mul_real {ι : Type*} (S : Finset ι) (f : ι → EReal) {c : EReal} (h0 : 0 ≤ c) (ht : c ≠ ⊤) :
    (∑ k ∈ S, f k) * c = ∑ k ∈ S, f k * c := by
  classical
  induction S using Finset.induction_on with
  | empty => simp
  | insert a S ha ih => rw [Finset.sum_insert ha, Finset.sum_insert ha, EReal.right_distrib_of_nonneg_of_ne_top h0 ht, ih]

/-- A finite sum of reals, read as an extended real, is the sum of the terms read so. -/
theorem coe_sum {ι : Type*} (S : Finset ι) (f : ι → ℝ) : ((∑ k ∈ S, f k : ℝ) : EReal) = ∑ k ∈ S, (f k : EReal) := by
  classical
  induction S using Finset.induction_on with
  | empty => simp
  | insert a S ha ih => rw [Finset.sum_insert ha, Finset.sum_insert ha, EReal.coe_add, ih]

/-- A finite family's least upper bound that is bounded by `c` exactly when the family is, is one of its members. -/
theorem lub_mem {ι : Type*} [Fintype ι] (s : ι → EReal) (k₀ : ι) {M : EReal} (hM : ∀ c, M ≤ c ↔ ∀ k, s k ≤ c) :
    ∃ k, M = s k := by
  obtain ⟨k, -, hk⟩ := Finset.exists_mem_eq_sup Finset.univ ⟨k₀, Finset.mem_univ _⟩ s
  refine ⟨k, le_antisymm ((hM _).2 fun x => ?_) ((hM M).1 le_rfl k)⟩
  rw [← hk]; exact Finset.le_sup (Finset.mem_univ x)

/-- The exponential of a score below a real bound is a non-negative real. -/
theorem exp_shift_nonneg (x : EReal) (hx : x ≠ ⊤) (r : ℝ) : ∃ p : ℝ, Ideal.exp (x - (r : EReal)) = (p : EReal) ∧ 0 ≤ p
    ∧ (x ≠ ⊥ → 0 < p) ∧ (x = ⊥ → p = 0) := by
  induction x with
  | bot => exact ⟨0, by rw [EReal.bot_sub, Ideal.exp_bot]; rfl, le_rfl, fun h => absurd rfl h, fun _ => rfl⟩
  | top => exact absurd rfl hx
  | coe a =>
    refine ⟨Real.exp (a - r), by rw [← EReal.coe_sub]; rfl, (Real.exp_pos _).le, fun _ => Real.exp_pos _, fun h => absurd h (EReal.coe_ne_bot a)⟩

/-- THE SOFTMAX STEP. `s` are a query's scores over its keys `ι`, none `⊤` and one not `⊥`; `t` the same scores laid out by `e` in a
    larger set of places `κ`, every further place `⊥`; `w` and `v` the values beside them, which agree wherever the score is not `⊥`.
    Then weighing the values by the unnormalised exponentials and dividing once is weighing them by the normalised ones. -/
theorem softmax_spread {ι κ : Type*} [Fintype ι] [Fintype κ] (e : ι → κ) (he : Function.Injective e)
    (s w : ι → EReal) (t v : κ → EReal) (hst : ∀ k, t (e k) = s k) (hout : ∀ x, x ∉ Set.range e → t x = ⊥)
    (hv : ∀ k, s k ≠ ⊥ → v (e k) = w k) (htop : ∀ k, s k ≠ ⊤) (k₀ : ι) (hk₀ : s k₀ ≠ ⊥) (M M' : EReal)
    (hM : ∀ c, M ≤ c ↔ ∀ k, s k ≤ c) (hM' : ∀ c, M' ≤ c ↔ ∀ x, t x ≤ c) :
    Ideal.div (∑ x, v x * Ideal.exp (t x - M')) (∑ x, Ideal.exp (t x - M'))
      = ∑ k, w k * Ideal.div (Ideal.exp (s k - M)) (∑ k, Ideal.exp (s k - M)) := by
  have hMM : M' = M := by
    refine le_antisymm ((hM' _).2 fun x => ?_) ((hM _).2 fun k => ?_)
    · by_cases hx : x ∈ Set.range e
      · obtain ⟨k, rfl⟩ := hx; rw [hst]; exact (hM M).1 le_rfl k
      · rw [hout x hx]; exact bot_le
    · rw [← hst]; exact (hM' M').1 le_rfl (e k)
  subst hMM
  obtain ⟨k₁, hk₁⟩ := lub_mem s k₀ hM
  have hMtop : M' ≠ ⊤ := hk₁ ▸ htop k₁
  have hMbot : M' ≠ ⊥ := fun h => hk₀ (le_bot_iff.mp (h ▸ (hM M').1 le_rfl k₀))
  lift M' to ℝ using ⟨hMtop, hMbot⟩ with r
  choose p hp hp0 hpos hpz using fun k => exp_shift_nonneg (s k) (htop k) r
  have hz : ∀ x, x ∉ Set.range e → Ideal.exp (t x - (r : EReal)) = 0 := fun x hx => by rw [hout x hx, EReal.bot_sub, Ideal.exp_bot]
  have hden : ∑ x, Ideal.exp (t x - (r : EReal)) = ((∑ k, p k : ℝ) : EReal) := by
    rw [← Fintype.sum_of_injective e he (fun k => (p k : EReal)) _ hz fun k => by rw [hst, hp], coe_sum]
  have hden' : ∑ k, Ideal.exp (s k - (r : EReal)) = ((∑ k, p k : ℝ) : EReal) := by
    rw [coe_sum]; exact Finset.sum_congr rfl fun k _ => hp k
  have hL : 0 < ∑ k, p k := Finset.sum_pos' (fun k _ => hp0 k) ⟨k₀, Finset.mem_univ _, hpos k₀ hk₀⟩
  have hnum : ∑ x, v x * Ideal.exp (t x - (r : EReal)) = ∑ k, w k * (p k : EReal) := by
    refine (Fintype.sum_of_injective e he _ _ (fun x hx => by rw [hz x hx, mul_zero]) fun k => ?_).symm
    rw [hst, hp]
    by_cases hk : s k = ⊥
    · rw [hpz k hk]; simp
    · rw [hv k hk]
  have hne : ((∑ k, p k : ℝ) : EReal) ≠ 0 := by rw [Ne, EReal.coe_eq_zero]; exact hL.ne'
  rw [hden, hnum, hden']
  simp only [Ideal.div, if_neg hne, hp]
  rw [← EReal.coe_inv, sum_mul_real _ _ (EReal.coe_nonneg.mpr (inv_nonneg.mpr hL.le)) (EReal.coe_ne_top _)]
  exact Finset.sum_congr rfl fun k _ => mul_assoc _ _ _

end Cert.Softmax

end
-- ==== Proof.Head.lean ====
/- The attention kernel's body in plain terms: one head's score tile, its column maximum, its unnormalised sums and their quotient,
   as vector operations; the four stores of a grid point are that one head's term at the eight heads. -/
module

public import proofs.«01_k».proof.Proof.Gen.KernelIdeal.Value
public import Idealize.ShloMosaic.Lib.Pointwise

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The number of the key tile that band tile `kt` of the point's query block is, as the kernel's word (negative before the sequence). -/
def tileW (i : grid0.Coords) (kt : ℕ) : BitVec 32 :=
  Scalar.subi (Scalar.addi (BitVec.ofNat 32 (i 1).val) (BitVec.ofNat 32 kt)) 4#32

/-- The key tile the kernel reads for band tile `kt`: that number, not below zero. -/
def tileC (i : grid0.Coords) (kt : ℕ) : BitVec 32 := Scalar.maxsi (tileW i kt) 0#32

/-- The clamped tile number is the natural number `i + kt - 4`, zero when that is negative. -/
theorem tileC_toNat (i : grid0.Coords) (kt : Fin 5) : (tileC i kt.val).toNat = (i 1).val + kt.val - 4 := by
  have h : ∀ (a : Fin 16) (k : Fin 5), (Scalar.maxsi (Scalar.subi (Scalar.addi (BitVec.ofNat 32 a.val) (BitVec.ofNat 32 k.val)) 4#32) 0#32).toNat
      = a.val + k.val - 4 := by decide +kernel
  exact h (i 1) kt

/-- The row at which the kernel reads band tile `kt`'s keys is 128 times the clamped tile number. -/
theorem keyRow_toNat (i : grid0.Coords) (kt : Fin 5) :
    (Scalar.indexCast (Scalar.muli (tileC i kt.val) 128#32)).toNat = ((i 1).val + kt.val - 4) * 128 := by
  have h : ∀ (a : Fin 16) (k : Fin 5), (Scalar.indexCast (Scalar.muli (Scalar.maxsi (Scalar.subi (Scalar.addi (BitVec.ofNat 32 a.val) (BitVec.ofNat 32 k.val)) 4#32) 0#32) 128#32)).toNat
      = (a.val + k.val - 4) * 128 := by decide +kernel
  exact h (i 1) kt

/-- The tile number at which the kernel reads band tile `kt`'s values is the clamped tile number. -/
theorem valRow_toNat (i : grid0.Coords) (kt : Fin 5) :
    (Scalar.indexCast (tileC i kt.val)).toNat = (i 1).val + kt.val - 4 := by
  have h : ∀ (a : Fin 16) (k : Fin 5), (Scalar.indexCast (Scalar.maxsi (Scalar.subi (Scalar.addi (BitVec.ofNat 32 a.val) (BitVec.ofNat 32 k.val)) 4#32) 0#32)).toNat
      = a.val + k.val - 4 := by decide +kernel
  exact h (i 1) kt

/-- Band tile `kt` lies in the sequence exactly when `i + kt` is at least four. -/
theorem tile_live (i : grid0.Coords) (kt : Fin 5) : Scalar.cmpi .sge (tileW i kt.val) 0#32 = if 4 ≤ (i 1).val + kt.val then 1#1 else 0#1 := by
  have h : ∀ (a : Fin 16) (k : Fin 5), Scalar.cmpi .sge (Scalar.subi (Scalar.addi (BitVec.ofNat 32 a.val) (BitVec.ofNat 32 k.val)) 4#32) 0#32
      = if 4 ≤ a.val + k.val then 1#1 else 0#1 := by decide +kernel
  exact h (i 1) kt

/-! ## The loads of one head -/

/-- The queries of head pair `hp`, a row per lane of the pair. -/
def ldQ (x0 : Vec Ideal S1x512x128 .bf16) (hp : Fin 4) : Vec Ideal S1x128x128 .bf16 :=
  View.ld x0 (Rect.unit ![0, hp.val * 128, 0] ![1, 128, 128] (by revert hp; decide))

/-- The keys of band tile `kt` for head pair `hp`. -/
def ldK (x1 : Vec Ideal S1x2048x512 .bf16) (i : grid0.Coords) (hp : Fin 4) (kt : Fin 5) : Vec Ideal S1x128x128 .bf16 :=
  View.ld x1 (Rect.unit ![0, (Scalar.indexCast (Scalar.muli (tileC i kt.val) 128#32)).toNat, hp.val * 128] ![1, 128, 128]
    (by
      have hi : (i 1).val < 16 := (i 1).isLt
      have h1 := keyRow_toNat i kt
      rw [h1]
      intro a; fin_cases a <;> simp <;> omega))

/-- The values of band tile `kt` for head `h`, a row per lane of the head. -/
def ldV (x2 : Vec Ideal S1x16x512x128 .bf16) (i : grid0.Coords) (h : Fin 8) (kt : Fin 5) : Vec Ideal S1x1x64x128 .bf16 :=
  View.ld x2 (Rect.unit ![0, (Scalar.indexCast (tileC i kt.val)).toNat, h.val * 64, 0] ![1, 1, 64, 128]
    (by
      have hi : (i 1).val < 16 := (i 1).isLt
      have h1 := valRow_toNat i kt
      rw [h1]
      intro a; fin_cases a <;> simp <;> omega))

/-- The bias tile of head `h` and band tile `kt`. -/
def ldB (x3 : Vec Ideal S8x5x128x128 .f32) (h : Fin 8) (kt : Fin 5) : Vec Ideal S1x1x128x128 .f32 :=
  View.ld x3 (Rect.unit ![h.val, kt.val, 0, 0] ![1, 1, 128, 128] (by revert h kt; decide))

/-! ## One head -/

/-- The scaled queries of a head pair with the other head's lanes zeroed: `s` is the head's place in the pair. -/
def qMask (s : BitVec 1) (q : Vec Ideal S1x128x128 .bf16) : FVec Ideal S128x128 .bf16 :=
  select (xori (xori (cmpi .sge (iota .tc S128x128 32 [0] iota_S128x128_d0_w32) (broadcast S128x128 64#32))
      (broadcastTo S128x128 (broadcast S128x128 s) broadcasts_S128x128_S128x128)) (constantI S128x128 1 1#1))
    (mulf (shapeCast S128x128 q shapeCasts_S1x128x128_S128x128) (broadcast S128x128 (Scalar.ofBits .bf16 0x3E00#16)))
    (broadcast S128x128 (Scalar.ofBits .bf16 0x0000#16))

/-- One band tile's scores, keys down and queries across: the products plus the bias, or the mask where the tile is before the sequence. -/
def tile (w : BitVec 32) (k : Vec Ideal S1x128x128 .bf16) (qm : FVec Ideal S128x128 .bf16) (b : Vec Ideal S1x1x128x128 .f32) : FVec Ideal S128x128 .f32 :=
  Scalar.select (Scalar.cmpi .sge w 0#32)
    (addf (matmul dot_S128x128_S128x128_S128x128_1_0_0_1_n_n none (shapeCast S128x128 k shapeCasts_S1x128x128_S128x128 : FVec Ideal S128x128 .bf16) qm (constant S128x128 .f32 0x00000000#32))
      (shapeCast S128x128 b shapeCasts_S1x1x128x128_S128x128))
    (broadcast S128x128 (Named.named κ "mask" 0xF149F2CA#32))

/-- Each query's greatest score over the five tiles. -/
def colMax (t0 t1 t2 t3 t4 : FVec Ideal S128x128 .f32) : FVec Ideal S1x128 .f32 :=
  shapeCast S1x128 (multiReduction .maximumf [0] S128 (maximumf (maximumf (maximumf (maximumf t0 t1) t2) t3) t4) 0xFF800000#32 reduces_S128x128_S128 (.inl rfl) rfl)
    shapeCasts_S128_S1x128

/-- A tile's unnormalised weights. -/
def wts (t : FVec Ideal S128x128 .f32) (mx : FVec Ideal S1x128 .f32) : FVec Ideal S128x128 .f32 :=
  exp (subf t (broadcastTo S128x128 mx broadcasts_S1x128_S128x128))

/-- A tile's weights added up per query. -/
def wsum (p : FVec Ideal S128x128 .f32) : FVec Ideal S1x128 .f32 :=
  shapeCast S1x128 (multiReduction .add [0] S128 p 0x00000000#32 reduces_S128x128_S128 (.inl rfl) rfl) shapeCasts_S128_S1x128

/-- A tile's values weighed and added up per query. -/
def wval (v : Vec Ideal S1x1x64x128 .bf16) (p : FVec Ideal S128x128 .f32) : FVec Ideal S64x128 .f32 :=
  matmul dot_S64x128_S128x128_S64x128_1_0_0_1_n_n none (shapeCast S64x128 v shapeCasts_S1x1x64x128_S64x128 : FVec Ideal S64x128 .bf16) (truncf .bf16 p bitsLt_bf16_f32)
    (constant S64x128 .f32 0x00000000#32)

/-- One head's outputs from its five score tiles and five value tiles. -/
def quot (t : Fin 5 → FVec Ideal S128x128 .f32) (v : Fin 5 → Vec Ideal S1x1x64x128 .bf16) (mx : FVec Ideal S1x128 .f32) : FVec Ideal S64x128 .f32 :=
  divf (addf (addf (addf (addf (wval (v 0) (wts (t 0) mx)) (wval (v 1) (wts (t 1) mx))) (wval (v 2) (wts (t 2) mx))) (wval (v 3) (wts (t 3) mx))) (wval (v 4) (wts (t 4) mx)))
    (broadcastTo S64x128 (addf (addf (addf (addf (wsum (wts (t 0) mx)) (wsum (wts (t 1) mx))) (wsum (wts (t 2) mx))) (wsum (wts (t 3) mx))) (wsum (wts (t 4) mx)))
      broadcasts_S1x128_S64x128)

/-- The score tile of head `h` (place `s` in pair `hp`) at band tile `kt`, from the point's blocks. -/
def headTile (i : grid0.Coords) (x0 : Vec Ideal S1x512x128 .bf16) (x1 : Vec Ideal S1x2048x512 .bf16) (x3 : Vec Ideal S8x5x128x128 .f32)
    (hp : Fin 4) (s : BitVec 1) (h : Fin 8) (kt : Fin 5) : FVec Ideal S128x128 .f32 :=
  tile (tileW i kt.val) (ldK x1 i hp kt) (qMask s (ldQ x0 hp)) (ldB x3 h kt)

/-- One head's outputs from the point's blocks, lanes down and queries across. -/
def head (i : grid0.Coords) (x0 : Vec Ideal S1x512x128 .bf16) (x1 : Vec Ideal S1x2048x512 .bf16) (x2 : Vec Ideal S1x16x512x128 .bf16)
    (x3 : Vec Ideal S8x5x128x128 .f32) (hp : Fin 4) (s : BitVec 1) (h : Fin 8) : FVec Ideal S64x128 .f32 :=
  quot (headTile i x0 x1 x3 hp s h) (ldV x2 i h)
    (colMax (headTile i x0 x1 x3 hp s h 0) (headTile i x0 x1 x3 hp s h 1) (headTile i x0 x1 x3 hp s h 2) (headTile i x0 x1 x3 hp s h 3) (headTile i x0 x1 x3 hp s h 4))

/-- What the kernel stores for a head pair: the two heads stacked, queries down and lanes across. -/
def pairOut (a b : FVec Ideal S64x128 .f32) : FVec Ideal S1x128x128 .bf16 :=
  shapeCast S1x128x128 (truncf .bf16 (transpose S128x128 [1, 0]
    (concatenate S128x128 0 [⟨S64x128, a⟩, ⟨S64x128, b⟩] concatenates_S64x128_S64x128_S128x128_d0) transposes_S128x128_p1_0_S128x128) bitsLt_bf16_f32)
    shapeCasts_S128x128_S1x128x128

/-- The store for head pair `hp` from the point's blocks. -/
def pairAt (i : grid0.Coords) (x0 : Vec Ideal S1x512x128 .bf16) (x1 : Vec Ideal S1x2048x512 .bf16) (x2 : Vec Ideal S1x16x512x128 .bf16)
    (x3 : Vec Ideal S8x5x128x128 .f32) (hp : Fin 4) (h h' : Fin 8) : FVec Ideal S1x128x128 .bf16 :=
  pairOut (head i x0 x1 x2 x3 hp 0#1 h) (head i x0 x1 x2 x3 hp 1#1 h')

set_option maxHeartbeats 2000000 in
/-- What the body leaves in the output block at a point: the four head pairs' stores, newest first. -/
theorem outs_canon (c : Dev nD) (t : Fin cfg0.N) :
    outsAt0 m c t = View.canon
      [⟨Rect.unit ![0, 0, 384] ![1, 128, 128] inb_S1x128x512_S1x128x128_0_0_384,
          pairAt (grid0.coords t) (iblk m c 0 t) (iblk m c 1 t) (iblk m c 2 t) (iblk m c 3 t) 3 6 7⟩,
        ⟨Rect.unit ![0, 0, 256] ![1, 128, 128] inb_S1x128x512_S1x128x128_0_0_256,
          pairAt (grid0.coords t) (iblk m c 0 t) (iblk m c 1 t) (iblk m c 2 t) (iblk m c 3 t) 2 4 5⟩,
        ⟨Rect.unit ![0, 0, 128] ![1, 128, 128] inb_S1x128x512_S1x128x128_0_0_128,
          pairAt (grid0.coords t) (iblk m c 0 t) (iblk m c 1 t) (iblk m c 2 t) (iblk m c 3 t) 1 2 3⟩,
        ⟨Rect.unit ![0, 0, 0] ![1, 128, 128] inb_S1x128x512_S1x128x128_0_0_0,
          pairAt (grid0.coords t) (iblk m c 0 t) (iblk m c 1 t) (iblk m c 2 t) (iblk m c 3 t) 0 0 1⟩] := by
  unfold outsAt0 out0_A_4
  rw [View.read_writes_eq_canon _ _ _ (cover0_A_4 c _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread]
  rfl

end Cert.KernelIdeal.Attn

end
-- ==== Proof.HeadValue.lean ====
/- One head of the attention kernel, read at an index over the extended reals. -/
module

public import proofs.«01_k».proof.Proof.Head
public import proofs.«01_k».proof.Proof.Softmax

@[expose] public section

set_option maxRecDepth 16384

noncomputable section

namespace Cert.KernelIdeal.Attn

open Cert.KernelIdeal Cert.KernelIdeal.Gen Idealize.ShloMosaic Idealize.ShloMosaic.TcCoe Idealize.SL.Sem

/-- A load of a block through a unit-stride rectangle, read at an index: the block at the index the offsets move it to. -/
theorem ld_at {S : Shape} {e : EltTy} (X : Vec Ideal S e) (off size : Fin S.rank → ℕ) (inb) (x : (Rect.unit (s := S) off size inb).shape.Idx) (y : S.Idx)
    (h : ∀ a, (y a).val = off a + (x a).val) : View.ld X (Rect.unit off size inb) x = X y := by
  unfold View.ld
  refine congrArg X (funext fun a => Fin.ext ?_)
  rw [h a]
  simp [Rect.unit]

/-- The named mask constant is `⊥`. -/
theorem mask_eq : (Named.named κ "mask" 0xF149F2CA#32 : Ideal .f32) = (⊥ : EReal) :=
  IdealRules.named_const.ideal_named_scalar _ _ _ _ rfl

/-- The masked queries at an index: the lane's scaled query on the head's own half of the pair, zero on the other half. -/
theorem qMask_at (s : Fin 2) (q : Vec Ideal S1x128x128 .bf16) (j r : Fin 128) :
    qMask (BitVec.ofNat 1 s.val) q (ix2 j r) = if j.val / 64 = s.val then q (ix3 0 j r) * Ideal.ofBits .bf16 0x3E00#16 else (0 : EReal) := by
  have h : ∀ (s : Fin 2) (j : Fin 128), IntOp.xori (IntOp.xori (IntOp.cmpi .sge (BitVec.ofNat 32 j.val) 64#32) (BitVec.ofNat 1 s.val)) 1#1
      = if j.val / 64 = s.val then 1#1 else 0#1 := by decide +kernel
  unfold qMask
  pointwise
  rw [h s j]
  split <;> rfl

/-- A score tile at an index, the masked queries put in: a sum over the head's own 64 lanes, plus the bias, where the tile is in the sequence. -/
theorem tile_at (w : BitVec 32) (k q : Vec Ideal S1x128x128 .bf16) (s : Fin 2) (b : Vec Ideal S1x1x128x128 .f32) (j r : Fin 128) :
    tile w k (qMask (BitVec.ofNat 1 s.val) q) b (ix2 j r) = if Scalar.cmpi .sge w 0#32 = 1#1
      then (∑ d : Fin 64, k (ix3 0 j ⟨s.val * 64 + d.val, by omega⟩) * (q (ix3 0 ⟨s.val * 64 + d.val, by omega⟩ r) * Ideal.ofBits .bf16 0x3E00#16)) + b (ix4 0 0 j r)
      else (⊥ : EReal) := by
  unfold tile
  pointwise
  rw [mask_eq]
  unfold Scalar.select
  refine if_congr Iff.rfl (congrArg (· + _) ?_) rfl
  simp only [qMask_at]
  rw [Fin.sum_univ_two_halves 64 64 rfl]
  have h0 : ∀ x : Fin 64, x.val / 64 = 0 := fun x => by omega
  have h1 : ∀ x : Fin 64, (64 + x.val) / 64 = 1 := fun x => by omega
  fin_cases s
  · simp [h0, h1]
  · simp [h0, h1]

/-- The running maximum at a query is bounded by `c` exactly when every score of the five tiles is. -/
theorem colMax_le (t : Fin 5 → FVec Ideal S128x128 .f32) (r : Fin 128) (c : EReal) :
    colMax (t 0) (t 1) (t 2) (t 3) (t 4) (ix2 0 r) ≤ c ↔ ∀ x : Fin 5 × Fin 128, t x.1 (ix2 x.2 r) ≤ c := by
  have hb : (Ideal.ofBits .f32 0xFF800000#32 : EReal) = ⊥ := by simp [Ideal.ofBits, Ideal.ieee]
  unfold colMax
  pointwise
  rw [hb, Finset.fold_max_le]
  simp only [bot_le, true_and, Finset.mem_univ, forall_const, max_le_iff, Prod.forall]
  constructor
  · intro h kt j
    obtain ⟨⟨⟨⟨h0, h1⟩, h2⟩, h3⟩, h4⟩ := h j
    fin_cases kt <;> assumption
  · intro h j
    exact ⟨⟨⟨⟨h 0 j, h 1 j⟩, h 2 j⟩, h 3 j⟩, h 4 j⟩

/-- One head's output at an index: the weighed values over the weights, each a sum over the 640 places of the band. -/
theorem quot_at (t : Fin 5 → FVec Ideal S128x128 .f32) (v : Fin 5 → Vec Ideal S1x1x64x128 .bf16) (mx : FVec Ideal S1x128 .f32) (d : Fin 64) (r : Fin 128) :
    quot t v mx (ix2 d r) = Ideal.div (∑ x : Fin 5 × Fin 128, v x.1 (ix4 0 0 d x.2) * Ideal.exp (t x.1 (ix2 x.2 r) - mx (ix2 0 r)))
      (∑ x : Fin 5 × Fin 128, Ideal.exp (t x.1 (ix2 x.2 r) - mx (ix2 0 r))) := by
  unfold quot wval wsum wts
  pointwise
  simp only [Fintype.sum_prod_type, Fin.sum_univ_five]

/-- What is stored for a head pair, at an index: the first head on the lower lanes, the second on the upper ones. -/
theorem pairOut_at (a b : FVec Ideal S64x128 .f32) (r c : Fin 128) :
    pairOut a b (ix3 0 r c) = if h : c.val < 64 then a (ix2 ⟨c.val, h⟩ r) else b (ix2 ⟨c.val - 64, by omega⟩ r) := by
  unfold pairOut
  pointwise

/-! ## One head from the point's blocks -/

/-- The score of the key at place `x` of the band for query `r` of head `h`, from the point's blocks; `n` is the query block's number. -/
def kscore (n : Fin 16) (x0 : Vec Ideal S1x512x128 .bf16) (x1 : Vec Ideal S1x2048x512 .bf16) (x3 : Vec Ideal S8x5x128x128 .f32)
    (h : Fin 8) (r : Fin 128) (x : Fin 5 × Fin 128) : EReal :=
  if 4 ≤ n.val + x.1.val then
    (∑ d : Fin 64, x1 (ix3 0 ⟨(n.val + x.1.val - 4) * 128 + x.2.val, by omega⟩ ⟨h.val * 64 + d.val, by omega⟩)
      * (x0 (ix3 0 ⟨h.val * 64 + d.val, by omega⟩ r) * Ideal.ofBits .bf16 0x3E00#16)) + x3 (ix4 h x.1 x.2 r)
  else ⊥

/-- Lane `d` of the value at place `x` of the band, from the point's block. -/
def kval (n : Fin 16) (x2 : Vec Ideal S1x16x512x128 .bf16) (h : Fin 8) (d : Fin 64) (x : Fin 5 × Fin 128) : EReal :=
  x2 (ix4 0 ⟨n.val + x.1.val - 4, by omega⟩ ⟨h.val * 64 + d.val, by omega⟩ x.2)

/-- The head tile at an index is the score at that place. -/
theorem headTile_at (i : grid0.Coords) (x0 : Vec Ideal S1x512x128 .bf16) (x1 : Vec Ideal S1x2048x512 .bf16) (x3 : Vec Ideal S8x5x128x128 .f32)
    (hp : Fin 4) (s : Fin 2) (h : Fin 8) (hh : h.val = 2 * hp.val + s.val) (kt : Fin 5) (j r : Fin 128) :
    headTile i x0 x1 x3 hp (BitVec.ofNat 1 s.val) h kt (ix2 j r) = kscore (i 1) x0 x1 x3 h r (kt, j) := by
  unfold headTile kscore
  rw [tile_at, tile_live]
  have hif : ((if 4 ≤ (i 1).val + kt.val then 1#1 else 0#1 : BitVec 1) = 1#1) ↔ 4 ≤ (i 1).val + kt.val := by split <;> simp_all
  refine if_congr hif ?_ rfl
  refine congrArg₂ (· + ·) (Finset.sum_congr rfl fun d _ => congrArg₂ (· * ·) ?_ (congrArg (· * _) ?_)) ?_
  · refine ld_at _ _ _ _ _ _ fun a => ?_
    have h1 := keyRow_toNat i kt
    fin_cases a
    · rfl
    · simp [h1]
    · simp; omega
  · refine ld_at _ _ _ _ _ _ fun a => ?_
    fin_cases a
    · rfl
    · simp; omega
    · simp
  · refine ld_at _ _ _ _ _ _ fun a => ?_
    fin_cases a <;> simp

/-- The head's value load at an index is the value at that place. -/
theorem ldV_at (i : grid0.Coords) (x2 : Vec Ideal S1x16x512x128 .bf16) (h : Fin 8) (kt : Fin 5) (d : Fin 64) (j : Fin 128) :
    ldV x2 i h kt (ix4 0 0 d j) = kval (i 1) x2 h d (kt, j) := by
  refine ld_at _ _ _ _ _ _ fun a => ?_
  have h1 := valRow_toNat i kt
  fin_cases a
  · rfl
  · simp [h1]
  · simp
  · simp

/-- ONE HEAD: its output at lane `d` and query `r` is the weighed values over the weights, the weights shifted by the scores' least upper bound. -/
theorem head_at (i : grid0.Coords) (x0 : Vec Ideal S1x512x128 .bf16) (x1 : Vec Ideal S1x2048x512 .bf16) (x2 : Vec Ideal S1x16x512x128 .bf16)
    (x3 : Vec Ideal S8x5x128x128 .f32) (hp : Fin 4) (s : Fin 2) (h : Fin 8) (hh : h.val = 2 * hp.val + s.val) (d : Fin 64) (r : Fin 128) :
    ∃ M : EReal, (∀ c, M ≤ c ↔ ∀ x, kscore (i 1) x0 x1 x3 h r x ≤ c)
      ∧ head i x0 x1 x2 x3 hp (BitVec.ofNat 1 s.val) h (ix2 d r)
        = Ideal.div (∑ x, kval (i 1) x2 h d x * Ideal.exp (kscore (i 1) x0 x1 x3 h r x - M)) (∑ x, Ideal.exp (kscore (i 1) x0 x1 x3 h r x - M)) := by
  refine ⟨colMax _ _ _ _ _ (ix2 0 r), fun c => (colMax_le (headTile i x0 x1 x3 hp (BitVec.ofNat 1 s.val) h) r c).trans ?_, ?_⟩
  · simp only [headTile_at i x0 x1 x3 hp s h hh]
  · unfold head
    rw [quot_at]
    simp only [headTile_at i x0 x1 x3 hp s h hh, ldV_at]

end Cert.KernelIdeal.Attn

end
-- ==== Proof.Bias.lean ====
module

public import proofs.«01_k».proof.Proof.HeadValue
public import Idealize.ShloMosaic.Lib.Claim
public import Idealize.ShloMosaic.Lib.StableHlo.ReadAt
public import Idealize.ShloMosaic.Lib.Tactic.WordOmega

/-! The bias table that the host builds before the launch, read at an index. -/

@[expose] public section
set_option maxRecDepth 16384
noncomputable section
namespace Cert.KernelIdeal.Attn
open Cert.KernelIdeal Cert.KernelIdeal.Gen Idealize.ShloMosaic Idealize.ShloMosaic.TcCoe Idealize.SL.Sem

/-- The constant part and the reversed part of a row of biases, one after the other. -/
def cat2 (a : FVec Ideal S8x511 .f32) (b : FVec Ideal S8x256 .f32) : FVec Ideal S8x767 .f32 :=
  concatenate S8x767 1 [⟨S8x511, a⟩, ⟨S8x256, b⟩] concatenates_S8x511_S8x256_S8x767_d1

/-- The name `cat2` for the operation as it is printed. -/
theorem cat2_def : (fun (a : FVec Ideal S8x511 .f32) (b : FVec Ideal S8x256 .f32) =>
    concatenate S8x767 1 [⟨S8x511, a⟩, ⟨S8x256, b⟩] concatenates_S8x511_S8x256_S8x767_d1) = cat2 := rfl

/-- Which places of the band a query row may see. -/
def bandMask : IVec S128x640 1 :=
  select
    (broadcastInDim S128x640 ![0, 1] bcast_S128x1_S128x640_0_1
      (cmpi CmpIPredicate.slt (broadcastInDim S128x1 ![0] bcast_S128_S128x1_0 (iotaInDim S128 32 0))
        (broadcastInDim S128x1 ![] bcast_S_S128x1 (constantI S_ 32 64#32))))
    (broadcastInDim S128x640 ![0, 1] bcast_S1x640_S128x640_0_1
      (cmpi CmpIPredicate.slt (broadcastInDim S1x640 ![1] bcast_S640_S1x640_1 (iotaInDim S640 32 0))
        (broadcastInDim S1x640 ![] bcast_S_S1x640 (constantI S_ 32 576#32))))
    (broadcastInDim S128x640 ![0, 1] bcast_S1x640_S128x640_0_1
      (cmpi CmpIPredicate.sge (broadcastInDim S1x640 ![1] bcast_S640_S1x640_1 (iotaInDim S640 32 0))
        (broadcastInDim S1x640 ![] bcast_S_S1x640 (constantI S_ 32 64#32))))

/-- One row of biases per head, from the farthest key to the nearest, padded by one place. -/
def relRow (rel : FVec Ideal S8x257 .f32) : FVec Ideal S8x768 .f32 :=
  pad S8x768 ![0, 0] ![0, 1] ![0, 0]
    (cat2
      (broadcastInDim S8x511 ![0, 1] bcast_S8x1_S8x511_0_1
        (extractStridedSlice S8x1 ![0, 256] rel slices_S8x257_S8x1_0_256))
      (Host.reverse [1] (extractStridedSlice S8x256 ![0, 1] rel slices_S8x257_S8x256_0_1)))
    (sitofp FTy.f32 (constantI S_ 32 0#32)) pads_S8x767_S8x768_000_010 h_S_

/-- The padded row repeated for the 128 query rows and cut one place shorter, so that each row is shifted by one. -/
def skewed (row : FVec Ideal S8x768 .f32) : FVec Ideal S8x128x640 .f32 :=
  extractStridedSlice S8x128x640 ![0, 0, 127]
    (shapeCast S8x128x767
      (extractStridedSlice S8x98176 ![0, 0]
        (shapeCast S8x98304
          (broadcastInDim S1x8x128x768 ![0, 1, 2, 3] bcast_S1x8x1x768_S1x8x128x768_0_1_2_3
            (shapeCast S1x8x1x768 row shapeCasts_S8x768_S1x8x1x768))
          shapeCasts_S1x8x128x768_S8x98304)
        slices_S8x98304_S8x98176_0_0)
      shapeCasts_S8x98176_S8x128x767)
    slices_S8x128x767_S8x128x640_0_0_127

/-- The table of biases: minus infinity where the band mask is off. -/
def biasArr (rel : FVec Ideal S8x257 .f32) : FVec Ideal S8x5x128x128 .f32 :=
  shapeCast S8x5x128x128
    (transpose S8x640x128 [0, 2, 1]
      (select
        (broadcastInDim S8x128x640 ![0, 1, 2] bcast_S1x128x640_S8x128x640_0_1_2
          (broadcastInDim S1x128x640 ![1, 2] bcast_S128x640_S1x128x640_1_2 bandMask))
        (skewed (relRow rel))
        (broadcastInDim S8x128x640 ![] bcast_S_S8x128x640 (constant S_ FTy.f32 4286578688#32)))
      transposes_S8x128x640_S8x640x128_0_2_1)
    shapeCasts_S8x640x128_S8x5x128x128

variable (m : (ℓ : Loc nD τ sig) → Buf (Elt Ideal) ℓ)

/-- What the launch finds in the bias table is `biasArr` of the fourth argument. -/
theorem V_bias (c : Dev nD) : V m c main_v26 = biasArr (m (c, Proc.devRef .tc main_arg3)) := by
  unfold V
  simp only [hostOps0, hostOps0_1, hostOps0_2, hostOps0_3, hostOps0_4, hostOps0_5, hostOps0_6, List.flatten_cons,
    List.flatten_nil, List.append_nil, List.cons_append, List.nil_append]
  simp only [cat2_def]
  after_reads_simp
  simp -implicitDefEqProofs only [StableHlo.TRef.toBuf, StableHlo.TRef.ofBuf, cast_cast, cast_eq]
  rfl

/-- A query row's place against half a block. -/
theorem row_lt : ∀ r : Fin 128, IntOp.cmpi CmpIPredicate.slt (BitVec.ofNat 32 r.val) 64#32 =
    if r.val < 64 then 1#1 else 0#1 := by decide +kernel

/-- A band place against the end of the first half's window. -/
theorem place_lt : ∀ k : Fin 640, IntOp.cmpi CmpIPredicate.slt (BitVec.ofNat 32 k.val) 576#32 =
    if k.val < 576 then 1#1 else 0#1 := by decide +kernel

/-- A band place against the start of the second half's window. -/
theorem place_ge : ∀ k : Fin 640, IntOp.cmpi CmpIPredicate.sge (BitVec.ofNat 32 k.val) 64#32 =
    if 64 ≤ k.val then 1#1 else 0#1 := by decide +kernel

/-- The band mask read at an index. -/
theorem bandMask_at (r : Fin 128) (k : Fin 640) :
    bandMask (ix2 r k) = 1#1 ↔ (if r.val < 64 then k.val < 576 else 64 ≤ k.val) := by
  unfold bandMask
  pointwise
  rw [row_lt, place_lt, place_ge]
  by_cases h1 : r.val < 64 <;> by_cases h2 : k.val < 576 <;> by_cases h3 : 64 ≤ k.val <;> simp [h1, h2, h3, Scalar.select]

/-- The row of biases read at an index. -/
theorem relRow_at (rel : FVec Ideal S8x257 .f32) (h : Fin 8) (p : Fin 768) (hp : p.val < 767) :
    relRow rel (ix2 h p) = rel (ix2 h ⟨min 256 (767 - p.val), by omega⟩) := by
  unfold relRow cat2
  pointwise
  rw [dif_pos hp]
  split_ifs with h2 h3
  · congr 2; ext; simp; omega
  · simp at h3
  · congr 2; ext; simp [Fin.rev]; omega

/-- The shifted rows read at an index. -/
theorem skewed_at (row : FVec Ideal S8x768 .f32) (h : Fin 8) (r : Fin 128) (k : Fin 640) :
    skewed row (ix3 h r k) = row (ix2 h ⟨127 + k.val - r.val, by omega⟩) := by
  unfold skewed
  pointwise
  congr 2; ext; simp only; omega

/-- The table of biases read at an index. -/
theorem biasArr_at (rel : FVec Ideal S8x257 .f32) (h : Fin 8) (kt : Fin 5) (j r : Fin 128) :
    biasArr rel (ix4 h kt j r) =
      if (if r.val < 64 then kt.val * 128 + j.val < 576 else 64 ≤ kt.val * 128 + j.val) then
        rel (ix2 h ⟨min 256 (640 + r.val - (kt.val * 128 + j.val)), by omega⟩) else ⊥ := by
  unfold biasArr
  pointwise
  have hb := bandMask_at r ⟨kt.val * 128 + j.val, by omega⟩
  have hn : (Ideal.ofBits .f32 4286578688#32 : EReal) = ⊥ := by simp [Ideal.ofBits, Ideal.ieee]
  unfold Scalar.select
  by_cases h1 : bandMask (ix2 r ⟨kt.val * 128 + j.val, by omega⟩) = 1#1
  · refine (if_pos h1).trans (Eq.trans ?_ (if_pos (hb.1 h1)).symm)
    have h2 := hb.1 h1
    rw [skewed_at, relRow_at]
    · congr 2; ext; simp only; omega
    · have := r.isLt; split_ifs at h2 <;> simp only at h2 ⊢ <;> omega
  · exact (if_neg h1).trans (hn.trans (if_neg (fun h => h1 (hb.2 h))).symm)
end Cert.KernelIdeal.Attn
end
-- ==== Proof.Arrays.lean ====
module

public import proofs.«01_k».proof.Proof.Bias
public import proofs.«01_k».proof.Proof.Gen.KernelIdeal.Value
public import Idealize.ShloMosaic.Lib.Pipeline.ValueKit

/-! The kernel's result array as a function of the argument arrays. -/

@[expose] public section
set_option maxRecDepth 16384
noncomputable section
namespace Cert.KernelIdeal.Attn
open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The score of the key at place `x` of the band of query block `i`, for query `r` of head `h`, from the arrays. -/
def gscore (x0 : FVec Ideal S8x512x2048 .bf16) (x1 : FVec Ideal S8x2048x4096 .bf16) (x3 : FVec Ideal S8x5x128x128 .f32)
    (b : Fin 8) (i : Fin 16) (h : Fin 8) (r : Fin 128) (x : Fin 5 × Fin 128) : EReal :=
  if 4 ≤ i.val + x.1.val then
    (∑ d : Fin 64, x1 (ix3 b ⟨(i.val + x.1.val - 4) * 128 + x.2.val, by omega⟩ ⟨h.val * 64 + d.val, by omega⟩)
      * (x0 (ix3 b ⟨h.val * 64 + d.val, by omega⟩ ⟨i.val * 128 + r.val, by omega⟩) * Ideal.ofBits .bf16 0x3E00#16)) + x3 (ix4 h x.1 x.2 r)
  else ⊥

/-- Lane `d` of the value at place `x` of the band of query block `i`, from the array. -/
def gval (x2 : FVec Ideal S8x16x512x128 .bf16) (b : Fin 8) (i : Fin 16) (h : Fin 8) (d : Fin 64) (x : Fin 5 × Fin 128) : EReal :=
  x2 (ix4 b ⟨i.val + x.1.val - 4, by omega⟩ ⟨h.val * 64 + d.val, by omega⟩ x.2)

/-- The kernel's result at batch `b`, query `r` of block `i`, lane `d` of head `h`. -/
def gout (x0 : FVec Ideal S8x512x2048 .bf16) (x1 : FVec Ideal S8x2048x4096 .bf16) (x2 : FVec Ideal S8x16x512x128 .bf16)
    (x3 : FVec Ideal S8x5x128x128 .f32) (b : Fin 8) (i : Fin 16) (h : Fin 8) (r : Fin 128) (d : Fin 64) : EReal :=
  Ideal.div (∑ x, gval x2 b i h d x * Ideal.exp (gscore x0 x1 x3 b i h r x - ⨆ x, gscore x0 x1 x3 b i h r x))
    (∑ x, Ideal.exp (gscore x0 x1 x3 b i h r x - ⨆ x, gscore x0 x1 x3 b i h r x))

/-- The whole result array. -/
def garr (x0 : FVec Ideal S8x512x2048 .bf16) (x1 : FVec Ideal S8x2048x4096 .bf16) (x2 : FVec Ideal S8x16x512x128 .bf16)
    (x3 : FVec Ideal S8x5x128x128 .f32) : FVec Ideal S8x2048x512 .bf16 := fun y =>
  gout x0 x1 x2 x3 ⟨(y 0).val, (y 0).isLt⟩ ⟨(y 1).val / 128, by have : (y 1).val < 2048 := (y 1).isLt; omega⟩
    ⟨(y 2).val / 64, by have : (y 2).val < 512 := (y 2).isLt; omega⟩ ⟨(y 1).val % 128, by omega⟩ ⟨(y 2).val % 64, by omega⟩

/-! ## The blocks -/

/-- Where the query window's blocks start. -/
theorem idx0 : ∀ t : Fin grid0.N, win0_0.index t = ![(grid0.coords t 0).val, 0, (grid0.coords t 1).val] := by decide +kernel
/-- Where the key window's blocks start. -/
theorem idx1 : ∀ t : Fin grid0.N, win0_1.index t = ![(grid0.coords t 0).val, 0, 0] := by decide +kernel
/-- Where the value window's blocks start. -/
theorem idx2 : ∀ t : Fin grid0.N, win0_2.index t = ![(grid0.coords t 0).val, 0, 0, 0] := by decide +kernel
/-- The bias window takes the whole table. -/
theorem idx3 : ∀ t : Fin grid0.N, win0_3.index t = ![0, 0, 0, 0] := by decide +kernel
/-- Where the output window's blocks start. -/
theorem idx4 : ∀ t : Fin grid0.N, win0_4.index t = ![(grid0.coords t 0).val, (grid0.coords t 1).val, 0] := by decide +kernel

/-- The first argument is as it was before the host's operations. -/
theorem V_arg0 (c : Dev nD) : V m c main_arg0 = m (c, Proc.devRef .tc main_arg0) := by
  unfold V
  simp only [hostOps0, hostOps0_1, hostOps0_2, hostOps0_3, hostOps0_4, hostOps0_5, hostOps0_6, List.flatten_cons,
    List.flatten_nil, List.append_nil, List.cons_append, List.nil_append]
  after_reads_simp

/-- The second argument is as it was before the host's operations. -/
theorem V_arg1 (c : Dev nD) : V m c main_arg1 = m (c, Proc.devRef .tc main_arg1) := by
  unfold V
  simp only [hostOps0, hostOps0_1, hostOps0_2, hostOps0_3, hostOps0_4, hostOps0_5, hostOps0_6, List.flatten_cons,
    List.flatten_nil, List.append_nil, List.cons_append, List.nil_append]
  after_reads_simp

/-- The third argument is as it was before the host's operations. -/
theorem V_arg2 (c : Dev nD) : V m c main_arg2 = m (c, Proc.devRef .tc main_arg2) := by
  unfold V
  simp only [hostOps0, hostOps0_1, hostOps0_2, hostOps0_3, hostOps0_4, hostOps0_5, hostOps0_6, List.flatten_cons,
    List.flatten_nil, List.append_nil, List.cons_append, List.nil_append]
  after_reads_simp

/-- The query block at an index. -/
theorem blk0_at (c : Dev nD) (t : Fin cfg0.N) (a : Fin 512) (r : Fin 128) :
    iblk m c 0 t (ix3 0 a r) = V m c main_arg0 (ix3 (grid0.coords t 0) a ⟨(grid0.coords t 1).val * 128 + r.val, by have : (grid0.coords t 1).val < 16 := (grid0.coords t 1).isLt; omega⟩) := by
  blk_ext [iblk, idx0 t]

/-- The key block at an index. -/
theorem blk1_at (c : Dev nD) (t : Fin cfg0.N) (s : Fin 2048) (a : Fin 512) :
    iblk m c 1 t (ix3 0 s a) = V m c main_arg1 (ix3 (grid0.coords t 0) s ⟨a.val, by omega⟩) := by
  blk_ext [iblk, idx1 t]

/-- The value block at an index. -/
theorem blk2_at (c : Dev nD) (t : Fin cfg0.N) (n : Fin 16) (a : Fin 512) (j : Fin 128) :
    iblk m c 2 t (ix4 0 n a j) = V m c main_arg2 (ix4 (grid0.coords t 0) n a j) := by
  blk_ext [iblk, idx2 t]

/-- The bias block at an index. -/
theorem blk3_at (c : Dev nD) (t : Fin cfg0.N) (h : Fin 8) (kt : Fin 5) (j r : Fin 128) :
    iblk m c 3 t (ix4 h kt j r) = V m c main_v26 (ix4 h kt j r) := by
  blk_ext [iblk, idx3 t]
end Cert.KernelIdeal.Attn
end
-- ==== Proof.Result.lean ====
module

public import proofs.«01_k».proof.Proof.Arrays

/-! The kernel's result array is the array of its points' head outputs. -/

@[expose] public section
set_option maxRecDepth 16384
noncomputable section
namespace Cert.KernelIdeal.Attn
open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- One head from a point's blocks is that head from the arrays. -/
theorem head_gout (c : Dev nD) (t : Fin cfg0.N) (hp : Fin 4) (s : Fin 2) (h : Fin 8) (hh : h.val = 2 * hp.val + s.val) (d : Fin 64) (r : Fin 128) :
    head (grid0.coords t) (iblk m c 0 t) (iblk m c 1 t) (iblk m c 2 t) (iblk m c 3 t) hp (BitVec.ofNat 1 s.val) h (ix2 d r)
      = gout (V m c main_arg0) (V m c main_arg1) (V m c main_arg2) (V m c main_v26) (grid0.coords t 0) (grid0.coords t 1) h r d := by
  obtain ⟨M, hM, e⟩ := head_at (grid0.coords t) (iblk m c 0 t) (iblk m c 1 t) (iblk m c 2 t) (iblk m c 3 t) hp s h hh d r
  have hs : ∀ x, kscore (grid0.coords t 1) (iblk m c 0 t) (iblk m c 1 t) (iblk m c 3 t) h r x
      = gscore (V m c main_arg0) (V m c main_arg1) (V m c main_v26) (grid0.coords t 0) (grid0.coords t 1) h r x := by
    intro x
    unfold kscore gscore
    simp only [blk0_at, blk1_at, blk3_at]
  have hv : ∀ x, kval (grid0.coords t 1) (iblk m c 2 t) h d x = gval (V m c main_arg2) (grid0.coords t 0) (grid0.coords t 1) h d x := by
    intro x
    unfold kval gval
    exact blk2_at m c t _ _ _
  simp only [hs] at hM e
  have hM' : M = ⨆ x, gscore (V m c main_arg0) (V m c main_arg1) (V m c main_v26) (grid0.coords t 0) (grid0.coords t 1) h r x :=
    eq_of_forall_ge_iff fun c => (hM c).trans iSup_le_iff.symm
  rw [e, hM']
  unfold gout
  simp only [hv]

/-- A head pair's output at an index. -/
theorem pair_gout (c : Dev nD) (t : Fin cfg0.N) (hp : Fin 4) (h h' : Fin 8) (hh : h.val = 2 * hp.val) (hh' : h'.val = 2 * hp.val + 1) (r e : Fin 128) :
    pairAt (grid0.coords t) (iblk m c 0 t) (iblk m c 1 t) (iblk m c 2 t) (iblk m c 3 t) hp h h' (ix3 0 r e)
      = gout (V m c main_arg0) (V m c main_arg1) (V m c main_arg2) (V m c main_v26) (grid0.coords t 0) (grid0.coords t 1)
          ⟨2 * hp.val + e.val / 64, by omega⟩ r ⟨e.val % 64, by omega⟩ := by
  unfold pairAt
  rw [pairOut_at]
  split_ifs with hc
  · refine (head_gout m c t hp 0 h hh ⟨e.val, hc⟩ r).trans ?_
    congr 1
    · ext; simp only; omega
    · ext; simp only; omega
  · refine (head_gout m c t hp 1 h' hh' ⟨e.val - 64, by omega⟩ r).trans ?_
    congr 1
    · ext; simp only; omega
    · ext; simp only; omega

/-- The output block at an index. -/
theorem outs_gout (c : Dev nD) (t : Fin cfg0.N) (r : Fin 128) (e : Fin 512) :
    outsAt0 m c t (ix3 0 r e)
      = gout (V m c main_arg0) (V m c main_arg1) (V m c main_arg2) (V m c main_v26) (grid0.coords t 0) (grid0.coords t 1)
          ⟨e.val / 64, by omega⟩ r ⟨e.val % 64, by omega⟩ := by
  rw [outs_canon]
  have key : ∀ (hp : Fin 4) (h h' : Fin 8) (hh : h.val = 2 * hp.val) (hh' : h'.val = 2 * hp.val + 1) (inb) (L),
      hp.val * 128 ≤ e.val → e.val < hp.val * 128 + 128 →
      View.canon (Val := Elt Ideal) (e := .bf16) (⟨Rect.unit (s := S1x128x512) ![0, 0, hp.val * 128] ![1, 128, 128] inb,
          pairAt (grid0.coords t) (iblk m c 0 t) (iblk m c 1 t) (iblk m c 2 t) (iblk m c 3 t) hp h h'⟩ :: L) (ix3 0 r e)
      = gout (V m c main_arg0) (V m c main_arg1) (V m c main_arg2) (V m c main_v26) (grid0.coords t 0) (grid0.coords t 1)
          ⟨e.val / 64, by omega⟩ r ⟨e.val % 64, by omega⟩ := by
    intro hp h h' hh hh' inb L h1 h2
    have he : (Rect.unit (s := S1x128x512) ![0, 0, hp.val * 128] ![1, 128, 128] inb).emb (ix3 0 r ⟨e.val - hp.val * 128, by omega⟩) = ix3 0 r e := by
      funext a
      refine Fin.ext ?_
      fin_cases a
      · simp [Rect.emb, Rect.unit]
      · simp [Rect.emb, Rect.unit]
      · simp [Rect.emb, Rect.unit]; omega
    rw [← he, View.canon_cons_emb]
    refine (pair_gout m c t hp h h' hh hh' r _).trans ?_
    congr 1
    · ext; simp only; omega
    · ext; simp only; omega
  have skip : ∀ (k : ℕ) (inb) (w) (L), ¬ (k ≤ e.val ∧ e.val < k + 128) →
      View.canon ((⟨Rect.unit (s := S1x128x512) ![0, 0, k] ![1, 128, 128] inb, w⟩ : View.Piece (Elt Ideal) S1x128x512 .bf16) :: L) (ix3 0 r e) = View.canon L (ix3 0 r e) := by
    intro k inb w L hk
    refine View.canon_cons_of_not_mem _ _ fun hmem => hk ?_
    have := ((Rect.mem_set_unit (inb := inb)).1 hmem) 2
    simpa using this
  by_cases h3 : 384 ≤ e.val
  · exact key 3 6 7 rfl rfl _ _ (by simpa using h3) (by have := e.isLt; simp)
  rw [skip 384 _ _ _ (by omega)]
  by_cases h2 : 256 ≤ e.val
  · exact key 2 4 5 rfl rfl _ _ (by simpa using h2) (by simp; omega)
  rw [skip 256 _ _ _ (by omega)]
  by_cases h1 : 128 ≤ e.val
  · exact key 1 2 3 rfl rfl _ _ (by simpa using h1) (by simp; omega)
  rw [skip 128 _ _ _ (by omega)]
  exact key 0 0 1 rfl rfl _ _ (by simp) (by simp; omega)

/-- THE RESULT ARRAY after the run. -/
theorem arr_eq (c : Dev nD) : (dats m 0 c).arrAt 4 cfg0.N
    = garr (m (c, Proc.devRef .tc main_arg0)) (m (c, Proc.devRef .tc main_arg1)) (m (c, Proc.devRef .tc main_arg2)) (biasArr (m (c, Proc.devRef .tc main_arg3))) := by
  rw [← V_arg0 m c, ← V_arg1 m c, ← V_arg2 m c, ← V_bias m c]
  refine (dats m 0 c).arrAt_eq_of_covers 4 _ (by decide +kernel) fun t hf y => ?_
  blk_simp
  rw [after0_4]
  have H : ∀ y : S1x128x512.Idx, outsAt0 m c t y
      = garr (V m c main_arg0) (V m c main_arg1) (V m c main_arg2) (V m c main_v26) ((win0_4.blk t).view.emb y) := by
    intro y
    have hy : y = ix3 0 ⟨(y 1).val, (y 1).isLt⟩ ⟨(y 2).val, (y 2).isLt⟩ := by
      funext a
      match a with
      | ⟨0, _⟩ => exact Subsingleton.elim (α := Fin 1) _ _
      | ⟨1, _⟩ => rfl
      | ⟨2, _⟩ => rfl
    have h1 : (y 1).val < 128 := (y 1).isLt
    have h2 : (y 2).val < 512 := (y 2).isLt
    have h0 : (y 0).val < 1 := (y 0).isLt
    have e0 : ((win0_4.blk t).view.emb y 0).val = (grid0.coords t 0).val := by
      blk_simp [idx4 t]
    have e1 : ((win0_4.blk t).view.emb y 1).val = (grid0.coords t 1).val * 128 + (y 1).val := by
      blk_simp [idx4 t]
    have e2 : ((win0_4.blk t).view.emb y 2).val = (y 2).val := by
      blk_simp [idx4 t]
    refine (congrArg (outsAt0 m c t) hy).trans ((outs_gout m c t _ _).trans ?_)
    unfold garr
    congr 1
    · exact Fin.ext e0.symm
    · ext; simp only; rw [e1]; omega
    · ext; simp only; rw [e2]
    · ext; simp only; rw [e1]; omega
    · ext; simp only; rw [e2]
  exact H y
end Cert.KernelIdeal.Attn
end
-- ==== Proof.Ref.lean ====
module

public import proofs.«01_k».proof.Proof.Gen.ReferenceIdeal.Read
public import Idealize.ShloMosaic.Lib.Pointwise
public import Idealize.ShloMosaic.PureOps.Ideal.Laws
public import Idealize.ShloMosaic.Lib.Tactic.WordOmega

/-! The reference's attention read at an index. -/

@[expose] public section
set_option maxRecDepth 16384
noncomputable section
namespace Cert.ReferenceIdeal.Attn
open Cert.ReferenceIdeal Cert.ReferenceIdeal.Gen Cert.ReferenceIdeal.Read Idealize.ShloMosaic Idealize.ShloMosaic.TcCoe

/-- The scaled queries. -/
theorem q_at (x0 : FVec Ideal S8x512x2048 .bf16) (b : Fin 8) (n : Fin 32) (q : Fin 64) (h : Fin 8) (d : Fin 64) :
    val_main_v9 (F := Ideal) x0 (ix5 b n q h d) =
      x0 (ix3 b ⟨h.val * 64 + d.val, by omega⟩ ⟨n.val * 64 + q.val, by omega⟩) * Ideal.ofBits .f32 0x3E000000#32 := by
  unfold val_main_v9 val_main_v7 val_main_v8 val_main_cst val_main_v1 val_main_v0
  pointwise

/-- The keys in chunks, behind eight chunks of padding. -/
theorem kp_at (x1 : FVec Ideal S8x2048x4096 .bf16) (b : Fin 8) (n : Fin 40) (q : Fin 64) (h : Fin 8) (d : Fin 64) :
    val_main_v11 (F := Ideal) x1 (ix5 b n q h d) =
      if hn : 8 ≤ n.val then x1 (ix3 b ⟨(n.val - 8) * 64 + q.val, by omega⟩ ⟨h.val * 64 + d.val, by omega⟩) else 0 := by
  unfold val_main_v11 val_main_v10 val_main_v3 val_main_v2 val_main_call0_v0 val_main_c
  pointwise
  by_cases hn : 8 ≤ n.val
  · rw [dif_pos ⟨hn, by omega⟩, dif_pos hn]
  · rw [dif_neg (fun h => hn h.1), dif_neg hn]
    simp [FloatOps.sitofp]

/-- The keys of a chunk's band. -/
theorem kb_at (x1 : FVec Ideal S8x2048x4096 .bf16) (b : Fin 8) (n : Fin 32) (k : Fin 576) (h : Fin 8) (d : Fin 64) :
    val_main_v21 (F := Ideal) x1 (ix5 b n k h d) =
      val_main_v11 (F := Ideal) x1 (ix5 b ⟨n.val + k.val / 64, by omega⟩ ⟨k.val % 64, by omega⟩ h d) := by
  unfold val_main_v21 val_main_v12 val_main_v13 val_main_v14 val_main_v15 val_main_v16 val_main_v17 val_main_v18 val_main_v19 val_main_v20
  generalize val_main_v11 (F := Ideal) x1 = y
  pointwise
  split_ifs
  all_goals (congr 1; congr 1 <;> (ext; simp only; omega))

/-- The values in chunks, behind eight chunks of padding. -/
theorem vp_at (x2 : FVec Ideal S8x16x512x128 .bf16) (b : Fin 8) (n : Fin 40) (q : Fin 64) (h : Fin 8) (d : Fin 64) :
    val_main_v23 (F := Ideal) x2 (ix5 b n q h d) =
      if hn : 8 ≤ n.val then x2 (ix4 b ⟨((n.val - 8) * 64 + q.val) / 128, by omega⟩ ⟨h.val * 64 + d.val, by omega⟩
        ⟨((n.val - 8) * 64 + q.val) % 128, by omega⟩) else 0 := by
  unfold val_main_v23 val_main_v22 val_main_v6 val_main_v5 val_main_v4 val_main_call1_v0 val_main_c_0
  pointwise
  by_cases hn : 8 ≤ n.val
  · rw [dif_pos ⟨hn, by omega⟩, dif_pos hn]
    congr 2 <;> (ext; simp only; omega)
  · rw [dif_neg (fun h => hn h.1), dif_neg hn]
    simp [FloatOps.sitofp]

/-- A clipped distance, as a word and back. -/
theorem clip_toNat : ∀ e : Fin 704, min (BitVec.ofNat 32 (min 256 e.val)).toInt.toNat (257 - 1) = min 256 e.val := by
  decide +kernel

/-- The word arithmetic of a clipped distance. -/
theorem clip_word : ∀ e : Fin 704,
    Scalar.select (IntOp.cmpi CmpIPredicate.slt (IntOp.addi (IntOp.minsi 128#32 (IntOp.maxsi 4294967168#32 (BitVec.ofNat 32 e.val - 128#32))) 128#32) 0#32)
      (IntOp.addi (IntOp.addi (IntOp.minsi 128#32 (IntOp.maxsi 4294967168#32 (BitVec.ofNat 32 e.val - 128#32))) 128#32) 257#32)
      (IntOp.addi (IntOp.minsi 128#32 (IntOp.maxsi 4294967168#32 (BitVec.ofNat 32 e.val - 128#32))) 128#32)
    = BitVec.ofNat 32 (min 256 e.val) := by decide +kernel

/-- The index the biases are gathered at. -/
theorem idx_at (q : Fin 64) (k : Fin 576) :
    val_main_v48 (F := Ideal) (ix3 q k 0) = BitVec.ofNat 32 (min 256 (640 + q.val - k.val)) := by
  unfold val_main_v48 val_main_v47 val_main_v46 val_main_v45 val_main_c_6 val_main_v44 val_main_v43 val_main_c_5 val_main_v42 val_main_v41 val_main_c_4 val_main_v40 val_main_call2_v4 val_main_call2_v3 val_main_call2_v2 val_main_call2_v1 val_main_call2_v0 val_main_c_3 val_main_c_2 val_main_v39 val_main_v38 val_main_v37 val_main_v36 val_main_c_1 val_main_v35
  pointwise
  rw [show IntOp.subi (IntOp.addi (BitVec.ofNat 32 q.val) 512#32) (BitVec.ofNat 32 k.val)
      = BitVec.ofNat 32 (640 + q.val - k.val) - 128#32 from ?_]
  · exact clip_word ⟨640 + q.val - k.val, by omega⟩
  · apply BitVec.eq_of_toNat_eq
    simp only [IntOp.subi, IntOp.addi, BitVec.toNat_sub, BitVec.toNat_add, BitVec.toNat_ofNat]
    omega

/-- The biases gathered by distance. -/
theorem bias_at (x3 : FVec Ideal S8x257 .f32) (h : Fin 8) (q : Fin 64) (k : Fin 576) :
    val_main_v49 (F := Ideal) x3 (ix3 h q k) = x3 (ix2 h ⟨min 256 (640 + q.val - k.val), by omega⟩) := by
  unfold val_main_v49
  unfold Host.gather
  congr 1
  funext a
  refine Fin.ext ?_
  show (gather_S8x257_S64x576x1_S8x64x576_0_1_n_n_1_2_81.start (ix3 h q k) (val_main_v48 (F := Ideal)) a)
    + (gather_S8x257_S64x576x1_S8x64x576_0_1_n_n_1_2_81.batchCoord (ix3 h q k) a)
    + (gather_S8x257_S64x576x1_S8x64x576_0_1_n_n_1_2_81.offCoord (ix3 h q k) a) = _
  rw [GatherDims.batchCoord_eq_zero _ _ _ List.not_mem_nil]
  match a with
  | ⟨0, _⟩ =>
    unfold GatherDims.start
    refine (congrArg (fun z => z + 0 + _) (dif_neg (show ¬ (0 : Fin 2) ∈ ([1] : List (Fin 2)) by decide))).trans ?_
    simp only [Nat.zero_add]
    rfl
  | ⟨1, _⟩ =>
    rw [GatherDims.offCoord_eq_zero _ _ _ (fun h => ((GatherDims.mem_sKept _ _).mp h).1 (show (1 : Fin 2) ∈ ([1] : List (Fin 2)) by decide))]
    unfold GatherDims.start
    refine (congrArg (fun z => z + 0 + 0) (dif_pos (show (1 : Fin 2) ∈ ([1] : List (Fin 2)) by decide))).trans ?_
    have hsi : gather_S8x257_S64x576x1_S8x64x576_0_1_n_n_1_2_81.siIdx (ix3 h q k) ⟨List.idxOf (1 : Fin 2) gather_S8x257_S64x576x1_S8x64x576_0_1_n_n_1_2_81.startIndexMap,
        List.idxOf_lt_length_iff.2 (List.mem_singleton.mpr rfl)⟩ = ix3 q k 0 := by
      funext b; refine Fin.ext ?_
      match b with
      | ⟨0, _⟩ => rfl
      | ⟨1, _⟩ => rfl
      | ⟨2, _⟩ => rfl
    simp only [Nat.add_zero]
    refine Eq.trans (congrArg (fun z => min (val_main_v48 (F := Ideal) z).toInt.toNat (257 - 1)) hsi) ?_
    show min (val_main_v48 (F := Ideal) (ix3 q k 0)).toInt.toNat (257 - 1) = min 256 (640 + q.val - k.val)
    rw [idx_at]
    exact clip_toNat ⟨640 + q.val - k.val, by omega⟩

/-- Which band places are not before the sequence. -/
theorem valid_at (n : Fin 32) (k : Fin 576) :
    val_main_v56 (F := Ideal) (ix2 n k) = if 512 ≤ n.val * 64 + k.val then 1#1 else 0#1 := by
  unfold val_main_v56 val_main_v55 val_main_c_8 val_main_v54 val_main_v53 val_main_v52 val_main_v51 val_main_c_7 val_main_v50
  pointwise
  rw [show IntOp.muli (BitVec.ofNat 32 n.val) 64#32 = BitVec.ofNat 32 (n.val * 64) from by
    apply BitVec.eq_of_toNat_eq
    simp only [IntOp.muli, BitVec.toNat_mul, BitVec.toNat_ofNat]
    omega]
  word_omega

/-- The score of a query against a place of its chunk's band: minus infinity before the sequence. -/
def rscore (x0 : FVec Ideal S8x512x2048 .bf16) (x1 : FVec Ideal S8x2048x4096 .bf16) (x3 : FVec Ideal S8x257 .f32)
    (b : Fin 8) (n : Fin 32) (h : Fin 8) (q : Fin 64) (k : Fin 576) : EReal :=
  if hk : 512 ≤ n.val * 64 + k.val then
    (∑ d : Fin 64, x0 (ix3 b ⟨h.val * 64 + d.val, by omega⟩ ⟨n.val * 64 + q.val, by omega⟩) * Ideal.ofBits .f32 0x3E000000#32
      * x1 (ix3 b ⟨n.val * 64 + k.val - 512, by omega⟩ ⟨h.val * 64 + d.val, by omega⟩))
      + x3 (ix2 h ⟨min 256 (640 + q.val - k.val), by omega⟩)
  else ⊥

/-- The value at a place of a chunk's band: zero before the sequence. -/
def rval (x2 : FVec Ideal S8x16x512x128 .bf16) (b : Fin 8) (n : Fin 32) (h : Fin 8) (d : Fin 64) (k : Fin 576) : EReal :=
  if hk : 512 ≤ n.val * 64 + k.val then
    x2 (ix4 b ⟨(n.val * 64 + k.val - 512) / 128, by omega⟩ ⟨h.val * 64 + d.val, by omega⟩
      ⟨(n.val * 64 + k.val - 512) % 128, by omega⟩)
  else 0

/-- The values of a chunk's band. -/
theorem vb_at (x2 : FVec Ideal S8x16x512x128 .bf16) (b : Fin 8) (n : Fin 32) (k : Fin 576) (h : Fin 8) (d : Fin 64) :
    val_main_v33 (F := Ideal) x2 (ix5 b n k h d) = rval x2 b n h d k := by
  have e : val_main_v33 (F := Ideal) x2 (ix5 b n k h d) =
      val_main_v23 (F := Ideal) x2 (ix5 b ⟨n.val + k.val / 64, by omega⟩ ⟨k.val % 64, by omega⟩ h d) := by
    unfold val_main_v33 val_main_v24 val_main_v25 val_main_v26 val_main_v27 val_main_v28 val_main_v29 val_main_v30 val_main_v31 val_main_v32
    generalize val_main_v23 (F := Ideal) x2 = y
    pointwise
    split_ifs
    all_goals (congr 1; congr 1 <;> (ext; simp only; omega))
  rw [e, vp_at]
  unfold rval
  by_cases hk : 512 ≤ n.val * 64 + k.val
  · rw [dif_pos hk, dif_pos (by simp only; omega)]
    congr 2 <;> (ext; simp only; omega)
  · rw [dif_neg hk, dif_neg (by simp only; omega)]

/-- The reference's masked scores. -/
theorem score_at (x0 : FVec Ideal S8x512x2048 .bf16) (x1 : FVec Ideal S8x2048x4096 .bf16) (x3 : FVec Ideal S8x257 .f32)
    (b : Fin 8) (n : Fin 32) (h : Fin 8) (q : Fin 64) (k : Fin 576) :
    val_main_v61 (F := Ideal) x0 x1 x3 (ix5 b n h q k) = rscore x0 x1 x3 b n h q k := by
  have hq := fun d => q_at x0 b n q h d
  have hkb := fun d => kb_at x1 b n k h d
  have hkp := fun d => kp_at x1 b ⟨n.val + k.val / 64, by omega⟩ ⟨k.val % 64, by omega⟩ h d
  have hb := bias_at x3 h q k
  have hv := valid_at n k
  unfold val_main_v61 val_main_call3_v2 val_main_call3_v1 val_main_call3_v0 val_main_cst_9 val_main_v60 val_main_v59 val_main_v58 val_main_v57 val_main_v34 rscore
  generalize val_main_v9 (F := Ideal) x0 = y0 at *
  generalize val_main_v21 (F := Ideal) x1 = y1 at *
  generalize val_main_v49 (F := Ideal) x3 = y3 at *
  generalize val_main_v56 (F := Ideal) = y4 at *
  pointwise
  rw [hv]
  by_cases hk : 512 ≤ n.val * 64 + k.val
  · rw [if_pos hk, dif_pos hk, hb]
    refine (if_pos rfl).trans (congrArg (· + _) (Finset.sum_congr rfl fun d _ => ?_))
    rw [hq, hkb, hkp, dif_pos (by simp only; omega)]
    congr 3 <;> (ext; simp only; omega)
  · rw [if_neg hk, dif_neg hk]
    refine (if_neg (by decide)).trans ?_
    simp [constant, FloatOps.ofBits, Ideal.ofBits, Ideal.ieee]

end Cert.ReferenceIdeal.Attn
end
-- ==== Proof.RefOut.lean ====
module

public import proofs.«01_k».proof.Proof.Ref
public import Idealize.ShloMosaic.Lib.Pointwise
public import Idealize.ShloMosaic.PureOps.Ideal.Laws
public import Idealize.ShloMosaic.Lib.Tactic.WordOmega

/-! The reference's softmax and result read at an index. -/

@[expose] public section
set_option maxRecDepth 16384
noncomputable section
namespace Cert.ReferenceIdeal.Attn
open Cert.ReferenceIdeal Cert.ReferenceIdeal.Gen Cert.ReferenceIdeal.Read Idealize.ShloMosaic Idealize.ShloMosaic.TcCoe

/-- A maximum taken over dropped axes is at most a bound when the start and every element that drops to the index are. -/
theorem reduce_max_le {s t u : Shape} {axes : List (Fin s.rank)} (x : s.Idx → EReal) (init : u.Idx → EReal)
    (h : s.ReducesTo axes t) (hu : 0 < u.numel) (j : t.Idx) (c : EReal) :
    Host.reduce max x init h hu j ≤ c ↔ init (Shape.Idx.first hu) ≤ c ∧ ∀ i, h.drop i = j → x i ≤ c := by
  have hf : ∀ (l : List (Fin s.numel)) (z : EReal), l.foldl (fun r n => max r (x (s.rowMajor.symm n))) z ≤ c ↔
      z ≤ c ∧ ∀ n ∈ l, x (s.rowMajor.symm n) ≤ c := by
    intro l
    induction l with
    | nil => intro z; simp
    | cons a l ih => intro z; rw [List.foldl_cons, ih, max_le_iff]; simp [and_assoc]
  unfold Host.reduce
  rw [hf]
  refine and_congr_right fun _ => ⟨fun H i hi => ?_, fun H n hn => H _ ?_⟩
  · have := H (s.rowMajor i) (by simp [hi])
    simpa using this
  · simpa using hn

/-- The reference's row maximum is the least upper bound of the row. -/
theorem max_le (x0 : FVec Ideal S8x512x2048 .bf16) (x1 : FVec Ideal S8x2048x4096 .bf16) (x3 : FVec Ideal S8x257 .f32)
    (b : Fin 8) (n : Fin 32) (h : Fin 8) (q : Fin 64) (c : EReal) :
    val_main_v64 (F := Ideal) x0 x1 x3 (ix4 b n h q) ≤ c ↔ ∀ k, val_main_v61 (F := Ideal) x0 x1 x3 (ix5 b n h q k) ≤ c := by
  have hn : (Ideal.ofBits .f32 4286578688#32 : EReal) = ⊥ := by simp [Ideal.ofBits, Ideal.ieee]
  rw [val_main_v64_apply, val_main_v63_apply, val_main_cst_11_apply]
  unfold val_main_v62
  generalize val_main_v61 (F := Ideal) x0 x1 x3 = y
  refine (max_le_iff (α := EReal)).trans ?_
  refine (and_congr Iff.rfl (reduce_max_le y (val_main_cst_10 (F := Ideal)) _ _ _ c)).trans ?_
  rw [val_main_cst_10_apply]
  have hd : ∀ k : Fin 576, reducesTo_S8x32x8x64x576_S8x32x8x64_d4.drop (ix5 b n h q k) = ix4 b n h q := by
    intro k; funext a
    match a with
    | ⟨0, _⟩ => rfl
    | ⟨1, _⟩ => rfl
    | ⟨2, _⟩ => rfl
    | ⟨3, _⟩ => rfl
  have hb : ((FloatOps.ofBits .f32 0xFF800000#32 : Ideal .f32) : EReal) ≤ c := by
    show (Ideal.ofBits .f32 4286578688#32 : EReal) ≤ c
    rw [hn]; exact bot_le
  refine ⟨fun H k => H.2.2 _ (hd k), fun H => ⟨hb, hb, fun i hi => ?_⟩⟩
  have : i = ix5 b n h q (i 4) := by
    funext a
    match a with
    | ⟨0, _⟩ => exact congrFun hi 0
    | ⟨1, _⟩ => exact congrFun hi 1
    | ⟨2, _⟩ => exact congrFun hi 2
    | ⟨3, _⟩ => exact congrFun hi 3
    | ⟨4, _⟩ => rfl
  rw [this]; exact H _

/-- The reference's shifted exponentials. -/
theorem exp_at (x0 : FVec Ideal S8x512x2048 .bf16) (x1 : FVec Ideal S8x2048x4096 .bf16) (x3 : FVec Ideal S8x257 .f32)
    (b : Fin 8) (n : Fin 32) (h : Fin 8) (q : Fin 64) (k : Fin 576) :
    val_main_v68 (F := Ideal) x0 x1 x3 (ix5 b n h q k) =
      Ideal.exp (val_main_v61 (F := Ideal) x0 x1 x3 (ix5 b n h q k) - val_main_v64 (F := Ideal) x0 x1 x3 (ix4 b n h q)) := by
  unfold val_main_v68 val_main_v67 val_main_v66 val_main_v65
  generalize val_main_v61 (F := Ideal) x0 x1 x3 = y
  generalize val_main_v64 (F := Ideal) x0 x1 x3 = z
  pointwise

/-- The reference's row sums. -/
theorem sum_at (x0 : FVec Ideal S8x512x2048 .bf16) (x1 : FVec Ideal S8x2048x4096 .bf16) (x3 : FVec Ideal S8x257 .f32)
    (b : Fin 8) (n : Fin 32) (h : Fin 8) (q : Fin 64) :
    val_main_v69 (F := Ideal) x0 x1 x3 (ix4 b n h q) = ∑ k : Fin 576, val_main_v68 (F := Ideal) x0 x1 x3 (ix5 b n h q k) := by
  rw [val_main_v69_apply]
  have h0 : (val_main_cst_12 (F := Ideal)) (Shape.Idx.first h_S_) = (0 : EReal) := by
    simp [val_main_cst_12, constant, FloatOps.ofBits, Ideal.ofBits, Ideal.ieee]
  rw [h0, zero_add]
  refine Finset.sum_congr rfl fun k _ => congrArg _ ?_
  funext a
  match a with
  | ⟨0, _⟩ => rfl
  | ⟨1, _⟩ => rfl
  | ⟨2, _⟩ => rfl
  | ⟨3, _⟩ => rfl
  | ⟨4, _⟩ => rfl

/-- The reference's probabilities. -/
theorem prob_at (x0 : FVec Ideal S8x512x2048 .bf16) (x1 : FVec Ideal S8x2048x4096 .bf16) (x3 : FVec Ideal S8x257 .f32)
    (b : Fin 8) (n : Fin 32) (h : Fin 8) (q : Fin 64) (k : Fin 576) :
    val_main_v72 (F := Ideal) x0 x1 x3 (ix5 b n h q k) =
      Ideal.div (val_main_v68 (F := Ideal) x0 x1 x3 (ix5 b n h q k)) (val_main_v69 (F := Ideal) x0 x1 x3 (ix4 b n h q)) := by
  unfold val_main_v72 val_main_v71 val_main_v70
  generalize val_main_v68 (F := Ideal) x0 x1 x3 = y
  generalize val_main_v69 (F := Ideal) x0 x1 x3 = z
  pointwise

/-- The weighted sum of the band's values. -/
theorem mix_at (x0 : FVec Ideal S8x512x2048 .bf16) (x1 : FVec Ideal S8x2048x4096 .bf16) (x2 : FVec Ideal S8x16x512x128 .bf16)
    (x3 : FVec Ideal S8x257 .f32) (b : Fin 8) (n : Fin 32) (h : Fin 8) (q d : Fin 64) :
    val_main_v73 (F := Ideal) x0 x1 x2 x3 (ix5 b n h d q) =
      ∑ k : Fin 576, val_main_v33 (F := Ideal) x2 (ix5 b n k h d) * val_main_v72 (F := Ideal) x0 x1 x3 (ix5 b n h q k) := by
  unfold val_main_v73
  generalize val_main_v33 (F := Ideal) x2 = y
  generalize val_main_v72 (F := Ideal) x0 x1 x3 = z
  pointwise

/-- The result's layout. -/
theorem lay_at (x0 : FVec Ideal S8x512x2048 .bf16) (x1 : FVec Ideal S8x2048x4096 .bf16) (x2 : FVec Ideal S8x16x512x128 .bf16)
    (x3 : FVec Ideal S8x257 .f32) (b : Fin 8) (n : Fin 32) (h : Fin 8) (q d : Fin 64) :
    val_main_v76 (F := Ideal) x0 x1 x2 x3 (ix3 b ⟨n.val * 64 + q.val, by omega⟩ ⟨h.val * 64 + d.val, by omega⟩) =
      val_main_v73 (F := Ideal) x0 x1 x2 x3 (ix5 b n h d q) := by
  unfold val_main_v76 val_main_v75 val_main_v74
  generalize val_main_v73 (F := Ideal) x0 x1 x2 x3 = y
  pointwise

/-- The reference's result read at an index: the softmax-weighted sum of the band's values. -/
theorem out_at (x0 : FVec Ideal S8x512x2048 .bf16) (x1 : FVec Ideal S8x2048x4096 .bf16) (x2 : FVec Ideal S8x16x512x128 .bf16)
    (x3 : FVec Ideal S8x257 .f32) (b : Fin 8) (n : Fin 32) (h : Fin 8) (q d : Fin 64) :
    ∃ M : EReal, (∀ c, M ≤ c ↔ ∀ k, rscore x0 x1 x3 b n h q k ≤ c) ∧
      val_main_v76 (F := Ideal) x0 x1 x2 x3 (ix3 b ⟨n.val * 64 + q.val, by omega⟩ ⟨h.val * 64 + d.val, by omega⟩) =
        ∑ k, rval x2 b n h d k * Ideal.div (Ideal.exp (rscore x0 x1 x3 b n h q k - M))
          (∑ k', Ideal.exp (rscore x0 x1 x3 b n h q k' - M)) := by
  refine ⟨val_main_v64 (F := Ideal) x0 x1 x3 (ix4 b n h q), fun c => ?_, ?_⟩
  · rw [max_le]
    simp only [score_at]
  · rw [lay_at, mix_at]
    simp only [vb_at, prob_at, sum_at, exp_at, score_at]
end Cert.ReferenceIdeal.Attn
end
-- ==== Proof.Match.lean ====
module

public import proofs.«01_k».proof.Proof.Softmax
public import proofs.«01_k».proof.Proof.Result
public import proofs.«01_k».proof.Proof.RefOut

/-! The kernel's result array is the reference's, when the queries, the keys and the biases are finite: the kernel's band of five
tiles of 128 keys holds the reference's band of 576 keys, shifted by 64 places for the odd chunks, and its further places are masked. -/

@[expose] public section
set_option maxRecDepth 16384
noncomputable section
namespace Cert.Match
open Idealize.ShloMosaic Cert.KernelIdeal.Attn Cert.ReferenceIdeal.Attn Cert.KernelIdeal

/-- An extended real that is neither infinity. -/
def Fin' (x : EReal) : Prop := x ≠ ⊤ ∧ x ≠ ⊥

/-- A product of finite extended reals is finite. -/
theorem Fin'.mul {x y : EReal} (hx : Fin' x) (hy : Fin' y) : Fin' (x * y) := by
  obtain ⟨a, rfl⟩ : ∃ a : ℝ, x = a := ⟨x.toReal, (EReal.coe_toReal hx.1 hx.2).symm⟩
  obtain ⟨b, rfl⟩ : ∃ b : ℝ, y = b := ⟨y.toReal, (EReal.coe_toReal hy.1 hy.2).symm⟩
  rw [← EReal.coe_mul]
  exact ⟨EReal.coe_ne_top _, EReal.coe_ne_bot _⟩

/-- A sum of finite extended reals is finite. -/
theorem Fin'.add {x y : EReal} (hx : Fin' x) (hy : Fin' y) : Fin' (x + y) := by
  obtain ⟨a, rfl⟩ : ∃ a : ℝ, x = a := ⟨x.toReal, (EReal.coe_toReal hx.1 hx.2).symm⟩
  obtain ⟨b, rfl⟩ : ∃ b : ℝ, y = b := ⟨y.toReal, (EReal.coe_toReal hy.1 hy.2).symm⟩
  rw [← EReal.coe_add]
  exact ⟨EReal.coe_ne_top _, EReal.coe_ne_bot _⟩

/-- A finite sum of finite extended reals is finite. -/
theorem Fin'.sum {ι : Type*} (s : Finset ι) (f : ι → EReal) (h : ∀ i, Fin' (f i)) : Fin' (∑ i ∈ s, f i) := by
  classical
  induction s using Finset.induction_on with
  | empty => simp [Fin']
  | insert a s ha ih => rw [Finset.sum_insert ha]; exact (h a).add ih

/-- The two spellings of the scale, an eighth. -/
theorem scale_eq : Ideal.ofBits .bf16 0x3E00#16 = Ideal.ofBits .f32 0x3E000000#32 := by
  simp [Ideal.ofBits, Ideal.ieee]
  rw [← EReal.coe_mul, ← EReal.coe_mul]
  congr 1
  norm_num

/-- The scale is finite. -/
theorem scale_fin : Fin' (Ideal.ofBits .f32 0x3E000000#32) := by
  simp only [Fin', Ideal.ofBits, Ideal.ieee]
  simp
  rw [← EReal.coe_mul]
  exact ⟨EReal.coe_ne_top _, EReal.coe_ne_bot _⟩

/-- Where the kernel's band holds the `k`-th key of chunk `n`'s band. -/
def place (n : Fin 32) (k : Fin 576) : Fin 5 × Fin 128 :=
  (⟨(k.val + n.val % 2 * 64) / 128, by omega⟩, ⟨(k.val + n.val % 2 * 64) % 128, by omega⟩)

/-- Different keys have different places. -/
theorem place_injective (n : Fin 32) : Function.Injective (place n) := by
  intro a b hab
  have h1 := congrArg (fun x => x.1.val) hab
  have h2 := congrArg (fun x => x.2.val) hab
  simp only [place] at h1 h2
  ext
  omega

variable (x0 : FVec Ideal S8x512x2048 .bf16) (x1 : FVec Ideal S8x2048x4096 .bf16) (x2 : FVec Ideal S8x16x512x128 .bf16)
  (x3 : FVec Ideal S8x257 .f32)

/-- At a place that holds a key of the reference's band the kernel's score is the reference's. -/
theorem score_place (b : Fin 8) (n : Fin 32) (h : Fin 8) (q : Fin 64) (k : Fin 576) :
    gscore x0 x1 (biasArr x3) b ⟨n.val / 2, by omega⟩ h ⟨n.val % 2 * 64 + q.val, by omega⟩ (place n k) = rscore x0 x1 x3 b n h q k := by
  unfold gscore rscore place
  simp only
  rw [biasArr_at]
  by_cases hk : 512 ≤ n.val * 64 + k.val
  · rw [dif_pos hk, if_pos (by omega), if_pos (by split_ifs <;> simp only at * <;> omega)]
    congr 1
    · refine Finset.sum_congr rfl fun d _ => ?_
      rw [mul_comm, scale_eq]
      congr 1
      · congr 3
        ext; simp only; omega
      · congr 2
        ext; simp only; omega
    · congr 2
      ext; simp only; omega
  · rw [dif_neg hk, if_neg (by omega)]

/-- At every other place the kernel's score is minus infinity. -/
theorem score_outside (b : Fin 8) (n : Fin 32) (h : Fin 8) (q : Fin 64) (x : Fin 5 × Fin 128) (hx : x ∉ Set.range (place n)) :
    gscore x0 x1 (biasArr x3) b ⟨n.val / 2, by omega⟩ h ⟨n.val % 2 * 64 + q.val, by omega⟩ x = ⊥ := by
  unfold gscore
  split_ifs with h4
  · rw [biasArr_at, if_neg, EReal.add_bot]
    intro hv
    refine hx ⟨⟨x.1.val * 128 + x.2.val - n.val % 2 * 64, ?_⟩, ?_⟩
    · split_ifs at hv <;> simp only at * <;> omega
    · have : n.val % 2 * 64 ≤ x.1.val * 128 + x.2.val := by split_ifs at hv <;> simp only at * <;> omega
      refine Prod.ext (Fin.ext ?_) (Fin.ext ?_) <;> simp only [place] <;> omega
  · rfl

/-- At a place that holds a visible key the kernel's value is the reference's. -/
theorem val_place (b : Fin 8) (n : Fin 32) (h : Fin 8) (d : Fin 64) (k : Fin 576) (hk : 512 ≤ n.val * 64 + k.val) :
    gval x2 b ⟨n.val / 2, by omega⟩ h d (place n k) = rval x2 b n h d k := by
  unfold gval rval place
  rw [dif_pos hk]
  congr 2 <;> (ext; simp only; omega)

/-- A key column among the projection's columns. -/
def col (a : Fin 512) : Fin 4096 := ⟨a.val, by omega⟩

variable (h0 : ∀ i, Fin' (x0 i)) (h1 : ∀ (b : Fin 8) (s : Fin 2048) (a : Fin 512), Fin' (x1 (ix3 b s (col a)))) (h3 : ∀ i, Fin' (x3 i))

include h0 h1 h3 in
/-- A visible key's score is finite. -/
theorem score_fin (b : Fin 8) (n : Fin 32) (h : Fin 8) (q : Fin 64) (k : Fin 576) (hk : 512 ≤ n.val * 64 + k.val) :
    Fin' (rscore x0 x1 x3 b n h q k) := by
  unfold rscore
  rw [dif_pos hk]
  exact (Fin'.sum _ _ fun (d : Fin 64) => ((h0 _).mul scale_fin).mul (h1 b _ ⟨h.val * 64 + d.val, by omega⟩)).add (h3 _)

include h0 h1 h3 in
/-- The kernel's result is the reference's, at every batch, chunk, head, query and lane. -/
theorem out_eq (b : Fin 8) (n : Fin 32) (h : Fin 8) (q d : Fin 64) :
    gout x0 x1 x2 (biasArr x3) b ⟨n.val / 2, by omega⟩ h ⟨n.val % 2 * 64 + q.val, by omega⟩ d
      = Cert.ReferenceIdeal.Read.val_main_v76 (F := Ideal) x0 x1 x2 x3
          (ix3 b ⟨n.val * 64 + q.val, by omega⟩ ⟨h.val * 64 + d.val, by omega⟩) := by
  obtain ⟨M, hM, e⟩ := out_at x0 x1 x2 x3 b n h q d
  have hb : ∀ k, rscore x0 x1 x3 b n h q k ≠ ⊥ → 512 ≤ n.val * 64 + k.val := by
    intro k hk
    by_contra hc
    exact hk (by unfold rscore; rw [dif_neg hc])
  refine Eq.trans ?_ e.symm
  unfold gout
  exact Softmax.softmax_spread (place n) (place_injective n) (rscore x0 x1 x3 b n h q) (rval x2 b n h d) _ _
    (fun k => score_place x0 x1 x3 b n h q k) (fun x hx => score_outside x0 x1 x3 b n h q x hx)
    (fun k hk => val_place x2 b n h d k (hb k hk))
    (fun k => by
      by_cases hk : 512 ≤ n.val * 64 + k.val
      · exact (score_fin x0 x1 x3 h0 h1 h3 b n h q k hk).1
      · unfold rscore; rw [dif_neg hk]; exact bot_ne_top)
    ⟨512, by omega⟩ (score_fin x0 x1 x3 h0 h1 h3 b n h q _ (by simp only; omega)).2 M _ hM (fun c => iSup_le_iff)

include h0 h1 h3 in
/-- The whole arrays agree. -/
theorem arr_ref : garr x0 x1 x2 (biasArr x3) = Cert.ReferenceIdeal.Read.val_main_v76 (F := Ideal) x0 x1 x2 x3 := by
  funext y
  have hy0 : (y 0).val < 8 := (y 0).isLt
  have hy1 : (y 1).val < 2048 := (y 1).isLt
  have hy2 : (y 2).val < 512 := (y 2).isLt
  have e := out_eq x0 x1 x2 x3 h0 h1 h3 ⟨(y 0).val, hy0⟩ ⟨(y 1).val / 64, by omega⟩ ⟨(y 2).val / 64, by omega⟩
    ⟨(y 1).val % 64, by omega⟩ ⟨(y 2).val % 64, by omega⟩
  refine Eq.trans ?_ (e.trans ?_)
  · unfold garr
    congr 1 <;> (ext; simp only; omega)
  · congr 1
    funext a
    fin_cases a <;> (ext; simp; try omega)

end Cert.Match
end
-- ==== Proof.Pre.lean ====
module

public import proofs.«01_k».proof.Pre_finite_scores
public import proofs.«01_k».proof.Proof.Match
public import Idealize.ShloMosaic.Lib.ReduceAll
public import Idealize.ShloMosaic.Lib.Decide
public import Idealize.ShloMosaic.Lib.Pointwise

/-! What the precondition says: the queries, the keys and the biases are finite. -/

@[expose] public section
set_option maxRecDepth 16384
noncomputable section
namespace Cert.Pre_finite_scores
open Idealize.ShloMosaic Cert.Match

/-- The shape relations the precondition's operations take. -/
theorem facts : Facts where
  bcast_S_S8x512x2048 := by decide
  reducesTo_S8x512x2048_S_d0_1_2 := by decide
  h_S_ := by decide
  slices_S8x2048x4096_S8x2048x512_0_0_0 := by decide
  bcast_S_S8x2048x512 := by decide
  reducesTo_S8x2048x512_S_d0_1_2 := by decide
  bcast_S_S8x257 := by decide
  reducesTo_S8x257_S_d0_1 := by decide

/-- An extended real whose absolute value is below infinity is finite. -/
theorem fin_of_lt (x : EReal) (h : Ideal.cmp .olt (max x (-x)) ⊤ = 1#1) : Fin' x := by
  have h' : max x (-x) < ⊤ := by
    by_contra hc
    simp [Ideal.cmp, hc] at h
  constructor
  · rintro rfl; simp at h'
  · rintro rfl; simp at h'

/-- A conjunction of two bits that is one has both one. -/
theorem and_one (a b : BitVec 1) (h : IntOp.andi a b = 1#1) : a = 1#1 ∧ b = 1#1 := by
  revert a b; decide

variable [Facts]

/-- A scalar has one index. -/
instance : Subsingleton S_.Idx := ⟨fun a b => funext fun i => i.elim0⟩

/-- The precondition, read. -/
theorem finite_of_fn (x0 : FVec Ideal S8x512x2048 .bf16) (x1 : FVec Ideal S8x2048x4096 .bf16) (x2 : FVec Ideal S8x16x512x128 .bf16)
    (x3 : FVec Ideal S8x257 .f32) (h : fn (F := Ideal) x0 x1 x2 x3 = fun _ => 1#1) :
    (∀ i, Fin' (x0 i)) ∧ (∀ (b : Fin 8) (s : Fin 2048) (a : Fin 512), Fin' (x1 (ix3 b s (col a)))) ∧ ∀ i, Fin' (x3 i) := by
  have h := congrFun h (Shape.Idx.first Facts.h_S_)
  unfold fn at h
  obtain ⟨h, e3⟩ := and_one _ _ h
  obtain ⟨e0, e1⟩ := and_one _ _ h
  have ib : (Ideal.ofBits .bf16 0x7F80#16 : EReal) = ⊤ := by simp [Ideal.ofBits, Ideal.ieee]
  have is : (Ideal.ofBits .f32 0x7F800000#32 : EReal) = ⊤ := by simp [Ideal.ofBits, Ideal.ieee]
  refine ⟨fun i => fin_of_lt _ ?_, fun b s a => fin_of_lt _ ?_, fun i => fin_of_lt _ ?_⟩
  · have := Host.reduce_andi_all _ _ _ _ _ e0 i
    rw [← ib]; exact this
  · have := Host.reduce_andi_all _ _ _ _ _ e1 (ix3 b s a)
    have hs : (extractStridedSlice S8x2048x512 ![0, 0, 0] x1 Facts.slices_S8x2048x4096_S8x2048x512_0_0_0) (ix3 b s a)
        = x1 (ix3 b s (col a)) := by
      pointwise; rfl
    rw [← ib, ← hs]; exact this
  · have := Host.reduce_andi_all _ _ _ _ _ e3 i
    rw [← is]; exact this

end Cert.Pre_finite_scores
end
-- ==== Proof.KRun.lean ====
module

public import proofs.«01_k».proof.Proof.Gen.Kernel2.Skeleton
public import proofs.«01_k».proof.Proof.Gen.Kernel2.Launch
public import proofs.«01_k».proof.Defs
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Kernel2.Expert

open Cert.Kernel2 Cert.Kernel2.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The tables and the scratch the kernel is handed, whole, at their literal types. -/
abbrev tbM0_0 : Memref sig .tc .smem S72 .i32 := Memref.whole main_arg0
abbrev tbM0_1 : Memref sig .tc .smem S1 .i32 := Memref.whole main_arg1
abbrev tbM0_2 : Memref sig .tc .smem S72 .i32 := Memref.whole main_arg2
abbrev scM0_0 : Memref sig .tc .vmem S512x1024 .f32 := Memref.whole cc0_scratch0

set_option backward.proofsInPublic true in
set_option maxHeartbeats 16000000 in
/-- The body at a tile with tokens past its first half, at the first half of the hidden width: what it leaves, with the proof that it runs from the buffers handed to it to the
    continuation holding them so. -/
noncomputable def dense0 (c : Dev nD) (i : grid0.Coords) (arg5 : Memref sig .tc .vmem S4096x128 .f32) (harg5 : arg5.IsWhole) (arg6 : Memref sig .tc .vmem S1x1024x1792 .bf16) (harg6 : arg6.IsWhole) (arg7 : Memref sig .tc .vmem S1x1024x1792 .bf16) (harg7 : arg7.IsWhole) (arg8 : Memref sig .tc .vmem S1x1792x1024 .bf16) (harg8 : arg8.IsWhole) (arg9 : Memref sig .tc .vmem S4096x128 .f32) (harg9 : arg9.IsWhole) (T0 : (S72.Idx → Elt Bits .i32)) (T1 : (S1.Idx → Elt Bits .i32)) (T2 : (S72.Idx → Elt Bits .i32))
    (x0 : (S4096x128.Idx → Elt Bits .f32)) (x1 : (S1x1024x1792.Idx → Elt Bits .bf16)) (x2 : (S1x1024x1792.Idx → Elt Bits .bf16)) (x3 : (S1x1792x1024.Idx → Elt Bits .bf16)) (xa0 : Buf (Elt Bits) ((c : Thread nD τ).loc cc0_scratch0))
    (h1 : k0_cond1 i (View.readAt (Elt Bits) (tbM0_1).view (Rect.unit (s := S1) ![0] S1.size inb_S1_S1_0).toLoadRect T1 (Shape.Idx.first (numel1_S1.symm ▸ Nat.one_pos))) (View.readAt (Elt Bits) (tbM0_2).view (Rect.unit (s := S72) (k0_off1 i) S1.size (k0_off1_inb i)).toLoadRect T2 (Shape.Idx.first (numel1_S1.symm ▸ Nat.one_pos))) = 1#1) (h5 : ¬(k0_cond5 i (View.readAt (Elt Bits) (tbM0_1).view (Rect.unit (s := S1) ![0] S1.size inb_S1_S1_0).toLoadRect T1 (Shape.Idx.first (numel1_S1.symm ▸ Nat.one_pos))) (View.readAt (Elt Bits) (tbM0_2).view (Rect.unit (s := S72) (k0_off1 i) S1.size (k0_off1_inb i)).toLoadRect T2 (Shape.Idx.first (numel1_S1.symm ▸ Nat.one_pos))) = 1#1)) (h10 : ¬(k0_cond10 i (View.readAt (Elt Bits) (tbM0_1).view (Rect.unit (s := S1) ![0] S1.size inb_S1_S1_0).toLoadRect T1 (Shape.Idx.first (numel1_S1.symm ▸ Nat.one_pos))) = 1#1)) (hi : (i 1).val = 0) :
    { out1 : Buf (Elt Bits) ((c : Thread nD τ).loc cc0_scratch0) //
      ∀ (y4 : S4096x128.Idx → Elt Bits .f32) (K : PUnit → sProp (MT nD τ sig Unit (Elt Bits) ℕ (UR sig nD τ) ℕ)),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ owns (c : Thread nD τ) arg9 fullShare y4
          ∗ (scM0_0.view.loc (c : Thread nD τ) ↦{fullShare} xa0)
          ∗ (iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
              ∗ owns (c : Thread nD τ) arg9 fullShare y4
              ∗ (scM0_0.view.loc (c : Thread nD τ) ↦{fullShare} out1)) -∗ K ⟨⟩))
          ⊢ wp frame (wpE (defs₀ (F := Bits)) Variants.none c none) Set.univ (cc0_moe_experts i tbM0_0 (Memref.isWhole_whole _) tbM0_1 (Memref.isWhole_whole _) tbM0_2 (Memref.isWhole_whole _) arg5 harg5 arg6 harg6 arg7 harg7 arg8 harg8 arg9 harg9 scM0_0 (Memref.isWhole_whole _)) K } :=
  ⟨_, fun y4 K => by
    skip
    rw [cc0_moe_experts_eq_skeleton]; unfold cc0_moe_experts_skel
    iintro ⟨H0, H1, H2, H3, HT0, HT1, HT2, HO4, HS0, Hk⟩
    have hS0 : scM0_0.IsWhole := Memref.isWhole_whole _
    have hT0 : tbM0_0.IsWhole := Memref.isWhole_whole _
    have hT1 : tbM0_1.IsWhole := Memref.isWhole_whole _
    have hT2 : tbM0_2.IsWhole := Memref.isWhole_whole _
    sl_exec! (disch := first | (guard_target = k0_cond1 _ _ _ = _; exact h1) | (guard_target = ¬(k0_cond5 _ _ _ = _); exact h5) | (guard_target = ¬(k0_cond10 _ _ = _); exact h10) | (simp only [k0_cond4, k0_cond8, k0_cond9, hi]; decide) | (change (Scalar.cmpi .ne (Scalar.extui (Scalar.cmpi .eq (BitVec.ofNat 32 (i 1).val) 0#32)) 0#32 = 1#1); rw [hi]; decide) | (change ¬(Scalar.cmpi .ne (Scalar.extui (Scalar.cmpi .eq (BitVec.ofNat 32 (i 1).val) 0#32)) 0#32 = 1#1); rw [hi]; decide) | (change (Scalar.cmpi .ne (Scalar.extui (Scalar.cmpi .sgt (BitVec.ofNat 32 (i 1).val) 0#32)) 0#32 = 1#1); rw [hi]; decide) | (change ¬(Scalar.cmpi .ne (Scalar.extui (Scalar.cmpi .sgt (BitVec.ofNat 32 (i 1).val) 0#32)) 0#32 = 1#1); rw [hi]; decide))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HT2]; · iexact HT2
    isplitl [HO4]; · iexact HO4
    iexact HS0⟩

set_option backward.proofsInPublic true in
set_option maxHeartbeats 16000000 in
/-- The body at a tile with tokens past its first half, at the second half of the hidden width: what it leaves, with the proof that it runs from the buffers handed to it to the
    continuation holding them so. -/
noncomputable def dense1 (c : Dev nD) (i : grid0.Coords) (arg5 : Memref sig .tc .vmem S4096x128 .f32) (harg5 : arg5.IsWhole) (arg6 : Memref sig .tc .vmem S1x1024x1792 .bf16) (harg6 : arg6.IsWhole) (arg7 : Memref sig .tc .vmem S1x1024x1792 .bf16) (harg7 : arg7.IsWhole) (arg8 : Memref sig .tc .vmem S1x1792x1024 .bf16) (harg8 : arg8.IsWhole) (arg9 : Memref sig .tc .vmem S4096x128 .f32) (harg9 : arg9.IsWhole) (T0 : (S72.Idx → Elt Bits .i32)) (T1 : (S1.Idx → Elt Bits .i32)) (T2 : (S72.Idx → Elt Bits .i32))
    (x0 : (S4096x128.Idx → Elt Bits .f32)) (x1 : (S1x1024x1792.Idx → Elt Bits .bf16)) (x2 : (S1x1024x1792.Idx → Elt Bits .bf16)) (x3 : (S1x1792x1024.Idx → Elt Bits .bf16)) (xa0 : Buf (Elt Bits) ((c : Thread nD τ).loc cc0_scratch0))
    (h1 : k0_cond1 i (View.readAt (Elt Bits) (tbM0_1).view (Rect.unit (s := S1) ![0] S1.size inb_S1_S1_0).toLoadRect T1 (Shape.Idx.first (numel1_S1.symm ▸ Nat.one_pos))) (View.readAt (Elt Bits) (tbM0_2).view (Rect.unit (s := S72) (k0_off1 i) S1.size (k0_off1_inb i)).toLoadRect T2 (Shape.Idx.first (numel1_S1.symm ▸ Nat.one_pos))) = 1#1) (h5 : ¬(k0_cond5 i (View.readAt (Elt Bits) (tbM0_1).view (Rect.unit (s := S1) ![0] S1.size inb_S1_S1_0).toLoadRect T1 (Shape.Idx.first (numel1_S1.symm ▸ Nat.one_pos))) (View.readAt (Elt Bits) (tbM0_2).view (Rect.unit (s := S72) (k0_off1 i) S1.size (k0_off1_inb i)).toLoadRect T2 (Shape.Idx.first (numel1_S1.symm ▸ Nat.one_pos))) = 1#1)) (h10 : ¬(k0_cond10 i (View.readAt (Elt Bits) (tbM0_1).view (Rect.unit (s := S1) ![0] S1.size inb_S1_S1_0).toLoadRect T1 (Shape.Idx.first (numel1_S1.symm ▸ Nat.one_pos))) = 1#1)) (hi : (i 1).val = 1) :
    Σ' (out0 : List (View.Piece (Elt Bits) S4096x128 .f32)), { out1 : Buf (Elt Bits) ((c : Thread nD τ).loc cc0_scratch0) //
      ∀ (K : PUnit → sProp (MT nD τ sig Unit (Elt Bits) ℕ (UR sig nD τ) ℕ)),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ (∃ d, owns (c : Thread nD τ) arg9 fullShare d)
          ∗ (scM0_0.view.loc (c : Thread nD τ) ↦{fullShare} xa0)
          ∗ (iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
              ∗ (∃ f, arg9.view.loc (c : Thread nD τ) ↦[arg9.view.set]{fullShare} arg9.view.writes (Elt Bits) f out0)
              ∗ (scM0_0.view.loc (c : Thread nD τ) ↦{fullShare} out1)) -∗ K ⟨⟩))
          ⊢ wp frame (wpE (defs₀ (F := Bits)) Variants.none c none) Set.univ (cc0_moe_experts i tbM0_0 (Memref.isWhole_whole _) tbM0_1 (Memref.isWhole_whole _) tbM0_2 (Memref.isWhole_whole _) arg5 harg5 arg6 harg6 arg7 harg7 arg8 harg8 arg9 harg9 scM0_0 (Memref.isWhole_whole _)) K } :=
  ⟨_, _, fun K => by
    unfold owns
    rw [cc0_moe_experts_eq_skeleton]; unfold cc0_moe_experts_skel
    iintro ⟨H0, H1, H2, H3, HT0, HT1, HT2, ⟨%d4, %f4, -, HO4⟩, HS0, Hk⟩
    have hS0 : scM0_0.IsWhole := Memref.isWhole_whole _
    have hT0 : tbM0_0.IsWhole := Memref.isWhole_whole _
    have hT1 : tbM0_1.IsWhole := Memref.isWhole_whole _
    have hT2 : tbM0_2.IsWhole := Memref.isWhole_whole _
    sl_exec! (disch := first | (guard_target = k0_cond1 _ _ _ = _; exact h1) | (guard_target = ¬(k0_cond5 _ _ _ = _); exact h5) | (guard_target = ¬(k0_cond10 _ _ = _); exact h10) | (simp only [k0_cond4, k0_cond8, k0_cond9, hi]; decide) | (change (Scalar.cmpi .ne (Scalar.extui (Scalar.cmpi .eq (BitVec.ofNat 32 (i 1).val) 0#32)) 0#32 = 1#1); rw [hi]; decide) | (change ¬(Scalar.cmpi .ne (Scalar.extui (Scalar.cmpi .eq (BitVec.ofNat 32 (i 1).val) 0#32)) 0#32 = 1#1); rw [hi]; decide) | (change (Scalar.cmpi .ne (Scalar.extui (Scalar.cmpi .sgt (BitVec.ofNat 32 (i 1).val) 0#32)) 0#32 = 1#1); rw [hi]; decide) | (change ¬(Scalar.cmpi .ne (Scalar.extui (Scalar.cmpi .sgt (BitVec.ofNat 32 (i 1).val) 0#32)) 0#32 = 1#1); rw [hi]; decide))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HT2]; · iexact HT2
    isplitl [HO4]; · iexists _; iexact HO4
    iexact HS0⟩

set_option backward.proofsInPublic true in
set_option maxHeartbeats 16000000 in
/-- The body at a tile with tokens in its first half only, at the first half of the hidden width: what it leaves, with the proof that it runs from the buffers handed to it to the
    continuation holding them so. -/
noncomputable def sparse0 (c : Dev nD) (i : grid0.Coords) (arg5 : Memref sig .tc .vmem S4096x128 .f32) (harg5 : arg5.IsWhole) (arg6 : Memref sig .tc .vmem S1x1024x1792 .bf16) (harg6 : arg6.IsWhole) (arg7 : Memref sig .tc .vmem S1x1024x1792 .bf16) (harg7 : arg7.IsWhole) (arg8 : Memref sig .tc .vmem S1x1792x1024 .bf16) (harg8 : arg8.IsWhole) (arg9 : Memref sig .tc .vmem S4096x128 .f32) (harg9 : arg9.IsWhole) (T0 : (S72.Idx → Elt Bits .i32)) (T1 : (S1.Idx → Elt Bits .i32)) (T2 : (S72.Idx → Elt Bits .i32))
    (x0 : (S4096x128.Idx → Elt Bits .f32)) (x1 : (S1x1024x1792.Idx → Elt Bits .bf16)) (x2 : (S1x1024x1792.Idx → Elt Bits .bf16)) (x3 : (S1x1792x1024.Idx → Elt Bits .bf16)) (xa0 : Buf (Elt Bits) ((c : Thread nD τ).loc cc0_scratch0))
    (h1 : ¬(k0_cond1 i (View.readAt (Elt Bits) (tbM0_1).view (Rect.unit (s := S1) ![0] S1.size inb_S1_S1_0).toLoadRect T1 (Shape.Idx.first (numel1_S1.symm ▸ Nat.one_pos))) (View.readAt (Elt Bits) (tbM0_2).view (Rect.unit (s := S72) (k0_off1 i) S1.size (k0_off1_inb i)).toLoadRect T2 (Shape.Idx.first (numel1_S1.symm ▸ Nat.one_pos))) = 1#1)) (h5 : k0_cond5 i (View.readAt (Elt Bits) (tbM0_1).view (Rect.unit (s := S1) ![0] S1.size inb_S1_S1_0).toLoadRect T1 (Shape.Idx.first (numel1_S1.symm ▸ Nat.one_pos))) (View.readAt (Elt Bits) (tbM0_2).view (Rect.unit (s := S72) (k0_off1 i) S1.size (k0_off1_inb i)).toLoadRect T2 (Shape.Idx.first (numel1_S1.symm ▸ Nat.one_pos))) = 1#1) (h10 : ¬(k0_cond10 i (View.readAt (Elt Bits) (tbM0_1).view (Rect.unit (s := S1) ![0] S1.size inb_S1_S1_0).toLoadRect T1 (Shape.Idx.first (numel1_S1.symm ▸ Nat.one_pos))) = 1#1)) (hi : (i 1).val = 0) :
    { out1 : Buf (Elt Bits) ((c : Thread nD τ).loc cc0_scratch0) //
      ∀ (y4 : S4096x128.Idx → Elt Bits .f32) (K : PUnit → sProp (MT nD τ sig Unit (Elt Bits) ℕ (UR sig nD τ) ℕ)),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ owns (c : Thread nD τ) arg9 fullShare y4
          ∗ (scM0_0.view.loc (c : Thread nD τ) ↦{fullShare} xa0)
          ∗ (iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
              ∗ owns (c : Thread nD τ) arg9 fullShare y4
              ∗ (scM0_0.view.loc (c : Thread nD τ) ↦{fullShare} out1)) -∗ K ⟨⟩))
          ⊢ wp frame (wpE (defs₀ (F := Bits)) Variants.none c none) Set.univ (cc0_moe_experts i tbM0_0 (Memref.isWhole_whole _) tbM0_1 (Memref.isWhole_whole _) tbM0_2 (Memref.isWhole_whole _) arg5 harg5 arg6 harg6 arg7 harg7 arg8 harg8 arg9 harg9 scM0_0 (Memref.isWhole_whole _)) K } :=
  ⟨_, fun y4 K => by
    skip
    rw [cc0_moe_experts_eq_skeleton]; unfold cc0_moe_experts_skel
    iintro ⟨H0, H1, H2, H3, HT0, HT1, HT2, HO4, HS0, Hk⟩
    have hS0 : scM0_0.IsWhole := Memref.isWhole_whole _
    have hT0 : tbM0_0.IsWhole := Memref.isWhole_whole _
    have hT1 : tbM0_1.IsWhole := Memref.isWhole_whole _
    have hT2 : tbM0_2.IsWhole := Memref.isWhole_whole _
    sl_exec! (disch := first | (guard_target = ¬(k0_cond1 _ _ _ = _); exact h1) | (guard_target = k0_cond5 _ _ _ = _; exact h5) | (guard_target = ¬(k0_cond10 _ _ = _); exact h10) | (simp only [k0_cond4, k0_cond8, k0_cond9, hi]; decide) | (change (Scalar.cmpi .ne (Scalar.extui (Scalar.cmpi .eq (BitVec.ofNat 32 (i 1).val) 0#32)) 0#32 = 1#1); rw [hi]; decide) | (change ¬(Scalar.cmpi .ne (Scalar.extui (Scalar.cmpi .eq (BitVec.ofNat 32 (i 1).val) 0#32)) 0#32 = 1#1); rw [hi]; decide) | (change (Scalar.cmpi .ne (Scalar.extui (Scalar.cmpi .sgt (BitVec.ofNat 32 (i 1).val) 0#32)) 0#32 = 1#1); rw [hi]; decide) | (change ¬(Scalar.cmpi .ne (Scalar.extui (Scalar.cmpi .sgt (BitVec.ofNat 32 (i 1).val) 0#32)) 0#32 = 1#1); rw [hi]; decide))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HT2]; · iexact HT2
    isplitl [HO4]; · iexact HO4
    iexact HS0⟩

set_option backward.proofsInPublic true in
set_option maxHeartbeats 16000000 in
/-- The body at a tile with tokens in its first half only, at the second half of the hidden width: what it leaves, with the proof that it runs from the buffers handed to it to the
    continuation holding them so. -/
noncomputable def sparse1 (c : Dev nD) (i : grid0.Coords) (arg5 : Memref sig .tc .vmem S4096x128 .f32) (harg5 : arg5.IsWhole) (arg6 : Memref sig .tc .vmem S1x1024x1792 .bf16) (harg6 : arg6.IsWhole) (arg7 : Memref sig .tc .vmem S1x1024x1792 .bf16) (harg7 : arg7.IsWhole) (arg8 : Memref sig .tc .vmem S1x1792x1024 .bf16) (harg8 : arg8.IsWhole) (arg9 : Memref sig .tc .vmem S4096x128 .f32) (harg9 : arg9.IsWhole) (T0 : (S72.Idx → Elt Bits .i32)) (T1 : (S1.Idx → Elt Bits .i32)) (T2 : (S72.Idx → Elt Bits .i32))
    (x0 : (S4096x128.Idx → Elt Bits .f32)) (x1 : (S1x1024x1792.Idx → Elt Bits .bf16)) (x2 : (S1x1024x1792.Idx → Elt Bits .bf16)) (x3 : (S1x1792x1024.Idx → Elt Bits .bf16)) (xa0 : Buf (Elt Bits) ((c : Thread nD τ).loc cc0_scratch0))
    (h1 : ¬(k0_cond1 i (View.readAt (Elt Bits) (tbM0_1).view (Rect.unit (s := S1) ![0] S1.size inb_S1_S1_0).toLoadRect T1 (Shape.Idx.first (numel1_S1.symm ▸ Nat.one_pos))) (View.readAt (Elt Bits) (tbM0_2).view (Rect.unit (s := S72) (k0_off1 i) S1.size (k0_off1_inb i)).toLoadRect T2 (Shape.Idx.first (numel1_S1.symm ▸ Nat.one_pos))) = 1#1)) (h5 : k0_cond5 i (View.readAt (Elt Bits) (tbM0_1).view (Rect.unit (s := S1) ![0] S1.size inb_S1_S1_0).toLoadRect T1 (Shape.Idx.first (numel1_S1.symm ▸ Nat.one_pos))) (View.readAt (Elt Bits) (tbM0_2).view (Rect.unit (s := S72) (k0_off1 i) S1.size (k0_off1_inb i)).toLoadRect T2 (Shape.Idx.first (numel1_S1.symm ▸ Nat.one_pos))) = 1#1) (h10 : ¬(k0_cond10 i (View.readAt (Elt Bits) (tbM0_1).view (Rect.unit (s := S1) ![0] S1.size inb_S1_S1_0).toLoadRect T1 (Shape.Idx.first (numel1_S1.symm ▸ Nat.one_pos))) = 1#1)) (hi : (i 1).val = 1) :
    Σ' (out0 : List (View.Piece (Elt Bits) S4096x128 .f32)), { out1 : Buf (Elt Bits) ((c : Thread nD τ).loc cc0_scratch0) //
      ∀ (K : PUnit → sProp (MT nD τ sig Unit (Elt Bits) ℕ (UR sig nD τ) ℕ)),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ (∃ d, owns (c : Thread nD τ) arg9 fullShare d)
          ∗ (scM0_0.view.loc (c : Thread nD τ) ↦{fullShare} xa0)
          ∗ (iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
              ∗ (∃ f, arg9.view.loc (c : Thread nD τ) ↦[arg9.view.set]{fullShare} arg9.view.writes (Elt Bits) f out0)
              ∗ (scM0_0.view.loc (c : Thread nD τ) ↦{fullShare} out1)) -∗ K ⟨⟩))
          ⊢ wp frame (wpE (defs₀ (F := Bits)) Variants.none c none) Set.univ (cc0_moe_experts i tbM0_0 (Memref.isWhole_whole _) tbM0_1 (Memref.isWhole_whole _) tbM0_2 (Memref.isWhole_whole _) arg5 harg5 arg6 harg6 arg7 harg7 arg8 harg8 arg9 harg9 scM0_0 (Memref.isWhole_whole _)) K } :=
  ⟨_, _, fun K => by
    unfold owns
    rw [cc0_moe_experts_eq_skeleton]; unfold cc0_moe_experts_skel
    iintro ⟨H0, H1, H2, H3, HT0, HT1, HT2, ⟨%d4, %f4, -, HO4⟩, HS0, Hk⟩
    have hS0 : scM0_0.IsWhole := Memref.isWhole_whole _
    have hT0 : tbM0_0.IsWhole := Memref.isWhole_whole _
    have hT1 : tbM0_1.IsWhole := Memref.isWhole_whole _
    have hT2 : tbM0_2.IsWhole := Memref.isWhole_whole _
    sl_exec! (disch := first | (guard_target = ¬(k0_cond1 _ _ _ = _); exact h1) | (guard_target = k0_cond5 _ _ _ = _; exact h5) | (guard_target = ¬(k0_cond10 _ _ = _); exact h10) | (simp only [k0_cond4, k0_cond8, k0_cond9, hi]; decide) | (change (Scalar.cmpi .ne (Scalar.extui (Scalar.cmpi .eq (BitVec.ofNat 32 (i 1).val) 0#32)) 0#32 = 1#1); rw [hi]; decide) | (change ¬(Scalar.cmpi .ne (Scalar.extui (Scalar.cmpi .eq (BitVec.ofNat 32 (i 1).val) 0#32)) 0#32 = 1#1); rw [hi]; decide) | (change (Scalar.cmpi .ne (Scalar.extui (Scalar.cmpi .sgt (BitVec.ofNat 32 (i 1).val) 0#32)) 0#32 = 1#1); rw [hi]; decide) | (change ¬(Scalar.cmpi .ne (Scalar.extui (Scalar.cmpi .sgt (BitVec.ofNat 32 (i 1).val) 0#32)) 0#32 = 1#1); rw [hi]; decide))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HT2]; · iexact HT2
    isplitl [HO4]; · iexists _; iexact HO4
    iexact HS0⟩

set_option backward.proofsInPublic true in
set_option maxHeartbeats 16000000 in
/-- The body at an unused tile at the first half: what it leaves, with the proof that it runs from the buffers handed to it to the
    continuation holding them so. -/
noncomputable def idle0 (c : Dev nD) (i : grid0.Coords) (arg5 : Memref sig .tc .vmem S4096x128 .f32) (harg5 : arg5.IsWhole) (arg6 : Memref sig .tc .vmem S1x1024x1792 .bf16) (harg6 : arg6.IsWhole) (arg7 : Memref sig .tc .vmem S1x1024x1792 .bf16) (harg7 : arg7.IsWhole) (arg8 : Memref sig .tc .vmem S1x1792x1024 .bf16) (harg8 : arg8.IsWhole) (arg9 : Memref sig .tc .vmem S4096x128 .f32) (harg9 : arg9.IsWhole) (T0 : (S72.Idx → Elt Bits .i32)) (T1 : (S1.Idx → Elt Bits .i32)) (T2 : (S72.Idx → Elt Bits .i32))
    (x0 : (S4096x128.Idx → Elt Bits .f32)) (x1 : (S1x1024x1792.Idx → Elt Bits .bf16)) (x2 : (S1x1024x1792.Idx → Elt Bits .bf16)) (x3 : (S1x1792x1024.Idx → Elt Bits .bf16)) (xa0 : Buf (Elt Bits) ((c : Thread nD τ).loc cc0_scratch0))
    (h1 : ¬(k0_cond1 i (View.readAt (Elt Bits) (tbM0_1).view (Rect.unit (s := S1) ![0] S1.size inb_S1_S1_0).toLoadRect T1 (Shape.Idx.first (numel1_S1.symm ▸ Nat.one_pos))) (View.readAt (Elt Bits) (tbM0_2).view (Rect.unit (s := S72) (k0_off1 i) S1.size (k0_off1_inb i)).toLoadRect T2 (Shape.Idx.first (numel1_S1.symm ▸ Nat.one_pos))) = 1#1)) (h5 : ¬(k0_cond5 i (View.readAt (Elt Bits) (tbM0_1).view (Rect.unit (s := S1) ![0] S1.size inb_S1_S1_0).toLoadRect T1 (Shape.Idx.first (numel1_S1.symm ▸ Nat.one_pos))) (View.readAt (Elt Bits) (tbM0_2).view (Rect.unit (s := S72) (k0_off1 i) S1.size (k0_off1_inb i)).toLoadRect T2 (Shape.Idx.first (numel1_S1.symm ▸ Nat.one_pos))) = 1#1)) (h10 : ¬(k0_cond10 i (View.readAt (Elt Bits) (tbM0_1).view (Rect.unit (s := S1) ![0] S1.size inb_S1_S1_0).toLoadRect T1 (Shape.Idx.first (numel1_S1.symm ▸ Nat.one_pos))) = 1#1)) (hi : (i 1).val = 0) :
    { out1 : Buf (Elt Bits) ((c : Thread nD τ).loc cc0_scratch0) //
      ∀ (y4 : S4096x128.Idx → Elt Bits .f32) (K : PUnit → sProp (MT nD τ sig Unit (Elt Bits) ℕ (UR sig nD τ) ℕ)),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ owns (c : Thread nD τ) arg9 fullShare y4
          ∗ (scM0_0.view.loc (c : Thread nD τ) ↦{fullShare} xa0)
          ∗ (iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
              ∗ owns (c : Thread nD τ) arg9 fullShare y4
              ∗ (scM0_0.view.loc (c : Thread nD τ) ↦{fullShare} out1)) -∗ K ⟨⟩))
          ⊢ wp frame (wpE (defs₀ (F := Bits)) Variants.none c none) Set.univ (cc0_moe_experts i tbM0_0 (Memref.isWhole_whole _) tbM0_1 (Memref.isWhole_whole _) tbM0_2 (Memref.isWhole_whole _) arg5 harg5 arg6 harg6 arg7 harg7 arg8 harg8 arg9 harg9 scM0_0 (Memref.isWhole_whole _)) K } :=
  ⟨_, fun y4 K => by
    skip
    rw [cc0_moe_experts_eq_skeleton]; unfold cc0_moe_experts_skel
    iintro ⟨H0, H1, H2, H3, HT0, HT1, HT2, HO4, HS0, Hk⟩
    have hS0 : scM0_0.IsWhole := Memref.isWhole_whole _
    have hT0 : tbM0_0.IsWhole := Memref.isWhole_whole _
    have hT1 : tbM0_1.IsWhole := Memref.isWhole_whole _
    have hT2 : tbM0_2.IsWhole := Memref.isWhole_whole _
    sl_exec! (disch := first | (guard_target = ¬(k0_cond1 _ _ _ = _); exact h1) | (guard_target = ¬(k0_cond5 _ _ _ = _); exact h5) | (guard_target = ¬(k0_cond10 _ _ = _); exact h10) | (simp only [k0_cond4, k0_cond8, k0_cond9, hi]; decide) | (change (Scalar.cmpi .ne (Scalar.extui (Scalar.cmpi .eq (BitVec.ofNat 32 (i 1).val) 0#32)) 0#32 = 1#1); rw [hi]; decide) | (change ¬(Scalar.cmpi .ne (Scalar.extui (Scalar.cmpi .eq (BitVec.ofNat 32 (i 1).val) 0#32)) 0#32 = 1#1); rw [hi]; decide) | (change (Scalar.cmpi .ne (Scalar.extui (Scalar.cmpi .sgt (BitVec.ofNat 32 (i 1).val) 0#32)) 0#32 = 1#1); rw [hi]; decide) | (change ¬(Scalar.cmpi .ne (Scalar.extui (Scalar.cmpi .sgt (BitVec.ofNat 32 (i 1).val) 0#32)) 0#32 = 1#1); rw [hi]; decide))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HT2]; · iexact HT2
    isplitl [HO4]; · iexact HO4
    iexact HS0⟩

set_option backward.proofsInPublic true in
set_option maxHeartbeats 16000000 in
/-- The body at an unused tile at the second half: what it leaves, with the proof that it runs from the buffers handed to it to the
    continuation holding them so. -/
noncomputable def idle1 (c : Dev nD) (i : grid0.Coords) (arg5 : Memref sig .tc .vmem S4096x128 .f32) (harg5 : arg5.IsWhole) (arg6 : Memref sig .tc .vmem S1x1024x1792 .bf16) (harg6 : arg6.IsWhole) (arg7 : Memref sig .tc .vmem S1x1024x1792 .bf16) (harg7 : arg7.IsWhole) (arg8 : Memref sig .tc .vmem S1x1792x1024 .bf16) (harg8 : arg8.IsWhole) (arg9 : Memref sig .tc .vmem S4096x128 .f32) (harg9 : arg9.IsWhole) (T0 : (S72.Idx → Elt Bits .i32)) (T1 : (S1.Idx → Elt Bits .i32)) (T2 : (S72.Idx → Elt Bits .i32))
    (x0 : (S4096x128.Idx → Elt Bits .f32)) (x1 : (S1x1024x1792.Idx → Elt Bits .bf16)) (x2 : (S1x1024x1792.Idx → Elt Bits .bf16)) (x3 : (S1x1792x1024.Idx → Elt Bits .bf16)) (xa0 : Buf (Elt Bits) ((c : Thread nD τ).loc cc0_scratch0))
    (h1 : ¬(k0_cond1 i (View.readAt (Elt Bits) (tbM0_1).view (Rect.unit (s := S1) ![0] S1.size inb_S1_S1_0).toLoadRect T1 (Shape.Idx.first (numel1_S1.symm ▸ Nat.one_pos))) (View.readAt (Elt Bits) (tbM0_2).view (Rect.unit (s := S72) (k0_off1 i) S1.size (k0_off1_inb i)).toLoadRect T2 (Shape.Idx.first (numel1_S1.symm ▸ Nat.one_pos))) = 1#1)) (h5 : ¬(k0_cond5 i (View.readAt (Elt Bits) (tbM0_1).view (Rect.unit (s := S1) ![0] S1.size inb_S1_S1_0).toLoadRect T1 (Shape.Idx.first (numel1_S1.symm ▸ Nat.one_pos))) (View.readAt (Elt Bits) (tbM0_2).view (Rect.unit (s := S72) (k0_off1 i) S1.size (k0_off1_inb i)).toLoadRect T2 (Shape.Idx.first (numel1_S1.symm ▸ Nat.one_pos))) = 1#1)) (h10 : k0_cond10 i (View.readAt (Elt Bits) (tbM0_1).view (Rect.unit (s := S1) ![0] S1.size inb_S1_S1_0).toLoadRect T1 (Shape.Idx.first (numel1_S1.symm ▸ Nat.one_pos))) = 1#1) (hi : (i 1).val = 1) :
    Σ' (out0 : List (View.Piece (Elt Bits) S4096x128 .f32)), { out1 : Buf (Elt Bits) ((c : Thread nD τ).loc cc0_scratch0) //
      ∀ (K : PUnit → sProp (MT nD τ sig Unit (Elt Bits) ℕ (UR sig nD τ) ℕ)),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ (∃ d, owns (c : Thread nD τ) arg9 fullShare d)
          ∗ (scM0_0.view.loc (c : Thread nD τ) ↦{fullShare} xa0)
          ∗ (iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
              ∗ (∃ f, arg9.view.loc (c : Thread nD τ) ↦[arg9.view.set]{fullShare} arg9.view.writes (Elt Bits) f out0)
              ∗ (scM0_0.view.loc (c : Thread nD τ) ↦{fullShare} out1)) -∗ K ⟨⟩))
          ⊢ wp frame (wpE (defs₀ (F := Bits)) Variants.none c none) Set.univ (cc0_moe_experts i tbM0_0 (Memref.isWhole_whole _) tbM0_1 (Memref.isWhole_whole _) tbM0_2 (Memref.isWhole_whole _) arg5 harg5 arg6 harg6 arg7 harg7 arg8 harg8 arg9 harg9 scM0_0 (Memref.isWhole_whole _)) K } :=
  ⟨_, _, fun K => by
    unfold owns
    rw [cc0_moe_experts_eq_skeleton]; unfold cc0_moe_experts_skel
    iintro ⟨H0, H1, H2, H3, HT0, HT1, HT2, ⟨%d4, %f4, -, HO4⟩, HS0, Hk⟩
    have hS0 : scM0_0.IsWhole := Memref.isWhole_whole _
    have hT0 : tbM0_0.IsWhole := Memref.isWhole_whole _
    have hT1 : tbM0_1.IsWhole := Memref.isWhole_whole _
    have hT2 : tbM0_2.IsWhole := Memref.isWhole_whole _
    sl_exec! (disch := first | (guard_target = ¬(k0_cond1 _ _ _ = _); exact h1) | (guard_target = ¬(k0_cond5 _ _ _ = _); exact h5) | (guard_target = k0_cond10 _ _ = _; exact h10) | (simp only [k0_cond4, k0_cond8, k0_cond9, hi]; decide) | (change (Scalar.cmpi .ne (Scalar.extui (Scalar.cmpi .eq (BitVec.ofNat 32 (i 1).val) 0#32)) 0#32 = 1#1); rw [hi]; decide) | (change ¬(Scalar.cmpi .ne (Scalar.extui (Scalar.cmpi .eq (BitVec.ofNat 32 (i 1).val) 0#32)) 0#32 = 1#1); rw [hi]; decide) | (change (Scalar.cmpi .ne (Scalar.extui (Scalar.cmpi .sgt (BitVec.ofNat 32 (i 1).val) 0#32)) 0#32 = 1#1); rw [hi]; decide) | (change ¬(Scalar.cmpi .ne (Scalar.extui (Scalar.cmpi .sgt (BitVec.ofNat 32 (i 1).val) 0#32)) 0#32 = 1#1); rw [hi]; decide))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HT2]; · iexact HT2
    isplitl [HO4]; · iexists _; iexact HO4
    iexact HS0⟩

end Cert.Kernel2.Expert

end
-- ==== Proof.KBody.lean ====
module

public import proofs.«01_k».proof.Proof.Gen.Kernel2.Skeleton
public import proofs.«01_k».proof.Proof.Gen.Kernel2.Launch
public import proofs.«01_k».proof.Defs
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init
public import proofs.«01_k».proof.Proof.KRun
public import Idealize.ShloMosaic.Lib.VecWindow
public import Idealize.ShloMosaic.Lib.Pointwise

@[expose] public section

set_option maxRecDepth 16384
set_option Elab.async false

noncomputable section

namespace Cert.Kernel2.Expert

open Cert.Kernel2 Cert.Kernel2.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The first 512 rows of a tile, put together from its row-major memory. -/
def dx (x0 : Vec Bits S4096x128 .f32) : FVec Bits S512x1024 .bf16 := k0_pay19 (fun y => x0 ((⟨![0, 0], S512x128.size, ![8, 1], inb_S4096x128_S512x128_0_0_s_8_1⟩ : LoadRect S4096x128).idx y)) (fun y => x0 ((⟨![1, 0], S512x128.size, ![8, 1], inb_S4096x128_S512x128_1_0_s_8_1⟩ : LoadRect S4096x128).idx y)) (fun y => x0 ((⟨![2, 0], S512x128.size, ![8, 1], inb_S4096x128_S512x128_2_0_s_8_1⟩ : LoadRect S4096x128).idx y)) (fun y => x0 ((⟨![3, 0], S512x128.size, ![8, 1], inb_S4096x128_S512x128_3_0_s_8_1⟩ : LoadRect S4096x128).idx y)) (fun y => x0 ((⟨![4, 0], S512x128.size, ![8, 1], inb_S4096x128_S512x128_4_0_s_8_1⟩ : LoadRect S4096x128).idx y)) (fun y => x0 ((⟨![5, 0], S512x128.size, ![8, 1], inb_S4096x128_S512x128_5_0_s_8_1⟩ : LoadRect S4096x128).idx y)) (fun y => x0 ((⟨![6, 0], S512x128.size, ![8, 1], inb_S4096x128_S512x128_6_0_s_8_1⟩ : LoadRect S4096x128).idx y)) (fun y => x0 ((⟨![7, 0], S512x128.size, ![8, 1], inb_S4096x128_S512x128_7_0_s_8_1⟩ : LoadRect S4096x128).idx y))
/-- The first two chunks of the hidden width, summed, for those rows. -/
def d4 (x0 : Vec Bits S4096x128 .f32) (x1 x2 : Vec Bits S1x1024x1792 .bf16) (x3 : Vec Bits S1x1792x1024 .bf16) : FVec Bits S512x1024 .f32 :=
  k0_pay21 (dx x0) (k0_pay20 (fun y => x0 ((⟨![0, 0], S512x128.size, ![8, 1], inb_S4096x128_S512x128_0_0_s_8_1⟩ : LoadRect S4096x128).idx y)) (fun y => x0 ((⟨![1, 0], S512x128.size, ![8, 1], inb_S4096x128_S512x128_1_0_s_8_1⟩ : LoadRect S4096x128).idx y)) (fun y => x0 ((⟨![2, 0], S512x128.size, ![8, 1], inb_S4096x128_S512x128_2_0_s_8_1⟩ : LoadRect S4096x128).idx y)) (fun y => x0 ((⟨![3, 0], S512x128.size, ![8, 1], inb_S4096x128_S512x128_3_0_s_8_1⟩ : LoadRect S4096x128).idx y)) (fun y => x0 ((⟨![4, 0], S512x128.size, ![8, 1], inb_S4096x128_S512x128_4_0_s_8_1⟩ : LoadRect S4096x128).idx y)) (fun y => x0 ((⟨![5, 0], S512x128.size, ![8, 1], inb_S4096x128_S512x128_5_0_s_8_1⟩ : LoadRect S4096x128).idx y)) (fun y => x0 ((⟨![6, 0], S512x128.size, ![8, 1], inb_S4096x128_S512x128_6_0_s_8_1⟩ : LoadRect S4096x128).idx y)) (fun y => x0 ((⟨![7, 0], S512x128.size, ![8, 1], inb_S4096x128_S512x128_7_0_s_8_1⟩ : LoadRect S4096x128).idx y)) (fun y => x1 ((Rect.unit (s := S1x1024x1792) ![0, 0, 0] S1x1024x512.size inb_S1x1024x1792_S1x1024x512_0_0_0).toLoadRect.idx y)) (fun y => x2 ((Rect.unit (s := S1x1024x1792) ![0, 0, 0] S1x1024x512.size inb_S1x1024x1792_S1x1024x512_0_0_0).toLoadRect.idx y)) (fun y => x3 ((Rect.unit (s := S1x1792x1024) ![0, 0, 0] S1x512x1024.size inb_S1x1792x1024_S1x512x1024_0_0_0).toLoadRect.idx y))) (fun y => x1 ((Rect.unit (s := S1x1024x1792) ![0, 0, 512] S1x1024x512.size inb_S1x1024x1792_S1x1024x512_0_0_512).toLoadRect.idx y)) (fun y => x2 ((Rect.unit (s := S1x1024x1792) ![0, 0, 512] S1x1024x512.size inb_S1x1024x1792_S1x1024x512_0_0_512).toLoadRect.idx y)) (fun y => x3 ((Rect.unit (s := S1x1792x1024) ![0, 512, 0] S1x512x1024.size inb_S1x1792x1024_S1x512x1024_0_512_0).toLoadRect.idx y))
/-- What one half of the hidden width adds, for those rows. -/
def dacc (x0 : Vec Bits S4096x128 .f32) (x1 x2 : Vec Bits S1x1024x1792 .bf16) (x3 : Vec Bits S1x1792x1024 .bf16) : FVec Bits S512x1024 .f32 :=
  k0_pay25 (dx x0) (d4 x0 x1 x2 x3) (k0_pay22 (dx x0) (fun y => x2 ((Rect.unit (s := S1x1024x1792) ![0, 0, 1024] S1x1024x512.size inb_S1x1024x1792_S1x1024x512_0_0_1024).toLoadRect.idx y))) (k0_pay23 (dx x0) (fun y => x1 ((Rect.unit (s := S1x1024x1792) ![0, 0, 1024] S1x1024x512.size inb_S1x1024x1792_S1x1024x512_0_0_1024).toLoadRect.idx y))) (fun y => x3 ((Rect.unit (s := S1x1792x1024) ![0, 1024, 0] S1x512x1024.size inb_S1x1792x1024_S1x512x1024_0_1024_0).toLoadRect.idx y)) (fun y => x1 ((Rect.unit (s := S1x1024x1792) ![0, 0, 1536] S1x1024x256.size inb_S1x1024x1792_S1x1024x256_0_0_1536).toLoadRect.idx y)) (fun y => x2 ((Rect.unit (s := S1x1024x1792) ![0, 0, 1536] S1x1024x256.size inb_S1x1024x1792_S1x1024x256_0_0_1536).toLoadRect.idx y)) (fun y => x3 ((Rect.unit (s := S1x1792x1024) ![0, 1536, 0] S1x256x1024.size inb_S1x1792x1024_S1x256x1024_0_1536_0).toLoadRect.idx y))
/-- The same added to what the first half left. -/
def dsum (x0 : Vec Bits S4096x128 .f32) (x1 x2 : Vec Bits S1x1024x1792 .bf16) (x3 : Vec Bits S1x1792x1024 .bf16) (p : FVec Bits S512x1024 .f32) : FVec Bits S512x1024 .f32 :=
  k0_pay26 (dx x0) (d4 x0 x1 x2 x3) (k0_pay22 (dx x0) (fun y => x2 ((Rect.unit (s := S1x1024x1792) ![0, 0, 1024] S1x1024x512.size inb_S1x1024x1792_S1x1024x512_0_0_1024).toLoadRect.idx y))) (k0_pay23 (dx x0) (fun y => x1 ((Rect.unit (s := S1x1024x1792) ![0, 0, 1024] S1x1024x512.size inb_S1x1024x1792_S1x1024x512_0_0_1024).toLoadRect.idx y))) (fun y => x3 ((Rect.unit (s := S1x1792x1024) ![0, 1024, 0] S1x512x1024.size inb_S1x1792x1024_S1x512x1024_0_1024_0).toLoadRect.idx y)) (fun y => x1 ((Rect.unit (s := S1x1024x1792) ![0, 0, 1536] S1x1024x256.size inb_S1x1024x1792_S1x1024x256_0_0_1536).toLoadRect.idx y)) (fun y => x2 ((Rect.unit (s := S1x1024x1792) ![0, 0, 1536] S1x1024x256.size inb_S1x1024x1792_S1x1024x256_0_0_1536).toLoadRect.idx y)) (fun y => x3 ((Rect.unit (s := S1x1792x1024) ![0, 1536, 0] S1x256x1024.size inb_S1x1792x1024_S1x256x1024_0_1536_0).toLoadRect.idx y)) p

/-- The first 256 rows of a tile, put together from its row-major memory. -/
def sx (x0 : Vec Bits S4096x128 .f32) : FVec Bits S256x1024 .bf16 := k0_pay27 (fun y => x0 ((⟨![0, 0], S256x128.size, ![8, 1], inb_S4096x128_S256x128_0_0_s_8_1⟩ : LoadRect S4096x128).idx y)) (fun y => x0 ((⟨![1, 0], S256x128.size, ![8, 1], inb_S4096x128_S256x128_1_0_s_8_1⟩ : LoadRect S4096x128).idx y)) (fun y => x0 ((⟨![2, 0], S256x128.size, ![8, 1], inb_S4096x128_S256x128_2_0_s_8_1⟩ : LoadRect S4096x128).idx y)) (fun y => x0 ((⟨![3, 0], S256x128.size, ![8, 1], inb_S4096x128_S256x128_3_0_s_8_1⟩ : LoadRect S4096x128).idx y)) (fun y => x0 ((⟨![4, 0], S256x128.size, ![8, 1], inb_S4096x128_S256x128_4_0_s_8_1⟩ : LoadRect S4096x128).idx y)) (fun y => x0 ((⟨![5, 0], S256x128.size, ![8, 1], inb_S4096x128_S256x128_5_0_s_8_1⟩ : LoadRect S4096x128).idx y)) (fun y => x0 ((⟨![6, 0], S256x128.size, ![8, 1], inb_S4096x128_S256x128_6_0_s_8_1⟩ : LoadRect S4096x128).idx y)) (fun y => x0 ((⟨![7, 0], S256x128.size, ![8, 1], inb_S4096x128_S256x128_7_0_s_8_1⟩ : LoadRect S4096x128).idx y))
/-- The first two chunks of the hidden width, summed, for those rows. -/
def s4 (x0 : Vec Bits S4096x128 .f32) (x1 x2 : Vec Bits S1x1024x1792 .bf16) (x3 : Vec Bits S1x1792x1024 .bf16) : FVec Bits S256x1024 .f32 :=
  k0_pay29 (sx x0) (k0_pay28 (fun y => x0 ((⟨![0, 0], S256x128.size, ![8, 1], inb_S4096x128_S256x128_0_0_s_8_1⟩ : LoadRect S4096x128).idx y)) (fun y => x0 ((⟨![1, 0], S256x128.size, ![8, 1], inb_S4096x128_S256x128_1_0_s_8_1⟩ : LoadRect S4096x128).idx y)) (fun y => x0 ((⟨![2, 0], S256x128.size, ![8, 1], inb_S4096x128_S256x128_2_0_s_8_1⟩ : LoadRect S4096x128).idx y)) (fun y => x0 ((⟨![3, 0], S256x128.size, ![8, 1], inb_S4096x128_S256x128_3_0_s_8_1⟩ : LoadRect S4096x128).idx y)) (fun y => x0 ((⟨![4, 0], S256x128.size, ![8, 1], inb_S4096x128_S256x128_4_0_s_8_1⟩ : LoadRect S4096x128).idx y)) (fun y => x0 ((⟨![5, 0], S256x128.size, ![8, 1], inb_S4096x128_S256x128_5_0_s_8_1⟩ : LoadRect S4096x128).idx y)) (fun y => x0 ((⟨![6, 0], S256x128.size, ![8, 1], inb_S4096x128_S256x128_6_0_s_8_1⟩ : LoadRect S4096x128).idx y)) (fun y => x0 ((⟨![7, 0], S256x128.size, ![8, 1], inb_S4096x128_S256x128_7_0_s_8_1⟩ : LoadRect S4096x128).idx y)) (fun y => x1 ((Rect.unit (s := S1x1024x1792) ![0, 0, 0] S1x1024x512.size inb_S1x1024x1792_S1x1024x512_0_0_0).toLoadRect.idx y)) (fun y => x2 ((Rect.unit (s := S1x1024x1792) ![0, 0, 0] S1x1024x512.size inb_S1x1024x1792_S1x1024x512_0_0_0).toLoadRect.idx y)) (fun y => x3 ((Rect.unit (s := S1x1792x1024) ![0, 0, 0] S1x512x1024.size inb_S1x1792x1024_S1x512x1024_0_0_0).toLoadRect.idx y))) (fun y => x1 ((Rect.unit (s := S1x1024x1792) ![0, 0, 512] S1x1024x512.size inb_S1x1024x1792_S1x1024x512_0_0_512).toLoadRect.idx y)) (fun y => x2 ((Rect.unit (s := S1x1024x1792) ![0, 0, 512] S1x1024x512.size inb_S1x1024x1792_S1x1024x512_0_0_512).toLoadRect.idx y)) (fun y => x3 ((Rect.unit (s := S1x1792x1024) ![0, 512, 0] S1x512x1024.size inb_S1x1792x1024_S1x512x1024_0_512_0).toLoadRect.idx y))
/-- What one half of the hidden width adds, for those rows. -/
def sacc (x0 : Vec Bits S4096x128 .f32) (x1 x2 : Vec Bits S1x1024x1792 .bf16) (x3 : Vec Bits S1x1792x1024 .bf16) : FVec Bits S256x1024 .f32 :=
  k0_pay33 (sx x0) (s4 x0 x1 x2 x3) (k0_pay30 (sx x0) (fun y => x2 ((Rect.unit (s := S1x1024x1792) ![0, 0, 1024] S1x1024x512.size inb_S1x1024x1792_S1x1024x512_0_0_1024).toLoadRect.idx y))) (k0_pay31 (sx x0) (fun y => x1 ((Rect.unit (s := S1x1024x1792) ![0, 0, 1024] S1x1024x512.size inb_S1x1024x1792_S1x1024x512_0_0_1024).toLoadRect.idx y))) (fun y => x3 ((Rect.unit (s := S1x1792x1024) ![0, 1024, 0] S1x512x1024.size inb_S1x1792x1024_S1x512x1024_0_1024_0).toLoadRect.idx y)) (fun y => x1 ((Rect.unit (s := S1x1024x1792) ![0, 0, 1536] S1x1024x256.size inb_S1x1024x1792_S1x1024x256_0_0_1536).toLoadRect.idx y)) (fun y => x2 ((Rect.unit (s := S1x1024x1792) ![0, 0, 1536] S1x1024x256.size inb_S1x1024x1792_S1x1024x256_0_0_1536).toLoadRect.idx y)) (fun y => x3 ((Rect.unit (s := S1x1792x1024) ![0, 1536, 0] S1x256x1024.size inb_S1x1792x1024_S1x256x1024_0_1536_0).toLoadRect.idx y))
/-- The same added to what the first half left. -/
def ssum (x0 : Vec Bits S4096x128 .f32) (x1 x2 : Vec Bits S1x1024x1792 .bf16) (x3 : Vec Bits S1x1792x1024 .bf16) (p : FVec Bits S256x1024 .f32) : FVec Bits S256x1024 .f32 :=
  k0_pay34 (sx x0) (s4 x0 x1 x2 x3) (k0_pay30 (sx x0) (fun y => x2 ((Rect.unit (s := S1x1024x1792) ![0, 0, 1024] S1x1024x512.size inb_S1x1024x1792_S1x1024x512_0_0_1024).toLoadRect.idx y))) (k0_pay31 (sx x0) (fun y => x1 ((Rect.unit (s := S1x1024x1792) ![0, 0, 1024] S1x1024x512.size inb_S1x1024x1792_S1x1024x512_0_0_1024).toLoadRect.idx y))) (fun y => x3 ((Rect.unit (s := S1x1792x1024) ![0, 1024, 0] S1x512x1024.size inb_S1x1792x1024_S1x512x1024_0_1024_0).toLoadRect.idx y)) (fun y => x1 ((Rect.unit (s := S1x1024x1792) ![0, 0, 1536] S1x1024x256.size inb_S1x1024x1792_S1x1024x256_0_0_1536).toLoadRect.idx y)) (fun y => x2 ((Rect.unit (s := S1x1024x1792) ![0, 0, 1536] S1x1024x256.size inb_S1x1024x1792_S1x1024x256_0_0_1536).toLoadRect.idx y)) (fun y => x3 ((Rect.unit (s := S1x1792x1024) ![0, 1536, 0] S1x256x1024.size inb_S1x1792x1024_S1x256x1024_0_1536_0).toLoadRect.idx y)) p

/-- A dense tile's result, back in row-major memory. -/
def dout (a : FVec Bits S512x1024 .f32) : Vec Bits S4096x128 .f32 := fun y =>
  a (ix2 ⟨(y 0).val / 8, by have : (y 0).val < 4096 := (y 0).isLt; omega⟩ ⟨(y 0).val % 8 * 128 + (y 1).val, by have : (y 1).val < 128 := (y 1).isLt; omega⟩)
/-- A sparse tile's result: its first half from the sums, zeros after. -/
def sout (a : FVec Bits S256x1024 .f32) : Vec Bits S4096x128 .f32 := fun y =>
  if h : (y 0).val < 2048 then a (ix2 ⟨(y 0).val / 8, by omega⟩ ⟨(y 0).val % 8 * 128 + (y 1).val, by have : (y 1).val < 128 := (y 1).isLt; omega⟩)
  else k0_pay18 (F := Bits) y

section Strided
variable {sig' : RefSig} {κ : Kind} {sp : Space} (v : View sig' κ sp S4096x128 .f32) (f : v.ty.Contents (Elt Bits))

/-- Under a strided store of column block `k`, the rows that are `k` modulo 8 read its payload. -/
theorem strided_hit {n k : ℕ} (hk : k < 8) (inb) (sp')
    (w : (⟨⟨![k, 0], ![n, 128], ![8, 1], inb⟩, sp'⟩ : Rect S4096x128).shape.Idx → Elt Bits .f32) (L) (y : S4096x128.Idx) (h : (y 0).val % 8 = k) (hn : (y 0).val / 8 < n) :
    v.read (Elt Bits) (v.writes (Elt Bits) f (⟨⟨⟨![k, 0], ![n, 128], ![8, 1], inb⟩, sp'⟩, w⟩ :: L)) y
      = w (ix2 ⟨(y 0).val / 8, hn⟩ ⟨(y 1).val, (y 1).isLt⟩) := by
  have e : y = (⟨⟨![k, 0], ![n, 128], ![8, 1], inb⟩, sp'⟩ : Rect S4096x128).emb (ix2 ⟨(y 0).val / 8, hn⟩ ⟨(y 1).val, (y 1).isLt⟩) := by
    funext a; apply Fin.ext
    fin_cases a
    · show (y 0).val = k + 8 * ((y 0).val / 8); omega
    · show (y 1).val = 0 + 1 * (y 1).val; omega
  conv_lhs => rw [e]
  exact View.read_writes_cons_emb v f _ w L _

/-- It leaves the other rows alone. -/
theorem strided_skip {n k : ℕ} (hk : k < 8) (inb) (sp')
    (w : (⟨⟨![k, 0], ![n, 128], ![8, 1], inb⟩, sp'⟩ : Rect S4096x128).shape.Idx → Elt Bits .f32) (L) (y : S4096x128.Idx) (h : (y 0).val % 8 ≠ k ∨ n ≤ (y 0).val / 8) :
    v.read (Elt Bits) (v.writes (Elt Bits) f (⟨⟨⟨![k, 0], ![n, 128], ![8, 1], inb⟩, sp'⟩, w⟩ :: L)) y = v.read (Elt Bits) (v.writes (Elt Bits) f L) y := by
  rw [View.writes_cons, View.read_slice_write_of_not_mem]
  rw [Rect.map_emb_univ]
  intro hm
  obtain ⟨x, hx⟩ := LoadRect.exists_idx_of_mem _ hm
  have h0 : (y 0).val = k + 8 * (x 0).val := by rw [← hx]; rfl
  have hx0 : (x 0).val < n := (x 0).isLt
  rcases h with h | h <;> omega

omit v f in
/-- A load under the store of the same rectangle reads its payload. -/
theorem read_rect (v : View sig' κ sp S512x1024 .f32) (f : v.ty.Contents (Elt Bits)) (r : Rect S512x1024) (w : r.shape.Idx → Elt Bits .f32) (L) :
    v.readAt (Elt Bits) r.toLoadRect (v.writes (Elt Bits) f (⟨r, w⟩ :: L)) = w := by
  funext z
  rw [View.readAt_apply]
  exact View.read_writes_cons_emb v f r w L z
end Strided

/-- Eight strided stores of one vector's column blocks put its rows back in row-major memory. -/
theorem dout_of {sig' : RefSig} {κ : Kind} {sp : Space} (v : View sig' κ sp S4096x128 .f32) (f : v.ty.Contents (Elt Bits)) (a : FVec Bits S512x1024 .f32) :
    v.read (Elt Bits) (v.writes (Elt Bits) f [⟨⟨⟨![7, 0], S512x128.size, ![8, 1], inb_S4096x128_S512x128_7_0_s_8_1⟩, spos_8_1⟩, k0_pay8 (F := Bits) a⟩,
      ⟨⟨⟨![6, 0], S512x128.size, ![8, 1], inb_S4096x128_S512x128_6_0_s_8_1⟩, spos_8_1⟩, k0_pay7 (F := Bits) a⟩,
      ⟨⟨⟨![5, 0], S512x128.size, ![8, 1], inb_S4096x128_S512x128_5_0_s_8_1⟩, spos_8_1⟩, k0_pay6 (F := Bits) a⟩,
      ⟨⟨⟨![4, 0], S512x128.size, ![8, 1], inb_S4096x128_S512x128_4_0_s_8_1⟩, spos_8_1⟩, k0_pay5 (F := Bits) a⟩,
      ⟨⟨⟨![3, 0], S512x128.size, ![8, 1], inb_S4096x128_S512x128_3_0_s_8_1⟩, spos_8_1⟩, k0_pay4 (F := Bits) a⟩,
      ⟨⟨⟨![2, 0], S512x128.size, ![8, 1], inb_S4096x128_S512x128_2_0_s_8_1⟩, spos_8_1⟩, k0_pay3 (F := Bits) a⟩,
      ⟨⟨⟨![1, 0], S512x128.size, ![8, 1], inb_S4096x128_S512x128_1_0_s_8_1⟩, spos_8_1⟩, k0_pay2 (F := Bits) a⟩,
      ⟨⟨⟨![0, 0], S512x128.size, ![8, 1], inb_S4096x128_S512x128_0_0_s_8_1⟩, spos_8_1⟩, k0_pay1 (F := Bits) a⟩]) = dout a := by
    funext y
    have hb : (y 0).val < 4096 := (y 0).isLt
    have h8 : (y 0).val % 8 < 8 := Nat.mod_lt _ (by decide)
    show _ = a (ix2 ⟨(y 0).val / 8, _⟩ ⟨(y 0).val % 8 * 128 + (y 1).val, _⟩)
    generalize_proofs
    obtain hk | hk | hk | hk | hk | hk | hk | hk : (y 0).val % 8 = 0 ∨ (y 0).val % 8 = 1 ∨ (y 0).val % 8 = 2 ∨ (y 0).val % 8 = 3 ∨ (y 0).val % 8 = 4 ∨ (y 0).val % 8 = 5 ∨ (y 0).val % 8 = 6 ∨ (y 0).val % 8 = 7 := by omega
    · -- column block 0
      refine (strided_skip v f (n := 512) (k := 7) (by omega) _ _ _ _ y (by omega)).trans ?_
      refine (strided_skip v f (n := 512) (k := 6) (by omega) _ _ _ _ y (by omega)).trans ?_
      refine (strided_skip v f (n := 512) (k := 5) (by omega) _ _ _ _ y (by omega)).trans ?_
      refine (strided_skip v f (n := 512) (k := 4) (by omega) _ _ _ _ y (by omega)).trans ?_
      refine (strided_skip v f (n := 512) (k := 3) (by omega) _ _ _ _ y (by omega)).trans ?_
      refine (strided_skip v f (n := 512) (k := 2) (by omega) _ _ _ _ y (by omega)).trans ?_
      refine (strided_skip v f (n := 512) (k := 1) (by omega) _ _ _ _ y (by omega)).trans ?_
      refine (strided_hit v f (n := 512) (k := 0) (by omega) _ _ _ _ y hk (by omega)).trans ?_
      pointwise
      apply congrArg a; funext d; apply Fin.ext; fin_cases d
      · exact Nat.zero_add _
      · show _ + _ = (y 0).val % 8 * 128 + _; rw [hk]; first | rfl | simp
    · -- column block 1
      refine (strided_skip v f (n := 512) (k := 7) (by omega) _ _ _ _ y (by omega)).trans ?_
      refine (strided_skip v f (n := 512) (k := 6) (by omega) _ _ _ _ y (by omega)).trans ?_
      refine (strided_skip v f (n := 512) (k := 5) (by omega) _ _ _ _ y (by omega)).trans ?_
      refine (strided_skip v f (n := 512) (k := 4) (by omega) _ _ _ _ y (by omega)).trans ?_
      refine (strided_skip v f (n := 512) (k := 3) (by omega) _ _ _ _ y (by omega)).trans ?_
      refine (strided_skip v f (n := 512) (k := 2) (by omega) _ _ _ _ y (by omega)).trans ?_
      refine (strided_hit v f (n := 512) (k := 1) (by omega) _ _ _ _ y hk (by omega)).trans ?_
      pointwise
      apply congrArg a; funext d; apply Fin.ext; fin_cases d
      · exact Nat.zero_add _
      · show _ + _ = (y 0).val % 8 * 128 + _; rw [hk]; first | rfl | simp
    · -- column block 2
      refine (strided_skip v f (n := 512) (k := 7) (by omega) _ _ _ _ y (by omega)).trans ?_
      refine (strided_skip v f (n := 512) (k := 6) (by omega) _ _ _ _ y (by omega)).trans ?_
      refine (strided_skip v f (n := 512) (k := 5) (by omega) _ _ _ _ y (by omega)).trans ?_
      refine (strided_skip v f (n := 512) (k := 4) (by omega) _ _ _ _ y (by omega)).trans ?_
      refine (strided_skip v f (n := 512) (k := 3) (by omega) _ _ _ _ y (by omega)).trans ?_
      refine (strided_hit v f (n := 512) (k := 2) (by omega) _ _ _ _ y hk (by omega)).trans ?_
      pointwise
      apply congrArg a; funext d; apply Fin.ext; fin_cases d
      · exact Nat.zero_add _
      · show _ + _ = (y 0).val % 8 * 128 + _; rw [hk]; first | rfl | simp
    · -- column block 3
      refine (strided_skip v f (n := 512) (k := 7) (by omega) _ _ _ _ y (by omega)).trans ?_
      refine (strided_skip v f (n := 512) (k := 6) (by omega) _ _ _ _ y (by omega)).trans ?_
      refine (strided_skip v f (n := 512) (k := 5) (by omega) _ _ _ _ y (by omega)).trans ?_
      refine (strided_skip v f (n := 512) (k := 4) (by omega) _ _ _ _ y (by omega)).trans ?_
      refine (strided_hit v f (n := 512) (k := 3) (by omega) _ _ _ _ y hk (by omega)).trans ?_
      pointwise
      apply congrArg a; funext d; apply Fin.ext; fin_cases d
      · exact Nat.zero_add _
      · show _ + _ = (y 0).val % 8 * 128 + _; rw [hk]; first | rfl | simp
    · -- column block 4
      refine (strided_skip v f (n := 512) (k := 7) (by omega) _ _ _ _ y (by omega)).trans ?_
      refine (strided_skip v f (n := 512) (k := 6) (by omega) _ _ _ _ y (by omega)).trans ?_
      refine (strided_skip v f (n := 512) (k := 5) (by omega) _ _ _ _ y (by omega)).trans ?_
      refine (strided_hit v f (n := 512) (k := 4) (by omega) _ _ _ _ y hk (by omega)).trans ?_
      pointwise
      apply congrArg a; funext d; apply Fin.ext; fin_cases d
      · exact Nat.zero_add _
      · show _ + _ = (y 0).val % 8 * 128 + _; rw [hk]; first | rfl | simp
    · -- column block 5
      refine (strided_skip v f (n := 512) (k := 7) (by omega) _ _ _ _ y (by omega)).trans ?_
      refine (strided_skip v f (n := 512) (k := 6) (by omega) _ _ _ _ y (by omega)).trans ?_
      refine (strided_hit v f (n := 512) (k := 5) (by omega) _ _ _ _ y hk (by omega)).trans ?_
      pointwise
      apply congrArg a; funext d; apply Fin.ext; fin_cases d
      · exact Nat.zero_add _
      · show _ + _ = (y 0).val % 8 * 128 + _; rw [hk]; first | rfl | simp
    · -- column block 6
      refine (strided_skip v f (n := 512) (k := 7) (by omega) _ _ _ _ y (by omega)).trans ?_
      refine (strided_hit v f (n := 512) (k := 6) (by omega) _ _ _ _ y hk (by omega)).trans ?_
      pointwise
      apply congrArg a; funext d; apply Fin.ext; fin_cases d
      · exact Nat.zero_add _
      · show _ + _ = (y 0).val % 8 * 128 + _; rw [hk]; first | rfl | simp
    · -- column block 7
      refine (strided_hit v f (n := 512) (k := 7) (by omega) _ _ _ _ y hk (by omega)).trans ?_
      pointwise
      apply congrArg a; funext d; apply Fin.ext; fin_cases d
      · exact Nat.zero_add _
      · show _ + _ = (y 0).val % 8 * 128 + _; rw [hk]; first | rfl | simp

/-- Eight strided stores of one vector's column blocks put its rows back in row-major memory. -/
theorem sout_of {sig' : RefSig} {κ : Kind} {sp : Space} (v : View sig' κ sp S4096x128 .f32) (f : v.ty.Contents (Elt Bits)) (a : FVec Bits S256x1024 .f32) :
    v.read (Elt Bits) (v.writes (Elt Bits) f [⟨Rect.unit (s := S4096x128) ![2048, 0] S2048x128.size inb_S4096x128_S2048x128_2048_0, k0_pay17 (F := Bits)⟩, ⟨⟨⟨![7, 0], S256x128.size, ![8, 1], inb_S4096x128_S256x128_7_0_s_8_1⟩, spos_8_1⟩, k0_pay16 (F := Bits) a⟩,
      ⟨⟨⟨![6, 0], S256x128.size, ![8, 1], inb_S4096x128_S256x128_6_0_s_8_1⟩, spos_8_1⟩, k0_pay15 (F := Bits) a⟩,
      ⟨⟨⟨![5, 0], S256x128.size, ![8, 1], inb_S4096x128_S256x128_5_0_s_8_1⟩, spos_8_1⟩, k0_pay14 (F := Bits) a⟩,
      ⟨⟨⟨![4, 0], S256x128.size, ![8, 1], inb_S4096x128_S256x128_4_0_s_8_1⟩, spos_8_1⟩, k0_pay13 (F := Bits) a⟩,
      ⟨⟨⟨![3, 0], S256x128.size, ![8, 1], inb_S4096x128_S256x128_3_0_s_8_1⟩, spos_8_1⟩, k0_pay12 (F := Bits) a⟩,
      ⟨⟨⟨![2, 0], S256x128.size, ![8, 1], inb_S4096x128_S256x128_2_0_s_8_1⟩, spos_8_1⟩, k0_pay11 (F := Bits) a⟩,
      ⟨⟨⟨![1, 0], S256x128.size, ![8, 1], inb_S4096x128_S256x128_1_0_s_8_1⟩, spos_8_1⟩, k0_pay10 (F := Bits) a⟩,
      ⟨⟨⟨![0, 0], S256x128.size, ![8, 1], inb_S4096x128_S256x128_0_0_s_8_1⟩, spos_8_1⟩, k0_pay9 (F := Bits) a⟩]) = sout a := by
    funext y
    have hb : (y 0).val < 4096 := (y 0).isLt
    unfold sout
    by_cases h : (y 0).val < 2048
    · rw [dif_pos h]
      refine (View.read_writes_cons_unit_of_not_mem v f _ _ _ y rfl 0 (.inl h)).trans ?_
      obtain hk | hk | hk | hk | hk | hk | hk | hk : (y 0).val % 8 = 0 ∨ (y 0).val % 8 = 1 ∨ (y 0).val % 8 = 2 ∨ (y 0).val % 8 = 3 ∨ (y 0).val % 8 = 4 ∨ (y 0).val % 8 = 5 ∨ (y 0).val % 8 = 6 ∨ (y 0).val % 8 = 7 := by omega
      · -- column block 0
        refine (strided_skip v f (n := 256) (k := 7) (by omega) _ _ _ _ y (by omega)).trans ?_
        refine (strided_skip v f (n := 256) (k := 6) (by omega) _ _ _ _ y (by omega)).trans ?_
        refine (strided_skip v f (n := 256) (k := 5) (by omega) _ _ _ _ y (by omega)).trans ?_
        refine (strided_skip v f (n := 256) (k := 4) (by omega) _ _ _ _ y (by omega)).trans ?_
        refine (strided_skip v f (n := 256) (k := 3) (by omega) _ _ _ _ y (by omega)).trans ?_
        refine (strided_skip v f (n := 256) (k := 2) (by omega) _ _ _ _ y (by omega)).trans ?_
        refine (strided_skip v f (n := 256) (k := 1) (by omega) _ _ _ _ y (by omega)).trans ?_
        refine (strided_hit v f (n := 256) (k := 0) (by omega) _ _ _ _ y hk (by omega)).trans ?_
        pointwise
        apply congrArg a; funext d; apply Fin.ext; fin_cases d
        · exact Nat.zero_add _
        · show _ + _ = (y 0).val % 8 * 128 + _; rw [hk]; first | rfl | simp
      · -- column block 1
        refine (strided_skip v f (n := 256) (k := 7) (by omega) _ _ _ _ y (by omega)).trans ?_
        refine (strided_skip v f (n := 256) (k := 6) (by omega) _ _ _ _ y (by omega)).trans ?_
        refine (strided_skip v f (n := 256) (k := 5) (by omega) _ _ _ _ y (by omega)).trans ?_
        refine (strided_skip v f (n := 256) (k := 4) (by omega) _ _ _ _ y (by omega)).trans ?_
        refine (strided_skip v f (n := 256) (k := 3) (by omega) _ _ _ _ y (by omega)).trans ?_
        refine (strided_skip v f (n := 256) (k := 2) (by omega) _ _ _ _ y (by omega)).trans ?_
        refine (strided_hit v f (n := 256) (k := 1) (by omega) _ _ _ _ y hk (by omega)).trans ?_
        pointwise
        apply congrArg a; funext d; apply Fin.ext; fin_cases d
        · exact Nat.zero_add _
        · show _ + _ = (y 0).val % 8 * 128 + _; rw [hk]; first | rfl | simp
      · -- column block 2
        refine (strided_skip v f (n := 256) (k := 7) (by omega) _ _ _ _ y (by omega)).trans ?_
        refine (strided_skip v f (n := 256) (k := 6) (by omega) _ _ _ _ y (by omega)).trans ?_
        refine (strided_skip v f (n := 256) (k := 5) (by omega) _ _ _ _ y (by omega)).trans ?_
        refine (strided_skip v f (n := 256) (k := 4) (by omega) _ _ _ _ y (by omega)).trans ?_
        refine (strided_skip v f (n := 256) (k := 3) (by omega) _ _ _ _ y (by omega)).trans ?_
        refine (strided_hit v f (n := 256) (k := 2) (by omega) _ _ _ _ y hk (by omega)).trans ?_
        pointwise
        apply congrArg a; funext d; apply Fin.ext; fin_cases d
        · exact Nat.zero_add _
        · show _ + _ = (y 0).val % 8 * 128 + _; rw [hk]; first | rfl | simp
      · -- column block 3
        refine (strided_skip v f (n := 256) (k := 7) (by omega) _ _ _ _ y (by omega)).trans ?_
        refine (strided_skip v f (n := 256) (k := 6) (by omega) _ _ _ _ y (by omega)).trans ?_
        refine (strided_skip v f (n := 256) (k := 5) (by omega) _ _ _ _ y (by omega)).trans ?_
        refine (strided_skip v f (n := 256) (k := 4) (by omega) _ _ _ _ y (by omega)).trans ?_
        refine (strided_hit v f (n := 256) (k := 3) (by omega) _ _ _ _ y hk (by omega)).trans ?_
        pointwise
        apply congrArg a; funext d; apply Fin.ext; fin_cases d
        · exact Nat.zero_add _
        · show _ + _ = (y 0).val % 8 * 128 + _; rw [hk]; first | rfl | simp
      · -- column block 4
        refine (strided_skip v f (n := 256) (k := 7) (by omega) _ _ _ _ y (by omega)).trans ?_
        refine (strided_skip v f (n := 256) (k := 6) (by omega) _ _ _ _ y (by omega)).trans ?_
        refine (strided_skip v f (n := 256) (k := 5) (by omega) _ _ _ _ y (by omega)).trans ?_
        refine (strided_hit v f (n := 256) (k := 4) (by omega) _ _ _ _ y hk (by omega)).trans ?_
        pointwise
        apply congrArg a; funext d; apply Fin.ext; fin_cases d
        · exact Nat.zero_add _
        · show _ + _ = (y 0).val % 8 * 128 + _; rw [hk]; first | rfl | simp
      · -- column block 5
        refine (strided_skip v f (n := 256) (k := 7) (by omega) _ _ _ _ y (by omega)).trans ?_
        refine (strided_skip v f (n := 256) (k := 6) (by omega) _ _ _ _ y (by omega)).trans ?_
        refine (strided_hit v f (n := 256) (k := 5) (by omega) _ _ _ _ y hk (by omega)).trans ?_
        pointwise
        apply congrArg a; funext d; apply Fin.ext; fin_cases d
        · exact Nat.zero_add _
        · show _ + _ = (y 0).val % 8 * 128 + _; rw [hk]; first | rfl | simp
      · -- column block 6
        refine (strided_skip v f (n := 256) (k := 7) (by omega) _ _ _ _ y (by omega)).trans ?_
        refine (strided_hit v f (n := 256) (k := 6) (by omega) _ _ _ _ y hk (by omega)).trans ?_
        pointwise
        apply congrArg a; funext d; apply Fin.ext; fin_cases d
        · exact Nat.zero_add _
        · show _ + _ = (y 0).val % 8 * 128 + _; rw [hk]; first | rfl | simp
      · -- column block 7
        refine (strided_hit v f (n := 256) (k := 7) (by omega) _ _ _ _ y hk (by omega)).trans ?_
        pointwise
        apply congrArg a; funext d; apply Fin.ext; fin_cases d
        · exact Nat.zero_add _
        · show _ + _ = (y 0).val % 8 * 128 + _; rw [hk]; first | rfl | simp
    · rw [dif_neg h]
      refine (View.read_writes_cons_unit_of_mem v f _ _ _ y (ix2 ⟨(y 0).val - 2048, by omega⟩ ⟨(y 1).val, (y 1).isLt⟩) rfl (fun d => ?_)).trans ?_
      · fin_cases d
        · show (y 0).val = 2048 + ((y 0).val - 2048); omega
        · show (y 1).val = 0 + (y 1).val; omega
      · rfl

set_option maxHeartbeats 2000000 in
/-- A dense tile leaves, after its first half, that half in the scratch. -/
theorem dense0_scr (c : Dev nD) (i : grid0.Coords) (arg5 : Memref sig .tc .vmem S4096x128 .f32) (harg5 : arg5.IsWhole) (arg6 : Memref sig .tc .vmem S1x1024x1792 .bf16) (harg6 : arg6.IsWhole) (arg7 : Memref sig .tc .vmem S1x1024x1792 .bf16) (harg7 : arg7.IsWhole) (arg8 : Memref sig .tc .vmem S1x1792x1024 .bf16) (harg8 : arg8.IsWhole) (arg9 : Memref sig .tc .vmem S4096x128 .f32) (harg9 : arg9.IsWhole) (T0 : (S72.Idx → Elt Bits .i32)) (T1 : (S1.Idx → Elt Bits .i32)) (T2 : (S72.Idx → Elt Bits .i32))
    (x0 : (S4096x128.Idx → Elt Bits .f32)) (x1 : (S1x1024x1792.Idx → Elt Bits .bf16)) (x2 : (S1x1024x1792.Idx → Elt Bits .bf16)) (x3 : (S1x1792x1024.Idx → Elt Bits .bf16)) (xa0 : Buf (Elt Bits) ((c : Thread nD τ).loc cc0_scratch0))
    (h1 : k0_cond1 i (View.readAt (Elt Bits) (tbM0_1).view (Rect.unit (s := S1) ![0] S1.size inb_S1_S1_0).toLoadRect T1 (Shape.Idx.first (numel1_S1.symm ▸ Nat.one_pos))) (View.readAt (Elt Bits) (tbM0_2).view (Rect.unit (s := S72) (k0_off1 i) S1.size (k0_off1_inb i)).toLoadRect T2 (Shape.Idx.first (numel1_S1.symm ▸ Nat.one_pos))) = 1#1) (h5 : ¬(k0_cond5 i (View.readAt (Elt Bits) (tbM0_1).view (Rect.unit (s := S1) ![0] S1.size inb_S1_S1_0).toLoadRect T1 (Shape.Idx.first (numel1_S1.symm ▸ Nat.one_pos))) (View.readAt (Elt Bits) (tbM0_2).view (Rect.unit (s := S72) (k0_off1 i) S1.size (k0_off1_inb i)).toLoadRect T2 (Shape.Idx.first (numel1_S1.symm ▸ Nat.one_pos))) = 1#1)) (h10 : ¬(k0_cond10 i (View.readAt (Elt Bits) (tbM0_1).view (Rect.unit (s := S1) ![0] S1.size inb_S1_S1_0).toLoadRect T1 (Shape.Idx.first (numel1_S1.symm ▸ Nat.one_pos))) = 1#1)) (hi : (i 1).val = 0) :
    (View.whole cc0_scratch0).readAt (Elt Bits) (Rect.unit (s := S512x1024) ![0, 0] S512x1024.size inb_S512x1024_S512x1024_0_0).toLoadRect (dense0 c i arg5 harg5 arg6 harg6 arg7 harg7 arg8 harg8 arg9 harg9 T0 T1 T2 x0 x1 x2 x3 xa0 h1 h5 h10 hi).1 = dacc x0 x1 x2 x3 := by
  unfold dense0
  dsimp only
  unfold dense0.sl.HS0_1
  refine (View.readAt_writes_full _ _ _ _ _ _).trans ?_
  simp only [dense0.sl.r_2, dense0.sl.r_3, dense0.sl.r_4, dense0.sl.r_5, dense0.sl.r_6, View.readAt_rep]
  rfl

set_option maxHeartbeats 2000000 in
/-- An unused tile leaves zeros in its block of the result. -/
theorem idle1_out (c : Dev nD) (i : grid0.Coords) (arg5 : Memref sig .tc .vmem S4096x128 .f32) (harg5 : arg5.IsWhole) (arg6 : Memref sig .tc .vmem S1x1024x1792 .bf16) (harg6 : arg6.IsWhole) (arg7 : Memref sig .tc .vmem S1x1024x1792 .bf16) (harg7 : arg7.IsWhole) (arg8 : Memref sig .tc .vmem S1x1792x1024 .bf16) (harg8 : arg8.IsWhole) (arg9 : Memref sig .tc .vmem S4096x128 .f32) (harg9 : arg9.IsWhole) (T0 : (S72.Idx → Elt Bits .i32)) (T1 : (S1.Idx → Elt Bits .i32)) (T2 : (S72.Idx → Elt Bits .i32))
    (x0 : (S4096x128.Idx → Elt Bits .f32)) (x1 : (S1x1024x1792.Idx → Elt Bits .bf16)) (x2 : (S1x1024x1792.Idx → Elt Bits .bf16)) (x3 : (S1x1792x1024.Idx → Elt Bits .bf16)) (xa0 : Buf (Elt Bits) ((c : Thread nD τ).loc cc0_scratch0))
    (h1 : ¬(k0_cond1 i (View.readAt (Elt Bits) (tbM0_1).view (Rect.unit (s := S1) ![0] S1.size inb_S1_S1_0).toLoadRect T1 (Shape.Idx.first (numel1_S1.symm ▸ Nat.one_pos))) (View.readAt (Elt Bits) (tbM0_2).view (Rect.unit (s := S72) (k0_off1 i) S1.size (k0_off1_inb i)).toLoadRect T2 (Shape.Idx.first (numel1_S1.symm ▸ Nat.one_pos))) = 1#1)) (h5 : ¬(k0_cond5 i (View.readAt (Elt Bits) (tbM0_1).view (Rect.unit (s := S1) ![0] S1.size inb_S1_S1_0).toLoadRect T1 (Shape.Idx.first (numel1_S1.symm ▸ Nat.one_pos))) (View.readAt (Elt Bits) (tbM0_2).view (Rect.unit (s := S72) (k0_off1 i) S1.size (k0_off1_inb i)).toLoadRect T2 (Shape.Idx.first (numel1_S1.symm ▸ Nat.one_pos))) = 1#1)) (h10 : k0_cond10 i (View.readAt (Elt Bits) (tbM0_1).view (Rect.unit (s := S1) ![0] S1.size inb_S1_S1_0).toLoadRect T1 (Shape.Idx.first (numel1_S1.symm ▸ Nat.one_pos))) = 1#1) (hi : (i 1).val = 1) :
    ∀ {sig' : RefSig} {κ : Kind} {sp : Space} (v : View sig' κ sp S4096x128 .f32) (f : v.ty.Contents (Elt Bits)), v.read (Elt Bits) (v.writes (Elt Bits) f (idle1 c i arg5 harg5 arg6 harg6 arg7 harg7 arg8 harg8 arg9 harg9 T0 T1 T2 x0 x1 x2 x3 xa0 h1 h5 h10 hi).1) = k0_pay18 (F := Bits) := by
  intro sig' κ sp v f
  unfold idle1
  unfold idle1.sl.HO4_1
  exact View.read_writes_full v f _ _ _

set_option maxHeartbeats 2000000 in
/-- A dense tile leaves, after its second half, the sum of both in its block of the result. -/
theorem dense1_out (c : Dev nD) (i : grid0.Coords) (arg5 : Memref sig .tc .vmem S4096x128 .f32) (harg5 : arg5.IsWhole) (arg6 : Memref sig .tc .vmem S1x1024x1792 .bf16) (harg6 : arg6.IsWhole) (arg7 : Memref sig .tc .vmem S1x1024x1792 .bf16) (harg7 : arg7.IsWhole) (arg8 : Memref sig .tc .vmem S1x1792x1024 .bf16) (harg8 : arg8.IsWhole) (arg9 : Memref sig .tc .vmem S4096x128 .f32) (harg9 : arg9.IsWhole) (T0 : (S72.Idx → Elt Bits .i32)) (T1 : (S1.Idx → Elt Bits .i32)) (T2 : (S72.Idx → Elt Bits .i32))
    (x0 : (S4096x128.Idx → Elt Bits .f32)) (x1 : (S1x1024x1792.Idx → Elt Bits .bf16)) (x2 : (S1x1024x1792.Idx → Elt Bits .bf16)) (x3 : (S1x1792x1024.Idx → Elt Bits .bf16)) (xa0 : Buf (Elt Bits) ((c : Thread nD τ).loc cc0_scratch0))
    (h1 : k0_cond1 i (View.readAt (Elt Bits) (tbM0_1).view (Rect.unit (s := S1) ![0] S1.size inb_S1_S1_0).toLoadRect T1 (Shape.Idx.first (numel1_S1.symm ▸ Nat.one_pos))) (View.readAt (Elt Bits) (tbM0_2).view (Rect.unit (s := S72) (k0_off1 i) S1.size (k0_off1_inb i)).toLoadRect T2 (Shape.Idx.first (numel1_S1.symm ▸ Nat.one_pos))) = 1#1) (h5 : ¬(k0_cond5 i (View.readAt (Elt Bits) (tbM0_1).view (Rect.unit (s := S1) ![0] S1.size inb_S1_S1_0).toLoadRect T1 (Shape.Idx.first (numel1_S1.symm ▸ Nat.one_pos))) (View.readAt (Elt Bits) (tbM0_2).view (Rect.unit (s := S72) (k0_off1 i) S1.size (k0_off1_inb i)).toLoadRect T2 (Shape.Idx.first (numel1_S1.symm ▸ Nat.one_pos))) = 1#1)) (h10 : ¬(k0_cond10 i (View.readAt (Elt Bits) (tbM0_1).view (Rect.unit (s := S1) ![0] S1.size inb_S1_S1_0).toLoadRect T1 (Shape.Idx.first (numel1_S1.symm ▸ Nat.one_pos))) = 1#1)) (hi : (i 1).val = 1) :
    ∀ {sig' : RefSig} {κ : Kind} {sp : Space} (v : View sig' κ sp S4096x128 .f32) (f : v.ty.Contents (Elt Bits)), v.read (Elt Bits) (v.writes (Elt Bits) f (dense1 c i arg5 harg5 arg6 harg6 arg7 harg7 arg8 harg8 arg9 harg9 T0 T1 T2 x0 x1 x2 x3 xa0 h1 h5 h10 hi).1) = dout (dsum x0 x1 x2 x3 ((View.whole cc0_scratch0).readAt (Elt Bits) (Rect.unit (s := S512x1024) ![0, 0] S512x1024.size inb_S512x1024_S512x1024_0_0).toLoadRect xa0)) := by
  intro sig' κ sp v f
  unfold dense1
  refine (dout_of v f _).trans (congrArg dout ?_)
  unfold dense1.sl.v114 dense1.sl.HS0_1
  first | refine (View.readCov_full _ _ _ _).trans ?_ | refine (View.readAt_writes_full _ _ _ _ _ _).trans ?_ | trace_state
  simp only [dense1.sl.r_2, dense1.sl.r_3, dense1.sl.r_4, dense1.sl.r_5, dense1.sl.r_6, View.readAt_rep]
  rfl

set_option maxHeartbeats 2000000 in
/-- A sparse tile leaves, after its first half, that half in the scratch. -/
theorem sparse0_scr (c : Dev nD) (i : grid0.Coords) (arg5 : Memref sig .tc .vmem S4096x128 .f32) (harg5 : arg5.IsWhole) (arg6 : Memref sig .tc .vmem S1x1024x1792 .bf16) (harg6 : arg6.IsWhole) (arg7 : Memref sig .tc .vmem S1x1024x1792 .bf16) (harg7 : arg7.IsWhole) (arg8 : Memref sig .tc .vmem S1x1792x1024 .bf16) (harg8 : arg8.IsWhole) (arg9 : Memref sig .tc .vmem S4096x128 .f32) (harg9 : arg9.IsWhole) (T0 : (S72.Idx → Elt Bits .i32)) (T1 : (S1.Idx → Elt Bits .i32)) (T2 : (S72.Idx → Elt Bits .i32))
    (x0 : (S4096x128.Idx → Elt Bits .f32)) (x1 : (S1x1024x1792.Idx → Elt Bits .bf16)) (x2 : (S1x1024x1792.Idx → Elt Bits .bf16)) (x3 : (S1x1792x1024.Idx → Elt Bits .bf16)) (xa0 : Buf (Elt Bits) ((c : Thread nD τ).loc cc0_scratch0))
    (h1 : ¬(k0_cond1 i (View.readAt (Elt Bits) (tbM0_1).view (Rect.unit (s := S1) ![0] S1.size inb_S1_S1_0).toLoadRect T1 (Shape.Idx.first (numel1_S1.symm ▸ Nat.one_pos))) (View.readAt (Elt Bits) (tbM0_2).view (Rect.unit (s := S72) (k0_off1 i) S1.size (k0_off1_inb i)).toLoadRect T2 (Shape.Idx.first (numel1_S1.symm ▸ Nat.one_pos))) = 1#1)) (h5 : k0_cond5 i (View.readAt (Elt Bits) (tbM0_1).view (Rect.unit (s := S1) ![0] S1.size inb_S1_S1_0).toLoadRect T1 (Shape.Idx.first (numel1_S1.symm ▸ Nat.one_pos))) (View.readAt (Elt Bits) (tbM0_2).view (Rect.unit (s := S72) (k0_off1 i) S1.size (k0_off1_inb i)).toLoadRect T2 (Shape.Idx.first (numel1_S1.symm ▸ Nat.one_pos))) = 1#1) (h10 : ¬(k0_cond10 i (View.readAt (Elt Bits) (tbM0_1).view (Rect.unit (s := S1) ![0] S1.size inb_S1_S1_0).toLoadRect T1 (Shape.Idx.first (numel1_S1.symm ▸ Nat.one_pos))) = 1#1)) (hi : (i 1).val = 0) :
    (View.whole cc0_scratch0).readAt (Elt Bits) (Rect.unit (s := S512x1024) ![0, 0] S256x1024.size inb_S512x1024_S256x1024_0_0).toLoadRect (sparse0 c i arg5 harg5 arg6 harg6 arg7 harg7 arg8 harg8 arg9 harg9 T0 T1 T2 x0 x1 x2 x3 xa0 h1 h5 h10 hi).1 = sacc x0 x1 x2 x3 := by
  unfold sparse0
  dsimp only
  refine (read_rect _ _ _ _ _).trans ?_
  simp only [sparse0.sl.r_2, sparse0.sl.r_3, sparse0.sl.r_4, sparse0.sl.r_5, sparse0.sl.r_6, View.readAt_rep]
  rfl

set_option maxHeartbeats 2000000 in
/-- A sparse tile leaves, after its second half, the sum of both in the first half of its block and zeros in the second. -/
theorem sparse1_out (c : Dev nD) (i : grid0.Coords) (arg5 : Memref sig .tc .vmem S4096x128 .f32) (harg5 : arg5.IsWhole) (arg6 : Memref sig .tc .vmem S1x1024x1792 .bf16) (harg6 : arg6.IsWhole) (arg7 : Memref sig .tc .vmem S1x1024x1792 .bf16) (harg7 : arg7.IsWhole) (arg8 : Memref sig .tc .vmem S1x1792x1024 .bf16) (harg8 : arg8.IsWhole) (arg9 : Memref sig .tc .vmem S4096x128 .f32) (harg9 : arg9.IsWhole) (T0 : (S72.Idx → Elt Bits .i32)) (T1 : (S1.Idx → Elt Bits .i32)) (T2 : (S72.Idx → Elt Bits .i32))
    (x0 : (S4096x128.Idx → Elt Bits .f32)) (x1 : (S1x1024x1792.Idx → Elt Bits .bf16)) (x2 : (S1x1024x1792.Idx → Elt Bits .bf16)) (x3 : (S1x1792x1024.Idx → Elt Bits .bf16)) (xa0 : Buf (Elt Bits) ((c : Thread nD τ).loc cc0_scratch0))
    (h1 : ¬(k0_cond1 i (View.readAt (Elt Bits) (tbM0_1).view (Rect.unit (s := S1) ![0] S1.size inb_S1_S1_0).toLoadRect T1 (Shape.Idx.first (numel1_S1.symm ▸ Nat.one_pos))) (View.readAt (Elt Bits) (tbM0_2).view (Rect.unit (s := S72) (k0_off1 i) S1.size (k0_off1_inb i)).toLoadRect T2 (Shape.Idx.first (numel1_S1.symm ▸ Nat.one_pos))) = 1#1)) (h5 : k0_cond5 i (View.readAt (Elt Bits) (tbM0_1).view (Rect.unit (s := S1) ![0] S1.size inb_S1_S1_0).toLoadRect T1 (Shape.Idx.first (numel1_S1.symm ▸ Nat.one_pos))) (View.readAt (Elt Bits) (tbM0_2).view (Rect.unit (s := S72) (k0_off1 i) S1.size (k0_off1_inb i)).toLoadRect T2 (Shape.Idx.first (numel1_S1.symm ▸ Nat.one_pos))) = 1#1) (h10 : ¬(k0_cond10 i (View.readAt (Elt Bits) (tbM0_1).view (Rect.unit (s := S1) ![0] S1.size inb_S1_S1_0).toLoadRect T1 (Shape.Idx.first (numel1_S1.symm ▸ Nat.one_pos))) = 1#1)) (hi : (i 1).val = 1) :
    ∀ {sig' : RefSig} {κ : Kind} {sp : Space} (v : View sig' κ sp S4096x128 .f32) (f : v.ty.Contents (Elt Bits)), v.read (Elt Bits) (v.writes (Elt Bits) f (sparse1 c i arg5 harg5 arg6 harg6 arg7 harg7 arg8 harg8 arg9 harg9 T0 T1 T2 x0 x1 x2 x3 xa0 h1 h5 h10 hi).1) = sout (ssum x0 x1 x2 x3 ((View.whole cc0_scratch0).readAt (Elt Bits) (Rect.unit (s := S512x1024) ![0, 0] S256x1024.size inb_S512x1024_S256x1024_0_0).toLoadRect xa0)) := by
  intro sig' κ sp v f
  unfold sparse1
  refine (sout_of v f _).trans (congrArg sout ?_)
  unfold sparse1.sl.v116 sparse1.sl.HS0_1
  refine (read_rect _ _ _ _ _).trans ?_
  simp only [sparse1.sl.r_2, sparse1.sl.r_3, sparse1.sl.r_4, sparse1.sl.r_5, sparse1.sl.r_6, View.readAt_rep]
  rfl

end Cert.Kernel2.Expert

end
-- ==== Proof.KLaunch.lean ====
module

public import proofs.«01_k».proof.Proof.Gen.Kernel2.Skeleton
public import proofs.«01_k».proof.Proof.Gen.Kernel2.Launch
public import proofs.«01_k».proof.Defs
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init
public import proofs.«01_k».proof.Proof.KBody
public import proofs.«01_k».proof.Proof.KCfg
public import Idealize.ShloMosaic.Lib.Pipeline.Quiescent
public import Idealize.ShloMosaic.Lib.Claim

@[expose] public section

set_option maxRecDepth 16384
set_option Elab.async false

noncomputable section

namespace Cert.Kernel2.Expert

open Cert.Kernel2 Cert.Kernel2.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (ch : Tabs)
variable (m : (ℓ : Loc nD τ sig) → Buf (Elt Bits) ℓ) (ρ : Dev nD → PrngReg)

/-- The proof's resource algebra: the rounds library's, for the pipeline's staging cells, embedded whole. -/
abbrev EP : Emb (UR sig nD τ) (MT nD τ sig Unit (Elt Bits) ℕ (UR sig nD τ) ℕ) := emb₁

/-- Point `t`'s coordinates. -/
abbrev crd (t : Fin (cfgA ch).N) : (cfgA ch).grid.Coords := (cfgA ch).grid.coords t

/-- Each window's current staging memref at point `t`, spelled as the pipeline passes it, and its wholeness. -/
abbrev ms0_0 (t : Fin (cfgA ch).N) : Memref sig .tc .vmem S4096x128 .f32 := spec0_0.stage ((cfgA ch).slots t (0 : Fin 5))
abbrev hs0_0 (t : Fin (cfgA ch).N) : (ms0_0 ch t).IsWhole := hstage0_0 (((cfgA ch).slots t (0 : Fin 5)).cast nbuf0_0)
abbrev ms0_1 (t : Fin (cfgA ch).N) : Memref sig .tc .vmem S1x1024x1792 .bf16 := spec0_1.stage ((cfgA ch).slots t (1 : Fin 5))
abbrev hs0_1 (t : Fin (cfgA ch).N) : (ms0_1 ch t).IsWhole := hstage0_1 (((cfgA ch).slots t (1 : Fin 5)).cast nbuf0_1)
abbrev ms0_2 (t : Fin (cfgA ch).N) : Memref sig .tc .vmem S1x1024x1792 .bf16 := spec0_2.stage ((cfgA ch).slots t (2 : Fin 5))
abbrev hs0_2 (t : Fin (cfgA ch).N) : (ms0_2 ch t).IsWhole := hstage0_2 (((cfgA ch).slots t (2 : Fin 5)).cast nbuf0_2)
abbrev ms0_3 (t : Fin (cfgA ch).N) : Memref sig .tc .vmem S1x1792x1024 .bf16 := spec0_3.stage ((cfgA ch).slots t (3 : Fin 5))
abbrev hs0_3 (t : Fin (cfgA ch).N) : (ms0_3 ch t).IsWhole := hstage0_3 (((cfgA ch).slots t (3 : Fin 5)).cast nbuf0_3)
abbrev ms0_4 (t : Fin (cfgA ch).N) : Memref sig .tc .vmem S4096x128 .f32 := spec0_4.stage ((cfgA ch).slots t (4 : Fin 5))
abbrev hs0_4 (t : Fin (cfgA ch).N) : (ms0_4 ch t).IsWhole := hstage0_4 (((cfgA ch).slots t (4 : Fin 5)).cast nbuf0_4)

/-! ## The windows' blocks -/

/-- Window `w`'s block at point `t`, read off its array at launch. -/
def iblk (c : Dev nD) (w : Fin (cfgA ch).W) (t : Fin (cfgA ch).N) : (((cfgA ch).win w).xblock (crd ch t)).Idx → Elt Bits ((cfgA ch).win w).elt :=
  (((cfgA ch).win w).blk t).view.read (Elt Bits) ((s₀ m ρ).mem (((cfgA ch).win w).arr.view.loc (c : Thread nD τ)))

/-- The point before, for a point that has one (itself at the first). -/
def back (t : Fin (cfgA ch).N) : Fin (cfgA ch).N := ⟨t.val - 1, Nat.lt_of_le_of_lt (Nat.sub_le _ _) t.isLt⟩
/-- The point before position `t`. -/
def prevPt (t : Fin ((cfgA ch).N + 1)) : Fin (cfgA ch).N := ⟨t.val - 1, by
  have h := t.isLt
  have hN : (cfgA ch).N = 144 := N_0
  omega⟩
theorem prevPt_succ (t : Fin (cfgA ch).N) : prevPt ch t.succ = t := Fin.ext (by show t.val + 1 - 1 = t.val; omega)
theorem prevPt_cast (t : Fin (cfgA ch).N) : prevPt ch t.castSucc = back ch t := rfl
variable {ch} in
theorem back_val (t : Fin (cfgA ch).N) (ht : t.val % 2 = 1) : (crd ch (prevPt ch t.castSucc) 0).val = (crd ch t 0).val := by
  rw [show (crd ch (prevPt ch t.castSucc) 0).val = (t.val - 1) / 2 from (crd_val (prevPt ch t.castSucc)).1, show (crd ch t 0).val = t.val / 2 from (crd_val t).1]
  omega

open Classical in
/-- What a tile's second point leaves in its block of the result. -/
def outAt (c : Dev nD) (t : Fin (cfgA ch).N) : Vec Bits S4096x128 .f32 :=
  if P1 ch (crd ch t) then
    dout (dsum (iblk ch m ρ c (0 : Fin 5) t) (iblk ch m ρ c (1 : Fin 5) t) (iblk ch m ρ c (2 : Fin 5) t) (iblk ch m ρ c (3 : Fin 5) t)
      (dacc (iblk ch m ρ c (0 : Fin 5) (back ch t)) (iblk ch m ρ c (1 : Fin 5) (back ch t)) (iblk ch m ρ c (2 : Fin 5) (back ch t)) (iblk ch m ρ c (3 : Fin 5) (back ch t))))
  else if P5 ch (crd ch t) then
    sout (ssum (iblk ch m ρ c (0 : Fin 5) t) (iblk ch m ρ c (1 : Fin 5) t) (iblk ch m ρ c (2 : Fin 5) t) (iblk ch m ρ c (3 : Fin 5) t)
      (sacc (iblk ch m ρ c (0 : Fin 5) (back ch t)) (iblk ch m ρ c (1 : Fin 5) (back ch t)) (iblk ch m ρ c (2 : Fin 5) (back ch t)) (iblk ch m ρ c (3 : Fin 5) (back ch t))))
  else k0_pay18 (F := Bits)
theorem outAt_1 (c : Dev nD) (t : Fin (cfgA ch).N) (h : P1 ch (crd ch t)) : outAt ch m ρ c t =
    dout (dsum (iblk ch m ρ c (0 : Fin 5) t) (iblk ch m ρ c (1 : Fin 5) t) (iblk ch m ρ c (2 : Fin 5) t) (iblk ch m ρ c (3 : Fin 5) t)
      (dacc (iblk ch m ρ c (0 : Fin 5) (back ch t)) (iblk ch m ρ c (1 : Fin 5) (back ch t)) (iblk ch m ρ c (2 : Fin 5) (back ch t)) (iblk ch m ρ c (3 : Fin 5) (back ch t)))) := if_pos h
theorem outAt_5 (c : Dev nD) (t : Fin (cfgA ch).N) (h : ¬P1 ch (crd ch t)) (h5 : P5 ch (crd ch t)) : outAt ch m ρ c t =
    sout (ssum (iblk ch m ρ c (0 : Fin 5) t) (iblk ch m ρ c (1 : Fin 5) t) (iblk ch m ρ c (2 : Fin 5) t) (iblk ch m ρ c (3 : Fin 5) t)
      (sacc (iblk ch m ρ c (0 : Fin 5) (back ch t)) (iblk ch m ρ c (1 : Fin 5) (back ch t)) (iblk ch m ρ c (2 : Fin 5) (back ch t)) (iblk ch m ρ c (3 : Fin 5) (back ch t)))) := (if_neg h).trans (if_pos h5)
theorem outAt_no (c : Dev nD) (t : Fin (cfgA ch).N) (h : ¬P1 ch (crd ch t)) (h5 : ¬P5 ch (crd ch t)) : outAt ch m ρ c t = k0_pay18 (F := Bits) := (if_neg h).trans (if_neg h5)

/-- What the scratch holds before position `t`: between a tile's two points, the first half's sums. -/
def RelScr (c : Dev nD) (t : Fin ((cfgA ch).N + 1)) (a : Buf (Elt Bits) ((c : Thread nD τ).loc cc0_scratch0)) : Prop :=
  t.val % 2 = 1 →
    (P1 ch (crd ch (prevPt ch t)) → (View.whole cc0_scratch0).readAt (Elt Bits) (Rect.unit (s := S512x1024) ![0, 0] S512x1024.size inb_S512x1024_S512x1024_0_0).toLoadRect a
      = dacc (iblk ch m ρ c (0 : Fin 5) (prevPt ch t)) (iblk ch m ρ c (1 : Fin 5) (prevPt ch t)) (iblk ch m ρ c (2 : Fin 5) (prevPt ch t)) (iblk ch m ρ c (3 : Fin 5) (prevPt ch t)))
    ∧ (P5 ch (crd ch (prevPt ch t)) → (View.whole cc0_scratch0).readAt (Elt Bits) (Rect.unit (s := S512x1024) ![0, 0] S256x1024.size inb_S512x1024_S256x1024_0_0).toLoadRect a
      = sacc (iblk ch m ρ c (0 : Fin 5) (prevPt ch t)) (iblk ch m ρ c (1 : Fin 5) (prevPt ch t)) (iblk ch m ρ c (2 : Fin 5) (prevPt ch t)) (iblk ch m ρ c (3 : Fin 5) (prevPt ch t)))

/-- The invariant before position `t`: the scratch as said, the body's halves of the tables. -/
def Phi (m : (ℓ : Loc nD τ sig) → Buf (Elt Bits) ℓ) (ρ : Dev nD → PrngReg) (c : Dev nD) (t : Fin ((cfgA ch).N + 1)) : sProp (MT nD τ sig Unit (Elt Bits) ℕ (UR sig nD τ) ℕ) :=
  iprop((∃ a, ⌜RelScr ch m ρ c t a⌝ ∗ (scM0_0.view.loc (c : Thread nD τ) ↦{fullShare} a)) ∗ (tbM0_0.view.loc (c : Thread nD τ) ↦{fullShare.right} ch.T0) ∗ (tbM0_1.view.loc (c : Thread nD τ) ↦{fullShare.right} ch.T1) ∗ (tbM0_2.view.loc (c : Thread nD τ) ↦{fullShare.right} ch.T2))

/-- The proof data of the one pipeline on core `c`. -/
def dats (_ : Fin 1) (c : Dev nD) : Dat τ (Elt Bits) Unit ℕ (UR sig nD τ) ℕ (cfgA ch) c where
  A w := (s₀ m ρ).mem (((cfgA ch).win w).arr.view.loc (c : Thread nD τ))
  after w t := match w with
    | ⟨0, _⟩ => iblk ch m ρ c (0 : Fin 5) t
    | ⟨1, _⟩ => iblk ch m ρ c (1 : Fin 5) t
    | ⟨2, _⟩ => iblk ch m ρ c (2 : Fin 5) t
    | ⟨3, _⟩ => iblk ch m ρ c (3 : Fin 5) t
    | ⟨4, _⟩ => outAt ch m ρ c t
  Φ t := Phi ch m ρ c t
  q _ := fullShare
  owed _ := 0

theorem after0_0 (c : Dev nD) (t : Fin (cfgA ch).N) : (dats ch m ρ 0 c).after (0 : Fin 5) t = iblk ch m ρ c (0 : Fin 5) t := rfl
theorem after0_1 (c : Dev nD) (t : Fin (cfgA ch).N) : (dats ch m ρ 0 c).after (1 : Fin 5) t = iblk ch m ρ c (1 : Fin 5) t := rfl
theorem after0_2 (c : Dev nD) (t : Fin (cfgA ch).N) : (dats ch m ρ 0 c).after (2 : Fin 5) t = iblk ch m ρ c (2 : Fin 5) t := rfl
theorem after0_3 (c : Dev nD) (t : Fin (cfgA ch).N) : (dats ch m ρ 0 c).after (3 : Fin 5) t = iblk ch m ρ c (3 : Fin 5) t := rfl
theorem after0_4 (c : Dev nD) (t : Fin (cfgA ch).N) : (dats ch m ρ 0 c).after (4 : Fin 5) t = outAt ch m ρ c t := rfl

/-- Input window 0 holds its block, fetched there or not (Lib/Pipeline/FrameBody.lean `Dat.before_in_eq_fetched`). -/
theorem before0_0 (c : Dev nD) (t : Fin (cfgA ch).N) (d) : (dats ch m ρ 0 c).before (0 : Fin 5) t d = iblk ch m ρ c (0 : Fin 5) t :=
  ((dats ch m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)

/-- Input window 1 holds its block, fetched there or not (Lib/Pipeline/FrameBody.lean `Dat.before_in_eq_fetched`). -/
theorem before0_1 (c : Dev nD) (t : Fin (cfgA ch).N) (d) : (dats ch m ρ 0 c).before (1 : Fin 5) t d = iblk ch m ρ c (1 : Fin 5) t :=
  ((dats ch m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)

/-- Input window 2 holds its block, fetched there or not (Lib/Pipeline/FrameBody.lean `Dat.before_in_eq_fetched`). -/
theorem before0_2 (c : Dev nD) (t : Fin (cfgA ch).N) (d) : (dats ch m ρ 0 c).before (2 : Fin 5) t d = iblk ch m ρ c (2 : Fin 5) t :=
  ((dats ch m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)

/-- Input window 3 holds its block, fetched there or not (Lib/Pipeline/FrameBody.lean `Dat.before_in_eq_fetched`). -/
theorem before0_3 (c : Dev nD) (t : Fin (cfgA ch).N) (d) : (dats ch m ρ 0 c).before (3 : Fin 5) t d = iblk ch m ρ c (3 : Fin 5) t :=
  ((dats ch m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- The output's buffer holds anything when the body runs. -/
theorem before0_4 (c : Dev nD) (t : Fin (cfgA ch).N) (d) : (dats ch m ρ 0 c).before (4 : Fin 5) t d = d := by
  rw [(dats ch m ρ 0 c).before_out_traj (4 : Fin 5) rfl (fun _ _ => rfl) (fun t _ _ hf => absurd ((fresh4 ch t).symm.trans hf) (by decide)) t.val t rfl d]
  exact if_pos (fresh4 ch t)

/-- The body at point `t` on its staging memrefs, as the pipeline calls it. -/
abbrev bodyAt0 (t : Fin (cfgA ch).N) : Prog (TpuEff nD τ sig (Elt Bits) Λ₀ .tc) PUnit :=
  cc0_moe_experts (crd ch t) (Memref.whole main_arg0) (Memref.isWhole_whole _) (Memref.whole main_arg1) (Memref.isWhole_whole _) (Memref.whole main_arg2) (Memref.isWhole_whole _) (ms0_0 ch t) (hs0_0 ch t) (ms0_1 ch t) (hs0_1 ch t) (ms0_2 ch t) (hs0_2 ch t) (ms0_3 ch t) (hs0_3 ch t) (ms0_4 ch t) (hs0_4 ch t) (Memref.whole cc0_scratch0) (Memref.isWhole_whole _)

set_option maxHeartbeats 4000000 in
/-- The body's obligation at a tile with tokens past its first half, at the first half of the hidden width. -/
theorem sound_dense0 (c : Dev nD) (t : Fin (cfgA ch).N) (q1 : P1 ch (crd ch t)) (q5 : ¬P5 ch (crd ch t)) (q10 : ¬P10 ch (crd ch t)) (ht : t.val % 2 = 0) :
    iprop((dats ch m ρ 0 c).Φ t.castSucc ∗ (dats ch m ρ 0 c).owesAt () t.castSucc
        ∗ (∃ d, owns (c : Thread nD τ) (ms0_0 ch t) fullShare ((dats ch m ρ 0 c).before (0 : Fin 5) t d))
        ∗ (∃ d, owns (c : Thread nD τ) (ms0_1 ch t) fullShare ((dats ch m ρ 0 c).before (1 : Fin 5) t d))
        ∗ (∃ d, owns (c : Thread nD τ) (ms0_2 ch t) fullShare ((dats ch m ρ 0 c).before (2 : Fin 5) t d))
        ∗ (∃ d, owns (c : Thread nD τ) (ms0_3 ch t) fullShare ((dats ch m ρ 0 c).before (3 : Fin 5) t d))
        ∗ (∃ d, owns (c : Thread nD τ) (ms0_4 ch t) fullShare ((dats ch m ρ 0 c).before (4 : Fin 5) t d)))
      ⊢ wp frame (wpE (defs₀ (F := Bits)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  have qh : (crd ch t 1).val = 0 := (crd_val t).2.trans ht
  have i4 : (cfgA ch).idle (4 : Fin 5) ((cfgA ch).grid.coords t) = true := by rw [idle4]; rw [qh]; rfl
  have f4 : ((cfgA ch).win (4 : Fin 5)).flush t = false := by rw [flush4, ht]; rfl
  rw [bigSep_W0]
  rewrite [i4]
  simp only [before0_0, before0_1, before0_2, before0_3, before0_4, after0_0, after0_1, after0_2, after0_3, after0_4, f4]
  rewrite [show (dats ch m ρ 0 c).Φ t.succ = Phi ch m ρ c t.succ from rfl, show (dats ch m ρ 0 c).Φ t.castSucc = Phi ch m ρ c t.castSucc from rfl,
    show (dats ch m ρ 0 c).owesAt () t.succ = (dats ch m ρ 0 c).owesAt () t.castSucc from rfl]
  unfold Phi RelScr
  iintro ⟨⟨⟨%a0, %ha0, HS0⟩, HT0, HT1, HT2⟩, Ho, ⟨%d0, H0⟩, ⟨%d1, H1⟩, ⟨%d2, H2⟩, ⟨%d3, H3⟩, ⟨%d4, H4⟩⟩
  iapply ((dense0 c (crd ch t) (ms0_0 ch t) (hs0_0 ch t) (ms0_1 ch t) (hs0_1 ch t) (ms0_2 ch t) (hs0_2 ch t) (ms0_3 ch t) (hs0_3 ch t) (ms0_4 ch t) (hs0_4 ch t) ch.T0 ch.T1 ch.T2 (iblk ch m ρ c (0 : Fin 5) t) (iblk ch m ρ c (1 : Fin 5) t) (iblk ch m ρ c (2 : Fin 5) t) (iblk ch m ρ c (3 : Fin 5) t) a0 (by rw [w1_eq ch, w2_eq ch (crd ch t)]; exact q1) (by rw [w1_eq ch, w2_eq ch (crd ch t)]; exact q5) (by rw [w1_eq ch]; exact q10) qh).2 _ _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [HT2]; · iexact HT2
  isplitl [H4]; · iexact H4
  isplitl [HS0]; · iexact HS0
  iintro ⟨H0, H1, H2, H3, HT0, HT1, HT2, H4, HS0⟩
  isplitl [HS0 HT0 HT1 HT2]
  · isplitl [HS0]
    · iexists _; isplitr; swap
      · iexact HS0
      · ipureintro; intro hn
        rw [prevPt_succ ch t]
        exact ⟨(fun _ => dense0_scr c (crd ch t) (ms0_0 ch t) (hs0_0 ch t) (ms0_1 ch t) (hs0_1 ch t) (ms0_2 ch t) (hs0_2 ch t) (ms0_3 ch t) (hs0_3 ch t) (ms0_4 ch t) (hs0_4 ch t) ch.T0 ch.T1 ch.T2 (iblk ch m ρ c (0 : Fin 5) t) (iblk ch m ρ c (1 : Fin 5) t) (iblk ch m ρ c (2 : Fin 5) t) (iblk ch m ρ c (3 : Fin 5) t) a0 (by rw [w1_eq ch, w2_eq ch (crd ch t)]; exact q1) (by rw [w1_eq ch, w2_eq ch (crd ch t)]; exact q5) (by rw [w1_eq ch]; exact q10) qh), (fun q => absurd q q5)⟩
    isplitl [HT0]
    · iexact HT0
    isplitl [HT1]
    · iexact HT1
    iexact HT2
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  iexists d4; iexact H4

set_option maxHeartbeats 4000000 in
/-- The body's obligation at a tile with tokens past its first half, at the second half of the hidden width. -/
theorem sound_dense1 (c : Dev nD) (t : Fin (cfgA ch).N) (q1 : P1 ch (crd ch t)) (q5 : ¬P5 ch (crd ch t)) (q10 : ¬P10 ch (crd ch t)) (ht : t.val % 2 = 1) :
    iprop((dats ch m ρ 0 c).Φ t.castSucc ∗ (dats ch m ρ 0 c).owesAt () t.castSucc
        ∗ (∃ d, owns (c : Thread nD τ) (ms0_0 ch t) fullShare ((dats ch m ρ 0 c).before (0 : Fin 5) t d))
        ∗ (∃ d, owns (c : Thread nD τ) (ms0_1 ch t) fullShare ((dats ch m ρ 0 c).before (1 : Fin 5) t d))
        ∗ (∃ d, owns (c : Thread nD τ) (ms0_2 ch t) fullShare ((dats ch m ρ 0 c).before (2 : Fin 5) t d))
        ∗ (∃ d, owns (c : Thread nD τ) (ms0_3 ch t) fullShare ((dats ch m ρ 0 c).before (3 : Fin 5) t d))
        ∗ (∃ d, owns (c : Thread nD τ) (ms0_4 ch t) fullShare ((dats ch m ρ 0 c).before (4 : Fin 5) t d)))
      ⊢ wp frame (wpE (defs₀ (F := Bits)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  have qh : (crd ch t 1).val = 1 := (crd_val t).2.trans ht
  have i4 : (cfgA ch).idle (4 : Fin 5) ((cfgA ch).grid.coords t) = false := by rw [idle4]; rw [qh]; rfl
  have f4 : ((cfgA ch).win (4 : Fin 5)).flush t = true := by rw [flush4, ht]; rfl
  rw [bigSep_W0]
  rewrite [i4]
  simp only [before0_0, before0_1, before0_2, before0_3, before0_4, after0_0, after0_1, after0_2, after0_3, after0_4, f4]
  rewrite [show (dats ch m ρ 0 c).Φ t.succ = Phi ch m ρ c t.succ from rfl, show (dats ch m ρ 0 c).Φ t.castSucc = Phi ch m ρ c t.castSucc from rfl,
    show (dats ch m ρ 0 c).owesAt () t.succ = (dats ch m ρ 0 c).owesAt () t.castSucc from rfl]
  unfold Phi RelScr
  iintro ⟨⟨⟨%a0, %ha0, HS0⟩, HT0, HT1, HT2⟩, Ho, ⟨%d0, H0⟩, ⟨%d1, H1⟩, ⟨%d2, H2⟩, ⟨%d3, H3⟩, ⟨%d4, H4⟩⟩
  iapply ((dense1 c (crd ch t) (ms0_0 ch t) (hs0_0 ch t) (ms0_1 ch t) (hs0_1 ch t) (ms0_2 ch t) (hs0_2 ch t) (ms0_3 ch t) (hs0_3 ch t) (ms0_4 ch t) (hs0_4 ch t) ch.T0 ch.T1 ch.T2 (iblk ch m ρ c (0 : Fin 5) t) (iblk ch m ρ c (1 : Fin 5) t) (iblk ch m ρ c (2 : Fin 5) t) (iblk ch m ρ c (3 : Fin 5) t) a0 (by rw [w1_eq ch, w2_eq ch (crd ch t)]; exact q1) (by rw [w1_eq ch, w2_eq ch (crd ch t)]; exact q5) (by rw [w1_eq ch]; exact q10) qh).2.2 _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [HT2]; · iexact HT2
  isplitl [H4]; · iexists _; iexact H4
  isplitl [HS0]; · iexact HS0
  iintro ⟨H0, H1, H2, H3, HT0, HT1, HT2, ⟨%e4, H4⟩, HS0⟩
  isplitl [HS0 HT0 HT1 HT2]
  · isplitl [HS0]
    · iexists _; isplitr; swap
      · iexact HS0
      · ipureintro; intro hn; exact absurd hn (by rw [Fin.val_succ]; omega)
    isplitl [HT0]
    · iexact HT0
    isplitl [HT1]
    · iexact HT1
    iexact HT2
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  unfold owns; iexists _; isplitr; swap
  · iexact H4
  · ipureintro
    exact (dense1_out c (crd ch t) (ms0_0 ch t) (hs0_0 ch t) (ms0_1 ch t) (hs0_1 ch t) (ms0_2 ch t) (hs0_2 ch t) (ms0_3 ch t) (hs0_3 ch t) (ms0_4 ch t) (hs0_4 ch t) ch.T0 ch.T1 ch.T2 (iblk ch m ρ c (0 : Fin 5) t) (iblk ch m ρ c (1 : Fin 5) t) (iblk ch m ρ c (2 : Fin 5) t) (iblk ch m ρ c (3 : Fin 5) t) a0 (by rw [w1_eq ch, w2_eq ch (crd ch t)]; exact q1) (by rw [w1_eq ch, w2_eq ch (crd ch t)]; exact q5) (by rw [w1_eq ch]; exact q10) qh _ _).trans (by
      rw [((ha0 (by rw [Fin.val_castSucc]; omega)).1 ((P1_congr ch _ _ (back_val t ht)).2 q1)), outAt_1 ch m ρ c t q1]; rfl)

set_option maxHeartbeats 4000000 in
/-- The body's obligation at a tile with tokens in its first half only, at the first half of the hidden width. -/
theorem sound_sparse0 (c : Dev nD) (t : Fin (cfgA ch).N) (q1 : ¬P1 ch (crd ch t)) (q5 : P5 ch (crd ch t)) (q10 : ¬P10 ch (crd ch t)) (ht : t.val % 2 = 0) :
    iprop((dats ch m ρ 0 c).Φ t.castSucc ∗ (dats ch m ρ 0 c).owesAt () t.castSucc
        ∗ (∃ d, owns (c : Thread nD τ) (ms0_0 ch t) fullShare ((dats ch m ρ 0 c).before (0 : Fin 5) t d))
        ∗ (∃ d, owns (c : Thread nD τ) (ms0_1 ch t) fullShare ((dats ch m ρ 0 c).before (1 : Fin 5) t d))
        ∗ (∃ d, owns (c : Thread nD τ) (ms0_2 ch t) fullShare ((dats ch m ρ 0 c).before (2 : Fin 5) t d))
        ∗ (∃ d, owns (c : Thread nD τ) (ms0_3 ch t) fullShare ((dats ch m ρ 0 c).before (3 : Fin 5) t d))
        ∗ (∃ d, owns (c : Thread nD τ) (ms0_4 ch t) fullShare ((dats ch m ρ 0 c).before (4 : Fin 5) t d)))
      ⊢ wp frame (wpE (defs₀ (F := Bits)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  have qh : (crd ch t 1).val = 0 := (crd_val t).2.trans ht
  have i4 : (cfgA ch).idle (4 : Fin 5) ((cfgA ch).grid.coords t) = true := by rw [idle4]; rw [qh]; rfl
  have f4 : ((cfgA ch).win (4 : Fin 5)).flush t = false := by rw [flush4, ht]; rfl
  rw [bigSep_W0]
  rewrite [i4]
  simp only [before0_0, before0_1, before0_2, before0_3, before0_4, after0_0, after0_1, after0_2, after0_3, after0_4, f4]
  rewrite [show (dats ch m ρ 0 c).Φ t.succ = Phi ch m ρ c t.succ from rfl, show (dats ch m ρ 0 c).Φ t.castSucc = Phi ch m ρ c t.castSucc from rfl,
    show (dats ch m ρ 0 c).owesAt () t.succ = (dats ch m ρ 0 c).owesAt () t.castSucc from rfl]
  unfold Phi RelScr
  iintro ⟨⟨⟨%a0, %ha0, HS0⟩, HT0, HT1, HT2⟩, Ho, ⟨%d0, H0⟩, ⟨%d1, H1⟩, ⟨%d2, H2⟩, ⟨%d3, H3⟩, ⟨%d4, H4⟩⟩
  iapply ((sparse0 c (crd ch t) (ms0_0 ch t) (hs0_0 ch t) (ms0_1 ch t) (hs0_1 ch t) (ms0_2 ch t) (hs0_2 ch t) (ms0_3 ch t) (hs0_3 ch t) (ms0_4 ch t) (hs0_4 ch t) ch.T0 ch.T1 ch.T2 (iblk ch m ρ c (0 : Fin 5) t) (iblk ch m ρ c (1 : Fin 5) t) (iblk ch m ρ c (2 : Fin 5) t) (iblk ch m ρ c (3 : Fin 5) t) a0 (by rw [w1_eq ch, w2_eq ch (crd ch t)]; exact q1) (by rw [w1_eq ch, w2_eq ch (crd ch t)]; exact q5) (by rw [w1_eq ch]; exact q10) qh).2 _ _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [HT2]; · iexact HT2
  isplitl [H4]; · iexact H4
  isplitl [HS0]; · iexact HS0
  iintro ⟨H0, H1, H2, H3, HT0, HT1, HT2, H4, HS0⟩
  isplitl [HS0 HT0 HT1 HT2]
  · isplitl [HS0]
    · iexists _; isplitr; swap
      · iexact HS0
      · ipureintro; intro hn
        rw [prevPt_succ ch t]
        exact ⟨(fun q => absurd q q1), (fun _ => sparse0_scr c (crd ch t) (ms0_0 ch t) (hs0_0 ch t) (ms0_1 ch t) (hs0_1 ch t) (ms0_2 ch t) (hs0_2 ch t) (ms0_3 ch t) (hs0_3 ch t) (ms0_4 ch t) (hs0_4 ch t) ch.T0 ch.T1 ch.T2 (iblk ch m ρ c (0 : Fin 5) t) (iblk ch m ρ c (1 : Fin 5) t) (iblk ch m ρ c (2 : Fin 5) t) (iblk ch m ρ c (3 : Fin 5) t) a0 (by rw [w1_eq ch, w2_eq ch (crd ch t)]; exact q1) (by rw [w1_eq ch, w2_eq ch (crd ch t)]; exact q5) (by rw [w1_eq ch]; exact q10) qh)⟩
    isplitl [HT0]
    · iexact HT0
    isplitl [HT1]
    · iexact HT1
    iexact HT2
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  iexists d4; iexact H4

set_option maxHeartbeats 4000000 in
/-- The body's obligation at a tile with tokens in its first half only, at the second half of the hidden width. -/
theorem sound_sparse1 (c : Dev nD) (t : Fin (cfgA ch).N) (q1 : ¬P1 ch (crd ch t)) (q5 : P5 ch (crd ch t)) (q10 : ¬P10 ch (crd ch t)) (ht : t.val % 2 = 1) :
    iprop((dats ch m ρ 0 c).Φ t.castSucc ∗ (dats ch m ρ 0 c).owesAt () t.castSucc
        ∗ (∃ d, owns (c : Thread nD τ) (ms0_0 ch t) fullShare ((dats ch m ρ 0 c).before (0 : Fin 5) t d))
        ∗ (∃ d, owns (c : Thread nD τ) (ms0_1 ch t) fullShare ((dats ch m ρ 0 c).before (1 : Fin 5) t d))
        ∗ (∃ d, owns (c : Thread nD τ) (ms0_2 ch t) fullShare ((dats ch m ρ 0 c).before (2 : Fin 5) t d))
        ∗ (∃ d, owns (c : Thread nD τ) (ms0_3 ch t) fullShare ((dats ch m ρ 0 c).before (3 : Fin 5) t d))
        ∗ (∃ d, owns (c : Thread nD τ) (ms0_4 ch t) fullShare ((dats ch m ρ 0 c).before (4 : Fin 5) t d)))
      ⊢ wp frame (wpE (defs₀ (F := Bits)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  have qh : (crd ch t 1).val = 1 := (crd_val t).2.trans ht
  have i4 : (cfgA ch).idle (4 : Fin 5) ((cfgA ch).grid.coords t) = false := by rw [idle4]; rw [qh]; rfl
  have f4 : ((cfgA ch).win (4 : Fin 5)).flush t = true := by rw [flush4, ht]; rfl
  rw [bigSep_W0]
  rewrite [i4]
  simp only [before0_0, before0_1, before0_2, before0_3, before0_4, after0_0, after0_1, after0_2, after0_3, after0_4, f4]
  rewrite [show (dats ch m ρ 0 c).Φ t.succ = Phi ch m ρ c t.succ from rfl, show (dats ch m ρ 0 c).Φ t.castSucc = Phi ch m ρ c t.castSucc from rfl,
    show (dats ch m ρ 0 c).owesAt () t.succ = (dats ch m ρ 0 c).owesAt () t.castSucc from rfl]
  unfold Phi RelScr
  iintro ⟨⟨⟨%a0, %ha0, HS0⟩, HT0, HT1, HT2⟩, Ho, ⟨%d0, H0⟩, ⟨%d1, H1⟩, ⟨%d2, H2⟩, ⟨%d3, H3⟩, ⟨%d4, H4⟩⟩
  iapply ((sparse1 c (crd ch t) (ms0_0 ch t) (hs0_0 ch t) (ms0_1 ch t) (hs0_1 ch t) (ms0_2 ch t) (hs0_2 ch t) (ms0_3 ch t) (hs0_3 ch t) (ms0_4 ch t) (hs0_4 ch t) ch.T0 ch.T1 ch.T2 (iblk ch m ρ c (0 : Fin 5) t) (iblk ch m ρ c (1 : Fin 5) t) (iblk ch m ρ c (2 : Fin 5) t) (iblk ch m ρ c (3 : Fin 5) t) a0 (by rw [w1_eq ch, w2_eq ch (crd ch t)]; exact q1) (by rw [w1_eq ch, w2_eq ch (crd ch t)]; exact q5) (by rw [w1_eq ch]; exact q10) qh).2.2 _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [HT2]; · iexact HT2
  isplitl [H4]; · iexists _; iexact H4
  isplitl [HS0]; · iexact HS0
  iintro ⟨H0, H1, H2, H3, HT0, HT1, HT2, ⟨%e4, H4⟩, HS0⟩
  isplitl [HS0 HT0 HT1 HT2]
  · isplitl [HS0]
    · iexists _; isplitr; swap
      · iexact HS0
      · ipureintro; intro hn; exact absurd hn (by rw [Fin.val_succ]; omega)
    isplitl [HT0]
    · iexact HT0
    isplitl [HT1]
    · iexact HT1
    iexact HT2
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  unfold owns; iexists _; isplitr; swap
  · iexact H4
  · ipureintro
    exact (sparse1_out c (crd ch t) (ms0_0 ch t) (hs0_0 ch t) (ms0_1 ch t) (hs0_1 ch t) (ms0_2 ch t) (hs0_2 ch t) (ms0_3 ch t) (hs0_3 ch t) (ms0_4 ch t) (hs0_4 ch t) ch.T0 ch.T1 ch.T2 (iblk ch m ρ c (0 : Fin 5) t) (iblk ch m ρ c (1 : Fin 5) t) (iblk ch m ρ c (2 : Fin 5) t) (iblk ch m ρ c (3 : Fin 5) t) a0 (by rw [w1_eq ch, w2_eq ch (crd ch t)]; exact q1) (by rw [w1_eq ch, w2_eq ch (crd ch t)]; exact q5) (by rw [w1_eq ch]; exact q10) qh _ _).trans (by
      rw [((ha0 (by rw [Fin.val_castSucc]; omega)).2 ((P5_congr ch _ _ (back_val t ht)).2 q5)), outAt_5 ch m ρ c t q1 q5]; rfl)

set_option maxHeartbeats 4000000 in
/-- The body's obligation at an unused tile at the first half. -/
theorem sound_idle0 (c : Dev nD) (t : Fin (cfgA ch).N) (q1 : ¬P1 ch (crd ch t)) (q5 : ¬P5 ch (crd ch t)) (q10 : ¬P10 ch (crd ch t)) (ht : t.val % 2 = 0) :
    iprop((dats ch m ρ 0 c).Φ t.castSucc ∗ (dats ch m ρ 0 c).owesAt () t.castSucc
        ∗ (∃ d, owns (c : Thread nD τ) (ms0_0 ch t) fullShare ((dats ch m ρ 0 c).before (0 : Fin 5) t d))
        ∗ (∃ d, owns (c : Thread nD τ) (ms0_1 ch t) fullShare ((dats ch m ρ 0 c).before (1 : Fin 5) t d))
        ∗ (∃ d, owns (c : Thread nD τ) (ms0_2 ch t) fullShare ((dats ch m ρ 0 c).before (2 : Fin 5) t d))
        ∗ (∃ d, owns (c : Thread nD τ) (ms0_3 ch t) fullShare ((dats ch m ρ 0 c).before (3 : Fin 5) t d))
        ∗ (∃ d, owns (c : Thread nD τ) (ms0_4 ch t) fullShare ((dats ch m ρ 0 c).before (4 : Fin 5) t d)))
      ⊢ wp frame (wpE (defs₀ (F := Bits)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  have qh : (crd ch t 1).val = 0 := (crd_val t).2.trans ht
  have i4 : (cfgA ch).idle (4 : Fin 5) ((cfgA ch).grid.coords t) = true := by rw [idle4]; rw [qh]; rfl
  have f4 : ((cfgA ch).win (4 : Fin 5)).flush t = false := by rw [flush4, ht]; rfl
  rw [bigSep_W0]
  rewrite [i4]
  simp only [before0_0, before0_1, before0_2, before0_3, before0_4, after0_0, after0_1, after0_2, after0_3, after0_4, f4]
  rewrite [show (dats ch m ρ 0 c).Φ t.succ = Phi ch m ρ c t.succ from rfl, show (dats ch m ρ 0 c).Φ t.castSucc = Phi ch m ρ c t.castSucc from rfl,
    show (dats ch m ρ 0 c).owesAt () t.succ = (dats ch m ρ 0 c).owesAt () t.castSucc from rfl]
  unfold Phi RelScr
  iintro ⟨⟨⟨%a0, %ha0, HS0⟩, HT0, HT1, HT2⟩, Ho, ⟨%d0, H0⟩, ⟨%d1, H1⟩, ⟨%d2, H2⟩, ⟨%d3, H3⟩, ⟨%d4, H4⟩⟩
  iapply ((idle0 c (crd ch t) (ms0_0 ch t) (hs0_0 ch t) (ms0_1 ch t) (hs0_1 ch t) (ms0_2 ch t) (hs0_2 ch t) (ms0_3 ch t) (hs0_3 ch t) (ms0_4 ch t) (hs0_4 ch t) ch.T0 ch.T1 ch.T2 (iblk ch m ρ c (0 : Fin 5) t) (iblk ch m ρ c (1 : Fin 5) t) (iblk ch m ρ c (2 : Fin 5) t) (iblk ch m ρ c (3 : Fin 5) t) a0 (by rw [w1_eq ch, w2_eq ch (crd ch t)]; exact q1) (by rw [w1_eq ch, w2_eq ch (crd ch t)]; exact q5) (by rw [w1_eq ch]; exact q10) qh).2 _ _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [HT2]; · iexact HT2
  isplitl [H4]; · iexact H4
  isplitl [HS0]; · iexact HS0
  iintro ⟨H0, H1, H2, H3, HT0, HT1, HT2, H4, HS0⟩
  isplitl [HS0 HT0 HT1 HT2]
  · isplitl [HS0]
    · iexists _; isplitr; swap
      · iexact HS0
      · ipureintro; intro hn
        rw [prevPt_succ ch t]
        exact ⟨(fun q => absurd q q1), (fun q => absurd q q5)⟩
    isplitl [HT0]
    · iexact HT0
    isplitl [HT1]
    · iexact HT1
    iexact HT2
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  iexists d4; iexact H4

set_option maxHeartbeats 4000000 in
/-- The body's obligation at an unused tile at the second half. -/
theorem sound_idle1 (c : Dev nD) (t : Fin (cfgA ch).N) (q1 : ¬P1 ch (crd ch t)) (q5 : ¬P5 ch (crd ch t)) (q10 : P10 ch (crd ch t)) (ht : t.val % 2 = 1) :
    iprop((dats ch m ρ 0 c).Φ t.castSucc ∗ (dats ch m ρ 0 c).owesAt () t.castSucc
        ∗ (∃ d, owns (c : Thread nD τ) (ms0_0 ch t) fullShare ((dats ch m ρ 0 c).before (0 : Fin 5) t d))
        ∗ (∃ d, owns (c : Thread nD τ) (ms0_1 ch t) fullShare ((dats ch m ρ 0 c).before (1 : Fin 5) t d))
        ∗ (∃ d, owns (c : Thread nD τ) (ms0_2 ch t) fullShare ((dats ch m ρ 0 c).before (2 : Fin 5) t d))
        ∗ (∃ d, owns (c : Thread nD τ) (ms0_3 ch t) fullShare ((dats ch m ρ 0 c).before (3 : Fin 5) t d))
        ∗ (∃ d, owns (c : Thread nD τ) (ms0_4 ch t) fullShare ((dats ch m ρ 0 c).before (4 : Fin 5) t d)))
      ⊢ wp frame (wpE (defs₀ (F := Bits)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  have qh : (crd ch t 1).val = 1 := (crd_val t).2.trans ht
  have i4 : (cfgA ch).idle (4 : Fin 5) ((cfgA ch).grid.coords t) = false := by rw [idle4]; rw [qh]; rfl
  have f4 : ((cfgA ch).win (4 : Fin 5)).flush t = true := by rw [flush4, ht]; rfl
  rw [bigSep_W0]
  rewrite [i4]
  simp only [before0_0, before0_1, before0_2, before0_3, before0_4, after0_0, after0_1, after0_2, after0_3, after0_4, f4]
  rewrite [show (dats ch m ρ 0 c).Φ t.succ = Phi ch m ρ c t.succ from rfl, show (dats ch m ρ 0 c).Φ t.castSucc = Phi ch m ρ c t.castSucc from rfl,
    show (dats ch m ρ 0 c).owesAt () t.succ = (dats ch m ρ 0 c).owesAt () t.castSucc from rfl]
  unfold Phi RelScr
  iintro ⟨⟨⟨%a0, %ha0, HS0⟩, HT0, HT1, HT2⟩, Ho, ⟨%d0, H0⟩, ⟨%d1, H1⟩, ⟨%d2, H2⟩, ⟨%d3, H3⟩, ⟨%d4, H4⟩⟩
  iapply ((idle1 c (crd ch t) (ms0_0 ch t) (hs0_0 ch t) (ms0_1 ch t) (hs0_1 ch t) (ms0_2 ch t) (hs0_2 ch t) (ms0_3 ch t) (hs0_3 ch t) (ms0_4 ch t) (hs0_4 ch t) ch.T0 ch.T1 ch.T2 (iblk ch m ρ c (0 : Fin 5) t) (iblk ch m ρ c (1 : Fin 5) t) (iblk ch m ρ c (2 : Fin 5) t) (iblk ch m ρ c (3 : Fin 5) t) a0 (by rw [w1_eq ch, w2_eq ch (crd ch t)]; exact q1) (by rw [w1_eq ch, w2_eq ch (crd ch t)]; exact q5) (by rw [w1_eq ch]; exact q10) qh).2.2 _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [HT2]; · iexact HT2
  isplitl [H4]; · iexists _; iexact H4
  isplitl [HS0]; · iexact HS0
  iintro ⟨H0, H1, H2, H3, HT0, HT1, HT2, ⟨%e4, H4⟩, HS0⟩
  isplitl [HS0 HT0 HT1 HT2]
  · isplitl [HS0]
    · iexists _; isplitr; swap
      · iexact HS0
      · ipureintro; intro hn; exact absurd hn (by rw [Fin.val_succ]; omega)
    isplitl [HT0]
    · iexact HT0
    isplitl [HT1]
    · iexact HT1
    iexact HT2
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  unfold owns; iexists _; isplitr; swap
  · iexact H4
  · ipureintro
    exact (idle1_out c (crd ch t) (ms0_0 ch t) (hs0_0 ch t) (ms0_1 ch t) (hs0_1 ch t) (ms0_2 ch t) (hs0_2 ch t) (ms0_3 ch t) (hs0_3 ch t) (ms0_4 ch t) (hs0_4 ch t) ch.T0 ch.T1 ch.T2 (iblk ch m ρ c (0 : Fin 5) t) (iblk ch m ρ c (1 : Fin 5) t) (iblk ch m ρ c (2 : Fin 5) t) (iblk ch m ρ c (3 : Fin 5) t) a0 (by rw [w1_eq ch, w2_eq ch (crd ch t)]; exact q1) (by rw [w1_eq ch, w2_eq ch (crd ch t)]; exact q5) (by rw [w1_eq ch]; exact q10) qh _ _).trans (outAt_no ch m ρ c t q1 q5).symm

/-- The body's obligation at any point: by the tile's condition and the half. -/
theorem sound_body (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 5) t d))
        ∗ (∃ d, owns (c : Thread nD τ) (ms0_1 ch t) fullShare ((dats ch m ρ 0 c).before (1 : Fin 5) t d))
        ∗ (∃ d, owns (c : Thread nD τ) (ms0_2 ch t) fullShare ((dats ch m ρ 0 c).before (2 : Fin 5) t d))
        ∗ (∃ d, owns (c : Thread nD τ) (ms0_3 ch t) fullShare ((dats ch m ρ 0 c).before (3 : Fin 5) t d))
        ∗ (∃ d, owns (c : Thread nD τ) (ms0_4 ch t) fullShare ((dats ch m ρ 0 c).before (4 : Fin 5) t d)))
      ⊢ wp frame (wpE (defs₀ (F := Bits)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rcases Nat.mod_two_eq_zero_or_one t.val with ht | ht
  · have qh : (crd ch t 1).val = 0 := (crd_val t).2.trans ht
    have q10 := not10_half0 ch (crd ch t) qh
    by_cases q1 : P1 ch (crd ch t)
    · exact sound_dense0 ch m ρ c t q1 (excl ch _ q1) q10 ht
    · by_cases q5 : P5 ch (crd ch t)
      · exact sound_sparse0 ch m ρ c t q1 q5 q10 ht
      · exact sound_idle0 ch m ρ c t q1 q5 q10 ht
  · have qh : (crd ch t 1).val = 1 := (crd_val t).2.trans ht
    by_cases q1 : P1 ch (crd ch t)
    · exact sound_dense1 ch m ρ c t q1 (excl ch _ q1) (not10_of1 ch _ q1) ht
    · by_cases q5 : P5 ch (crd ch t)
      · exact sound_sparse1 ch m ρ c t q1 q5 (not10_of5 ch _ q5) ht
      · exact sound_idle1 ch m ρ c t q1 q5 (is10 ch _ q1 q5 qh) ht

/-- The library's body obligation, at every point. -/
theorem body_obligation (c : Dev nD) : BodyObligation (dats ch m ρ 0 c) (defs₀ (F := Bits)) Variants.none () Set.univ := fun t => by
  rw [bigSep_W0]
  exact sound_body ch m ρ c t

/-! ## The launch -/

/-- The rounds library's launch element. -/
def u₀ : UR sig nD τ :=
  initOf (Pipeline.cells (pcs ch) ((launch0 (F := Bits)).cellOf_inj fun _ => adm ch))
    (Pipeline.launchToks (pcs ch) ((launch0 (F := Bits)).cellOf_inj fun _ => adm ch))

theorem share_eq (c : Dev nD) (w : Fin (cfgA ch).W) : (dats ch m ρ 0 c).share w = fullShare := by unfold Dat.share; split <;> rfl

/-- The tables as the launch hands them to the region, one by one. -/
theorem prefHeld_eq (c : Dev nD) (q : Fin 3 → PosShare TreeShare) (v : pre0.Contents (Elt Bits)) :
    (Pipeline.prefHeld (Ix := Unit) (Name := ℕ) (U := UR sig nD τ) (Lvl := ℕ) pre0 c q v : sProp (MT nD τ sig Unit (Elt Bits) ℕ (UR sig nD τ) ℕ))
      = iprop((((c : Thread nD τ).loc main_arg0) ↦{q 0} v 0) ∗ (((c : Thread nD τ).loc main_arg1) ↦{q 1} v 1) ∗ (((c : Thread nD τ).loc main_arg2) ↦{q 2} v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

/-- The invariant at the first point from the tables and the scratch buffers (`hin`); -/
theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0, HT1, HT2⟩, ⟨%a0, HS0⟩⟩
  isplitl [HS0]
  · iexists a0; isplitr; swap
    · iexact HS0
    · ipureintro; intro h; exact absurd (show (0 : ℕ) % 2 = 1 from h) (by decide)
  isplitl [HT0]
  · iexact HT0
  isplitl [HT1]
  · iexact HT1
  iexact HT2

/-- at the last point it gives the scratch buffers back (`hout`), the tables let go. -/
theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨⟨%a0, -, HS0⟩, -, -, -⟩
  isplitr; · iempintro
  iexists a0; iexact HS0

/-- The physical post: every array at what the library computes, every table at what the pipeline ran at. -/
def QC : PUnit × MemSt nD τ sig (Elt Bits) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

theorem V_pre (hp : Pinned ch m) (c : Dev nD) (j : Fin 3) : m ((c : Thread nD τ).loc (pre0.ref j)) = (adm ch).1 j := by
  fin_cases j
  · exact hp.1 c
  · exact hp.2.1 c
  · exact hp.2.2 c

set_option backward.isDefEq.respectTransparency.types false in
set_option maxHeartbeats 4000000 in
/-- At the compiled mesh, from any memory with zero counters whose tables and steering words are member `ch`'s: every weakly
    fair execution of @main on the TensorCores terminates, and every final state has each array at the computed contents,
    and every semaphore counter of the machine at zero. -/
theorem run_main_quiescent (hp : Pinned ch m) : θ_run (defs (F := Bits)) (onTc (τ := τ) (main (F := Bits))) (s₀ m ρ) (fun r => QC ch m ρ r ∧ r.2.sem = fun _ => 0) :=
  Pipeline.θ_run_region_noSem_pf_quiescent pcfgs (fun _ => adm ch) (dats ch m ρ) () ((launch0 (F := Bits)).cellOf_inj fun _ => adm ch) (0 : Fin 1)
    (launch0 (F := Bits)).win.to₀ (launch0 (F := Bits)).pre EP defs₀ Variants.none m ρ main
    (hbody := fun c => (body_obligation ch m ρ c).loose) (hne := (launch0 (F := Bits)).block_pos)
    (harr := (launch0 (F := Bits)).arr_whole) (hstage := (launch0 (F := Bits)).stage_whole) (howed := fun _ _ => rfl)
    (u₀ := u₀ ch) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs ch) (dats ch m ρ) 0 (launch0 (F := Bits)).win.arr_inj c (launch0 (F := Bits)).arr_whole
      (share_eq ch m ρ c) _ _ fun _ => rfl)
    (hpf := V_pre ch m hp)
    (X := fun _ => iprop(emp)) (Y := fun _ => iprop(emp)) (Z := fun _ => iprop(emp))
    (hX := fun c => by rw [unscopedRestP0_eq]; iintro -; isplitr <;> iempintro)
    (hin := phi0_intro ch m ρ)
    (hout := phiN_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Pinned ch m) : θ_run (defs (F := Bits)) (onTc (τ := τ) (main (F := Bits))) (s₀ m ρ) (QC ch m ρ) :=
  (θ_run defs _ _).mono (fun _ h => h.1) (run_main_quiescent ch m ρ hp)

/-- `frame` without the counters: the argument arrays end unchanged. -/
theorem unchanged (hp : Pinned ch m) :
    θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 0).trans (hp.1 c).symm, ((h c).2 1).trans (hp.2.1 c).symm, ((h c).2 2).trans (hp.2.2 c).symm, ((h c).1 (0 : Fin 5)).trans ((dats ch m ρ 0 c).arrAt_in (0 : Fin 5) rfl _), ((h c).1 (1 : Fin 5)).trans ((dats ch m ρ 0 c).arrAt_in (1 : Fin 5) rfl _), ((h c).1 (2 : Fin 5)).trans ((dats ch m ρ 0 c).arrAt_in (2 : Fin 5) rfl _), ((h c).1 (3 : Fin 5)).trans ((dats ch m ρ 0 c).arrAt_in (3 : Fin 5) rfl _)⟩) (run_main ch m ρ hp)

/-- The frame at the tables. -/
theorem frame (hp : Pinned ch m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged ch m ρ hp) ((θ_run defs _ _).mono (fun _ h => h.2) (run_main_quiescent ch m ρ hp))

end Cert.Kernel2.Expert

end
-- ==== Proof.IRun.lean ====
module

public import proofs.«01_k».proof.Proof.Gen.Kernel2Ideal.Skeleton
public import proofs.«01_k».proof.Proof.Gen.Kernel2Ideal.Launch
public import proofs.«01_k».proof.Defs
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Kernel2Ideal.Expert

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The tables and the scratch the kernel is handed, whole, at their literal types. -/
abbrev tbM0_0 : Memref sig .tc .smem S72 .i32 := Memref.whole main_arg0
abbrev tbM0_1 : Memref sig .tc .smem S1 .i32 := Memref.whole main_arg1
abbrev tbM0_2 : Memref sig .tc .smem S72 .i32 := Memref.whole main_arg2
abbrev scM0_0 : Memref sig .tc .vmem S512x1024 .f32 := Memref.whole cc0_scratch0

set_option backward.proofsInPublic true in
set_option maxHeartbeats 16000000 in
/-- The body at a tile with tokens past its first half, at the first half of the hidden width: what it leaves, with the proof that it runs from the buffers handed to it to the
    continuation holding them so. -/
noncomputable def dense0 (c : Dev nD) (i : grid0.Coords) (arg5 : Memref sig .tc .vmem S4096x128 .f32) (harg5 : arg5.IsWhole) (arg6 : Memref sig .tc .vmem S1x1024x1792 .bf16) (harg6 : arg6.IsWhole) (arg7 : Memref sig .tc .vmem S1x1024x1792 .bf16) (harg7 : arg7.IsWhole) (arg8 : Memref sig .tc .vmem S1x1792x1024 .bf16) (harg8 : arg8.IsWhole) (arg9 : Memref sig .tc .vmem S4096x128 .f32) (harg9 : arg9.IsWhole) (T0 : (S72.Idx → Elt Ideal .i32)) (T1 : (S1.Idx → Elt Ideal .i32)) (T2 : (S72.Idx → Elt Ideal .i32))
    (x0 : (S4096x128.Idx → Elt Ideal .f32)) (x1 : (S1x1024x1792.Idx → Elt Ideal .bf16)) (x2 : (S1x1024x1792.Idx → Elt Ideal .bf16)) (x3 : (S1x1792x1024.Idx → Elt Ideal .bf16)) (xa0 : Buf (Elt Ideal) ((c : Thread nD τ).loc cc0_scratch0))
    (h1 : k0_cond1 i (View.readAt (Elt Ideal) (tbM0_1).view (Rect.unit (s := S1) ![0] S1.size inb_S1_S1_0).toLoadRect T1 (Shape.Idx.first (numel1_S1.symm ▸ Nat.one_pos))) (View.readAt (Elt Ideal) (tbM0_2).view (Rect.unit (s := S72) (k0_off1 i) S1.size (k0_off1_inb i)).toLoadRect T2 (Shape.Idx.first (numel1_S1.symm ▸ Nat.one_pos))) = 1#1) (h5 : ¬(k0_cond5 i (View.readAt (Elt Ideal) (tbM0_1).view (Rect.unit (s := S1) ![0] S1.size inb_S1_S1_0).toLoadRect T1 (Shape.Idx.first (numel1_S1.symm ▸ Nat.one_pos))) (View.readAt (Elt Ideal) (tbM0_2).view (Rect.unit (s := S72) (k0_off1 i) S1.size (k0_off1_inb i)).toLoadRect T2 (Shape.Idx.first (numel1_S1.symm ▸ Nat.one_pos))) = 1#1)) (h10 : ¬(k0_cond10 i (View.readAt (Elt Ideal) (tbM0_1).view (Rect.unit (s := S1) ![0] S1.size inb_S1_S1_0).toLoadRect T1 (Shape.Idx.first (numel1_S1.symm ▸ Nat.one_pos))) = 1#1)) (hi : (i 1).val = 0) :
    { out1 : Buf (Elt Ideal) ((c : Thread nD τ).loc cc0_scratch0) //
      ∀ (y4 : S4096x128.Idx → Elt Ideal .f32) (K : PUnit → sProp (MT nD τ sig Unit (Elt Ideal) ℕ (UR sig nD τ) ℕ)),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ owns (c : Thread nD τ) arg9 fullShare y4
          ∗ (scM0_0.view.loc (c : Thread nD τ) ↦{fullShare} xa0)
          ∗ (iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
              ∗ owns (c : Thread nD τ) arg9 fullShare y4
              ∗ (scM0_0.view.loc (c : Thread nD τ) ↦{fullShare} out1)) -∗ K ⟨⟩))
          ⊢ wp frame (wpE (defs₀ (F := Ideal)) Variants.none c none) Set.univ (cc0_moe_experts i tbM0_0 (Memref.isWhole_whole _) tbM0_1 (Memref.isWhole_whole _) tbM0_2 (Memref.isWhole_whole _) arg5 harg5 arg6 harg6 arg7 harg7 arg8 harg8 arg9 harg9 scM0_0 (Memref.isWhole_whole _)) K } :=
  ⟨_, fun y4 K => by
    skip
    rw [cc0_moe_experts_eq_skeleton]; unfold cc0_moe_experts_skel
    iintro ⟨H0, H1, H2, H3, HT0, HT1, HT2, HO4, HS0, Hk⟩
    have hS0 : scM0_0.IsWhole := Memref.isWhole_whole _
    have hT0 : tbM0_0.IsWhole := Memref.isWhole_whole _
    have hT1 : tbM0_1.IsWhole := Memref.isWhole_whole _
    have hT2 : tbM0_2.IsWhole := Memref.isWhole_whole _
    sl_exec! (disch := first | (guard_target = k0_cond1 _ _ _ = _; exact h1) | (guard_target = ¬(k0_cond5 _ _ _ = _); exact h5) | (guard_target = ¬(k0_cond10 _ _ = _); exact h10) | (simp only [k0_cond4, k0_cond8, k0_cond9, hi]; decide) | (change (Scalar.cmpi .ne (Scalar.extui (Scalar.cmpi .eq (BitVec.ofNat 32 (i 1).val) 0#32)) 0#32 = 1#1); rw [hi]; decide) | (change ¬(Scalar.cmpi .ne (Scalar.extui (Scalar.cmpi .eq (BitVec.ofNat 32 (i 1).val) 0#32)) 0#32 = 1#1); rw [hi]; decide) | (change (Scalar.cmpi .ne (Scalar.extui (Scalar.cmpi .sgt (BitVec.ofNat 32 (i 1).val) 0#32)) 0#32 = 1#1); rw [hi]; decide) | (change ¬(Scalar.cmpi .ne (Scalar.extui (Scalar.cmpi .sgt (BitVec.ofNat 32 (i 1).val) 0#32)) 0#32 = 1#1); rw [hi]; decide))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HT2]; · iexact HT2
    isplitl [HO4]; · iexact HO4
    iexact HS0⟩

set_option backward.proofsInPublic true in
set_option maxHeartbeats 16000000 in
/-- The body at a tile with tokens past its first half, at the second half of the hidden width: what it leaves, with the proof that it runs from the buffers handed to it to the
    continuation holding them so. -/
noncomputable def dense1 (c : Dev nD) (i : grid0.Coords) (arg5 : Memref sig .tc .vmem S4096x128 .f32) (harg5 : arg5.IsWhole) (arg6 : Memref sig .tc .vmem S1x1024x1792 .bf16) (harg6 : arg6.IsWhole) (arg7 : Memref sig .tc .vmem S1x1024x1792 .bf16) (harg7 : arg7.IsWhole) (arg8 : Memref sig .tc .vmem S1x1792x1024 .bf16) (harg8 : arg8.IsWhole) (arg9 : Memref sig .tc .vmem S4096x128 .f32) (harg9 : arg9.IsWhole) (T0 : (S72.Idx → Elt Ideal .i32)) (T1 : (S1.Idx → Elt Ideal .i32)) (T2 : (S72.Idx → Elt Ideal .i32))
    (x0 : (S4096x128.Idx → Elt Ideal .f32)) (x1 : (S1x1024x1792.Idx → Elt Ideal .bf16)) (x2 : (S1x1024x1792.Idx → Elt Ideal .bf16)) (x3 : (S1x1792x1024.Idx → Elt Ideal .bf16)) (xa0 : Buf (Elt Ideal) ((c : Thread nD τ).loc cc0_scratch0))
    (h1 : k0_cond1 i (View.readAt (Elt Ideal) (tbM0_1).view (Rect.unit (s := S1) ![0] S1.size inb_S1_S1_0).toLoadRect T1 (Shape.Idx.first (numel1_S1.symm ▸ Nat.one_pos))) (View.readAt (Elt Ideal) (tbM0_2).view (Rect.unit (s := S72) (k0_off1 i) S1.size (k0_off1_inb i)).toLoadRect T2 (Shape.Idx.first (numel1_S1.symm ▸ Nat.one_pos))) = 1#1) (h5 : ¬(k0_cond5 i (View.readAt (Elt Ideal) (tbM0_1).view (Rect.unit (s := S1) ![0] S1.size inb_S1_S1_0).toLoadRect T1 (Shape.Idx.first (numel1_S1.symm ▸ Nat.one_pos))) (View.readAt (Elt Ideal) (tbM0_2).view (Rect.unit (s := S72) (k0_off1 i) S1.size (k0_off1_inb i)).toLoadRect T2 (Shape.Idx.first (numel1_S1.symm ▸ Nat.one_pos))) = 1#1)) (h10 : ¬(k0_cond10 i (View.readAt (Elt Ideal) (tbM0_1).view (Rect.unit (s := S1) ![0] S1.size inb_S1_S1_0).toLoadRect T1 (Shape.Idx.first (numel1_S1.symm ▸ Nat.one_pos))) = 1#1)) (hi : (i 1).val = 1) :
    Σ' (out0 : List (View.Piece (Elt Ideal) S4096x128 .f32)), { out1 : Buf (Elt Ideal) ((c : Thread nD τ).loc cc0_scratch0) //
      ∀ (K : PUnit → sProp (MT nD τ sig Unit (Elt Ideal) ℕ (UR sig nD τ) ℕ)),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ (∃ d, owns (c : Thread nD τ) arg9 fullShare d)
          ∗ (scM0_0.view.loc (c : Thread nD τ) ↦{fullShare} xa0)
          ∗ (iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
              ∗ (∃ f, arg9.view.loc (c : Thread nD τ) ↦[arg9.view.set]{fullShare} arg9.view.writes (Elt Ideal) f out0)
              ∗ (scM0_0.view.loc (c : Thread nD τ) ↦{fullShare} out1)) -∗ K ⟨⟩))
          ⊢ wp frame (wpE (defs₀ (F := Ideal)) Variants.none c none) Set.univ (cc0_moe_experts i tbM0_0 (Memref.isWhole_whole _) tbM0_1 (Memref.isWhole_whole _) tbM0_2 (Memref.isWhole_whole _) arg5 harg5 arg6 harg6 arg7 harg7 arg8 harg8 arg9 harg9 scM0_0 (Memref.isWhole_whole _)) K } :=
  ⟨_, _, fun K => by
    unfold owns
    rw [cc0_moe_experts_eq_skeleton]; unfold cc0_moe_experts_skel
    iintro ⟨H0, H1, H2, H3, HT0, HT1, HT2, ⟨%d4, %f4, -, HO4⟩, HS0, Hk⟩
    have hS0 : scM0_0.IsWhole := Memref.isWhole_whole _
    have hT0 : tbM0_0.IsWhole := Memref.isWhole_whole _
    have hT1 : tbM0_1.IsWhole := Memref.isWhole_whole _
    have hT2 : tbM0_2.IsWhole := Memref.isWhole_whole _
    sl_exec! (disch := first | (guard_target = k0_cond1 _ _ _ = _; exact h1) | (guard_target = ¬(k0_cond5 _ _ _ = _); exact h5) | (guard_target = ¬(k0_cond10 _ _ = _); exact h10) | (simp only [k0_cond4, k0_cond8, k0_cond9, hi]; decide) | (change (Scalar.cmpi .ne (Scalar.extui (Scalar.cmpi .eq (BitVec.ofNat 32 (i 1).val) 0#32)) 0#32 = 1#1); rw [hi]; decide) | (change ¬(Scalar.cmpi .ne (Scalar.extui (Scalar.cmpi .eq (BitVec.ofNat 32 (i 1).val) 0#32)) 0#32 = 1#1); rw [hi]; decide) | (change (Scalar.cmpi .ne (Scalar.extui (Scalar.cmpi .sgt (BitVec.ofNat 32 (i 1).val) 0#32)) 0#32 = 1#1); rw [hi]; decide) | (change ¬(Scalar.cmpi .ne (Scalar.extui (Scalar.cmpi .sgt (BitVec.ofNat 32 (i 1).val) 0#32)) 0#32 = 1#1); rw [hi]; decide))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HT2]; · iexact HT2
    isplitl [HO4]; · iexists _; iexact HO4
    iexact HS0⟩

set_option backward.proofsInPublic true in
set_option maxHeartbeats 16000000 in
/-- The body at a tile with tokens in its first half only, at the first half of the hidden width: what it leaves, with the proof that it runs from the buffers handed to it to the
    continuation holding them so. -/
noncomputable def sparse0 (c : Dev nD) (i : grid0.Coords) (arg5 : Memref sig .tc .vmem S4096x128 .f32) (harg5 : arg5.IsWhole) (arg6 : Memref sig .tc .vmem S1x1024x1792 .bf16) (harg6 : arg6.IsWhole) (arg7 : Memref sig .tc .vmem S1x1024x1792 .bf16) (harg7 : arg7.IsWhole) (arg8 : Memref sig .tc .vmem S1x1792x1024 .bf16) (harg8 : arg8.IsWhole) (arg9 : Memref sig .tc .vmem S4096x128 .f32) (harg9 : arg9.IsWhole) (T0 : (S72.Idx → Elt Ideal .i32)) (T1 : (S1.Idx → Elt Ideal .i32)) (T2 : (S72.Idx → Elt Ideal .i32))
    (x0 : (S4096x128.Idx → Elt Ideal .f32)) (x1 : (S1x1024x1792.Idx → Elt Ideal .bf16)) (x2 : (S1x1024x1792.Idx → Elt Ideal .bf16)) (x3 : (S1x1792x1024.Idx → Elt Ideal .bf16)) (xa0 : Buf (Elt Ideal) ((c : Thread nD τ).loc cc0_scratch0))
    (h1 : ¬(k0_cond1 i (View.readAt (Elt Ideal) (tbM0_1).view (Rect.unit (s := S1) ![0] S1.size inb_S1_S1_0).toLoadRect T1 (Shape.Idx.first (numel1_S1.symm ▸ Nat.one_pos))) (View.readAt (Elt Ideal) (tbM0_2).view (Rect.unit (s := S72) (k0_off1 i) S1.size (k0_off1_inb i)).toLoadRect T2 (Shape.Idx.first (numel1_S1.symm ▸ Nat.one_pos))) = 1#1)) (h5 : k0_cond5 i (View.readAt (Elt Ideal) (tbM0_1).view (Rect.unit (s := S1) ![0] S1.size inb_S1_S1_0).toLoadRect T1 (Shape.Idx.first (numel1_S1.symm ▸ Nat.one_pos))) (View.readAt (Elt Ideal) (tbM0_2).view (Rect.unit (s := S72) (k0_off1 i) S1.size (k0_off1_inb i)).toLoadRect T2 (Shape.Idx.first (numel1_S1.symm ▸ Nat.one_pos))) = 1#1) (h10 : ¬(k0_cond10 i (View.readAt (Elt Ideal) (tbM0_1).view (Rect.unit (s := S1) ![0] S1.size inb_S1_S1_0).toLoadRect T1 (Shape.Idx.first (numel1_S1.symm ▸ Nat.one_pos))) = 1#1)) (hi : (i 1).val = 0) :
    { out1 : Buf (Elt Ideal) ((c : Thread nD τ).loc cc0_scratch0) //
      ∀ (y4 : S4096x128.Idx → Elt Ideal .f32) (K : PUnit → sProp (MT nD τ sig Unit (Elt Ideal) ℕ (UR sig nD τ) ℕ)),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ owns (c : Thread nD τ) arg9 fullShare y4
          ∗ (scM0_0.view.loc (c : Thread nD τ) ↦{fullShare} xa0)
          ∗ (iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
              ∗ owns (c : Thread nD τ) arg9 fullShare y4
              ∗ (scM0_0.view.loc (c : Thread nD τ) ↦{fullShare} out1)) -∗ K ⟨⟩))
          ⊢ wp frame (wpE (defs₀ (F := Ideal)) Variants.none c none) Set.univ (cc0_moe_experts i tbM0_0 (Memref.isWhole_whole _) tbM0_1 (Memref.isWhole_whole _) tbM0_2 (Memref.isWhole_whole _) arg5 harg5 arg6 harg6 arg7 harg7 arg8 harg8 arg9 harg9 scM0_0 (Memref.isWhole_whole _)) K } :=
  ⟨_, fun y4 K => by
    skip
    rw [cc0_moe_experts_eq_skeleton]; unfold cc0_moe_experts_skel
    iintro ⟨H0, H1, H2, H3, HT0, HT1, HT2, HO4, HS0, Hk⟩
    have hS0 : scM0_0.IsWhole := Memref.isWhole_whole _
    have hT0 : tbM0_0.IsWhole := Memref.isWhole_whole _
    have hT1 : tbM0_1.IsWhole := Memref.isWhole_whole _
    have hT2 : tbM0_2.IsWhole := Memref.isWhole_whole _
    sl_exec! (disch := first | (guard_target = ¬(k0_cond1 _ _ _ = _); exact h1) | (guard_target = k0_cond5 _ _ _ = _; exact h5) | (guard_target = ¬(k0_cond10 _ _ = _); exact h10) | (simp only [k0_cond4, k0_cond8, k0_cond9, hi]; decide) | (change (Scalar.cmpi .ne (Scalar.extui (Scalar.cmpi .eq (BitVec.ofNat 32 (i 1).val) 0#32)) 0#32 = 1#1); rw [hi]; decide) | (change ¬(Scalar.cmpi .ne (Scalar.extui (Scalar.cmpi .eq (BitVec.ofNat 32 (i 1).val) 0#32)) 0#32 = 1#1); rw [hi]; decide) | (change (Scalar.cmpi .ne (Scalar.extui (Scalar.cmpi .sgt (BitVec.ofNat 32 (i 1).val) 0#32)) 0#32 = 1#1); rw [hi]; decide) | (change ¬(Scalar.cmpi .ne (Scalar.extui (Scalar.cmpi .sgt (BitVec.ofNat 32 (i 1).val) 0#32)) 0#32 = 1#1); rw [hi]; decide))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HT2]; · iexact HT2
    isplitl [HO4]; · iexact HO4
    iexact HS0⟩

set_option backward.proofsInPublic true in
set_option maxHeartbeats 16000000 in
/-- The body at a tile with tokens in its first half only, at the second half of the hidden width: what it leaves, with the proof that it runs from the buffers handed to it to the
    continuation holding them so. -/
noncomputable def sparse1 (c : Dev nD) (i : grid0.Coords) (arg5 : Memref sig .tc .vmem S4096x128 .f32) (harg5 : arg5.IsWhole) (arg6 : Memref sig .tc .vmem S1x1024x1792 .bf16) (harg6 : arg6.IsWhole) (arg7 : Memref sig .tc .vmem S1x1024x1792 .bf16) (harg7 : arg7.IsWhole) (arg8 : Memref sig .tc .vmem S1x1792x1024 .bf16) (harg8 : arg8.IsWhole) (arg9 : Memref sig .tc .vmem S4096x128 .f32) (harg9 : arg9.IsWhole) (T0 : (S72.Idx → Elt Ideal .i32)) (T1 : (S1.Idx → Elt Ideal .i32)) (T2 : (S72.Idx → Elt Ideal .i32))
    (x0 : (S4096x128.Idx → Elt Ideal .f32)) (x1 : (S1x1024x1792.Idx → Elt Ideal .bf16)) (x2 : (S1x1024x1792.Idx → Elt Ideal .bf16)) (x3 : (S1x1792x1024.Idx → Elt Ideal .bf16)) (xa0 : Buf (Elt Ideal) ((c : Thread nD τ).loc cc0_scratch0))
    (h1 : ¬(k0_cond1 i (View.readAt (Elt Ideal) (tbM0_1).view (Rect.unit (s := S1) ![0] S1.size inb_S1_S1_0).toLoadRect T1 (Shape.Idx.first (numel1_S1.symm ▸ Nat.one_pos))) (View.readAt (Elt Ideal) (tbM0_2).view (Rect.unit (s := S72) (k0_off1 i) S1.size (k0_off1_inb i)).toLoadRect T2 (Shape.Idx.first (numel1_S1.symm ▸ Nat.one_pos))) = 1#1)) (h5 : k0_cond5 i (View.readAt (Elt Ideal) (tbM0_1).view (Rect.unit (s := S1) ![0] S1.size inb_S1_S1_0).toLoadRect T1 (Shape.Idx.first (numel1_S1.symm ▸ Nat.one_pos))) (View.readAt (Elt Ideal) (tbM0_2).view (Rect.unit (s := S72) (k0_off1 i) S1.size (k0_off1_inb i)).toLoadRect T2 (Shape.Idx.first (numel1_S1.symm ▸ Nat.one_pos))) = 1#1) (h10 : ¬(k0_cond10 i (View.readAt (Elt Ideal) (tbM0_1).view (Rect.unit (s := S1) ![0] S1.size inb_S1_S1_0).toLoadRect T1 (Shape.Idx.first (numel1_S1.symm ▸ Nat.one_pos))) = 1#1)) (hi : (i 1).val = 1) :
    Σ' (out0 : List (View.Piece (Elt Ideal) S4096x128 .f32)), { out1 : Buf (Elt Ideal) ((c : Thread nD τ).loc cc0_scratch0) //
      ∀ (K : PUnit → sProp (MT nD τ sig Unit (Elt Ideal) ℕ (UR sig nD τ) ℕ)),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ (∃ d, owns (c : Thread nD τ) arg9 fullShare d)
          ∗ (scM0_0.view.loc (c : Thread nD τ) ↦{fullShare} xa0)
          ∗ (iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
              ∗ (∃ f, arg9.view.loc (c : Thread nD τ) ↦[arg9.view.set]{fullShare} arg9.view.writes (Elt Ideal) f out0)
              ∗ (scM0_0.view.loc (c : Thread nD τ) ↦{fullShare} out1)) -∗ K ⟨⟩))
          ⊢ wp frame (wpE (defs₀ (F := Ideal)) Variants.none c none) Set.univ (cc0_moe_experts i tbM0_0 (Memref.isWhole_whole _) tbM0_1 (Memref.isWhole_whole _) tbM0_2 (Memref.isWhole_whole _) arg5 harg5 arg6 harg6 arg7 harg7 arg8 harg8 arg9 harg9 scM0_0 (Memref.isWhole_whole _)) K } :=
  ⟨_, _, fun K => by
    unfold owns
    rw [cc0_moe_experts_eq_skeleton]; unfold cc0_moe_experts_skel
    iintro ⟨H0, H1, H2, H3, HT0, HT1, HT2, ⟨%d4, %f4, -, HO4⟩, HS0, Hk⟩
    have hS0 : scM0_0.IsWhole := Memref.isWhole_whole _
    have hT0 : tbM0_0.IsWhole := Memref.isWhole_whole _
    have hT1 : tbM0_1.IsWhole := Memref.isWhole_whole _
    have hT2 : tbM0_2.IsWhole := Memref.isWhole_whole _
    sl_exec! (disch := first | (guard_target = ¬(k0_cond1 _ _ _ = _); exact h1) | (guard_target = k0_cond5 _ _ _ = _; exact h5) | (guard_target = ¬(k0_cond10 _ _ = _); exact h10) | (simp only [k0_cond4, k0_cond8, k0_cond9, hi]; decide) | (change (Scalar.cmpi .ne (Scalar.extui (Scalar.cmpi .eq (BitVec.ofNat 32 (i 1).val) 0#32)) 0#32 = 1#1); rw [hi]; decide) | (change ¬(Scalar.cmpi .ne (Scalar.extui (Scalar.cmpi .eq (BitVec.ofNat 32 (i 1).val) 0#32)) 0#32 = 1#1); rw [hi]; decide) | (change (Scalar.cmpi .ne (Scalar.extui (Scalar.cmpi .sgt (BitVec.ofNat 32 (i 1).val) 0#32)) 0#32 = 1#1); rw [hi]; decide) | (change ¬(Scalar.cmpi .ne (Scalar.extui (Scalar.cmpi .sgt (BitVec.ofNat 32 (i 1).val) 0#32)) 0#32 = 1#1); rw [hi]; decide))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HT2]; · iexact HT2
    isplitl [HO4]; · iexists _; iexact HO4
    iexact HS0⟩

set_option backward.proofsInPublic true in
set_option maxHeartbeats 16000000 in
/-- The body at an unused tile at the first half: what it leaves, with the proof that it runs from the buffers handed to it to the
    continuation holding them so. -/
noncomputable def idle0 (c : Dev nD) (i : grid0.Coords) (arg5 : Memref sig .tc .vmem S4096x128 .f32) (harg5 : arg5.IsWhole) (arg6 : Memref sig .tc .vmem S1x1024x1792 .bf16) (harg6 : arg6.IsWhole) (arg7 : Memref sig .tc .vmem S1x1024x1792 .bf16) (harg7 : arg7.IsWhole) (arg8 : Memref sig .tc .vmem S1x1792x1024 .bf16) (harg8 : arg8.IsWhole) (arg9 : Memref sig .tc .vmem S4096x128 .f32) (harg9 : arg9.IsWhole) (T0 : (S72.Idx → Elt Ideal .i32)) (T1 : (S1.Idx → Elt Ideal .i32)) (T2 : (S72.Idx → Elt Ideal .i32))
    (x0 : (S4096x128.Idx → Elt Ideal .f32)) (x1 : (S1x1024x1792.Idx → Elt Ideal .bf16)) (x2 : (S1x1024x1792.Idx → Elt Ideal .bf16)) (x3 : (S1x1792x1024.Idx → Elt Ideal .bf16)) (xa0 : Buf (Elt Ideal) ((c : Thread nD τ).loc cc0_scratch0))
    (h1 : ¬(k0_cond1 i (View.readAt (Elt Ideal) (tbM0_1).view (Rect.unit (s := S1) ![0] S1.size inb_S1_S1_0).toLoadRect T1 (Shape.Idx.first (numel1_S1.symm ▸ Nat.one_pos))) (View.readAt (Elt Ideal) (tbM0_2).view (Rect.unit (s := S72) (k0_off1 i) S1.size (k0_off1_inb i)).toLoadRect T2 (Shape.Idx.first (numel1_S1.symm ▸ Nat.one_pos))) = 1#1)) (h5 : ¬(k0_cond5 i (View.readAt (Elt Ideal) (tbM0_1).view (Rect.unit (s := S1) ![0] S1.size inb_S1_S1_0).toLoadRect T1 (Shape.Idx.first (numel1_S1.symm ▸ Nat.one_pos))) (View.readAt (Elt Ideal) (tbM0_2).view (Rect.unit (s := S72) (k0_off1 i) S1.size (k0_off1_inb i)).toLoadRect T2 (Shape.Idx.first (numel1_S1.symm ▸ Nat.one_pos))) = 1#1)) (h10 : ¬(k0_cond10 i (View.readAt (Elt Ideal) (tbM0_1).view (Rect.unit (s := S1) ![0] S1.size inb_S1_S1_0).toLoadRect T1 (Shape.Idx.first (numel1_S1.symm ▸ Nat.one_pos))) = 1#1)) (hi : (i 1).val = 0) :
    { out1 : Buf (Elt Ideal) ((c : Thread nD τ).loc cc0_scratch0) //
      ∀ (y4 : S4096x128.Idx → Elt Ideal .f32) (K : PUnit → sProp (MT nD τ sig Unit (Elt Ideal) ℕ (UR sig nD τ) ℕ)),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ owns (c : Thread nD τ) arg9 fullShare y4
          ∗ (scM0_0.view.loc (c : Thread nD τ) ↦{fullShare} xa0)
          ∗ (iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
              ∗ owns (c : Thread nD τ) arg9 fullShare y4
              ∗ (scM0_0.view.loc (c : Thread nD τ) ↦{fullShare} out1)) -∗ K ⟨⟩))
          ⊢ wp frame (wpE (defs₀ (F := Ideal)) Variants.none c none) Set.univ (cc0_moe_experts i tbM0_0 (Memref.isWhole_whole _) tbM0_1 (Memref.isWhole_whole _) tbM0_2 (Memref.isWhole_whole _) arg5 harg5 arg6 harg6 arg7 harg7 arg8 harg8 arg9 harg9 scM0_0 (Memref.isWhole_whole _)) K } :=
  ⟨_, fun y4 K => by
    skip
    rw [cc0_moe_experts_eq_skeleton]; unfold cc0_moe_experts_skel
    iintro ⟨H0, H1, H2, H3, HT0, HT1, HT2, HO4, HS0, Hk⟩
    have hS0 : scM0_0.IsWhole := Memref.isWhole_whole _
    have hT0 : tbM0_0.IsWhole := Memref.isWhole_whole _
    have hT1 : tbM0_1.IsWhole := Memref.isWhole_whole _
    have hT2 : tbM0_2.IsWhole := Memref.isWhole_whole _
    sl_exec! (disch := first | (guard_target = ¬(k0_cond1 _ _ _ = _); exact h1) | (guard_target = ¬(k0_cond5 _ _ _ = _); exact h5) | (guard_target = ¬(k0_cond10 _ _ = _); exact h10) | (simp only [k0_cond4, k0_cond8, k0_cond9, hi]; decide) | (change (Scalar.cmpi .ne (Scalar.extui (Scalar.cmpi .eq (BitVec.ofNat 32 (i 1).val) 0#32)) 0#32 = 1#1); rw [hi]; decide) | (change ¬(Scalar.cmpi .ne (Scalar.extui (Scalar.cmpi .eq (BitVec.ofNat 32 (i 1).val) 0#32)) 0#32 = 1#1); rw [hi]; decide) | (change (Scalar.cmpi .ne (Scalar.extui (Scalar.cmpi .sgt (BitVec.ofNat 32 (i 1).val) 0#32)) 0#32 = 1#1); rw [hi]; decide) | (change ¬(Scalar.cmpi .ne (Scalar.extui (Scalar.cmpi .sgt (BitVec.ofNat 32 (i 1).val) 0#32)) 0#32 = 1#1); rw [hi]; decide))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HT2]; · iexact HT2
    isplitl [HO4]; · iexact HO4
    iexact HS0⟩

set_option backward.proofsInPublic true in
set_option maxHeartbeats 16000000 in
/-- The body at an unused tile at the second half: what it leaves, with the proof that it runs from the buffers handed to it to the
    continuation holding them so. -/
noncomputable def idle1 (c : Dev nD) (i : grid0.Coords) (arg5 : Memref sig .tc .vmem S4096x128 .f32) (harg5 : arg5.IsWhole) (arg6 : Memref sig .tc .vmem S1x1024x1792 .bf16) (harg6 : arg6.IsWhole) (arg7 : Memref sig .tc .vmem S1x1024x1792 .bf16) (harg7 : arg7.IsWhole) (arg8 : Memref sig .tc .vmem S1x1792x1024 .bf16) (harg8 : arg8.IsWhole) (arg9 : Memref sig .tc .vmem S4096x128 .f32) (harg9 : arg9.IsWhole) (T0 : (S72.Idx → Elt Ideal .i32)) (T1 : (S1.Idx → Elt Ideal .i32)) (T2 : (S72.Idx → Elt Ideal .i32))
    (x0 : (S4096x128.Idx → Elt Ideal .f32)) (x1 : (S1x1024x1792.Idx → Elt Ideal .bf16)) (x2 : (S1x1024x1792.Idx → Elt Ideal .bf16)) (x3 : (S1x1792x1024.Idx → Elt Ideal .bf16)) (xa0 : Buf (Elt Ideal) ((c : Thread nD τ).loc cc0_scratch0))
    (h1 : ¬(k0_cond1 i (View.readAt (Elt Ideal) (tbM0_1).view (Rect.unit (s := S1) ![0] S1.size inb_S1_S1_0).toLoadRect T1 (Shape.Idx.first (numel1_S1.symm ▸ Nat.one_pos))) (View.readAt (Elt Ideal) (tbM0_2).view (Rect.unit (s := S72) (k0_off1 i) S1.size (k0_off1_inb i)).toLoadRect T2 (Shape.Idx.first (numel1_S1.symm ▸ Nat.one_pos))) = 1#1)) (h5 : ¬(k0_cond5 i (View.readAt (Elt Ideal) (tbM0_1).view (Rect.unit (s := S1) ![0] S1.size inb_S1_S1_0).toLoadRect T1 (Shape.Idx.first (numel1_S1.symm ▸ Nat.one_pos))) (View.readAt (Elt Ideal) (tbM0_2).view (Rect.unit (s := S72) (k0_off1 i) S1.size (k0_off1_inb i)).toLoadRect T2 (Shape.Idx.first (numel1_S1.symm ▸ Nat.one_pos))) = 1#1)) (h10 : k0_cond10 i (View.readAt (Elt Ideal) (tbM0_1).view (Rect.unit (s := S1) ![0] S1.size inb_S1_S1_0).toLoadRect T1 (Shape.Idx.first (numel1_S1.symm ▸ Nat.one_pos))) = 1#1) (hi : (i 1).val = 1) :
    Σ' (out0 : List (View.Piece (Elt Ideal) S4096x128 .f32)), { out1 : Buf (Elt Ideal) ((c : Thread nD τ).loc cc0_scratch0) //
      ∀ (K : PUnit → sProp (MT nD τ sig Unit (Elt Ideal) ℕ (UR sig nD τ) ℕ)),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ (∃ d, owns (c : Thread nD τ) arg9 fullShare d)
          ∗ (scM0_0.view.loc (c : Thread nD τ) ↦{fullShare} xa0)
          ∗ (iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
              ∗ (∃ f, arg9.view.loc (c : Thread nD τ) ↦[arg9.view.set]{fullShare} arg9.view.writes (Elt Ideal) f out0)
              ∗ (scM0_0.view.loc (c : Thread nD τ) ↦{fullShare} out1)) -∗ K ⟨⟩))
          ⊢ wp frame (wpE (defs₀ (F := Ideal)) Variants.none c none) Set.univ (cc0_moe_experts i tbM0_0 (Memref.isWhole_whole _) tbM0_1 (Memref.isWhole_whole _) tbM0_2 (Memref.isWhole_whole _) arg5 harg5 arg6 harg6 arg7 harg7 arg8 harg8 arg9 harg9 scM0_0 (Memref.isWhole_whole _)) K } :=
  ⟨_, _, fun K => by
    unfold owns
    rw [cc0_moe_experts_eq_skeleton]; unfold cc0_moe_experts_skel
    iintro ⟨H0, H1, H2, H3, HT0, HT1, HT2, ⟨%d4, %f4, -, HO4⟩, HS0, Hk⟩
    have hS0 : scM0_0.IsWhole := Memref.isWhole_whole _
    have hT0 : tbM0_0.IsWhole := Memref.isWhole_whole _
    have hT1 : tbM0_1.IsWhole := Memref.isWhole_whole _
    have hT2 : tbM0_2.IsWhole := Memref.isWhole_whole _
    sl_exec! (disch := first | (guard_target = ¬(k0_cond1 _ _ _ = _); exact h1) | (guard_target = ¬(k0_cond5 _ _ _ = _); exact h5) | (guard_target = k0_cond10 _ _ = _; exact h10) | (simp only [k0_cond4, k0_cond8, k0_cond9, hi]; decide) | (change (Scalar.cmpi .ne (Scalar.extui (Scalar.cmpi .eq (BitVec.ofNat 32 (i 1).val) 0#32)) 0#32 = 1#1); rw [hi]; decide) | (change ¬(Scalar.cmpi .ne (Scalar.extui (Scalar.cmpi .eq (BitVec.ofNat 32 (i 1).val) 0#32)) 0#32 = 1#1); rw [hi]; decide) | (change (Scalar.cmpi .ne (Scalar.extui (Scalar.cmpi .sgt (BitVec.ofNat 32 (i 1).val) 0#32)) 0#32 = 1#1); rw [hi]; decide) | (change ¬(Scalar.cmpi .ne (Scalar.extui (Scalar.cmpi .sgt (BitVec.ofNat 32 (i 1).val) 0#32)) 0#32 = 1#1); rw [hi]; decide))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HT2]; · iexact HT2
    isplitl [HO4]; · iexists _; iexact HO4
    iexact HS0⟩

end Cert.Kernel2Ideal.Expert

end
-- ==== Proof.IBody.lean ====
module

public import proofs.«01_k».proof.Proof.Gen.Kernel2Ideal.Skeleton
public import proofs.«01_k».proof.Proof.Gen.Kernel2Ideal.Launch
public import proofs.«01_k».proof.Defs
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init
public import proofs.«01_k».proof.Proof.IRun
public import Idealize.ShloMosaic.Lib.VecWindow
public import Idealize.ShloMosaic.Lib.Pointwise

@[expose] public section

set_option maxRecDepth 16384
set_option Elab.async false

noncomputable section

namespace Cert.Kernel2Ideal.Expert

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The first 512 rows of a tile, put together from its row-major memory. -/
def dx (x0 : Vec Ideal S4096x128 .f32) : FVec Ideal S512x1024 .bf16 := k0_pay19 (fun y => x0 ((⟨![0, 0], S512x128.size, ![8, 1], inb_S4096x128_S512x128_0_0_s_8_1⟩ : LoadRect S4096x128).idx y)) (fun y => x0 ((⟨![1, 0], S512x128.size, ![8, 1], inb_S4096x128_S512x128_1_0_s_8_1⟩ : LoadRect S4096x128).idx y)) (fun y => x0 ((⟨![2, 0], S512x128.size, ![8, 1], inb_S4096x128_S512x128_2_0_s_8_1⟩ : LoadRect S4096x128).idx y)) (fun y => x0 ((⟨![3, 0], S512x128.size, ![8, 1], inb_S4096x128_S512x128_3_0_s_8_1⟩ : LoadRect S4096x128).idx y)) (fun y => x0 ((⟨![4, 0], S512x128.size, ![8, 1], inb_S4096x128_S512x128_4_0_s_8_1⟩ : LoadRect S4096x128).idx y)) (fun y => x0 ((⟨![5, 0], S512x128.size, ![8, 1], inb_S4096x128_S512x128_5_0_s_8_1⟩ : LoadRect S4096x128).idx y)) (fun y => x0 ((⟨![6, 0], S512x128.size, ![8, 1], inb_S4096x128_S512x128_6_0_s_8_1⟩ : LoadRect S4096x128).idx y)) (fun y => x0 ((⟨![7, 0], S512x128.size, ![8, 1], inb_S4096x128_S512x128_7_0_s_8_1⟩ : LoadRect S4096x128).idx y))
/-- The first two chunks of the hidden width, summed, for those rows. -/
def d4 (x0 : Vec Ideal S4096x128 .f32) (x1 x2 : Vec Ideal S1x1024x1792 .bf16) (x3 : Vec Ideal S1x1792x1024 .bf16) : FVec Ideal S512x1024 .f32 :=
  k0_pay21 (dx x0) (k0_pay20 (fun y => x0 ((⟨![0, 0], S512x128.size, ![8, 1], inb_S4096x128_S512x128_0_0_s_8_1⟩ : LoadRect S4096x128).idx y)) (fun y => x0 ((⟨![1, 0], S512x128.size, ![8, 1], inb_S4096x128_S512x128_1_0_s_8_1⟩ : LoadRect S4096x128).idx y)) (fun y => x0 ((⟨![2, 0], S512x128.size, ![8, 1], inb_S4096x128_S512x128_2_0_s_8_1⟩ : LoadRect S4096x128).idx y)) (fun y => x0 ((⟨![3, 0], S512x128.size, ![8, 1], inb_S4096x128_S512x128_3_0_s_8_1⟩ : LoadRect S4096x128).idx y)) (fun y => x0 ((⟨![4, 0], S512x128.size, ![8, 1], inb_S4096x128_S512x128_4_0_s_8_1⟩ : LoadRect S4096x128).idx y)) (fun y => x0 ((⟨![5, 0], S512x128.size, ![8, 1], inb_S4096x128_S512x128_5_0_s_8_1⟩ : LoadRect S4096x128).idx y)) (fun y => x0 ((⟨![6, 0], S512x128.size, ![8, 1], inb_S4096x128_S512x128_6_0_s_8_1⟩ : LoadRect S4096x128).idx y)) (fun y => x0 ((⟨![7, 0], S512x128.size, ![8, 1], inb_S4096x128_S512x128_7_0_s_8_1⟩ : LoadRect S4096x128).idx y)) (fun y => x1 ((Rect.unit (s := S1x1024x1792) ![0, 0, 0] S1x1024x512.size inb_S1x1024x1792_S1x1024x512_0_0_0).toLoadRect.idx y)) (fun y => x2 ((Rect.unit (s := S1x1024x1792) ![0, 0, 0] S1x1024x512.size inb_S1x1024x1792_S1x1024x512_0_0_0).toLoadRect.idx y)) (fun y => x3 ((Rect.unit (s := S1x1792x1024) ![0, 0, 0] S1x512x1024.size inb_S1x1792x1024_S1x512x1024_0_0_0).toLoadRect.idx y))) (fun y => x1 ((Rect.unit (s := S1x1024x1792) ![0, 0, 512] S1x1024x512.size inb_S1x1024x1792_S1x1024x512_0_0_512).toLoadRect.idx y)) (fun y => x2 ((Rect.unit (s := S1x1024x1792) ![0, 0, 512] S1x1024x512.size inb_S1x1024x1792_S1x1024x512_0_0_512).toLoadRect.idx y)) (fun y => x3 ((Rect.unit (s := S1x1792x1024) ![0, 512, 0] S1x512x1024.size inb_S1x1792x1024_S1x512x1024_0_512_0).toLoadRect.idx y))
/-- What one half of the hidden width adds, for those rows. -/
def dacc (x0 : Vec Ideal S4096x128 .f32) (x1 x2 : Vec Ideal S1x1024x1792 .bf16) (x3 : Vec Ideal S1x1792x1024 .bf16) : FVec Ideal S512x1024 .f32 :=
  k0_pay25 (dx x0) (d4 x0 x1 x2 x3) (k0_pay22 (dx x0) (fun y => x2 ((Rect.unit (s := S1x1024x1792) ![0, 0, 1024] S1x1024x512.size inb_S1x1024x1792_S1x1024x512_0_0_1024).toLoadRect.idx y))) (k0_pay23 (dx x0) (fun y => x1 ((Rect.unit (s := S1x1024x1792) ![0, 0, 1024] S1x1024x512.size inb_S1x1024x1792_S1x1024x512_0_0_1024).toLoadRect.idx y))) (fun y => x3 ((Rect.unit (s := S1x1792x1024) ![0, 1024, 0] S1x512x1024.size inb_S1x1792x1024_S1x512x1024_0_1024_0).toLoadRect.idx y)) (fun y => x1 ((Rect.unit (s := S1x1024x1792) ![0, 0, 1536] S1x1024x256.size inb_S1x1024x1792_S1x1024x256_0_0_1536).toLoadRect.idx y)) (fun y => x2 ((Rect.unit (s := S1x1024x1792) ![0, 0, 1536] S1x1024x256.size inb_S1x1024x1792_S1x1024x256_0_0_1536).toLoadRect.idx y)) (fun y => x3 ((Rect.unit (s := S1x1792x1024) ![0, 1536, 0] S1x256x1024.size inb_S1x1792x1024_S1x256x1024_0_1536_0).toLoadRect.idx y))
/-- The same added to what the first half left. -/
def dsum (x0 : Vec Ideal S4096x128 .f32) (x1 x2 : Vec Ideal S1x1024x1792 .bf16) (x3 : Vec Ideal S1x1792x1024 .bf16) (p : FVec Ideal S512x1024 .f32) : FVec Ideal S512x1024 .f32 :=
  k0_pay26 (dx x0) (d4 x0 x1 x2 x3) (k0_pay22 (dx x0) (fun y => x2 ((Rect.unit (s := S1x1024x1792) ![0, 0, 1024] S1x1024x512.size inb_S1x1024x1792_S1x1024x512_0_0_1024).toLoadRect.idx y))) (k0_pay23 (dx x0) (fun y => x1 ((Rect.unit (s := S1x1024x1792) ![0, 0, 1024] S1x1024x512.size inb_S1x1024x1792_S1x1024x512_0_0_1024).toLoadRect.idx y))) (fun y => x3 ((Rect.unit (s := S1x1792x1024) ![0, 1024, 0] S1x512x1024.size inb_S1x1792x1024_S1x512x1024_0_1024_0).toLoadRect.idx y)) (fun y => x1 ((Rect.unit (s := S1x1024x1792) ![0, 0, 1536] S1x1024x256.size inb_S1x1024x1792_S1x1024x256_0_0_1536).toLoadRect.idx y)) (fun y => x2 ((Rect.unit (s := S1x1024x1792) ![0, 0, 1536] S1x1024x256.size inb_S1x1024x1792_S1x1024x256_0_0_1536).toLoadRect.idx y)) (fun y => x3 ((Rect.unit (s := S1x1792x1024) ![0, 1536, 0] S1x256x1024.size inb_S1x1792x1024_S1x256x1024_0_1536_0).toLoadRect.idx y)) p

/-- The first 256 rows of a tile, put together from its row-major memory. -/
def sx (x0 : Vec Ideal S4096x128 .f32) : FVec Ideal S256x1024 .bf16 := k0_pay27 (fun y => x0 ((⟨![0, 0], S256x128.size, ![8, 1], inb_S4096x128_S256x128_0_0_s_8_1⟩ : LoadRect S4096x128).idx y)) (fun y => x0 ((⟨![1, 0], S256x128.size, ![8, 1], inb_S4096x128_S256x128_1_0_s_8_1⟩ : LoadRect S4096x128).idx y)) (fun y => x0 ((⟨![2, 0], S256x128.size, ![8, 1], inb_S4096x128_S256x128_2_0_s_8_1⟩ : LoadRect S4096x128).idx y)) (fun y => x0 ((⟨![3, 0], S256x128.size, ![8, 1], inb_S4096x128_S256x128_3_0_s_8_1⟩ : LoadRect S4096x128).idx y)) (fun y => x0 ((⟨![4, 0], S256x128.size, ![8, 1], inb_S4096x128_S256x128_4_0_s_8_1⟩ : LoadRect S4096x128).idx y)) (fun y => x0 ((⟨![5, 0], S256x128.size, ![8, 1], inb_S4096x128_S256x128_5_0_s_8_1⟩ : LoadRect S4096x128).idx y)) (fun y => x0 ((⟨![6, 0], S256x128.size, ![8, 1], inb_S4096x128_S256x128_6_0_s_8_1⟩ : LoadRect S4096x128).idx y)) (fun y => x0 ((⟨![7, 0], S256x128.size, ![8, 1], inb_S4096x128_S256x128_7_0_s_8_1⟩ : LoadRect S4096x128).idx y))
/-- The first two chunks of the hidden width, summed, for those rows. -/
def s4 (x0 : Vec Ideal S4096x128 .f32) (x1 x2 : Vec Ideal S1x1024x1792 .bf16) (x3 : Vec Ideal S1x1792x1024 .bf16) : FVec Ideal S256x1024 .f32 :=
  k0_pay29 (sx x0) (k0_pay28 (fun y => x0 ((⟨![0, 0], S256x128.size, ![8, 1], inb_S4096x128_S256x128_0_0_s_8_1⟩ : LoadRect S4096x128).idx y)) (fun y => x0 ((⟨![1, 0], S256x128.size, ![8, 1], inb_S4096x128_S256x128_1_0_s_8_1⟩ : LoadRect S4096x128).idx y)) (fun y => x0 ((⟨![2, 0], S256x128.size, ![8, 1], inb_S4096x128_S256x128_2_0_s_8_1⟩ : LoadRect S4096x128).idx y)) (fun y => x0 ((⟨![3, 0], S256x128.size, ![8, 1], inb_S4096x128_S256x128_3_0_s_8_1⟩ : LoadRect S4096x128).idx y)) (fun y => x0 ((⟨![4, 0], S256x128.size, ![8, 1], inb_S4096x128_S256x128_4_0_s_8_1⟩ : LoadRect S4096x128).idx y)) (fun y => x0 ((⟨![5, 0], S256x128.size, ![8, 1], inb_S4096x128_S256x128_5_0_s_8_1⟩ : LoadRect S4096x128).idx y)) (fun y => x0 ((⟨![6, 0], S256x128.size, ![8, 1], inb_S4096x128_S256x128_6_0_s_8_1⟩ : LoadRect S4096x128).idx y)) (fun y => x0 ((⟨![7, 0], S256x128.size, ![8, 1], inb_S4096x128_S256x128_7_0_s_8_1⟩ : LoadRect S4096x128).idx y)) (fun y => x1 ((Rect.unit (s := S1x1024x1792) ![0, 0, 0] S1x1024x512.size inb_S1x1024x1792_S1x1024x512_0_0_0).toLoadRect.idx y)) (fun y => x2 ((Rect.unit (s := S1x1024x1792) ![0, 0, 0] S1x1024x512.size inb_S1x1024x1792_S1x1024x512_0_0_0).toLoadRect.idx y)) (fun y => x3 ((Rect.unit (s := S1x1792x1024) ![0, 0, 0] S1x512x1024.size inb_S1x1792x1024_S1x512x1024_0_0_0).toLoadRect.idx y))) (fun y => x1 ((Rect.unit (s := S1x1024x1792) ![0, 0, 512] S1x1024x512.size inb_S1x1024x1792_S1x1024x512_0_0_512).toLoadRect.idx y)) (fun y => x2 ((Rect.unit (s := S1x1024x1792) ![0, 0, 512] S1x1024x512.size inb_S1x1024x1792_S1x1024x512_0_0_512).toLoadRect.idx y)) (fun y => x3 ((Rect.unit (s := S1x1792x1024) ![0, 512, 0] S1x512x1024.size inb_S1x1792x1024_S1x512x1024_0_512_0).toLoadRect.idx y))
/-- What one half of the hidden width adds, for those rows. -/
def sacc (x0 : Vec Ideal S4096x128 .f32) (x1 x2 : Vec Ideal S1x1024x1792 .bf16) (x3 : Vec Ideal S1x1792x1024 .bf16) : FVec Ideal S256x1024 .f32 :=
  k0_pay33 (sx x0) (s4 x0 x1 x2 x3) (k0_pay30 (sx x0) (fun y => x2 ((Rect.unit (s := S1x1024x1792) ![0, 0, 1024] S1x1024x512.size inb_S1x1024x1792_S1x1024x512_0_0_1024).toLoadRect.idx y))) (k0_pay31 (sx x0) (fun y => x1 ((Rect.unit (s := S1x1024x1792) ![0, 0, 1024] S1x1024x512.size inb_S1x1024x1792_S1x1024x512_0_0_1024).toLoadRect.idx y))) (fun y => x3 ((Rect.unit (s := S1x1792x1024) ![0, 1024, 0] S1x512x1024.size inb_S1x1792x1024_S1x512x1024_0_1024_0).toLoadRect.idx y)) (fun y => x1 ((Rect.unit (s := S1x1024x1792) ![0, 0, 1536] S1x1024x256.size inb_S1x1024x1792_S1x1024x256_0_0_1536).toLoadRect.idx y)) (fun y => x2 ((Rect.unit (s := S1x1024x1792) ![0, 0, 1536] S1x1024x256.size inb_S1x1024x1792_S1x1024x256_0_0_1536).toLoadRect.idx y)) (fun y => x3 ((Rect.unit (s := S1x1792x1024) ![0, 1536, 0] S1x256x1024.size inb_S1x1792x1024_S1x256x1024_0_1536_0).toLoadRect.idx y))
/-- The same added to what the first half left. -/
def ssum (x0 : Vec Ideal S4096x128 .f32) (x1 x2 : Vec Ideal S1x1024x1792 .bf16) (x3 : Vec Ideal S1x1792x1024 .bf16) (p : FVec Ideal S256x1024 .f32) : FVec Ideal S256x1024 .f32 :=
  k0_pay34 (sx x0) (s4 x0 x1 x2 x3) (k0_pay30 (sx x0) (fun y => x2 ((Rect.unit (s := S1x1024x1792) ![0, 0, 1024] S1x1024x512.size inb_S1x1024x1792_S1x1024x512_0_0_1024).toLoadRect.idx y))) (k0_pay31 (sx x0) (fun y => x1 ((Rect.unit (s := S1x1024x1792) ![0, 0, 1024] S1x1024x512.size inb_S1x1024x1792_S1x1024x512_0_0_1024).toLoadRect.idx y))) (fun y => x3 ((Rect.unit (s := S1x1792x1024) ![0, 1024, 0] S1x512x1024.size inb_S1x1792x1024_S1x512x1024_0_1024_0).toLoadRect.idx y)) (fun y => x1 ((Rect.unit (s := S1x1024x1792) ![0, 0, 1536] S1x1024x256.size inb_S1x1024x1792_S1x1024x256_0_0_1536).toLoadRect.idx y)) (fun y => x2 ((Rect.unit (s := S1x1024x1792) ![0, 0, 1536] S1x1024x256.size inb_S1x1024x1792_S1x1024x256_0_0_1536).toLoadRect.idx y)) (fun y => x3 ((Rect.unit (s := S1x1792x1024) ![0, 1536, 0] S1x256x1024.size inb_S1x1792x1024_S1x256x1024_0_1536_0).toLoadRect.idx y)) p

/-- A dense tile's result, back in row-major memory. -/
def dout (a : FVec Ideal S512x1024 .f32) : Vec Ideal S4096x128 .f32 := fun y =>
  a (ix2 ⟨(y 0).val / 8, by have : (y 0).val < 4096 := (y 0).isLt; omega⟩ ⟨(y 0).val % 8 * 128 + (y 1).val, by have : (y 1).val < 128 := (y 1).isLt; omega⟩)
/-- A sparse tile's result: its first half from the sums, zeros after. -/
def sout (a : FVec Ideal S256x1024 .f32) : Vec Ideal S4096x128 .f32 := fun y =>
  if h : (y 0).val < 2048 then a (ix2 ⟨(y 0).val / 8, by omega⟩ ⟨(y 0).val % 8 * 128 + (y 1).val, by have : (y 1).val < 128 := (y 1).isLt; omega⟩)
  else k0_pay18 (F := Ideal) y

section Strided
variable {sig' : RefSig} {κ : Kind} {sp : Space} (v : View sig' κ sp S4096x128 .f32) (f : v.ty.Contents (Elt Ideal))

/-- Under a strided store of column block `k`, the rows that are `k` modulo 8 read its payload. -/
theorem strided_hit {n k : ℕ} (hk : k < 8) (inb) (sp')
    (w : (⟨⟨![k, 0], ![n, 128], ![8, 1], inb⟩, sp'⟩ : Rect S4096x128).shape.Idx → Elt Ideal .f32) (L) (y : S4096x128.Idx) (h : (y 0).val % 8 = k) (hn : (y 0).val / 8 < n) :
    v.read (Elt Ideal) (v.writes (Elt Ideal) f (⟨⟨⟨![k, 0], ![n, 128], ![8, 1], inb⟩, sp'⟩, w⟩ :: L)) y
      = w (ix2 ⟨(y 0).val / 8, hn⟩ ⟨(y 1).val, (y 1).isLt⟩) := by
  have e : y = (⟨⟨![k, 0], ![n, 128], ![8, 1], inb⟩, sp'⟩ : Rect S4096x128).emb (ix2 ⟨(y 0).val / 8, hn⟩ ⟨(y 1).val, (y 1).isLt⟩) := by
    funext a; apply Fin.ext
    fin_cases a
    · show (y 0).val = k + 8 * ((y 0).val / 8); omega
    · show (y 1).val = 0 + 1 * (y 1).val; omega
  conv_lhs => rw [e]
  exact View.read_writes_cons_emb v f _ w L _

/-- It leaves the other rows alone. -/
theorem strided_skip {n k : ℕ} (hk : k < 8) (inb) (sp')
    (w : (⟨⟨![k, 0], ![n, 128], ![8, 1], inb⟩, sp'⟩ : Rect S4096x128).shape.Idx → Elt Ideal .f32) (L) (y : S4096x128.Idx) (h : (y 0).val % 8 ≠ k ∨ n ≤ (y 0).val / 8) :
    v.read (Elt Ideal) (v.writes (Elt Ideal) f (⟨⟨⟨![k, 0], ![n, 128], ![8, 1], inb⟩, sp'⟩, w⟩ :: L)) y = v.read (Elt Ideal) (v.writes (Elt Ideal) f L) y := by
  rw [View.writes_cons, View.read_slice_write_of_not_mem]
  rw [Rect.map_emb_univ]
  intro hm
  obtain ⟨x, hx⟩ := LoadRect.exists_idx_of_mem _ hm
  have h0 : (y 0).val = k + 8 * (x 0).val := by rw [← hx]; rfl
  have hx0 : (x 0).val < n := (x 0).isLt
  rcases h with h | h <;> omega

omit v f in
/-- A load under the store of the same rectangle reads its payload. -/
theorem read_rect (v : View sig' κ sp S512x1024 .f32) (f : v.ty.Contents (Elt Ideal)) (r : Rect S512x1024) (w : r.shape.Idx → Elt Ideal .f32) (L) :
    v.readAt (Elt Ideal) r.toLoadRect (v.writes (Elt Ideal) f (⟨r, w⟩ :: L)) = w := by
  funext z
  rw [View.readAt_apply]
  exact View.read_writes_cons_emb v f r w L z
end Strided

/-- Eight strided stores of one vector's column blocks put its rows back in row-major memory. -/
theorem dout_of {sig' : RefSig} {κ : Kind} {sp : Space} (v : View sig' κ sp S4096x128 .f32) (f : v.ty.Contents (Elt Ideal)) (a : FVec Ideal S512x1024 .f32) :
    v.read (Elt Ideal) (v.writes (Elt Ideal) f [⟨⟨⟨![7, 0], S512x128.size, ![8, 1], inb_S4096x128_S512x128_7_0_s_8_1⟩, spos_8_1⟩, k0_pay8 (F := Ideal) a⟩,
      ⟨⟨⟨![6, 0], S512x128.size, ![8, 1], inb_S4096x128_S512x128_6_0_s_8_1⟩, spos_8_1⟩, k0_pay7 (F := Ideal) a⟩,
      ⟨⟨⟨![5, 0], S512x128.size, ![8, 1], inb_S4096x128_S512x128_5_0_s_8_1⟩, spos_8_1⟩, k0_pay6 (F := Ideal) a⟩,
      ⟨⟨⟨![4, 0], S512x128.size, ![8, 1], inb_S4096x128_S512x128_4_0_s_8_1⟩, spos_8_1⟩, k0_pay5 (F := Ideal) a⟩,
      ⟨⟨⟨![3, 0], S512x128.size, ![8, 1], inb_S4096x128_S512x128_3_0_s_8_1⟩, spos_8_1⟩, k0_pay4 (F := Ideal) a⟩,
      ⟨⟨⟨![2, 0], S512x128.size, ![8, 1], inb_S4096x128_S512x128_2_0_s_8_1⟩, spos_8_1⟩, k0_pay3 (F := Ideal) a⟩,
      ⟨⟨⟨![1, 0], S512x128.size, ![8, 1], inb_S4096x128_S512x128_1_0_s_8_1⟩, spos_8_1⟩, k0_pay2 (F := Ideal) a⟩,
      ⟨⟨⟨![0, 0], S512x128.size, ![8, 1], inb_S4096x128_S512x128_0_0_s_8_1⟩, spos_8_1⟩, k0_pay1 (F := Ideal) a⟩]) = dout a := by
    funext y
    have hb : (y 0).val < 4096 := (y 0).isLt
    have h8 : (y 0).val % 8 < 8 := Nat.mod_lt _ (by decide)
    show _ = a (ix2 ⟨(y 0).val / 8, _⟩ ⟨(y 0).val % 8 * 128 + (y 1).val, _⟩)
    generalize_proofs
    obtain hk | hk | hk | hk | hk | hk | hk | hk : (y 0).val % 8 = 0 ∨ (y 0).val % 8 = 1 ∨ (y 0).val % 8 = 2 ∨ (y 0).val % 8 = 3 ∨ (y 0).val % 8 = 4 ∨ (y 0).val % 8 = 5 ∨ (y 0).val % 8 = 6 ∨ (y 0).val % 8 = 7 := by omega
    · -- column block 0
      refine (strided_skip v f (n := 512) (k := 7) (by omega) _ _ _ _ y (by omega)).trans ?_
      refine (strided_skip v f (n := 512) (k := 6) (by omega) _ _ _ _ y (by omega)).trans ?_
      refine (strided_skip v f (n := 512) (k := 5) (by omega) _ _ _ _ y (by omega)).trans ?_
      refine (strided_skip v f (n := 512) (k := 4) (by omega) _ _ _ _ y (by omega)).trans ?_
      refine (strided_skip v f (n := 512) (k := 3) (by omega) _ _ _ _ y (by omega)).trans ?_
      refine (strided_skip v f (n := 512) (k := 2) (by omega) _ _ _ _ y (by omega)).trans ?_
      refine (strided_skip v f (n := 512) (k := 1) (by omega) _ _ _ _ y (by omega)).trans ?_
      refine (strided_hit v f (n := 512) (k := 0) (by omega) _ _ _ _ y hk (by omega)).trans ?_
      pointwise
      apply congrArg a; funext d; apply Fin.ext; fin_cases d
      · exact Nat.zero_add _
      · show _ + _ = (y 0).val % 8 * 128 + _; rw [hk]; first | rfl | simp
    · -- column block 1
      refine (strided_skip v f (n := 512) (k := 7) (by omega) _ _ _ _ y (by omega)).trans ?_
      refine (strided_skip v f (n := 512) (k := 6) (by omega) _ _ _ _ y (by omega)).trans ?_
      refine (strided_skip v f (n := 512) (k := 5) (by omega) _ _ _ _ y (by omega)).trans ?_
      refine (strided_skip v f (n := 512) (k := 4) (by omega) _ _ _ _ y (by omega)).trans ?_
      refine (strided_skip v f (n := 512) (k := 3) (by omega) _ _ _ _ y (by omega)).trans ?_
      refine (strided_skip v f (n := 512) (k := 2) (by omega) _ _ _ _ y (by omega)).trans ?_
      refine (strided_hit v f (n := 512) (k := 1) (by omega) _ _ _ _ y hk (by omega)).trans ?_
      pointwise
      apply congrArg a; funext d; apply Fin.ext; fin_cases d
      · exact Nat.zero_add _
      · show _ + _ = (y 0).val % 8 * 128 + _; rw [hk]; first | rfl | simp
    · -- column block 2
      refine (strided_skip v f (n := 512) (k := 7) (by omega) _ _ _ _ y (by omega)).trans ?_
      refine (strided_skip v f (n := 512) (k := 6) (by omega) _ _ _ _ y (by omega)).trans ?_
      refine (strided_skip v f (n := 512) (k := 5) (by omega) _ _ _ _ y (by omega)).trans ?_
      refine (strided_skip v f (n := 512) (k := 4) (by omega) _ _ _ _ y (by omega)).trans ?_
      refine (strided_skip v f (n := 512) (k := 3) (by omega) _ _ _ _ y (by omega)).trans ?_
      refine (strided_hit v f (n := 512) (k := 2) (by omega) _ _ _ _ y hk (by omega)).trans ?_
      pointwise
      apply congrArg a; funext d; apply Fin.ext; fin_cases d
      · exact Nat.zero_add _
      · show _ + _ = (y 0).val % 8 * 128 + _; rw [hk]; first | rfl | simp
    · -- column block 3
      refine (strided_skip v f (n := 512) (k := 7) (by omega) _ _ _ _ y (by omega)).trans ?_
      refine (strided_skip v f (n := 512) (k := 6) (by omega) _ _ _ _ y (by omega)).trans ?_
      refine (strided_skip v f (n := 512) (k := 5) (by omega) _ _ _ _ y (by omega)).trans ?_
      refine (strided_skip v f (n := 512) (k := 4) (by omega) _ _ _ _ y (by omega)).trans ?_
      refine (strided_hit v f (n := 512) (k := 3) (by omega) _ _ _ _ y hk (by omega)).trans ?_
      pointwise
      apply congrArg a; funext d; apply Fin.ext; fin_cases d
      · exact Nat.zero_add _
      · show _ + _ = (y 0).val % 8 * 128 + _; rw [hk]; first | rfl | simp
    · -- column block 4
      refine (strided_skip v f (n := 512) (k := 7) (by omega) _ _ _ _ y (by omega)).trans ?_
      refine (strided_skip v f (n := 512) (k := 6) (by omega) _ _ _ _ y (by omega)).trans ?_
      refine (strided_skip v f (n := 512) (k := 5) (by omega) _ _ _ _ y (by omega)).trans ?_
      refine (strided_hit v f (n := 512) (k := 4) (by omega) _ _ _ _ y hk (by omega)).trans ?_
      pointwise
      apply congrArg a; funext d; apply Fin.ext; fin_cases d
      · exact Nat.zero_add _
      · show _ + _ = (y 0).val % 8 * 128 + _; rw [hk]; first | rfl | simp
    · -- column block 5
      refine (strided_skip v f (n := 512) (k := 7) (by omega) _ _ _ _ y (by omega)).trans ?_
      refine (strided_skip v f (n := 512) (k := 6) (by omega) _ _ _ _ y (by omega)).trans ?_
      refine (strided_hit v f (n := 512) (k := 5) (by omega) _ _ _ _ y hk (by omega)).trans ?_
      pointwise
      apply congrArg a; funext d; apply Fin.ext; fin_cases d
      · exact Nat.zero_add _
      · show _ + _ = (y 0).val % 8 * 128 + _; rw [hk]; first | rfl | simp
    · -- column block 6
      refine (strided_skip v f (n := 512) (k := 7) (by omega) _ _ _ _ y (by omega)).trans ?_
      refine (strided_hit v f (n := 512) (k := 6) (by omega) _ _ _ _ y hk (by omega)).trans ?_
      pointwise
      apply congrArg a; funext d; apply Fin.ext; fin_cases d
      · exact Nat.zero_add _
      · show _ + _ = (y 0).val % 8 * 128 + _; rw [hk]; first | rfl | simp
    · -- column block 7
      refine (strided_hit v f (n := 512) (k := 7) (by omega) _ _ _ _ y hk (by omega)).trans ?_
      pointwise
      apply congrArg a; funext d; apply Fin.ext; fin_cases d
      · exact Nat.zero_add _
      · show _ + _ = (y 0).val % 8 * 128 + _; rw [hk]; first | rfl | simp

/-- Eight strided stores of one vector's column blocks put its rows back in row-major memory. -/
theorem sout_of {sig' : RefSig} {κ : Kind} {sp : Space} (v : View sig' κ sp S4096x128 .f32) (f : v.ty.Contents (Elt Ideal)) (a : FVec Ideal S256x1024 .f32) :
    v.read (Elt Ideal) (v.writes (Elt Ideal) f [⟨Rect.unit (s := S4096x128) ![2048, 0] S2048x128.size inb_S4096x128_S2048x128_2048_0, k0_pay17 (F := Ideal)⟩, ⟨⟨⟨![7, 0], S256x128.size, ![8, 1], inb_S4096x128_S256x128_7_0_s_8_1⟩, spos_8_1⟩, k0_pay16 (F := Ideal) a⟩,
      ⟨⟨⟨![6, 0], S256x128.size, ![8, 1], inb_S4096x128_S256x128_6_0_s_8_1⟩, spos_8_1⟩, k0_pay15 (F := Ideal) a⟩,
      ⟨⟨⟨![5, 0], S256x128.size, ![8, 1], inb_S4096x128_S256x128_5_0_s_8_1⟩, spos_8_1⟩, k0_pay14 (F := Ideal) a⟩,
      ⟨⟨⟨![4, 0], S256x128.size, ![8, 1], inb_S4096x128_S256x128_4_0_s_8_1⟩, spos_8_1⟩, k0_pay13 (F := Ideal) a⟩,
      ⟨⟨⟨![3, 0], S256x128.size, ![8, 1], inb_S4096x128_S256x128_3_0_s_8_1⟩, spos_8_1⟩, k0_pay12 (F := Ideal) a⟩,
      ⟨⟨⟨![2, 0], S256x128.size, ![8, 1], inb_S4096x128_S256x128_2_0_s_8_1⟩, spos_8_1⟩, k0_pay11 (F := Ideal) a⟩,
      ⟨⟨⟨![1, 0], S256x128.size, ![8, 1], inb_S4096x128_S256x128_1_0_s_8_1⟩, spos_8_1⟩, k0_pay10 (F := Ideal) a⟩,
      ⟨⟨⟨![0, 0], S256x128.size, ![8, 1], inb_S4096x128_S256x128_0_0_s_8_1⟩, spos_8_1⟩, k0_pay9 (F := Ideal) a⟩]) = sout a := by
    funext y
    have hb : (y 0).val < 4096 := (y 0).isLt
    unfold sout
    by_cases h : (y 0).val < 2048
    · rw [dif_pos h]
      refine (View.read_writes_cons_unit_of_not_mem v f _ _ _ y rfl 0 (.inl h)).trans ?_
      obtain hk | hk | hk | hk | hk | hk | hk | hk : (y 0).val % 8 = 0 ∨ (y 0).val % 8 = 1 ∨ (y 0).val % 8 = 2 ∨ (y 0).val % 8 = 3 ∨ (y 0).val % 8 = 4 ∨ (y 0).val % 8 = 5 ∨ (y 0).val % 8 = 6 ∨ (y 0).val % 8 = 7 := by omega
      · -- column block 0
        refine (strided_skip v f (n := 256) (k := 7) (by omega) _ _ _ _ y (by omega)).trans ?_
        refine (strided_skip v f (n := 256) (k := 6) (by omega) _ _ _ _ y (by omega)).trans ?_
        refine (strided_skip v f (n := 256) (k := 5) (by omega) _ _ _ _ y (by omega)).trans ?_
        refine (strided_skip v f (n := 256) (k := 4) (by omega) _ _ _ _ y (by omega)).trans ?_
        refine (strided_skip v f (n := 256) (k := 3) (by omega) _ _ _ _ y (by omega)).trans ?_
        refine (strided_skip v f (n := 256) (k := 2) (by omega) _ _ _ _ y (by omega)).trans ?_
        refine (strided_skip v f (n := 256) (k := 1) (by omega) _ _ _ _ y (by omega)).trans ?_
        refine (strided_hit v f (n := 256) (k := 0) (by omega) _ _ _ _ y hk (by omega)).trans ?_
        pointwise
        apply congrArg a; funext d; apply Fin.ext; fin_cases d
        · exact Nat.zero_add _
        · show _ + _ = (y 0).val % 8 * 128 + _; rw [hk]; first | rfl | simp
      · -- column block 1
        refine (strided_skip v f (n := 256) (k := 7) (by omega) _ _ _ _ y (by omega)).trans ?_
        refine (strided_skip v f (n := 256) (k := 6) (by omega) _ _ _ _ y (by omega)).trans ?_
        refine (strided_skip v f (n := 256) (k := 5) (by omega) _ _ _ _ y (by omega)).trans ?_
        refine (strided_skip v f (n := 256) (k := 4) (by omega) _ _ _ _ y (by omega)).trans ?_
        refine (strided_skip v f (n := 256) (k := 3) (by omega) _ _ _ _ y (by omega)).trans ?_
        refine (strided_skip v f (n := 256) (k := 2) (by omega) _ _ _ _ y (by omega)).trans ?_
        refine (strided_hit v f (n := 256) (k := 1) (by omega) _ _ _ _ y hk (by omega)).trans ?_
        pointwise
        apply congrArg a; funext d; apply Fin.ext; fin_cases d
        · exact Nat.zero_add _
        · show _ + _ = (y 0).val % 8 * 128 + _; rw [hk]; first | rfl | simp
      · -- column block 2
        refine (strided_skip v f (n := 256) (k := 7) (by omega) _ _ _ _ y (by omega)).trans ?_
        refine (strided_skip v f (n := 256) (k := 6) (by omega) _ _ _ _ y (by omega)).trans ?_
        refine (strided_skip v f (n := 256) (k := 5) (by omega) _ _ _ _ y (by omega)).trans ?_
        refine (strided_skip v f (n := 256) (k := 4) (by omega) _ _ _ _ y (by omega)).trans ?_
        refine (strided_skip v f (n := 256) (k := 3) (by omega) _ _ _ _ y (by omega)).trans ?_
        refine (strided_hit v f (n := 256) (k := 2) (by omega) _ _ _ _ y hk (by omega)).trans ?_
        pointwise
        apply congrArg a; funext d; apply Fin.ext; fin_cases d
        · exact Nat.zero_add _
        · show _ + _ = (y 0).val % 8 * 128 + _; rw [hk]; first | rfl | simp
      · -- column block 3
        refine (strided_skip v f (n := 256) (k := 7) (by omega) _ _ _ _ y (by omega)).trans ?_
        refine (strided_skip v f (n := 256) (k := 6) (by omega) _ _ _ _ y (by omega)).trans ?_
        refine (strided_skip v f (n := 256) (k := 5) (by omega) _ _ _ _ y (by omega)).trans ?_
        refine (strided_skip v f (n := 256) (k := 4) (by omega) _ _ _ _ y (by omega)).trans ?_
        refine (strided_hit v f (n := 256) (k := 3) (by omega) _ _ _ _ y hk (by omega)).trans ?_
        pointwise
        apply congrArg a; funext d; apply Fin.ext; fin_cases d
        · exact Nat.zero_add _
        · show _ + _ = (y 0).val % 8 * 128 + _; rw [hk]; first | rfl | simp
      · -- column block 4
        refine (strided_skip v f (n := 256) (k := 7) (by omega) _ _ _ _ y (by omega)).trans ?_
        refine (strided_skip v f (n := 256) (k := 6) (by omega) _ _ _ _ y (by omega)).trans ?_
        refine (strided_skip v f (n := 256) (k := 5) (by omega) _ _ _ _ y (by omega)).trans ?_
        refine (strided_hit v f (n := 256) (k := 4) (by omega) _ _ _ _ y hk (by omega)).trans ?_
        pointwise
        apply congrArg a; funext d; apply Fin.ext; fin_cases d
        · exact Nat.zero_add _
        · show _ + _ = (y 0).val % 8 * 128 + _; rw [hk]; first | rfl | simp
      · -- column block 5
        refine (strided_skip v f (n := 256) (k := 7) (by omega) _ _ _ _ y (by omega)).trans ?_
        refine (strided_skip v f (n := 256) (k := 6) (by omega) _ _ _ _ y (by omega)).trans ?_
        refine (strided_hit v f (n := 256) (k := 5) (by omega) _ _ _ _ y hk (by omega)).trans ?_
        pointwise
        apply congrArg a; funext d; apply Fin.ext; fin_cases d
        · exact Nat.zero_add _
        · show _ + _ = (y 0).val % 8 * 128 + _; rw [hk]; first | rfl | simp
      · -- column block 6
        refine (strided_skip v f (n := 256) (k := 7) (by omega) _ _ _ _ y (by omega)).trans ?_
        refine (strided_hit v f (n := 256) (k := 6) (by omega) _ _ _ _ y hk (by omega)).trans ?_
        pointwise
        apply congrArg a; funext d; apply Fin.ext; fin_cases d
        · exact Nat.zero_add _
        · show _ + _ = (y 0).val % 8 * 128 + _; rw [hk]; first | rfl | simp
      · -- column block 7
        refine (strided_hit v f (n := 256) (k := 7) (by omega) _ _ _ _ y hk (by omega)).trans ?_
        pointwise
        apply congrArg a; funext d; apply Fin.ext; fin_cases d
        · exact Nat.zero_add _
        · show _ + _ = (y 0).val % 8 * 128 + _; rw [hk]; first | rfl | simp
    · rw [dif_neg h]
      refine (View.read_writes_cons_unit_of_mem v f _ _ _ y (ix2 ⟨(y 0).val - 2048, by omega⟩ ⟨(y 1).val, (y 1).isLt⟩) rfl (fun d => ?_)).trans ?_
      · fin_cases d
        · show (y 0).val = 2048 + ((y 0).val - 2048); omega
        · show (y 1).val = 0 + (y 1).val; omega
      · rfl

set_option maxHeartbeats 2000000 in
/-- A dense tile leaves, after its first half, that half in the scratch. -/
theorem dense0_scr (c : Dev nD) (i : grid0.Coords) (arg5 : Memref sig .tc .vmem S4096x128 .f32) (harg5 : arg5.IsWhole) (arg6 : Memref sig .tc .vmem S1x1024x1792 .bf16) (harg6 : arg6.IsWhole) (arg7 : Memref sig .tc .vmem S1x1024x1792 .bf16) (harg7 : arg7.IsWhole) (arg8 : Memref sig .tc .vmem S1x1792x1024 .bf16) (harg8 : arg8.IsWhole) (arg9 : Memref sig .tc .vmem S4096x128 .f32) (harg9 : arg9.IsWhole) (T0 : (S72.Idx → Elt Ideal .i32)) (T1 : (S1.Idx → Elt Ideal .i32)) (T2 : (S72.Idx → Elt Ideal .i32))
    (x0 : (S4096x128.Idx → Elt Ideal .f32)) (x1 : (S1x1024x1792.Idx → Elt Ideal .bf16)) (x2 : (S1x1024x1792.Idx → Elt Ideal .bf16)) (x3 : (S1x1792x1024.Idx → Elt Ideal .bf16)) (xa0 : Buf (Elt Ideal) ((c : Thread nD τ).loc cc0_scratch0))
    (h1 : k0_cond1 i (View.readAt (Elt Ideal) (tbM0_1).view (Rect.unit (s := S1) ![0] S1.size inb_S1_S1_0).toLoadRect T1 (Shape.Idx.first (numel1_S1.symm ▸ Nat.one_pos))) (View.readAt (Elt Ideal) (tbM0_2).view (Rect.unit (s := S72) (k0_off1 i) S1.size (k0_off1_inb i)).toLoadRect T2 (Shape.Idx.first (numel1_S1.symm ▸ Nat.one_pos))) = 1#1) (h5 : ¬(k0_cond5 i (View.readAt (Elt Ideal) (tbM0_1).view (Rect.unit (s := S1) ![0] S1.size inb_S1_S1_0).toLoadRect T1 (Shape.Idx.first (numel1_S1.symm ▸ Nat.one_pos))) (View.readAt (Elt Ideal) (tbM0_2).view (Rect.unit (s := S72) (k0_off1 i) S1.size (k0_off1_inb i)).toLoadRect T2 (Shape.Idx.first (numel1_S1.symm ▸ Nat.one_pos))) = 1#1)) (h10 : ¬(k0_cond10 i (View.readAt (Elt Ideal) (tbM0_1).view (Rect.unit (s := S1) ![0] S1.size inb_S1_S1_0).toLoadRect T1 (Shape.Idx.first (numel1_S1.symm ▸ Nat.one_pos))) = 1#1)) (hi : (i 1).val = 0) :
    (View.whole cc0_scratch0).readAt (Elt Ideal) (Rect.unit (s := S512x1024) ![0, 0] S512x1024.size inb_S512x1024_S512x1024_0_0).toLoadRect (dense0 c i arg5 harg5 arg6 harg6 arg7 harg7 arg8 harg8 arg9 harg9 T0 T1 T2 x0 x1 x2 x3 xa0 h1 h5 h10 hi).1 = dacc x0 x1 x2 x3 := by
  unfold dense0
  dsimp only
  unfold dense0.sl.HS0_1
  refine (View.readAt_writes_full _ _ _ _ _ _).trans ?_
  simp only [dense0.sl.r_2, dense0.sl.r_3, dense0.sl.r_4, dense0.sl.r_5, dense0.sl.r_6, View.readAt_rep]
  rfl

set_option maxHeartbeats 2000000 in
/-- An unused tile leaves zeros in its block of the result. -/
theorem idle1_out (c : Dev nD) (i : grid0.Coords) (arg5 : Memref sig .tc .vmem S4096x128 .f32) (harg5 : arg5.IsWhole) (arg6 : Memref sig .tc .vmem S1x1024x1792 .bf16) (harg6 : arg6.IsWhole) (arg7 : Memref sig .tc .vmem S1x1024x1792 .bf16) (harg7 : arg7.IsWhole) (arg8 : Memref sig .tc .vmem S1x1792x1024 .bf16) (harg8 : arg8.IsWhole) (arg9 : Memref sig .tc .vmem S4096x128 .f32) (harg9 : arg9.IsWhole) (T0 : (S72.Idx → Elt Ideal .i32)) (T1 : (S1.Idx → Elt Ideal .i32)) (T2 : (S72.Idx → Elt Ideal .i32))
    (x0 : (S4096x128.Idx → Elt Ideal .f32)) (x1 : (S1x1024x1792.Idx → Elt Ideal .bf16)) (x2 : (S1x1024x1792.Idx → Elt Ideal .bf16)) (x3 : (S1x1792x1024.Idx → Elt Ideal .bf16)) (xa0 : Buf (Elt Ideal) ((c : Thread nD τ).loc cc0_scratch0))
    (h1 : ¬(k0_cond1 i (View.readAt (Elt Ideal) (tbM0_1).view (Rect.unit (s := S1) ![0] S1.size inb_S1_S1_0).toLoadRect T1 (Shape.Idx.first (numel1_S1.symm ▸ Nat.one_pos))) (View.readAt (Elt Ideal) (tbM0_2).view (Rect.unit (s := S72) (k0_off1 i) S1.size (k0_off1_inb i)).toLoadRect T2 (Shape.Idx.first (numel1_S1.symm ▸ Nat.one_pos))) = 1#1)) (h5 : ¬(k0_cond5 i (View.readAt (Elt Ideal) (tbM0_1).view (Rect.unit (s := S1) ![0] S1.size inb_S1_S1_0).toLoadRect T1 (Shape.Idx.first (numel1_S1.symm ▸ Nat.one_pos))) (View.readAt (Elt Ideal) (tbM0_2).view (Rect.unit (s := S72) (k0_off1 i) S1.size (k0_off1_inb i)).toLoadRect T2 (Shape.Idx.first (numel1_S1.symm ▸ Nat.one_pos))) = 1#1)) (h10 : k0_cond10 i (View.readAt (Elt Ideal) (tbM0_1).view (Rect.unit (s := S1) ![0] S1.size inb_S1_S1_0).toLoadRect T1 (Shape.Idx.first (numel1_S1.symm ▸ Nat.one_pos))) = 1#1) (hi : (i 1).val = 1) :
    ∀ {sig' : RefSig} {κ : Kind} {sp : Space} (v : View sig' κ sp S4096x128 .f32) (f : v.ty.Contents (Elt Ideal)), v.read (Elt Ideal) (v.writes (Elt Ideal) f (idle1 c i arg5 harg5 arg6 harg6 arg7 harg7 arg8 harg8 arg9 harg9 T0 T1 T2 x0 x1 x2 x3 xa0 h1 h5 h10 hi).1) = k0_pay18 (F := Ideal) := by
  intro sig' κ sp v f
  unfold idle1
  unfold idle1.sl.HO4_1
  exact View.read_writes_full v f _ _ _

set_option maxHeartbeats 2000000 in
/-- A dense tile leaves, after its second half, the sum of both in its block of the result. -/
theorem dense1_out (c : Dev nD) (i : grid0.Coords) (arg5 : Memref sig .tc .vmem S4096x128 .f32) (harg5 : arg5.IsWhole) (arg6 : Memref sig .tc .vmem S1x1024x1792 .bf16) (harg6 : arg6.IsWhole) (arg7 : Memref sig .tc .vmem S1x1024x1792 .bf16) (harg7 : arg7.IsWhole) (arg8 : Memref sig .tc .vmem S1x1792x1024 .bf16) (harg8 : arg8.IsWhole) (arg9 : Memref sig .tc .vmem S4096x128 .f32) (harg9 : arg9.IsWhole) (T0 : (S72.Idx → Elt Ideal .i32)) (T1 : (S1.Idx → Elt Ideal .i32)) (T2 : (S72.Idx → Elt Ideal .i32))
    (x0 : (S4096x128.Idx → Elt Ideal .f32)) (x1 : (S1x1024x1792.Idx → Elt Ideal .bf16)) (x2 : (S1x1024x1792.Idx → Elt Ideal .bf16)) (x3 : (S1x1792x1024.Idx → Elt Ideal .bf16)) (xa0 : Buf (Elt Ideal) ((c : Thread nD τ).loc cc0_scratch0))
    (h1 : k0_cond1 i (View.readAt (Elt Ideal) (tbM0_1).view (Rect.unit (s := S1) ![0] S1.size inb_S1_S1_0).toLoadRect T1 (Shape.Idx.first (numel1_S1.symm ▸ Nat.one_pos))) (View.readAt (Elt Ideal) (tbM0_2).view (Rect.unit (s := S72) (k0_off1 i) S1.size (k0_off1_inb i)).toLoadRect T2 (Shape.Idx.first (numel1_S1.symm ▸ Nat.one_pos))) = 1#1) (h5 : ¬(k0_cond5 i (View.readAt (Elt Ideal) (tbM0_1).view (Rect.unit (s := S1) ![0] S1.size inb_S1_S1_0).toLoadRect T1 (Shape.Idx.first (numel1_S1.symm ▸ Nat.one_pos))) (View.readAt (Elt Ideal) (tbM0_2).view (Rect.unit (s := S72) (k0_off1 i) S1.size (k0_off1_inb i)).toLoadRect T2 (Shape.Idx.first (numel1_S1.symm ▸ Nat.one_pos))) = 1#1)) (h10 : ¬(k0_cond10 i (View.readAt (Elt Ideal) (tbM0_1).view (Rect.unit (s := S1) ![0] S1.size inb_S1_S1_0).toLoadRect T1 (Shape.Idx.first (numel1_S1.symm ▸ Nat.one_pos))) = 1#1)) (hi : (i 1).val = 1) :
    ∀ {sig' : RefSig} {κ : Kind} {sp : Space} (v : View sig' κ sp S4096x128 .f32) (f : v.ty.Contents (Elt Ideal)), v.read (Elt Ideal) (v.writes (Elt Ideal) f (dense1 c i arg5 harg5 arg6 harg6 arg7 harg7 arg8 harg8 arg9 harg9 T0 T1 T2 x0 x1 x2 x3 xa0 h1 h5 h10 hi).1) = dout (dsum x0 x1 x2 x3 ((View.whole cc0_scratch0).readAt (Elt Ideal) (Rect.unit (s := S512x1024) ![0, 0] S512x1024.size inb_S512x1024_S512x1024_0_0).toLoadRect xa0)) := by
  intro sig' κ sp v f
  unfold dense1
  refine (dout_of v f _).trans (congrArg dout ?_)
  unfold dense1.sl.v114 dense1.sl.HS0_1
  first | refine (View.readCov_full _ _ _ _).trans ?_ | refine (View.readAt_writes_full _ _ _ _ _ _).trans ?_ | trace_state
  simp only [dense1.sl.r_2, dense1.sl.r_3, dense1.sl.r_4, dense1.sl.r_5, dense1.sl.r_6, View.readAt_rep]
  rfl

set_option maxHeartbeats 2000000 in
/-- A sparse tile leaves, after its first half, that half in the scratch. -/
theorem sparse0_scr (c : Dev nD) (i : grid0.Coords) (arg5 : Memref sig .tc .vmem S4096x128 .f32) (harg5 : arg5.IsWhole) (arg6 : Memref sig .tc .vmem S1x1024x1792 .bf16) (harg6 : arg6.IsWhole) (arg7 : Memref sig .tc .vmem S1x1024x1792 .bf16) (harg7 : arg7.IsWhole) (arg8 : Memref sig .tc .vmem S1x1792x1024 .bf16) (harg8 : arg8.IsWhole) (arg9 : Memref sig .tc .vmem S4096x128 .f32) (harg9 : arg9.IsWhole) (T0 : (S72.Idx → Elt Ideal .i32)) (T1 : (S1.Idx → Elt Ideal .i32)) (T2 : (S72.Idx → Elt Ideal .i32))
    (x0 : (S4096x128.Idx → Elt Ideal .f32)) (x1 : (S1x1024x1792.Idx → Elt Ideal .bf16)) (x2 : (S1x1024x1792.Idx → Elt Ideal .bf16)) (x3 : (S1x1792x1024.Idx → Elt Ideal .bf16)) (xa0 : Buf (Elt Ideal) ((c : Thread nD τ).loc cc0_scratch0))
    (h1 : ¬(k0_cond1 i (View.readAt (Elt Ideal) (tbM0_1).view (Rect.unit (s := S1) ![0] S1.size inb_S1_S1_0).toLoadRect T1 (Shape.Idx.first (numel1_S1.symm ▸ Nat.one_pos))) (View.readAt (Elt Ideal) (tbM0_2).view (Rect.unit (s := S72) (k0_off1 i) S1.size (k0_off1_inb i)).toLoadRect T2 (Shape.Idx.first (numel1_S1.symm ▸ Nat.one_pos))) = 1#1)) (h5 : k0_cond5 i (View.readAt (Elt Ideal) (tbM0_1).view (Rect.unit (s := S1) ![0] S1.size inb_S1_S1_0).toLoadRect T1 (Shape.Idx.first (numel1_S1.symm ▸ Nat.one_pos))) (View.readAt (Elt Ideal) (tbM0_2).view (Rect.unit (s := S72) (k0_off1 i) S1.size (k0_off1_inb i)).toLoadRect T2 (Shape.Idx.first (numel1_S1.symm ▸ Nat.one_pos))) = 1#1) (h10 : ¬(k0_cond10 i (View.readAt (Elt Ideal) (tbM0_1).view (Rect.unit (s := S1) ![0] S1.size inb_S1_S1_0).toLoadRect T1 (Shape.Idx.first (numel1_S1.symm ▸ Nat.one_pos))) = 1#1)) (hi : (i 1).val = 0) :
    (View.whole cc0_scratch0).readAt (Elt Ideal) (Rect.unit (s := S512x1024) ![0, 0] S256x1024.size inb_S512x1024_S256x1024_0_0).toLoadRect (sparse0 c i arg5 harg5 arg6 harg6 arg7 harg7 arg8 harg8 arg9 harg9 T0 T1 T2 x0 x1 x2 x3 xa0 h1 h5 h10 hi).1 = sacc x0 x1 x2 x3 := by
  unfold sparse0
  dsimp only
  refine (read_rect _ _ _ _ _).trans ?_
  simp only [sparse0.sl.r_2, sparse0.sl.r_3, sparse0.sl.r_4, sparse0.sl.r_5, sparse0.sl.r_6, View.readAt_rep]
  rfl

set_option maxHeartbeats 2000000 in
/-- A sparse tile leaves, after its second half, the sum of both in the first half of its block and zeros in the second. -/
theorem sparse1_out (c : Dev nD) (i : grid0.Coords) (arg5 : Memref sig .tc .vmem S4096x128 .f32) (harg5 : arg5.IsWhole) (arg6 : Memref sig .tc .vmem S1x1024x1792 .bf16) (harg6 : arg6.IsWhole) (arg7 : Memref sig .tc .vmem S1x1024x1792 .bf16) (harg7 : arg7.IsWhole) (arg8 : Memref sig .tc .vmem S1x1792x1024 .bf16) (harg8 : arg8.IsWhole) (arg9 : Memref sig .tc .vmem S4096x128 .f32) (harg9 : arg9.IsWhole) (T0 : (S72.Idx → Elt Ideal .i32)) (T1 : (S1.Idx → Elt Ideal .i32)) (T2 : (S72.Idx → Elt Ideal .i32))
    (x0 : (S4096x128.Idx → Elt Ideal .f32)) (x1 : (S1x1024x1792.Idx → Elt Ideal .bf16)) (x2 : (S1x1024x1792.Idx → Elt Ideal .bf16)) (x3 : (S1x1792x1024.Idx → Elt Ideal .bf16)) (xa0 : Buf (Elt Ideal) ((c : Thread nD τ).loc cc0_scratch0))
    (h1 : ¬(k0_cond1 i (View.readAt (Elt Ideal) (tbM0_1).view (Rect.unit (s := S1) ![0] S1.size inb_S1_S1_0).toLoadRect T1 (Shape.Idx.first (numel1_S1.symm ▸ Nat.one_pos))) (View.readAt (Elt Ideal) (tbM0_2).view (Rect.unit (s := S72) (k0_off1 i) S1.size (k0_off1_inb i)).toLoadRect T2 (Shape.Idx.first (numel1_S1.symm ▸ Nat.one_pos))) = 1#1)) (h5 : k0_cond5 i (View.readAt (Elt Ideal) (tbM0_1).view (Rect.unit (s := S1) ![0] S1.size inb_S1_S1_0).toLoadRect T1 (Shape.Idx.first (numel1_S1.symm ▸ Nat.one_pos))) (View.readAt (Elt Ideal) (tbM0_2).view (Rect.unit (s := S72) (k0_off1 i) S1.size (k0_off1_inb i)).toLoadRect T2 (Shape.Idx.first (numel1_S1.symm ▸ Nat.one_pos))) = 1#1) (h10 : ¬(k0_cond10 i (View.readAt (Elt Ideal) (tbM0_1).view (Rect.unit (s := S1) ![0] S1.size inb_S1_S1_0).toLoadRect T1 (Shape.Idx.first (numel1_S1.symm ▸ Nat.one_pos))) = 1#1)) (hi : (i 1).val = 1) :
    ∀ {sig' : RefSig} {κ : Kind} {sp : Space} (v : View sig' κ sp S4096x128 .f32) (f : v.ty.Contents (Elt Ideal)), v.read (Elt Ideal) (v.writes (Elt Ideal) f (sparse1 c i arg5 harg5 arg6 harg6 arg7 harg7 arg8 harg8 arg9 harg9 T0 T1 T2 x0 x1 x2 x3 xa0 h1 h5 h10 hi).1) = sout (ssum x0 x1 x2 x3 ((View.whole cc0_scratch0).readAt (Elt Ideal) (Rect.unit (s := S512x1024) ![0, 0] S256x1024.size inb_S512x1024_S256x1024_0_0).toLoadRect xa0)) := by
  intro sig' κ sp v f
  unfold sparse1
  refine (sout_of v f _).trans (congrArg sout ?_)
  unfold sparse1.sl.v116 sparse1.sl.HS0_1
  refine (read_rect _ _ _ _ _).trans ?_
  simp only [sparse1.sl.r_2, sparse1.sl.r_3, sparse1.sl.r_4, sparse1.sl.r_5, sparse1.sl.r_6, View.readAt_rep]
  rfl

end Cert.Kernel2Ideal.Expert

end
-- ==== Proof.ICfg.lean ====
module

public import proofs.«01_k».proof.Proof.Gen.Kernel2Ideal.Skeleton
public import proofs.«01_k».proof.Proof.Gen.Kernel2Ideal.Launch
public import proofs.«01_k».proof.Defs
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init
public import proofs.«01_k».proof.Proof.IRun
public import Idealize.ShloMosaic.Lib.Pointwise

@[expose] public section

set_option maxRecDepth 16384
set_option Elab.async false

noncomputable section

namespace Cert.Kernel2Ideal.Expert

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The three tables: each tile's expert, how many tiles are used, each tile's tokens — the experts in range. -/
structure Tabs where
  T0 : S72.Idx → BitVec 32
  T1 : S1.Idx → BitVec 32
  T2 : S72.Idx → BitVec 32
  lt : ∀ i, (T0 i).toNat < 8

variable (ch : Tabs)

/-- The tables at their literal types. -/
abbrev pinT_0 : S72.Idx → Elt Ideal .i32 := ch.T0
abbrev pinT_1 : S1.Idx → Elt Ideal .i32 := ch.T1
abbrev pinT_2 : S72.Idx → Elt Ideal .i32 := ch.T2

set_option backward.proofsInPublic true in
/-- The contents of the three tables. -/
def pfN : pre0.Contents (Elt Ideal) := fun | ⟨0, _⟩ => ch.T0 | ⟨1, _⟩ => ch.T1 | ⟨2, _⟩ => ch.T2 | ⟨_ + 3, h⟩ => absurd h (by simp)

/-- The launch memory holds these tables. -/
def Pinned (m : (ℓ : Loc nD τ sig) → Buf (Elt Ideal) ℓ) : Prop :=
  (∀ c : Dev nD, m ((c : Thread nD τ).loc main_arg0) = ch.T0)
  ∧ (∀ c : Dev nD, m ((c : Thread nD τ).loc main_arg1) = ch.T1)
  ∧ (∀ c : Dev nD, m ((c : Thread nD τ).loc main_arg2) = ch.T2)

/-- The half a window is at is 0 or 1. -/
theorem sel_le (b : BitVec 1) (n : Fin 2) : (Scalar.select b (BitVec.ofNat 32 n.val) 1#32 : BitVec 32).toNat ≤ 1 := by
  revert b n; decide

/-- Window 1's blocks lie inside its array. -/
theorem inb_1 (i : grid0.Coords) : ∀ a, (cc0_transform_1 k0_off1_inb numel1_S1 inb_S1_S1_0 (pfN ch) i a + 1) * S1x1024x1792.size a ≤ S8x1024x3584.size a := by
  intro a
  unfold cc0_transform_1
  have e := ch.lt ((Rect.unit (s := S72) (k0_off1 i) S1.size (k0_off1_inb i)).emb (Shape.Idx.first (numel1_S1.symm ▸ Nat.one_pos)))
  have f := sel_le (Scalar.cmpi .slt (BitVec.ofNat 32 (i 0).val) ((pfN ch).at 1 (Rect.unit (s := S1) ![0] S1.size inb_S1_S1_0) numel1_S1)) (i 1)
  fin_cases a
  · exact Nat.mul_le_mul_right 1 (Nat.succ_le_of_lt e)
  · exact (show (0 + 1) * 1024 ≤ 1024 from by decide)
  · exact Nat.mul_le_mul_right 1792 (Nat.succ_le_succ f)

/-- Window 2's blocks lie inside its array. -/
theorem inb_2 (i : grid0.Coords) : ∀ a, (cc0_transform_2 k0_off1_inb numel1_S1 inb_S1_S1_0 (pfN ch) i a + 1) * S1x1024x1792.size a ≤ S8x1024x3584.size a := by
  intro a
  unfold cc0_transform_2
  have e := ch.lt ((Rect.unit (s := S72) (k0_off1 i) S1.size (k0_off1_inb i)).emb (Shape.Idx.first (numel1_S1.symm ▸ Nat.one_pos)))
  have f := sel_le (Scalar.cmpi .slt (BitVec.ofNat 32 (i 0).val) ((pfN ch).at 1 (Rect.unit (s := S1) ![0] S1.size inb_S1_S1_0) numel1_S1)) (i 1)
  fin_cases a
  · exact Nat.mul_le_mul_right 1 (Nat.succ_le_of_lt e)
  · exact (show (0 + 1) * 1024 ≤ 1024 from by decide)
  · exact Nat.mul_le_mul_right 1792 (Nat.succ_le_succ f)

/-- Window 3's blocks lie inside its array. -/
theorem inb_3 (i : grid0.Coords) : ∀ a, (cc0_transform_3 k0_off1_inb numel1_S1 inb_S1_S1_0 (pfN ch) i a + 1) * S1x1792x1024.size a ≤ S8x3584x1024.size a := by
  intro a
  unfold cc0_transform_3
  have e := ch.lt ((Rect.unit (s := S72) (k0_off1 i) S1.size (k0_off1_inb i)).emb (Shape.Idx.first (numel1_S1.symm ▸ Nat.one_pos)))
  have f := sel_le (Scalar.cmpi .slt (BitVec.ofNat 32 (i 0).val) ((pfN ch).at 1 (Rect.unit (s := S1) ![0] S1.size inb_S1_S1_0) numel1_S1)) (i 1)
  fin_cases a
  · exact Nat.mul_le_mul_right 1 (Nat.succ_le_of_lt e)
  · exact Nat.mul_le_mul_right 1792 (Nat.succ_le_succ f)
  · exact (show (0 + 1) * 1024 ≤ 1024 from by decide)

/-- The side condition holds at the tables. -/
theorem ok_pfN : ok0 (F := Ideal) (pfN ch) :=
  ⟨fun i => ⟨inb_1 ch i, .inr (Affine.block_words_dvd (s := S8x1024x3584) (p := EltTy.packing .bf16) (by decide) (by decide))⟩,
   fun i => ⟨inb_2 ch i, .inr (Affine.block_words_dvd (s := S8x1024x3584) (p := EltTy.packing .bf16) (by decide) (by decide))⟩,
   fun i => ⟨inb_3 ch i, .inr (Affine.block_words_dvd (s := S8x3584x1024) (p := EltTy.packing .bf16) (by decide) (by decide))⟩⟩

/-- The admissible contents and the pipeline at them. -/
def adm : (pcfg0 (F := Ideal)).Adm := ⟨pfN ch, ok_pfN ch⟩
abbrev cfgA : Pipeline.Cfg sig Λ₀ := cfg0 (F := Ideal) (adm ch)
abbrev pcs : Fin 1 → Pipeline.Cfg sig Λ₀ := Pipeline.pin (pcfgs (F := Ideal)) fun _ => adm ch

/-! ## The words the body reads and the conditions at them -/

/-- How many tiles are used. -/
abbrev used : BitVec 32 := ch.T1 (ix1 (0 : Fin 1))
/-- How many tokens the tile has. -/
abbrev toks (i : grid0.Coords) : BitVec 32 := ch.T2 (ix1 (⟨(i 0).val, (i 0).isLt⟩ : Fin 72))

theorem w1_eq : (View.readAt (Elt Ideal) (tbM0_1).view (Rect.unit (s := S1) ![0] S1.size inb_S1_S1_0).toLoadRect (ch.T1) (Shape.Idx.first (numel1_S1.symm ▸ Nat.one_pos))) = used ch := by
  rw [View.readAt_apply]
  exact congrArg ch.T1 (funext fun a => by
    obtain rfl : a = (0 : Fin 1) := Subsingleton.elim (α := Fin 1) _ _
    exact Subsingleton.elim (α := Fin 1) _ _)
theorem off1_val (i : grid0.Coords) : k0_off1 i 0 = (i 0).val := by
  have h : (i 0).val < 72 := (i 0).isLt
  show (BitVec.setWidth _ (BitVec.ofNat 32 (i 0).val)).toNat = _
  simp; omega
theorem w2_eq (i : grid0.Coords) : (View.readAt (Elt Ideal) (tbM0_2).view (Rect.unit (s := S72) (k0_off1 i) S1.size (k0_off1_inb i)).toLoadRect (ch.T2) (Shape.Idx.first (numel1_S1.symm ▸ Nat.one_pos))) = toks ch i := by
  rw [View.readAt_apply]
  refine congrArg ch.T2 (funext fun a => Fin.ext ?_)
  obtain rfl : a = (0 : Fin 1) := Subsingleton.elim (α := Fin 1) _ _
  show k0_off1 i 0 + 1 * 0 = _
  rw [off1_val]; rfl
theorem atD1_eq : (pfN ch).atD 1 ![0] = used ch := by
  refine (dif_pos (by decide)).trans ?_
  exact congrArg ch.T1 (funext fun a => by
    obtain rfl : a = (0 : Fin 1) := Subsingleton.elim (α := Fin 1) _ _
    exact Subsingleton.elim (α := Fin 1) _ _)
theorem atD2_eq (i : grid0.Coords) : (pfN ch).atD 2 (k0_off1 i) = toks ch i := by
  refine (dif_pos ?_).trans ?_
  · intro a; obtain rfl : a = (0 : Fin 1) := Subsingleton.elim (α := Fin 1) _ _
    exact (congrArg (· + 1) (off1_val i)).trans_le (i 0).isLt
  · refine congrArg ch.T2 (funext fun a => Fin.ext ?_)
    obtain rfl : a = (0 : Fin 1) := Subsingleton.elim (α := Fin 1) _ _
    exact off1_val i

/-- The tile has tokens past its first half. -/
abbrev P1 (i : grid0.Coords) : Prop := k0_cond1 i (used ch) (toks ch i) = 1#1
/-- The tile has tokens in its first half only. -/
abbrev P5 (i : grid0.Coords) : Prop := k0_cond5 i (used ch) (toks ch i) = 1#1
/-- The tile is unused and this is its second half. -/
abbrev P10 (i : grid0.Coords) : Prop := k0_cond10 i (used ch) = 1#1

theorem excl (i : grid0.Coords) (h : P1 ch i) : ¬P5 ch i := by
  unfold P1 k0_cond1 at h; unfold P5 k0_cond5
  dsimp only at h ⊢
  generalize Scalar.cmpi .slt (BitVec.ofNat 32 (i 0).val) (used ch) = a at h ⊢
  generalize Scalar.cmpi .sle (toks ch i) 256#32 = b at h ⊢
  revert a b; decide
theorem not10_of1 (i : grid0.Coords) (h : P1 ch i) : ¬P10 ch i := by
  unfold P1 k0_cond1 at h; unfold P10 k0_cond10
  dsimp only at h ⊢
  generalize Scalar.cmpi .slt (BitVec.ofNat 32 (i 0).val) (used ch) = a at h ⊢
  generalize Scalar.cmpi .sle (toks ch i) 256#32 = b at h ⊢
  generalize Scalar.cmpi .eq (BitVec.ofNat 32 (i 1).val) 1#32 = d
  revert a b d; decide
theorem not10_of5 (i : grid0.Coords) (h : P5 ch i) : ¬P10 ch i := by
  unfold P5 k0_cond5 at h; unfold P10 k0_cond10
  dsimp only at h ⊢
  generalize Scalar.cmpi .slt (BitVec.ofNat 32 (i 0).val) (used ch) = a at h ⊢
  generalize Scalar.cmpi .sle (toks ch i) 256#32 = b at h ⊢
  generalize Scalar.cmpi .eq (BitVec.ofNat 32 (i 1).val) 1#32 = d
  revert a b d; decide
theorem not10_half0 (i : grid0.Coords) (h : (i 1).val = 0) : ¬P10 ch i := by
  unfold P10 k0_cond10
  dsimp only
  rw [h]
  generalize Scalar.cmpi .slt (BitVec.ofNat 32 (i 0).val) (used ch) = a
  revert a; decide
theorem is10 (i : grid0.Coords) (h1 : ¬P1 ch i) (h5 : ¬P5 ch i) (h : (i 1).val = 1) : P10 ch i := by
  unfold P1 k0_cond1 at h1; unfold P5 k0_cond5 at h5; unfold P10 k0_cond10
  dsimp only at h1 h5 ⊢
  rw [h]
  generalize Scalar.cmpi .slt (BitVec.ofNat 32 (i 0).val) (used ch) = a at h1 h5 ⊢
  generalize Scalar.cmpi .sle (toks ch i) 256#32 = b at h1 h5 ⊢
  revert a b; decide
theorem toks_congr (i i' : grid0.Coords) (h : (i 0).val = (i' 0).val) : toks ch i = toks ch i' :=
  congrArg (fun x : Fin 72 => ch.T2 (ix1 x)) (Fin.ext h)
theorem P1_congr (i i' : grid0.Coords) (h : (i 0).val = (i' 0).val) : P1 ch i ↔ P1 ch i' := by
  unfold P1 k0_cond1; dsimp only; rw [h, toks_congr ch i i' h]
theorem P5_congr (i i' : grid0.Coords) (h : (i 0).val = (i' 0).val) : P5 ch i ↔ P5 ch i' := by
  unfold P5 k0_cond5; dsimp only; rw [h, toks_congr ch i i' h]

/-! ## The grid and the schedule of the output window -/

theorem crd_val : ∀ t : Fin grid0.N, (grid0.coords t 0).val = t.val / 2 ∧ (grid0.coords t 1).val = t.val % 2 := by decide +kernel
theorem cond4_of : ∀ n : Fin 2, (Scalar.cmpi .ne (Scalar.extui (Scalar.cmpi .eq (BitVec.ofNat 32 n.val) 1#32) : BitVec 32) 0#32 == 1#1) = decide (n.val = 1) := by decide
theorem idle4 (i : grid0.Coords) : (cfgA ch).idle (4 : Fin 5) i = !decide ((i 1).val = 1) := by
  show (!((k0_cond1 i ((pfN ch).atD 1 ![0]) ((pfN ch).atD 2 (k0_off1 i)) == 1#1) && (k0_cond4 i == 1#1)) && !((k0_cond5 i ((pfN ch).atD 1 ![0]) ((pfN ch).atD 2 (k0_off1 i)) == 1#1) && (k0_cond8 i == 1#1)) && !((k0_cond5 i ((pfN ch).atD 1 ![0]) ((pfN ch).atD 2 (k0_off1 i)) == 1#1) && (k0_cond9 i == 1#1)) && !(k0_cond10 i ((pfN ch).atD 1 ![0]) == 1#1)) = _
  rw [atD1_eq, atD2_eq]
  have h4 : (k0_cond4 i == 1#1) = decide ((i 1).val = 1) := cond4_of (i 1)
  have h8 : (k0_cond8 i == 1#1) = decide ((i 1).val = 1) := cond4_of (i 1)
  have h9 : (k0_cond9 i == 1#1) = decide ((i 1).val = 1) := cond4_of (i 1)
  rw [h4, h8, h9]
  have hlt : (i 1).val < 2 := (i 1).isLt
  by_cases h : (i 1).val = 1
  · by_cases h1 : P1 ch i
    · have e : (k0_cond1 i (used ch) (toks ch i) == 1#1) = true := by simpa using h1
      rw [e]; simp [h]
    · by_cases h5 : P5 ch i
      · have e : (k0_cond5 i (used ch) (toks ch i) == 1#1) = true := by simpa using h5
        rw [e]; simp [h]
      · have e : (k0_cond10 i (used ch) == 1#1) = true := by simpa using is10 ch i h1 h5 h
        rw [e]; simp [h]
  · have e : (k0_cond10 i (used ch) == 1#1) = false := by simpa using not10_half0 ch i (by omega)
    rw [e]; simp [h]

theorem flush_tab : ∀ t : Fin grid0.N, (decide (t.val + 1 = grid0.N) || decide (∃ h : t.val + 1 < grid0.N, ∃ a, cc0_transform_4 (grid0.coords ⟨t.val + 1, h⟩) a ≠ cc0_transform_4 (grid0.coords t) a)) = decide (t.val % 2 = 1) := by decide +kernel
theorem flush4 (t : Fin (cfgA ch).N) : ((cfgA ch).win (4 : Fin 5)).flush t = decide (t.val % 2 = 1) := by
  rw [Pipeline.Window.flush_eq_flushF]
  unfold Pipeline.Window.flushF
  exact flush_tab t
theorem fresh4 (t : Fin (cfgA ch).N) : (cfgA ch).fresh (4 : Fin 5) t.val = true := by
  refine Pipeline.Cfg.fresh_tab (cfgA ch) (4 : Fin 5) (fun _ => true) rfl (fun t => ?_) t.val (Nat.le_of_lt t.isLt)
  rw [flush4, idle4]
  have h := (crd_val t).2
  have e : (((cfgA ch).grid.coords t) 1).val = t.val % 2 := h
  rw [e]
  by_cases hh : t.val % 2 = 1 <;> simp [hh]

end Cert.Kernel2Ideal.Expert

end
-- ==== Proof.ILaunch.lean ====
module

public import proofs.«01_k».proof.Proof.Gen.Kernel2Ideal.Skeleton
public import proofs.«01_k».proof.Proof.Gen.Kernel2Ideal.Launch
public import proofs.«01_k».proof.Defs
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init
public import proofs.«01_k».proof.Proof.IBody
public import proofs.«01_k».proof.Proof.ICfg
public import Idealize.ShloMosaic.Lib.Pipeline.Quiescent
public import Idealize.ShloMosaic.Lib.Claim

@[expose] public section

set_option maxRecDepth 16384
set_option Elab.async false

noncomputable section

namespace Cert.Kernel2Ideal.Expert

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (ch : Tabs)
variable (m : (ℓ : Loc nD τ sig) → Buf (Elt Ideal) ℓ) (ρ : Dev nD → PrngReg)

/-- The proof's resource algebra: the rounds library's, for the pipeline's staging cells, embedded whole. -/
abbrev EP : Emb (UR sig nD τ) (MT nD τ sig Unit (Elt Ideal) ℕ (UR sig nD τ) ℕ) := emb₁

/-- Point `t`'s coordinates. -/
abbrev crd (t : Fin (cfgA ch).N) : (cfgA ch).grid.Coords := (cfgA ch).grid.coords t

/-- Each window's current staging memref at point `t`, spelled as the pipeline passes it, and its wholeness. -/
abbrev ms0_0 (t : Fin (cfgA ch).N) : Memref sig .tc .vmem S4096x128 .f32 := spec0_0.stage ((cfgA ch).slots t (0 : Fin 5))
abbrev hs0_0 (t : Fin (cfgA ch).N) : (ms0_0 ch t).IsWhole := hstage0_0 (((cfgA ch).slots t (0 : Fin 5)).cast nbuf0_0)
abbrev ms0_1 (t : Fin (cfgA ch).N) : Memref sig .tc .vmem S1x1024x1792 .bf16 := spec0_1.stage ((cfgA ch).slots t (1 : Fin 5))
abbrev hs0_1 (t : Fin (cfgA ch).N) : (ms0_1 ch t).IsWhole := hstage0_1 (((cfgA ch).slots t (1 : Fin 5)).cast nbuf0_1)
abbrev ms0_2 (t : Fin (cfgA ch).N) : Memref sig .tc .vmem S1x1024x1792 .bf16 := spec0_2.stage ((cfgA ch).slots t (2 : Fin 5))
abbrev hs0_2 (t : Fin (cfgA ch).N) : (ms0_2 ch t).IsWhole := hstage0_2 (((cfgA ch).slots t (2 : Fin 5)).cast nbuf0_2)
abbrev ms0_3 (t : Fin (cfgA ch).N) : Memref sig .tc .vmem S1x1792x1024 .bf16 := spec0_3.stage ((cfgA ch).slots t (3 : Fin 5))
abbrev hs0_3 (t : Fin (cfgA ch).N) : (ms0_3 ch t).IsWhole := hstage0_3 (((cfgA ch).slots t (3 : Fin 5)).cast nbuf0_3)
abbrev ms0_4 (t : Fin (cfgA ch).N) : Memref sig .tc .vmem S4096x128 .f32 := spec0_4.stage ((cfgA ch).slots t (4 : Fin 5))
abbrev hs0_4 (t : Fin (cfgA ch).N) : (ms0_4 ch t).IsWhole := hstage0_4 (((cfgA ch).slots t (4 : Fin 5)).cast nbuf0_4)

/-! ## The windows' blocks -/

/-- Window `w`'s block at point `t`, read off its array at launch. -/
def iblk (c : Dev nD) (w : Fin (cfgA ch).W) (t : Fin (cfgA ch).N) : (((cfgA ch).win w).xblock (crd ch t)).Idx → Elt Ideal ((cfgA ch).win w).elt :=
  (((cfgA ch).win w).blk t).view.read (Elt Ideal) ((s₀ m ρ).mem (((cfgA ch).win w).arr.view.loc (c : Thread nD τ)))

/-- The point before, for a point that has one (itself at the first). -/
def back (t : Fin (cfgA ch).N) : Fin (cfgA ch).N := ⟨t.val - 1, Nat.lt_of_le_of_lt (Nat.sub_le _ _) t.isLt⟩
/-- The point before position `t`. -/
def prevPt (t : Fin ((cfgA ch).N + 1)) : Fin (cfgA ch).N := ⟨t.val - 1, by
  have h := t.isLt
  have hN : (cfgA ch).N = 144 := N_0
  omega⟩
theorem prevPt_succ (t : Fin (cfgA ch).N) : prevPt ch t.succ = t := Fin.ext (by show t.val + 1 - 1 = t.val; omega)
theorem prevPt_cast (t : Fin (cfgA ch).N) : prevPt ch t.castSucc = back ch t := rfl
variable {ch} in
theorem back_val (t : Fin (cfgA ch).N) (ht : t.val % 2 = 1) : (crd ch (prevPt ch t.castSucc) 0).val = (crd ch t 0).val := by
  rw [show (crd ch (prevPt ch t.castSucc) 0).val = (t.val - 1) / 2 from (crd_val (prevPt ch t.castSucc)).1, show (crd ch t 0).val = t.val / 2 from (crd_val t).1]
  omega

open Classical in
/-- What a tile's second point leaves in its block of the result. -/
def outAt (c : Dev nD) (t : Fin (cfgA ch).N) : Vec Ideal S4096x128 .f32 :=
  if P1 ch (crd ch t) then
    dout (dsum (iblk ch m ρ c (0 : Fin 5) t) (iblk ch m ρ c (1 : Fin 5) t) (iblk ch m ρ c (2 : Fin 5) t) (iblk ch m ρ c (3 : Fin 5) t)
      (dacc (iblk ch m ρ c (0 : Fin 5) (back ch t)) (iblk ch m ρ c (1 : Fin 5) (back ch t)) (iblk ch m ρ c (2 : Fin 5) (back ch t)) (iblk ch m ρ c (3 : Fin 5) (back ch t))))
  else if P5 ch (crd ch t) then
    sout (ssum (iblk ch m ρ c (0 : Fin 5) t) (iblk ch m ρ c (1 : Fin 5) t) (iblk ch m ρ c (2 : Fin 5) t) (iblk ch m ρ c (3 : Fin 5) t)
      (sacc (iblk ch m ρ c (0 : Fin 5) (back ch t)) (iblk ch m ρ c (1 : Fin 5) (back ch t)) (iblk ch m ρ c (2 : Fin 5) (back ch t)) (iblk ch m ρ c (3 : Fin 5) (back ch t))))
  else k0_pay18 (F := Ideal)
theorem outAt_1 (c : Dev nD) (t : Fin (cfgA ch).N) (h : P1 ch (crd ch t)) : outAt ch m ρ c t =
    dout (dsum (iblk ch m ρ c (0 : Fin 5) t) (iblk ch m ρ c (1 : Fin 5) t) (iblk ch m ρ c (2 : Fin 5) t) (iblk ch m ρ c (3 : Fin 5) t)
      (dacc (iblk ch m ρ c (0 : Fin 5) (back ch t)) (iblk ch m ρ c (1 : Fin 5) (back ch t)) (iblk ch m ρ c (2 : Fin 5) (back ch t)) (iblk ch m ρ c (3 : Fin 5) (back ch t)))) := if_pos h
theorem outAt_5 (c : Dev nD) (t : Fin (cfgA ch).N) (h : ¬P1 ch (crd ch t)) (h5 : P5 ch (crd ch t)) : outAt ch m ρ c t =
    sout (ssum (iblk ch m ρ c (0 : Fin 5) t) (iblk ch m ρ c (1 : Fin 5) t) (iblk ch m ρ c (2 : Fin 5) t) (iblk ch m ρ c (3 : Fin 5) t)
      (sacc (iblk ch m ρ c (0 : Fin 5) (back ch t)) (iblk ch m ρ c (1 : Fin 5) (back ch t)) (iblk ch m ρ c (2 : Fin 5) (back ch t)) (iblk ch m ρ c (3 : Fin 5) (back ch t)))) := (if_neg h).trans (if_pos h5)
theorem outAt_no (c : Dev nD) (t : Fin (cfgA ch).N) (h : ¬P1 ch (crd ch t)) (h5 : ¬P5 ch (crd ch t)) : outAt ch m ρ c t = k0_pay18 (F := Ideal) := (if_neg h).trans (if_neg h5)

/-- What the scratch holds before position `t`: between a tile's two points, the first half's sums. -/
def RelScr (c : Dev nD) (t : Fin ((cfgA ch).N + 1)) (a : Buf (Elt Ideal) ((c : Thread nD τ).loc cc0_scratch0)) : Prop :=
  t.val % 2 = 1 →
    (P1 ch (crd ch (prevPt ch t)) → (View.whole cc0_scratch0).readAt (Elt Ideal) (Rect.unit (s := S512x1024) ![0, 0] S512x1024.size inb_S512x1024_S512x1024_0_0).toLoadRect a
      = dacc (iblk ch m ρ c (0 : Fin 5) (prevPt ch t)) (iblk ch m ρ c (1 : Fin 5) (prevPt ch t)) (iblk ch m ρ c (2 : Fin 5) (prevPt ch t)) (iblk ch m ρ c (3 : Fin 5) (prevPt ch t)))
    ∧ (P5 ch (crd ch (prevPt ch t)) → (View.whole cc0_scratch0).readAt (Elt Ideal) (Rect.unit (s := S512x1024) ![0, 0] S256x1024.size inb_S512x1024_S256x1024_0_0).toLoadRect a
      = sacc (iblk ch m ρ c (0 : Fin 5) (prevPt ch t)) (iblk ch m ρ c (1 : Fin 5) (prevPt ch t)) (iblk ch m ρ c (2 : Fin 5) (prevPt ch t)) (iblk ch m ρ c (3 : Fin 5) (prevPt ch t)))

/-- The invariant before position `t`: the scratch as said, the body's halves of the tables. -/
def Phi (m : (ℓ : Loc nD τ sig) → Buf (Elt Ideal) ℓ) (ρ : Dev nD → PrngReg) (c : Dev nD) (t : Fin ((cfgA ch).N + 1)) : sProp (MT nD τ sig Unit (Elt Ideal) ℕ (UR sig nD τ) ℕ) :=
  iprop((∃ a, ⌜RelScr ch m ρ c t a⌝ ∗ (scM0_0.view.loc (c : Thread nD τ) ↦{fullShare} a)) ∗ (tbM0_0.view.loc (c : Thread nD τ) ↦{fullShare.right} ch.T0) ∗ (tbM0_1.view.loc (c : Thread nD τ) ↦{fullShare.right} ch.T1) ∗ (tbM0_2.view.loc (c : Thread nD τ) ↦{fullShare.right} ch.T2))

/-- The proof data of the one pipeline on core `c`. -/
def dats (_ : Fin 1) (c : Dev nD) : Dat τ (Elt Ideal) Unit ℕ (UR sig nD τ) ℕ (cfgA ch) c where
  A w := (s₀ m ρ).mem (((cfgA ch).win w).arr.view.loc (c : Thread nD τ))
  after w t := match w with
    | ⟨0, _⟩ => iblk ch m ρ c (0 : Fin 5) t
    | ⟨1, _⟩ => iblk ch m ρ c (1 : Fin 5) t
    | ⟨2, _⟩ => iblk ch m ρ c (2 : Fin 5) t
    | ⟨3, _⟩ => iblk ch m ρ c (3 : Fin 5) t
    | ⟨4, _⟩ => outAt ch m ρ c t
  Φ t := Phi ch m ρ c t
  q _ := fullShare
  owed _ := 0

theorem after0_0 (c : Dev nD) (t : Fin (cfgA ch).N) : (dats ch m ρ 0 c).after (0 : Fin 5) t = iblk ch m ρ c (0 : Fin 5) t := rfl
theorem after0_1 (c : Dev nD) (t : Fin (cfgA ch).N) : (dats ch m ρ 0 c).after (1 : Fin 5) t = iblk ch m ρ c (1 : Fin 5) t := rfl
theorem after0_2 (c : Dev nD) (t : Fin (cfgA ch).N) : (dats ch m ρ 0 c).after (2 : Fin 5) t = iblk ch m ρ c (2 : Fin 5) t := rfl
theorem after0_3 (c : Dev nD) (t : Fin (cfgA ch).N) : (dats ch m ρ 0 c).after (3 : Fin 5) t = iblk ch m ρ c (3 : Fin 5) t := rfl
theorem after0_4 (c : Dev nD) (t : Fin (cfgA ch).N) : (dats ch m ρ 0 c).after (4 : Fin 5) t = outAt ch m ρ c t := rfl

/-- Input window 0 holds its block, fetched there or not (Lib/Pipeline/FrameBody.lean `Dat.before_in_eq_fetched`). -/
theorem before0_0 (c : Dev nD) (t : Fin (cfgA ch).N) (d) : (dats ch m ρ 0 c).before (0 : Fin 5) t d = iblk ch m ρ c (0 : Fin 5) t :=
  ((dats ch m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)

/-- Input window 1 holds its block, fetched there or not (Lib/Pipeline/FrameBody.lean `Dat.before_in_eq_fetched`). -/
theorem before0_1 (c : Dev nD) (t : Fin (cfgA ch).N) (d) : (dats ch m ρ 0 c).before (1 : Fin 5) t d = iblk ch m ρ c (1 : Fin 5) t :=
  ((dats ch m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)

/-- Input window 2 holds its block, fetched there or not (Lib/Pipeline/FrameBody.lean `Dat.before_in_eq_fetched`). -/
theorem before0_2 (c : Dev nD) (t : Fin (cfgA ch).N) (d) : (dats ch m ρ 0 c).before (2 : Fin 5) t d = iblk ch m ρ c (2 : Fin 5) t :=
  ((dats ch m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)

/-- Input window 3 holds its block, fetched there or not (Lib/Pipeline/FrameBody.lean `Dat.before_in_eq_fetched`). -/
theorem before0_3 (c : Dev nD) (t : Fin (cfgA ch).N) (d) : (dats ch m ρ 0 c).before (3 : Fin 5) t d = iblk ch m ρ c (3 : Fin 5) t :=
  ((dats ch m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- The output's buffer holds anything when the body runs. -/
theorem before0_4 (c : Dev nD) (t : Fin (cfgA ch).N) (d) : (dats ch m ρ 0 c).before (4 : Fin 5) t d = d := by
  rw [(dats ch m ρ 0 c).before_out_traj (4 : Fin 5) rfl (fun _ _ => rfl) (fun t _ _ hf => absurd ((fresh4 ch t).symm.trans hf) (by decide)) t.val t rfl d]
  exact if_pos (fresh4 ch t)

/-- The body at point `t` on its staging memrefs, as the pipeline calls it. -/
abbrev bodyAt0 (t : Fin (cfgA ch).N) : Prog (TpuEff nD τ sig (Elt Ideal) Λ₀ .tc) PUnit :=
  cc0_moe_experts (crd ch t) (Memref.whole main_arg0) (Memref.isWhole_whole _) (Memref.whole main_arg1) (Memref.isWhole_whole _) (Memref.whole main_arg2) (Memref.isWhole_whole _) (ms0_0 ch t) (hs0_0 ch t) (ms0_1 ch t) (hs0_1 ch t) (ms0_2 ch t) (hs0_2 ch t) (ms0_3 ch t) (hs0_3 ch t) (ms0_4 ch t) (hs0_4 ch t) (Memref.whole cc0_scratch0) (Memref.isWhole_whole _)

set_option maxHeartbeats 4000000 in
/-- The body's obligation at a tile with tokens past its first half, at the first half of the hidden width. -/
theorem sound_dense0 (c : Dev nD) (t : Fin (cfgA ch).N) (q1 : P1 ch (crd ch t)) (q5 : ¬P5 ch (crd ch t)) (q10 : ¬P10 ch (crd ch t)) (ht : t.val % 2 = 0) :
    iprop((dats ch m ρ 0 c).Φ t.castSucc ∗ (dats ch m ρ 0 c).owesAt () t.castSucc
        ∗ (∃ d, owns (c : Thread nD τ) (ms0_0 ch t) fullShare ((dats ch m ρ 0 c).before (0 : Fin 5) t d))
        ∗ (∃ d, owns (c : Thread nD τ) (ms0_1 ch t) fullShare ((dats ch m ρ 0 c).before (1 : Fin 5) t d))
        ∗ (∃ d, owns (c : Thread nD τ) (ms0_2 ch t) fullShare ((dats ch m ρ 0 c).before (2 : Fin 5) t d))
        ∗ (∃ d, owns (c : Thread nD τ) (ms0_3 ch t) fullShare ((dats ch m ρ 0 c).before (3 : Fin 5) t d))
        ∗ (∃ d, owns (c : Thread nD τ) (ms0_4 ch t) fullShare ((dats ch m ρ 0 c).before (4 : Fin 5) t d)))
      ⊢ wp frame (wpE (defs₀ (F := Ideal)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  have qh : (crd ch t 1).val = 0 := (crd_val t).2.trans ht
  have i4 : (cfgA ch).idle (4 : Fin 5) ((cfgA ch).grid.coords t) = true := by rw [idle4]; rw [qh]; rfl
  have f4 : ((cfgA ch).win (4 : Fin 5)).flush t = false := by rw [flush4, ht]; rfl
  rw [bigSep_W0]
  rewrite [i4]
  simp only [before0_0, before0_1, before0_2, before0_3, before0_4, after0_0, after0_1, after0_2, after0_3, after0_4, f4]
  rewrite [show (dats ch m ρ 0 c).Φ t.succ = Phi ch m ρ c t.succ from rfl, show (dats ch m ρ 0 c).Φ t.castSucc = Phi ch m ρ c t.castSucc from rfl,
    show (dats ch m ρ 0 c).owesAt () t.succ = (dats ch m ρ 0 c).owesAt () t.castSucc from rfl]
  unfold Phi RelScr
  iintro ⟨⟨⟨%a0, %ha0, HS0⟩, HT0, HT1, HT2⟩, Ho, ⟨%d0, H0⟩, ⟨%d1, H1⟩, ⟨%d2, H2⟩, ⟨%d3, H3⟩, ⟨%d4, H4⟩⟩
  iapply ((dense0 c (crd ch t) (ms0_0 ch t) (hs0_0 ch t) (ms0_1 ch t) (hs0_1 ch t) (ms0_2 ch t) (hs0_2 ch t) (ms0_3 ch t) (hs0_3 ch t) (ms0_4 ch t) (hs0_4 ch t) ch.T0 ch.T1 ch.T2 (iblk ch m ρ c (0 : Fin 5) t) (iblk ch m ρ c (1 : Fin 5) t) (iblk ch m ρ c (2 : Fin 5) t) (iblk ch m ρ c (3 : Fin 5) t) a0 (by rw [w1_eq ch, w2_eq ch (crd ch t)]; exact q1) (by rw [w1_eq ch, w2_eq ch (crd ch t)]; exact q5) (by rw [w1_eq ch]; exact q10) qh).2 _ _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [HT2]; · iexact HT2
  isplitl [H4]; · iexact H4
  isplitl [HS0]; · iexact HS0
  iintro ⟨H0, H1, H2, H3, HT0, HT1, HT2, H4, HS0⟩
  isplitl [HS0 HT0 HT1 HT2]
  · isplitl [HS0]
    · iexists _; isplitr; swap
      · iexact HS0
      · ipureintro; intro hn
        rw [prevPt_succ ch t]
        exact ⟨(fun _ => dense0_scr c (crd ch t) (ms0_0 ch t) (hs0_0 ch t) (ms0_1 ch t) (hs0_1 ch t) (ms0_2 ch t) (hs0_2 ch t) (ms0_3 ch t) (hs0_3 ch t) (ms0_4 ch t) (hs0_4 ch t) ch.T0 ch.T1 ch.T2 (iblk ch m ρ c (0 : Fin 5) t) (iblk ch m ρ c (1 : Fin 5) t) (iblk ch m ρ c (2 : Fin 5) t) (iblk ch m ρ c (3 : Fin 5) t) a0 (by rw [w1_eq ch, w2_eq ch (crd ch t)]; exact q1) (by rw [w1_eq ch, w2_eq ch (crd ch t)]; exact q5) (by rw [w1_eq ch]; exact q10) qh), (fun q => absurd q q5)⟩
    isplitl [HT0]
    · iexact HT0
    isplitl [HT1]
    · iexact HT1
    iexact HT2
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  iexists d4; iexact H4

set_option maxHeartbeats 4000000 in
/-- The body's obligation at a tile with tokens past its first half, at the second half of the hidden width. -/
theorem sound_dense1 (c : Dev nD) (t : Fin (cfgA ch).N) (q1 : P1 ch (crd ch t)) (q5 : ¬P5 ch (crd ch t)) (q10 : ¬P10 ch (crd ch t)) (ht : t.val % 2 = 1) :
    iprop((dats ch m ρ 0 c).Φ t.castSucc ∗ (dats ch m ρ 0 c).owesAt () t.castSucc
        ∗ (∃ d, owns (c : Thread nD τ) (ms0_0 ch t) fullShare ((dats ch m ρ 0 c).before (0 : Fin 5) t d))
        ∗ (∃ d, owns (c : Thread nD τ) (ms0_1 ch t) fullShare ((dats ch m ρ 0 c).before (1 : Fin 5) t d))
        ∗ (∃ d, owns (c : Thread nD τ) (ms0_2 ch t) fullShare ((dats ch m ρ 0 c).before (2 : Fin 5) t d))
        ∗ (∃ d, owns (c : Thread nD τ) (ms0_3 ch t) fullShare ((dats ch m ρ 0 c).before (3 : Fin 5) t d))
        ∗ (∃ d, owns (c : Thread nD τ) (ms0_4 ch t) fullShare ((dats ch m ρ 0 c).before (4 : Fin 5) t d)))
      ⊢ wp frame (wpE (defs₀ (F := Ideal)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  have qh : (crd ch t 1).val = 1 := (crd_val t).2.trans ht
  have i4 : (cfgA ch).idle (4 : Fin 5) ((cfgA ch).grid.coords t) = false := by rw [idle4]; rw [qh]; rfl
  have f4 : ((cfgA ch).win (4 : Fin 5)).flush t = true := by rw [flush4, ht]; rfl
  rw [bigSep_W0]
  rewrite [i4]
  simp only [before0_0, before0_1, before0_2, before0_3, before0_4, after0_0, after0_1, after0_2, after0_3, after0_4, f4]
  rewrite [show (dats ch m ρ 0 c).Φ t.succ = Phi ch m ρ c t.succ from rfl, show (dats ch m ρ 0 c).Φ t.castSucc = Phi ch m ρ c t.castSucc from rfl,
    show (dats ch m ρ 0 c).owesAt () t.succ = (dats ch m ρ 0 c).owesAt () t.castSucc from rfl]
  unfold Phi RelScr
  iintro ⟨⟨⟨%a0, %ha0, HS0⟩, HT0, HT1, HT2⟩, Ho, ⟨%d0, H0⟩, ⟨%d1, H1⟩, ⟨%d2, H2⟩, ⟨%d3, H3⟩, ⟨%d4, H4⟩⟩
  iapply ((dense1 c (crd ch t) (ms0_0 ch t) (hs0_0 ch t) (ms0_1 ch t) (hs0_1 ch t) (ms0_2 ch t) (hs0_2 ch t) (ms0_3 ch t) (hs0_3 ch t) (ms0_4 ch t) (hs0_4 ch t) ch.T0 ch.T1 ch.T2 (iblk ch m ρ c (0 : Fin 5) t) (iblk ch m ρ c (1 : Fin 5) t) (iblk ch m ρ c (2 : Fin 5) t) (iblk ch m ρ c (3 : Fin 5) t) a0 (by rw [w1_eq ch, w2_eq ch (crd ch t)]; exact q1) (by rw [w1_eq ch, w2_eq ch (crd ch t)]; exact q5) (by rw [w1_eq ch]; exact q10) qh).2.2 _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [HT2]; · iexact HT2
  isplitl [H4]; · iexists _; iexact H4
  isplitl [HS0]; · iexact HS0
  iintro ⟨H0, H1, H2, H3, HT0, HT1, HT2, ⟨%e4, H4⟩, HS0⟩
  isplitl [HS0 HT0 HT1 HT2]
  · isplitl [HS0]
    · iexists _; isplitr; swap
      · iexact HS0
      · ipureintro; intro hn; exact absurd hn (by rw [Fin.val_succ]; omega)
    isplitl [HT0]
    · iexact HT0
    isplitl [HT1]
    · iexact HT1
    iexact HT2
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  unfold owns; iexists _; isplitr; swap
  · iexact H4
  · ipureintro
    exact (dense1_out c (crd ch t) (ms0_0 ch t) (hs0_0 ch t) (ms0_1 ch t) (hs0_1 ch t) (ms0_2 ch t) (hs0_2 ch t) (ms0_3 ch t) (hs0_3 ch t) (ms0_4 ch t) (hs0_4 ch t) ch.T0 ch.T1 ch.T2 (iblk ch m ρ c (0 : Fin 5) t) (iblk ch m ρ c (1 : Fin 5) t) (iblk ch m ρ c (2 : Fin 5) t) (iblk ch m ρ c (3 : Fin 5) t) a0 (by rw [w1_eq ch, w2_eq ch (crd ch t)]; exact q1) (by rw [w1_eq ch, w2_eq ch (crd ch t)]; exact q5) (by rw [w1_eq ch]; exact q10) qh _ _).trans (by
      rw [((ha0 (by rw [Fin.val_castSucc]; omega)).1 ((P1_congr ch _ _ (back_val t ht)).2 q1)), outAt_1 ch m ρ c t q1]; rfl)

set_option maxHeartbeats 4000000 in
/-- The body's obligation at a tile with tokens in its first half only, at the first half of the hidden width. -/
theorem sound_sparse0 (c : Dev nD) (t : Fin (cfgA ch).N) (q1 : ¬P1 ch (crd ch t)) (q5 : P5 ch (crd ch t)) (q10 : ¬P10 ch (crd ch t)) (ht : t.val % 2 = 0) :
    iprop((dats ch m ρ 0 c).Φ t.castSucc ∗ (dats ch m ρ 0 c).owesAt () t.castSucc
        ∗ (∃ d, owns (c : Thread nD τ) (ms0_0 ch t) fullShare ((dats ch m ρ 0 c).before (0 : Fin 5) t d))
        ∗ (∃ d, owns (c : Thread nD τ) (ms0_1 ch t) fullShare ((dats ch m ρ 0 c).before (1 : Fin 5) t d))
        ∗ (∃ d, owns (c : Thread nD τ) (ms0_2 ch t) fullShare ((dats ch m ρ 0 c).before (2 : Fin 5) t d))
        ∗ (∃ d, owns (c : Thread nD τ) (ms0_3 ch t) fullShare ((dats ch m ρ 0 c).before (3 : Fin 5) t d))
        ∗ (∃ d, owns (c : Thread nD τ) (ms0_4 ch t) fullShare ((dats ch m ρ 0 c).before (4 : Fin 5) t d)))
      ⊢ wp frame (wpE (defs₀ (F := Ideal)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  have qh : (crd ch t 1).val = 0 := (crd_val t).2.trans ht
  have i4 : (cfgA ch).idle (4 : Fin 5) ((cfgA ch).grid.coords t) = true := by rw [idle4]; rw [qh]; rfl
  have f4 : ((cfgA ch).win (4 : Fin 5)).flush t = false := by rw [flush4, ht]; rfl
  rw [bigSep_W0]
  rewrite [i4]
  simp only [before0_0, before0_1, before0_2, before0_3, before0_4, after0_0, after0_1, after0_2, after0_3, after0_4, f4]
  rewrite [show (dats ch m ρ 0 c).Φ t.succ = Phi ch m ρ c t.succ from rfl, show (dats ch m ρ 0 c).Φ t.castSucc = Phi ch m ρ c t.castSucc from rfl,
    show (dats ch m ρ 0 c).owesAt () t.succ = (dats ch m ρ 0 c).owesAt () t.castSucc from rfl]
  unfold Phi RelScr
  iintro ⟨⟨⟨%a0, %ha0, HS0⟩, HT0, HT1, HT2⟩, Ho, ⟨%d0, H0⟩, ⟨%d1, H1⟩, ⟨%d2, H2⟩, ⟨%d3, H3⟩, ⟨%d4, H4⟩⟩
  iapply ((sparse0 c (crd ch t) (ms0_0 ch t) (hs0_0 ch t) (ms0_1 ch t) (hs0_1 ch t) (ms0_2 ch t) (hs0_2 ch t) (ms0_3 ch t) (hs0_3 ch t) (ms0_4 ch t) (hs0_4 ch t) ch.T0 ch.T1 ch.T2 (iblk ch m ρ c (0 : Fin 5) t) (iblk ch m ρ c (1 : Fin 5) t) (iblk ch m ρ c (2 : Fin 5) t) (iblk ch m ρ c (3 : Fin 5) t) a0 (by rw [w1_eq ch, w2_eq ch (crd ch t)]; exact q1) (by rw [w1_eq ch, w2_eq ch (crd ch t)]; exact q5) (by rw [w1_eq ch]; exact q10) qh).2 _ _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [HT2]; · iexact HT2
  isplitl [H4]; · iexact H4
  isplitl [HS0]; · iexact HS0
  iintro ⟨H0, H1, H2, H3, HT0, HT1, HT2, H4, HS0⟩
  isplitl [HS0 HT0 HT1 HT2]
  · isplitl [HS0]
    · iexists _; isplitr; swap
      · iexact HS0
      · ipureintro; intro hn
        rw [prevPt_succ ch t]
        exact ⟨(fun q => absurd q q1), (fun _ => sparse0_scr c (crd ch t) (ms0_0 ch t) (hs0_0 ch t) (ms0_1 ch t) (hs0_1 ch t) (ms0_2 ch t) (hs0_2 ch t) (ms0_3 ch t) (hs0_3 ch t) (ms0_4 ch t) (hs0_4 ch t) ch.T0 ch.T1 ch.T2 (iblk ch m ρ c (0 : Fin 5) t) (iblk ch m ρ c (1 : Fin 5) t) (iblk ch m ρ c (2 : Fin 5) t) (iblk ch m ρ c (3 : Fin 5) t) a0 (by rw [w1_eq ch, w2_eq ch (crd ch t)]; exact q1) (by rw [w1_eq ch, w2_eq ch (crd ch t)]; exact q5) (by rw [w1_eq ch]; exact q10) qh)⟩
    isplitl [HT0]
    · iexact HT0
    isplitl [HT1]
    · iexact HT1
    iexact HT2
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  iexists d4; iexact H4

set_option maxHeartbeats 4000000 in
/-- The body's obligation at a tile with tokens in its first half only, at the second half of the hidden width. -/
theorem sound_sparse1 (c : Dev nD) (t : Fin (cfgA ch).N) (q1 : ¬P1 ch (crd ch t)) (q5 : P5 ch (crd ch t)) (q10 : ¬P10 ch (crd ch t)) (ht : t.val % 2 = 1) :
    iprop((dats ch m ρ 0 c).Φ t.castSucc ∗ (dats ch m ρ 0 c).owesAt () t.castSucc
        ∗ (∃ d, owns (c : Thread nD τ) (ms0_0 ch t) fullShare ((dats ch m ρ 0 c).before (0 : Fin 5) t d))
        ∗ (∃ d, owns (c : Thread nD τ) (ms0_1 ch t) fullShare ((dats ch m ρ 0 c).before (1 : Fin 5) t d))
        ∗ (∃ d, owns (c : Thread nD τ) (ms0_2 ch t) fullShare ((dats ch m ρ 0 c).before (2 : Fin 5) t d))
        ∗ (∃ d, owns (c : Thread nD τ) (ms0_3 ch t) fullShare ((dats ch m ρ 0 c).before (3 : Fin 5) t d))
        ∗ (∃ d, owns (c : Thread nD τ) (ms0_4 ch t) fullShare ((dats ch m ρ 0 c).before (4 : Fin 5) t d)))
      ⊢ wp frame (wpE (defs₀ (F := Ideal)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  have qh : (crd ch t 1).val = 1 := (crd_val t).2.trans ht
  have i4 : (cfgA ch).idle (4 : Fin 5) ((cfgA ch).grid.coords t) = false := by rw [idle4]; rw [qh]; rfl
  have f4 : ((cfgA ch).win (4 : Fin 5)).flush t = true := by rw [flush4, ht]; rfl
  rw [bigSep_W0]
  rewrite [i4]
  simp only [before0_0, before0_1, before0_2, before0_3, before0_4, after0_0, after0_1, after0_2, after0_3, after0_4, f4]
  rewrite [show (dats ch m ρ 0 c).Φ t.succ = Phi ch m ρ c t.succ from rfl, show (dats ch m ρ 0 c).Φ t.castSucc = Phi ch m ρ c t.castSucc from rfl,
    show (dats ch m ρ 0 c).owesAt () t.succ = (dats ch m ρ 0 c).owesAt () t.castSucc from rfl]
  unfold Phi RelScr
  iintro ⟨⟨⟨%a0, %ha0, HS0⟩, HT0, HT1, HT2⟩, Ho, ⟨%d0, H0⟩, ⟨%d1, H1⟩, ⟨%d2, H2⟩, ⟨%d3, H3⟩, ⟨%d4, H4⟩⟩
  iapply ((sparse1 c (crd ch t) (ms0_0 ch t) (hs0_0 ch t) (ms0_1 ch t) (hs0_1 ch t) (ms0_2 ch t) (hs0_2 ch t) (ms0_3 ch t) (hs0_3 ch t) (ms0_4 ch t) (hs0_4 ch t) ch.T0 ch.T1 ch.T2 (iblk ch m ρ c (0 : Fin 5) t) (iblk ch m ρ c (1 : Fin 5) t) (iblk ch m ρ c (2 : Fin 5) t) (iblk ch m ρ c (3 : Fin 5) t) a0 (by rw [w1_eq ch, w2_eq ch (crd ch t)]; exact q1) (by rw [w1_eq ch, w2_eq ch (crd ch t)]; exact q5) (by rw [w1_eq ch]; exact q10) qh).2.2 _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [HT2]; · iexact HT2
  isplitl [H4]; · iexists _; iexact H4
  isplitl [HS0]; · iexact HS0
  iintro ⟨H0, H1, H2, H3, HT0, HT1, HT2, ⟨%e4, H4⟩, HS0⟩
  isplitl [HS0 HT0 HT1 HT2]
  · isplitl [HS0]
    · iexists _; isplitr; swap
      · iexact HS0
      · ipureintro; intro hn; exact absurd hn (by rw [Fin.val_succ]; omega)
    isplitl [HT0]
    · iexact HT0
    isplitl [HT1]
    · iexact HT1
    iexact HT2
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  unfold owns; iexists _; isplitr; swap
  · iexact H4
  · ipureintro
    exact (sparse1_out c (crd ch t) (ms0_0 ch t) (hs0_0 ch t) (ms0_1 ch t) (hs0_1 ch t) (ms0_2 ch t) (hs0_2 ch t) (ms0_3 ch t) (hs0_3 ch t) (ms0_4 ch t) (hs0_4 ch t) ch.T0 ch.T1 ch.T2 (iblk ch m ρ c (0 : Fin 5) t) (iblk ch m ρ c (1 : Fin 5) t) (iblk ch m ρ c (2 : Fin 5) t) (iblk ch m ρ c (3 : Fin 5) t) a0 (by rw [w1_eq ch, w2_eq ch (crd ch t)]; exact q1) (by rw [w1_eq ch, w2_eq ch (crd ch t)]; exact q5) (by rw [w1_eq ch]; exact q10) qh _ _).trans (by
      rw [((ha0 (by rw [Fin.val_castSucc]; omega)).2 ((P5_congr ch _ _ (back_val t ht)).2 q5)), outAt_5 ch m ρ c t q1 q5]; rfl)

set_option maxHeartbeats 4000000 in
/-- The body's obligation at an unused tile at the first half. -/
theorem sound_idle0 (c : Dev nD) (t : Fin (cfgA ch).N) (q1 : ¬P1 ch (crd ch t)) (q5 : ¬P5 ch (crd ch t)) (q10 : ¬P10 ch (crd ch t)) (ht : t.val % 2 = 0) :
    iprop((dats ch m ρ 0 c).Φ t.castSucc ∗ (dats ch m ρ 0 c).owesAt () t.castSucc
        ∗ (∃ d, owns (c : Thread nD τ) (ms0_0 ch t) fullShare ((dats ch m ρ 0 c).before (0 : Fin 5) t d))
        ∗ (∃ d, owns (c : Thread nD τ) (ms0_1 ch t) fullShare ((dats ch m ρ 0 c).before (1 : Fin 5) t d))
        ∗ (∃ d, owns (c : Thread nD τ) (ms0_2 ch t) fullShare ((dats ch m ρ 0 c).before (2 : Fin 5) t d))
        ∗ (∃ d, owns (c : Thread nD τ) (ms0_3 ch t) fullShare ((dats ch m ρ 0 c).before (3 : Fin 5) t d))
        ∗ (∃ d, owns (c : Thread nD τ) (ms0_4 ch t) fullShare ((dats ch m ρ 0 c).before (4 : Fin 5) t d)))
      ⊢ wp frame (wpE (defs₀ (F := Ideal)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  have qh : (crd ch t 1).val = 0 := (crd_val t).2.trans ht
  have i4 : (cfgA ch).idle (4 : Fin 5) ((cfgA ch).grid.coords t) = true := by rw [idle4]; rw [qh]; rfl
  have f4 : ((cfgA ch).win (4 : Fin 5)).flush t = false := by rw [flush4, ht]; rfl
  rw [bigSep_W0]
  rewrite [i4]
  simp only [before0_0, before0_1, before0_2, before0_3, before0_4, after0_0, after0_1, after0_2, after0_3, after0_4, f4]
  rewrite [show (dats ch m ρ 0 c).Φ t.succ = Phi ch m ρ c t.succ from rfl, show (dats ch m ρ 0 c).Φ t.castSucc = Phi ch m ρ c t.castSucc from rfl,
    show (dats ch m ρ 0 c).owesAt () t.succ = (dats ch m ρ 0 c).owesAt () t.castSucc from rfl]
  unfold Phi RelScr
  iintro ⟨⟨⟨%a0, %ha0, HS0⟩, HT0, HT1, HT2⟩, Ho, ⟨%d0, H0⟩, ⟨%d1, H1⟩, ⟨%d2, H2⟩, ⟨%d3, H3⟩, ⟨%d4, H4⟩⟩
  iapply ((idle0 c (crd ch t) (ms0_0 ch t) (hs0_0 ch t) (ms0_1 ch t) (hs0_1 ch t) (ms0_2 ch t) (hs0_2 ch t) (ms0_3 ch t) (hs0_3 ch t) (ms0_4 ch t) (hs0_4 ch t) ch.T0 ch.T1 ch.T2 (iblk ch m ρ c (0 : Fin 5) t) (iblk ch m ρ c (1 : Fin 5) t) (iblk ch m ρ c (2 : Fin 5) t) (iblk ch m ρ c (3 : Fin 5) t) a0 (by rw [w1_eq ch, w2_eq ch (crd ch t)]; exact q1) (by rw [w1_eq ch, w2_eq ch (crd ch t)]; exact q5) (by rw [w1_eq ch]; exact q10) qh).2 _ _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [HT2]; · iexact HT2
  isplitl [H4]; · iexact H4
  isplitl [HS0]; · iexact HS0
  iintro ⟨H0, H1, H2, H3, HT0, HT1, HT2, H4, HS0⟩
  isplitl [HS0 HT0 HT1 HT2]
  · isplitl [HS0]
    · iexists _; isplitr; swap
      · iexact HS0
      · ipureintro; intro hn
        rw [prevPt_succ ch t]
        exact ⟨(fun q => absurd q q1), (fun q => absurd q q5)⟩
    isplitl [HT0]
    · iexact HT0
    isplitl [HT1]
    · iexact HT1
    iexact HT2
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  iexists d4; iexact H4

set_option maxHeartbeats 4000000 in
/-- The body's obligation at an unused tile at the second half. -/
theorem sound_idle1 (c : Dev nD) (t : Fin (cfgA ch).N) (q1 : ¬P1 ch (crd ch t)) (q5 : ¬P5 ch (crd ch t)) (q10 : P10 ch (crd ch t)) (ht : t.val % 2 = 1) :
    iprop((dats ch m ρ 0 c).Φ t.castSucc ∗ (dats ch m ρ 0 c).owesAt () t.castSucc
        ∗ (∃ d, owns (c : Thread nD τ) (ms0_0 ch t) fullShare ((dats ch m ρ 0 c).before (0 : Fin 5) t d))
        ∗ (∃ d, owns (c : Thread nD τ) (ms0_1 ch t) fullShare ((dats ch m ρ 0 c).before (1 : Fin 5) t d))
        ∗ (∃ d, owns (c : Thread nD τ) (ms0_2 ch t) fullShare ((dats ch m ρ 0 c).before (2 : Fin 5) t d))
        ∗ (∃ d, owns (c : Thread nD τ) (ms0_3 ch t) fullShare ((dats ch m ρ 0 c).before (3 : Fin 5) t d))
        ∗ (∃ d, owns (c : Thread nD τ) (ms0_4 ch t) fullShare ((dats ch m ρ 0 c).before (4 : Fin 5) t d)))
      ⊢ wp frame (wpE (defs₀ (F := Ideal)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  have qh : (crd ch t 1).val = 1 := (crd_val t).2.trans ht
  have i4 : (cfgA ch).idle (4 : Fin 5) ((cfgA ch).grid.coords t) = false := by rw [idle4]; rw [qh]; rfl
  have f4 : ((cfgA ch).win (4 : Fin 5)).flush t = true := by rw [flush4, ht]; rfl
  rw [bigSep_W0]
  rewrite [i4]
  simp only [before0_0, before0_1, before0_2, before0_3, before0_4, after0_0, after0_1, after0_2, after0_3, after0_4, f4]
  rewrite [show (dats ch m ρ 0 c).Φ t.succ = Phi ch m ρ c t.succ from rfl, show (dats ch m ρ 0 c).Φ t.castSucc = Phi ch m ρ c t.castSucc from rfl,
    show (dats ch m ρ 0 c).owesAt () t.succ = (dats ch m ρ 0 c).owesAt () t.castSucc from rfl]
  unfold Phi RelScr
  iintro ⟨⟨⟨%a0, %ha0, HS0⟩, HT0, HT1, HT2⟩, Ho, ⟨%d0, H0⟩, ⟨%d1, H1⟩, ⟨%d2, H2⟩, ⟨%d3, H3⟩, ⟨%d4, H4⟩⟩
  iapply ((idle1 c (crd ch t) (ms0_0 ch t) (hs0_0 ch t) (ms0_1 ch t) (hs0_1 ch t) (ms0_2 ch t) (hs0_2 ch t) (ms0_3 ch t) (hs0_3 ch t) (ms0_4 ch t) (hs0_4 ch t) ch.T0 ch.T1 ch.T2 (iblk ch m ρ c (0 : Fin 5) t) (iblk ch m ρ c (1 : Fin 5) t) (iblk ch m ρ c (2 : Fin 5) t) (iblk ch m ρ c (3 : Fin 5) t) a0 (by rw [w1_eq ch, w2_eq ch (crd ch t)]; exact q1) (by rw [w1_eq ch, w2_eq ch (crd ch t)]; exact q5) (by rw [w1_eq ch]; exact q10) qh).2.2 _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [HT2]; · iexact HT2
  isplitl [H4]; · iexists _; iexact H4
  isplitl [HS0]; · iexact HS0
  iintro ⟨H0, H1, H2, H3, HT0, HT1, HT2, ⟨%e4, H4⟩, HS0⟩
  isplitl [HS0 HT0 HT1 HT2]
  · isplitl [HS0]
    · iexists _; isplitr; swap
      · iexact HS0
      · ipureintro; intro hn; exact absurd hn (by rw [Fin.val_succ]; omega)
    isplitl [HT0]
    · iexact HT0
    isplitl [HT1]
    · iexact HT1
    iexact HT2
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  unfold owns; iexists _; isplitr; swap
  · iexact H4
  · ipureintro
    exact (idle1_out c (crd ch t) (ms0_0 ch t) (hs0_0 ch t) (ms0_1 ch t) (hs0_1 ch t) (ms0_2 ch t) (hs0_2 ch t) (ms0_3 ch t) (hs0_3 ch t) (ms0_4 ch t) (hs0_4 ch t) ch.T0 ch.T1 ch.T2 (iblk ch m ρ c (0 : Fin 5) t) (iblk ch m ρ c (1 : Fin 5) t) (iblk ch m ρ c (2 : Fin 5) t) (iblk ch m ρ c (3 : Fin 5) t) a0 (by rw [w1_eq ch, w2_eq ch (crd ch t)]; exact q1) (by rw [w1_eq ch, w2_eq ch (crd ch t)]; exact q5) (by rw [w1_eq ch]; exact q10) qh _ _).trans (outAt_no ch m ρ c t q1 q5).symm

/-- The body's obligation at any point: by the tile's condition and the half. -/
theorem sound_body (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 5) t d))
        ∗ (∃ d, owns (c : Thread nD τ) (ms0_1 ch t) fullShare ((dats ch m ρ 0 c).before (1 : Fin 5) t d))
        ∗ (∃ d, owns (c : Thread nD τ) (ms0_2 ch t) fullShare ((dats ch m ρ 0 c).before (2 : Fin 5) t d))
        ∗ (∃ d, owns (c : Thread nD τ) (ms0_3 ch t) fullShare ((dats ch m ρ 0 c).before (3 : Fin 5) t d))
        ∗ (∃ d, owns (c : Thread nD τ) (ms0_4 ch t) fullShare ((dats ch m ρ 0 c).before (4 : Fin 5) t d)))
      ⊢ wp frame (wpE (defs₀ (F := Ideal)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rcases Nat.mod_two_eq_zero_or_one t.val with ht | ht
  · have qh : (crd ch t 1).val = 0 := (crd_val t).2.trans ht
    have q10 := not10_half0 ch (crd ch t) qh
    by_cases q1 : P1 ch (crd ch t)
    · exact sound_dense0 ch m ρ c t q1 (excl ch _ q1) q10 ht
    · by_cases q5 : P5 ch (crd ch t)
      · exact sound_sparse0 ch m ρ c t q1 q5 q10 ht
      · exact sound_idle0 ch m ρ c t q1 q5 q10 ht
  · have qh : (crd ch t 1).val = 1 := (crd_val t).2.trans ht
    by_cases q1 : P1 ch (crd ch t)
    · exact sound_dense1 ch m ρ c t q1 (excl ch _ q1) (not10_of1 ch _ q1) ht
    · by_cases q5 : P5 ch (crd ch t)
      · exact sound_sparse1 ch m ρ c t q1 q5 (not10_of5 ch _ q5) ht
      · exact sound_idle1 ch m ρ c t q1 q5 (is10 ch _ q1 q5 qh) ht

/-- The library's body obligation, at every point. -/
theorem body_obligation (c : Dev nD) : BodyObligation (dats ch m ρ 0 c) (defs₀ (F := Ideal)) Variants.none () Set.univ := fun t => by
  rw [bigSep_W0]
  exact sound_body ch m ρ c t

/-! ## The launch -/

/-- The rounds library's launch element. -/
def u₀ : UR sig nD τ :=
  initOf (Pipeline.cells (pcs ch) ((launch0 (F := Ideal)).cellOf_inj fun _ => adm ch))
    (Pipeline.launchToks (pcs ch) ((launch0 (F := Ideal)).cellOf_inj fun _ => adm ch))

theorem share_eq (c : Dev nD) (w : Fin (cfgA ch).W) : (dats ch m ρ 0 c).share w = fullShare := by unfold Dat.share; split <;> rfl

/-- The tables as the launch hands them to the region, one by one. -/
theorem prefHeld_eq (c : Dev nD) (q : Fin 3 → PosShare TreeShare) (v : pre0.Contents (Elt Ideal)) :
    (Pipeline.prefHeld (Ix := Unit) (Name := ℕ) (U := UR sig nD τ) (Lvl := ℕ) pre0 c q v : sProp (MT nD τ sig Unit (Elt Ideal) ℕ (UR sig nD τ) ℕ))
      = iprop((((c : Thread nD τ).loc main_arg0) ↦{q 0} v 0) ∗ (((c : Thread nD τ).loc main_arg1) ↦{q 1} v 1) ∗ (((c : Thread nD τ).loc main_arg2) ↦{q 2} v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

/-- The invariant at the first point from the tables and the scratch buffers (`hin`); -/
theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0, HT1, HT2⟩, ⟨%a0, HS0⟩⟩
  isplitl [HS0]
  · iexists a0; isplitr; swap
    · iexact HS0
    · ipureintro; intro h; exact absurd (show (0 : ℕ) % 2 = 1 from h) (by decide)
  isplitl [HT0]
  · iexact HT0
  isplitl [HT1]
  · iexact HT1
  iexact HT2

/-- at the last point it gives the scratch buffers back (`hout`), the tables let go. -/
theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨⟨%a0, -, HS0⟩, -, -, -⟩
  isplitr; · iempintro
  iexists a0; iexact HS0

/-- The physical post: every array at what the library computes, every table at what the pipeline ran at. -/
def QC : PUnit × MemSt nD τ sig (Elt Ideal) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

theorem V_pre (hp : Pinned ch m) (c : Dev nD) (j : Fin 3) : m ((c : Thread nD τ).loc (pre0.ref j)) = (adm ch).1 j := by
  fin_cases j
  · exact hp.1 c
  · exact hp.2.1 c
  · exact hp.2.2 c

set_option backward.isDefEq.respectTransparency.types false in
set_option maxHeartbeats 4000000 in
/-- At the compiled mesh, from any memory with zero counters whose tables and steering words are member `ch`'s: every weakly
    fair execution of @main on the TensorCores terminates, and every final state has each array at the computed contents,
    and every semaphore counter of the machine at zero. -/
theorem run_main_quiescent (hp : Pinned ch m) : θ_run (defs (F := Ideal)) (onTc (τ := τ) (main (F := Ideal))) (s₀ m ρ) (fun r => QC ch m ρ r ∧ r.2.sem = fun _ => 0) :=
  Pipeline.θ_run_region_noSem_pf_quiescent pcfgs (fun _ => adm ch) (dats ch m ρ) () ((launch0 (F := Ideal)).cellOf_inj fun _ => adm ch) (0 : Fin 1)
    (launch0 (F := Ideal)).win.to₀ (launch0 (F := Ideal)).pre EP defs₀ Variants.none m ρ main
    (hbody := fun c => (body_obligation ch m ρ c).loose) (hne := (launch0 (F := Ideal)).block_pos)
    (harr := (launch0 (F := Ideal)).arr_whole) (hstage := (launch0 (F := Ideal)).stage_whole) (howed := fun _ _ => rfl)
    (u₀ := u₀ ch) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs ch) (dats ch m ρ) 0 (launch0 (F := Ideal)).win.arr_inj c (launch0 (F := Ideal)).arr_whole
      (share_eq ch m ρ c) _ _ fun _ => rfl)
    (hpf := V_pre ch m hp)
    (X := fun _ => iprop(emp)) (Y := fun _ => iprop(emp)) (Z := fun _ => iprop(emp))
    (hX := fun c => by rw [unscopedRestP0_eq]; iintro -; isplitr <;> iempintro)
    (hin := phi0_intro ch m ρ)
    (hout := phiN_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Pinned ch m) : θ_run (defs (F := Ideal)) (onTc (τ := τ) (main (F := Ideal))) (s₀ m ρ) (QC ch m ρ) :=
  (θ_run defs _ _).mono (fun _ h => h.1) (run_main_quiescent ch m ρ hp)

/-- `frame` without the counters: the argument arrays end unchanged. -/
theorem unchanged (hp : Pinned ch m) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 0).trans (hp.1 c).symm, ((h c).2 1).trans (hp.2.1 c).symm, ((h c).2 2).trans (hp.2.2 c).symm, ((h c).1 (0 : Fin 5)).trans ((dats ch m ρ 0 c).arrAt_in (0 : Fin 5) rfl _), ((h c).1 (1 : Fin 5)).trans ((dats ch m ρ 0 c).arrAt_in (1 : Fin 5) rfl _), ((h c).1 (2 : Fin 5)).trans ((dats ch m ρ 0 c).arrAt_in (2 : Fin 5) rfl _), ((h c).1 (3 : Fin 5)).trans ((dats ch m ρ 0 c).arrAt_in (3 : Fin 5) rfl _)⟩) (run_main ch m ρ hp)

/-- The frame at the tables. -/
theorem frame (hp : Pinned ch m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged ch m ρ hp) ((θ_run defs _ _).mono (fun _ h => h.2) (run_main_quiescent ch m ρ hp))

end Cert.Kernel2Ideal.Expert

end
-- ==== Proof.IHalf.lean ====
/- One half of the hidden width of an expert's step, read at an index over the extended reals. -/
module

public import proofs.«01_k».proof.Proof.IBody
public import Idealize.ShloMosaic.Lib.Pointwise

@[expose] public section

set_option maxRecDepth 16384
set_option Elab.async false

noncomputable section

namespace Cert.Kernel2Ideal.Expert

open Cert.Kernel2Ideal Cert.Kernel2Ideal.Gen Idealize.ShloMosaic Idealize.ShloMosaic.TcCoe Idealize.SL.Sem

/-- A number times its logistic, as the kernel computes it. -/
def silu (x : EReal) : EReal := x * Ideal.div 1 (1 + Ideal.exp (0 - x))

/-- One hidden feature of a row times its weight on the way out. -/
def feat (x g u : Fin 1024 → EReal) (w : EReal) : EReal := silu (∑ k, x k * g k) * (∑ k, x k * u k) * w

/-- A block read at equal indices. -/
theorem x_eq (x0 : Vec Ideal S4096x128 .f32) {a b : Fin 4096} {c d : Fin 128} (h : a.val = b.val) (h' : c.val = d.val) : x0 (ix2 a c) = x0 (ix2 b d) := by
  rw [Fin.ext h, Fin.ext h']

/-- Four consecutive chunks of a sum over the half's width make the whole sum. -/
theorem sum_chunks (f : ℕ → EReal) :
    (((∑ j : Fin 512, f (0 + j.val)) + ∑ j : Fin 512, f (512 + j.val)) + ∑ j : Fin 512, f (1024 + j.val)) + (∑ j : Fin 256, f (1536 + j.val)) = ∑ j : Fin 1792, f j.val := by
  rw [Finset.sum_range (fun j => f j) |>.symm, Finset.sum_range (fun j => f (0 + j)) |>.symm, Finset.sum_range (fun j => f (512 + j)) |>.symm,
    Finset.sum_range (fun j => f (1024 + j)) |>.symm, Finset.sum_range (fun j => f (1536 + j)) |>.symm]
  rw [show 1792 = ((512 + 512) + 512) + 256 from rfl, Finset.sum_range_add, Finset.sum_range_add, Finset.sum_range_add]
  simp only [zero_add]

set_option maxHeartbeats 2000000 in
/-- A row of the tile, put together from the eight column blocks. -/
theorem dx_at (x0 : Vec Ideal S4096x128 .f32) (r : Fin 512) (k : Fin 1024) :
    dx x0 (ix2 r k) = x0 (ix2 ⟨8 * r.val + k.val / 128, by omega⟩ ⟨k.val % 128, by omega⟩) := by
  obtain ⟨b, j, hj, rfl⟩ : ∃ (b : Fin 8) (j : ℕ) (hj : j < 128), k = ⟨128 * b.val + j, by omega⟩ := ⟨⟨k.val / 128, by omega⟩, k.val % 128, by omega, Fin.ext (by show k.val = 128 * (k.val / 128) + k.val % 128; omega)⟩
  unfold dx k0_pay19
  fin_cases b
  all_goals
    pointwise
    (try split_ifs)
    all_goals first
      | (exfalso; omega)
      | exact x_eq x0 (by first | omega | (dsimp only; omega)) (by first | omega | (dsimp only; omega))

theorem dp20_at (v17 v18 v19 v20 v21 v22 v23 v24 : Vec Ideal S512x128 .f32) (g u : Vec Ideal S1x1024x512 .bf16) (w : Vec Ideal S1x512x1024 .bf16) (r : Fin 512) (d : Fin 1024) :
    k0_pay20 v17 v18 v19 v20 v21 v22 v23 v24 g u w (ix2 r d) = ∑ j : Fin 512, feat (fun k => k0_pay19 v17 v18 v19 v20 v21 v22 v23 v24 (ix2 r k)) (fun k => g (ix3 0 k j)) (fun k => u (ix3 0 k j)) (w (ix3 0 j d)) := by
  unfold k0_pay20
  generalize k0_pay19 v17 v18 v19 v20 v21 v22 v23 v24 = X
  unfold feat silu
  pointwise

theorem dp21_at (X : FVec Ideal S512x1024 .bf16) (a : FVec Ideal S512x1024 .f32) (g u : Vec Ideal S1x1024x512 .bf16) (w : Vec Ideal S1x512x1024 .bf16) (r : Fin 512) (d : Fin 1024) :
    k0_pay21 X a g u w (ix2 r d) = a (ix2 r d) + ∑ j : Fin 512, feat (fun k => X (ix2 r k)) (fun k => g (ix3 0 k j)) (fun k => u (ix3 0 k j)) (w (ix3 0 j d)) := by
  unfold k0_pay21
  unfold feat silu
  pointwise

theorem dp22_at (X : FVec Ideal S512x1024 .bf16) (u : Vec Ideal S1x1024x512 .bf16) (r : Fin 512) (j : Fin 512) :
    k0_pay22 X u (ix2 r j) = ∑ k : Fin 1024, X (ix2 r k) * u (ix3 0 k j) := by
  unfold k0_pay22
  pointwise

theorem dp23_at (X : FVec Ideal S512x1024 .bf16) (g : Vec Ideal S1x1024x512 .bf16) (r : Fin 512) (j : Fin 512) :
    k0_pay23 X g (ix2 r j) = silu (∑ k : Fin 1024, X (ix2 r k) * g (ix3 0 k j)) := by
  unfold k0_pay23 silu
  pointwise

theorem dp24_at (X : FVec Ideal S512x1024 .bf16) (a : FVec Ideal S512x1024 .f32) (ga : Vec Ideal S1x1024x512 .bf16) (ua : Vec Ideal S1x1024x512 .bf16) (wa : Vec Ideal S1x512x1024 .bf16)
    (g u : Vec Ideal S1x1024x256 .bf16) (w : Vec Ideal S1x256x1024 .bf16) (r : Fin 512) (d : Fin 1024) :
    k0_pay24 X a (k0_pay22 X ua) (k0_pay23 X ga) wa g u w (ix2 r d)
      = (a (ix2 r d) + ∑ j : Fin 512, feat (fun k => X (ix2 r k)) (fun k => ga (ix3 0 k j)) (fun k => ua (ix3 0 k j)) (wa (ix3 0 j d)))
        + ∑ j : Fin 256, feat (fun k => X (ix2 r k)) (fun k => g (ix3 0 k j)) (fun k => u (ix3 0 k j)) (w (ix3 0 j d)) := by
  unfold k0_pay24 feat
  pointwise
  simp only [dp22_at, dp23_at]
  rfl

/-- What one half of the hidden width adds to a row. -/
theorem dhalf_at (x0 : Vec Ideal S4096x128 .f32) (x1 x2 : Vec Ideal S1x1024x1792 .bf16) (x3 : Vec Ideal S1x1792x1024 .bf16) (r : Fin 512) (d : Fin 1024) :
    dacc x0 x1 x2 x3 (ix2 r d) = ∑ j : Fin 1792, feat (fun k => x0 (ix2 ⟨8 * r.val + k.val / 128, by omega⟩ ⟨k.val % 128, by omega⟩))
      (fun k => x1 (ix3 0 k j)) (fun k => x2 (ix3 0 k j)) (x3 (ix3 0 j d)) := by
  have hx : (fun k => dx x0 (ix2 r k)) = fun k : Fin 1024 => x0 (ix2 ⟨8 * r.val + k.val / 128, by omega⟩ ⟨k.val % 128, by omega⟩) := funext fun k => dx_at x0 r k
  unfold dacc k0_pay25
  rw [shapeCast_self, dp24_at, d4, dp21_at, dp20_at]
  rw [show (fun k => k0_pay19 _ _ _ _ _ _ _ _ (ix2 r k)) = (fun k => dx x0 (ix2 r k)) from rfl, hx]
  refine Eq.trans ?_ (sum_chunks fun j => if h : j < 1792 then feat (fun k => x0 (ix2 ⟨8 * r.val + k.val / 128, by omega⟩ ⟨k.val % 128, by omega⟩))
      (fun k => x1 (ix3 0 k ⟨j, h⟩)) (fun k => x2 (ix3 0 k ⟨j, h⟩)) (x3 (ix3 0 ⟨j, h⟩ d)) else 0) |>.trans (Finset.sum_congr rfl fun j _ => dif_pos j.isLt)
  refine congrArg₂ (· + ·) (congrArg₂ (· + ·) (congrArg₂ (· + ·) ?_ ?_) ?_) ?_
  all_goals
    refine Finset.sum_congr rfl fun j _ => ?_
    rw [dif_pos (by omega)]
    congr 1
    all_goals first
      | refine funext fun k => ?_
        refine congrArg _ (funext fun a => Fin.ext ?_)
        fin_cases a <;> simp [LoadRect.idx, Rect.unit, Rect.toLoadRect]
      | refine congrArg _ (funext fun a => Fin.ext ?_)
        fin_cases a <;> simp [LoadRect.idx, Rect.unit, Rect.toLoadRect]

/-- The second half, on top of what the first left. -/
theorem dsum_at (x0 : Vec Ideal S4096x128 .f32) (x1 x2 : Vec Ideal S1x1024x1792 .bf16) (x3 : Vec Ideal S1x1792x1024 .bf16) (p : FVec Ideal S512x1024 .f32) (r : Fin 512) (d : Fin 1024) :
    dsum x0 x1 x2 x3 p (ix2 r d) = p (ix2 r d) + dacc x0 x1 x2 x3 (ix2 r d) := by
  unfold dsum dacc k0_pay25 k0_pay26
  simp only [shapeCast_self]
  rfl

set_option maxHeartbeats 2000000 in
/-- A row of the tile, put together from the eight column blocks. -/
theorem sx_at (x0 : Vec Ideal S4096x128 .f32) (r : Fin 256) (k : Fin 1024) :
    sx x0 (ix2 r k) = x0 (ix2 ⟨8 * r.val + k.val / 128, by omega⟩ ⟨k.val % 128, by omega⟩) := by
  obtain ⟨b, j, hj, rfl⟩ : ∃ (b : Fin 8) (j : ℕ) (hj : j < 128), k = ⟨128 * b.val + j, by omega⟩ := ⟨⟨k.val / 128, by omega⟩, k.val % 128, by omega, Fin.ext (by show k.val = 128 * (k.val / 128) + k.val % 128; omega)⟩
  unfold sx k0_pay27
  fin_cases b
  all_goals
    pointwise
    (try split_ifs)
    all_goals first
      | (exfalso; omega)
      | exact x_eq x0 (by first | omega | (dsimp only; omega)) (by first | omega | (dsimp only; omega))

theorem sp20_at (v17 v18 v19 v20 v21 v22 v23 v24 : Vec Ideal S256x128 .f32) (g u : Vec Ideal S1x1024x512 .bf16) (w : Vec Ideal S1x512x1024 .bf16) (r : Fin 256) (d : Fin 1024) :
    k0_pay28 v17 v18 v19 v20 v21 v22 v23 v24 g u w (ix2 r d) = ∑ j : Fin 512, feat (fun k => k0_pay27 v17 v18 v19 v20 v21 v22 v23 v24 (ix2 r k)) (fun k => g (ix3 0 k j)) (fun k => u (ix3 0 k j)) (w (ix3 0 j d)) := by
  unfold k0_pay28
  generalize k0_pay27 v17 v18 v19 v20 v21 v22 v23 v24 = X
  unfold feat silu
  pointwise

theorem sp21_at (X : FVec Ideal S256x1024 .bf16) (a : FVec Ideal S256x1024 .f32) (g u : Vec Ideal S1x1024x512 .bf16) (w : Vec Ideal S1x512x1024 .bf16) (r : Fin 256) (d : Fin 1024) :
    k0_pay29 X a g u w (ix2 r d) = a (ix2 r d) + ∑ j : Fin 512, feat (fun k => X (ix2 r k)) (fun k => g (ix3 0 k j)) (fun k => u (ix3 0 k j)) (w (ix3 0 j d)) := by
  unfold k0_pay29
  unfold feat silu
  pointwise

theorem sp22_at (X : FVec Ideal S256x1024 .bf16) (u : Vec Ideal S1x1024x512 .bf16) (r : Fin 256) (j : Fin 512) :
    k0_pay30 X u (ix2 r j) = ∑ k : Fin 1024, X (ix2 r k) * u (ix3 0 k j) := by
  unfold k0_pay30
  pointwise

theorem sp23_at (X : FVec Ideal S256x1024 .bf16) (g : Vec Ideal S1x1024x512 .bf16) (r : Fin 256) (j : Fin 512) :
    k0_pay31 X g (ix2 r j) = silu (∑ k : Fin 1024, X (ix2 r k) * g (ix3 0 k j)) := by
  unfold k0_pay31 silu
  pointwise

theorem sp24_at (X : FVec Ideal S256x1024 .bf16) (a : FVec Ideal S256x1024 .f32) (ga : Vec Ideal S1x1024x512 .bf16) (ua : Vec Ideal S1x1024x512 .bf16) (wa : Vec Ideal S1x512x1024 .bf16)
    (g u : Vec Ideal S1x1024x256 .bf16) (w : Vec Ideal S1x256x1024 .bf16) (r : Fin 256) (d : Fin 1024) :
    k0_pay32 X a (k0_pay30 X ua) (k0_pay31 X ga) wa g u w (ix2 r d)
      = (a (ix2 r d) + ∑ j : Fin 512, feat (fun k => X (ix2 r k)) (fun k => ga (ix3 0 k j)) (fun k => ua (ix3 0 k j)) (wa (ix3 0 j d)))
        + ∑ j : Fin 256, feat (fun k => X (ix2 r k)) (fun k => g (ix3 0 k j)) (fun k => u (ix3 0 k j)) (w (ix3 0 j d)) := by
  unfold k0_pay32 feat
  pointwise
  simp only [sp22_at, sp23_at]
  rfl

/-- What one half of the hidden width adds to a row. -/
theorem shalf_at (x0 : Vec Ideal S4096x128 .f32) (x1 x2 : Vec Ideal S1x1024x1792 .bf16) (x3 : Vec Ideal S1x1792x1024 .bf16) (r : Fin 256) (d : Fin 1024) :
    sacc x0 x1 x2 x3 (ix2 r d) = ∑ j : Fin 1792, feat (fun k => x0 (ix2 ⟨8 * r.val + k.val / 128, by omega⟩ ⟨k.val % 128, by omega⟩))
      (fun k => x1 (ix3 0 k j)) (fun k => x2 (ix3 0 k j)) (x3 (ix3 0 j d)) := by
  have hx : (fun k => sx x0 (ix2 r k)) = fun k : Fin 1024 => x0 (ix2 ⟨8 * r.val + k.val / 128, by omega⟩ ⟨k.val % 128, by omega⟩) := funext fun k => sx_at x0 r k
  unfold sacc k0_pay33
  rw [shapeCast_self, sp24_at, s4, sp21_at, sp20_at]
  rw [show (fun k => k0_pay27 _ _ _ _ _ _ _ _ (ix2 r k)) = (fun k => sx x0 (ix2 r k)) from rfl, hx]
  refine Eq.trans ?_ (sum_chunks fun j => if h : j < 1792 then feat (fun k => x0 (ix2 ⟨8 * r.val + k.val / 128, by omega⟩ ⟨k.val % 128, by omega⟩))
      (fun k => x1 (ix3 0 k ⟨j, h⟩)) (fun k => x2 (ix3 0 k ⟨j, h⟩)) (x3 (ix3 0 ⟨j, h⟩ d)) else 0) |>.trans (Finset.sum_congr rfl fun j _ => dif_pos j.isLt)
  refine congrArg₂ (· + ·) (congrArg₂ (· + ·) (congrArg₂ (· + ·) ?_ ?_) ?_) ?_
  all_goals
    refine Finset.sum_congr rfl fun j _ => ?_
    rw [dif_pos (by omega)]
    congr 1
    all_goals first
      | refine funext fun k => ?_
        refine congrArg _ (funext fun a => Fin.ext ?_)
        fin_cases a <;> simp [LoadRect.idx, Rect.unit, Rect.toLoadRect]
      | refine congrArg _ (funext fun a => Fin.ext ?_)
        fin_cases a <;> simp [LoadRect.idx, Rect.unit, Rect.toLoadRect]

/-- The second half, on top of what the first left. -/
theorem ssum_at (x0 : Vec Ideal S4096x128 .f32) (x1 x2 : Vec Ideal S1x1024x1792 .bf16) (x3 : Vec Ideal S1x1792x1024 .bf16) (p : FVec Ideal S256x1024 .f32) (r : Fin 256) (d : Fin 1024) :
    ssum x0 x1 x2 x3 p (ix2 r d) = p (ix2 r d) + sacc x0 x1 x2 x3 (ix2 r d) := by
  unfold ssum sacc k0_pay33 k0_pay34
  simp only [shapeCast_self]
  rfl

end Cert.Kernel2Ideal.Expert
-- ==== Proof.IValue.lean ====
/- What the expert kernel writes, read at an index over the extended reals. -/
module

public import proofs.«01_k».proof.Proof.ILaunch
public import proofs.«01_k».proof.Proof.IHalf
public import Idealize.ShloMosaic.Lib.Pipeline.ValueKit.Geometry

@[expose] public section

set_option maxRecDepth 16384
set_option Elab.async false

noncomputable section

namespace Cert.Kernel2Ideal.Expert

open Cert.Kernel2Ideal Cert.Kernel2Ideal.Gen Idealize.ShloMosaic Idealize.ShloMosaic.TcCoe Idealize.SL.Sem
open Idealize.ShloMosaic.Pipeline (Dat Cfg Window)

/-- A row of zeros has no feature. -/
theorem feat_zero (x g u : Fin 1024 → EReal) (w : EReal) (h : ∀ k, x k = 0) : feat x g u w = 0 := by
  simp [feat, silu, h]

variable (ch : Tabs) (m : (ℓ : Loc nD τ sig) → Buf (Elt Ideal) ℓ) (ρ : Dev nD → PrngReg)

/-- The rows of the layer, as launched. -/
abbrev rowsA (c : Dev nD) : Vec Ideal S294912x128 .f32 := m ((c : Thread nD τ).loc main_arg3)
/-- The gate weights, as launched. -/
abbrev gateA (c : Dev nD) : Vec Ideal S8x1024x3584 .bf16 := m ((c : Thread nD τ).loc main_arg4)
/-- The up weights, as launched. -/
abbrev upA (c : Dev nD) : Vec Ideal S8x1024x3584 .bf16 := m ((c : Thread nD τ).loc main_arg5)
/-- The down weights, as launched. -/
abbrev downA (c : Dev nD) : Vec Ideal S8x3584x1024 .bf16 := m ((c : Thread nD τ).loc main_arg6)

/-- The expert of a tile. -/
def exp8 (T : Fin 72) : Fin 8 := ⟨(ch.T0 (ix1 T)).toNat, ch.lt _⟩
/-- One entry of one row of one tile, in row-major memory. -/
def rowAt (xs : Vec Ideal S294912x128 .f32) (T : Fin 72) (r : Fin 512) (k : Fin 1024) : EReal :=
  xs (ix2 ⟨4096 * T.val + (8 * r.val + k.val / 128), by omega⟩ ⟨k.val % 128, by omega⟩)
/-- One entry of a row's result by an expert. -/
def ffn (xs : Vec Ideal S294912x128 .f32) (wg wu : Vec Ideal S8x1024x3584 .bf16) (wd : Vec Ideal S8x3584x1024 .bf16) (T : Fin 72) (e : Fin 8) (r : Fin 512) (d : Fin 1024) : EReal :=
  ∑ j : Fin 3584, feat (rowAt xs T r) (fun k => wg (ix3 e k j)) (fun k => wu (ix3 e k j)) (wd (ix3 e j d))
/-- A row of zeros goes to zeros. -/
theorem ffn_zero (xs : Vec Ideal S294912x128 .f32) (wg wu : Vec Ideal S8x1024x3584 .bf16) (wd : Vec Ideal S8x3584x1024 .bf16) (T : Fin 72) (e : Fin 8) (r : Fin 512) (d : Fin 1024)
    (h : ∀ k, rowAt xs T r k = 0) : ffn xs wg wu wd T e r d = 0 :=
  Finset.sum_eq_zero fun j _ => feat_zero _ _ _ _ h

/-! ## The blocks -/

theorem blk0_at (c : Dev nD) (t : Fin (cfgA ch).N) (a : Fin 4096) (b : Fin 128) (T : Fin 72) (hT : t.val / 2 = T.val) :
    iblk ch m ρ c (0 : Fin 5) t (ix2 a b) = rowsA m c (ix2 ⟨4096 * T.val + a.val, by omega⟩ b) := by
  refine congrArg (rowsA m c) (funext fun x => Fin.ext ?_)
  have h0 : (crd ch t 0).val = T.val := (crd_val t).1.trans hT
  fin_cases x
  · show (BitVec.ofNat 32 (crd ch t 0).val).toNat * 4096 + 1 * a.val = 4096 * T.val + a.val
    rw [h0]; simp; omega
  · show 0 * 128 + 1 * b.val = b.val
    omega

theorem tab_at (t : Fin (cfgA ch).N) (T : Fin 72) (hT : t.val / 2 = T.val) :
    ((pfN ch).at 0 (Rect.unit (s := S72) (k0_off1 (crd ch t)) S1.size (k0_off1_inb (crd ch t))) numel1_S1).toNat = (exp8 ch T).val := by
  suffices e : (pfN ch).at 0 (Rect.unit (s := S72) (k0_off1 (crd ch t)) S1.size (k0_off1_inb (crd ch t))) numel1_S1 = ch.T0 (ix1 T) by
    rw [e]; rfl
  refine congrArg ch.T0 (funext fun a => Fin.ext ?_)
  obtain rfl : a = (0 : Fin 1) := Subsingleton.elim (α := Fin 1) _ _
  show k0_off1 (crd ch t) 0 + 1 * 0 = T.val
  rw [off1_val]; exact (crd_val t).1.trans hT

theorem half_at (t : Fin (cfgA ch).N) (h : Scalar.cmpi .slt (BitVec.ofNat 32 (t.val / 2)) (used ch) = 1#1) :
    (Scalar.select (Scalar.cmpi .slt (BitVec.ofNat 32 (crd ch t 0).val) ((pfN ch).at 1 (Rect.unit (s := S1) ![0] S1.size inb_S1_S1_0) numel1_S1)) (BitVec.ofNat 32 (crd ch t 1).val) 1#32 : BitVec 32).toNat = t.val % 2 := by
  have e : (pfN ch).at 1 (Rect.unit (s := S1) ![0] S1.size inb_S1_S1_0) numel1_S1 = used ch := congrArg ch.T1 (funext fun a => by
    obtain rfl : a = (0 : Fin 1) := Subsingleton.elim (α := Fin 1) _ _
    exact Subsingleton.elim (α := Fin 1) _ _)
  rw [e, show (crd ch t 0).val = t.val / 2 from (crd_val t).1, h, show (crd ch t 1).val = t.val % 2 from (crd_val t).2]
  show (BitVec.ofNat 32 (t.val % 2)).toNat = _
  simp; omega

theorem blk1_at (c : Dev nD) (t : Fin (cfgA ch).N) (k : Fin 1024) (j : Fin 1792) (T : Fin 72) (hT : t.val / 2 = T.val)
    (h : Scalar.cmpi .slt (BitVec.ofNat 32 T.val) (used ch) = 1#1) :
    iblk ch m ρ c (1 : Fin 5) t (ix3 0 k j) = gateA m c (ix3 (exp8 ch T) k ⟨1792 * (t.val % 2) + j.val, by omega⟩) := by
  refine congrArg (gateA m c) (funext fun x => Fin.ext ?_)
  fin_cases x
  · show _ * 1 + 1 * 0 = (exp8 ch T).val
    rw [← tab_at ch t T hT]; exact Nat.mul_one _
  · show 0 * 1024 + 1 * k.val = k.val
    omega
  · refine (congrArg (· * 1792 + 1 * j.val) (half_at ch t (hT ▸ h))).trans ?_
    show t.val % 2 * 1792 + 1 * j.val = 1792 * (t.val % 2) + j.val
    omega

theorem blk2_at (c : Dev nD) (t : Fin (cfgA ch).N) (k : Fin 1024) (j : Fin 1792) (T : Fin 72) (hT : t.val / 2 = T.val)
    (h : Scalar.cmpi .slt (BitVec.ofNat 32 T.val) (used ch) = 1#1) :
    iblk ch m ρ c (2 : Fin 5) t (ix3 0 k j) = upA m c (ix3 (exp8 ch T) k ⟨1792 * (t.val % 2) + j.val, by omega⟩) := by
  refine congrArg (upA m c) (funext fun x => Fin.ext ?_)
  fin_cases x
  · show _ * 1 + 1 * 0 = (exp8 ch T).val
    rw [← tab_at ch t T hT]; exact Nat.mul_one _
  · show 0 * 1024 + 1 * k.val = k.val
    omega
  · refine (congrArg (· * 1792 + 1 * j.val) (half_at ch t (hT ▸ h))).trans ?_
    show t.val % 2 * 1792 + 1 * j.val = 1792 * (t.val % 2) + j.val
    omega

theorem blk3_at (c : Dev nD) (t : Fin (cfgA ch).N) (j : Fin 1792) (d : Fin 1024) (T : Fin 72) (hT : t.val / 2 = T.val)
    (h : Scalar.cmpi .slt (BitVec.ofNat 32 T.val) (used ch) = 1#1) :
    iblk ch m ρ c (3 : Fin 5) t (ix3 0 j d) = downA m c (ix3 (exp8 ch T) ⟨1792 * (t.val % 2) + j.val, by omega⟩ d) := by
  refine congrArg (downA m c) (funext fun x => Fin.ext ?_)
  fin_cases x
  · show _ * 1 + 1 * 0 = (exp8 ch T).val
    rw [← tab_at ch t T hT]; exact Nat.mul_one _
  · refine (congrArg (· * 1792 + 1 * j.val) (half_at ch t (hT ▸ h))).trans ?_
    show t.val % 2 * 1792 + 1 * j.val = 1792 * (t.val % 2) + j.val
    omega
  · show 0 * 1024 + 1 * d.val = d.val
    omega

/-! ## One point's sums -/

theorem dpoint (c : Dev nD) (t : Fin (cfgA ch).N) (r : Fin 512) (d : Fin 1024) (T : Fin 72) (hT : t.val / 2 = T.val)
    (h : Scalar.cmpi .slt (BitVec.ofNat 32 T.val) (used ch) = 1#1) :
    dacc (iblk ch m ρ c (0 : Fin 5) t) (iblk ch m ρ c (1 : Fin 5) t) (iblk ch m ρ c (2 : Fin 5) t) (iblk ch m ρ c (3 : Fin 5) t) (ix2 r d)
      = ∑ j : Fin 1792, feat (rowAt (rowsA m c) T r) (fun k => gateA m c (ix3 (exp8 ch T) k ⟨1792 * (t.val % 2) + j.val, by omega⟩))
        (fun k => upA m c (ix3 (exp8 ch T) k ⟨1792 * (t.val % 2) + j.val, by omega⟩)) (downA m c (ix3 (exp8 ch T) ⟨1792 * (t.val % 2) + j.val, by omega⟩ d)) := by
  refine (dhalf_at (iblk ch m ρ c (0 : Fin 5) t) (iblk ch m ρ c (1 : Fin 5) t) (iblk ch m ρ c (2 : Fin 5) t) (iblk ch m ρ c (3 : Fin 5) t) r d).trans (Finset.sum_congr rfl fun j _ => ?_)
  congr 1
  · exact funext fun k => blk0_at ch m ρ c t _ _ T hT
  · exact funext fun k => blk1_at ch m ρ c t k j T hT h
  · exact funext fun k => blk2_at ch m ρ c t k j T hT h
  · exact blk3_at ch m ρ c t j d T hT h

theorem spoint (c : Dev nD) (t : Fin (cfgA ch).N) (r : Fin 256) (d : Fin 1024) (T : Fin 72) (hT : t.val / 2 = T.val)
    (h : Scalar.cmpi .slt (BitVec.ofNat 32 T.val) (used ch) = 1#1) :
    sacc (iblk ch m ρ c (0 : Fin 5) t) (iblk ch m ρ c (1 : Fin 5) t) (iblk ch m ρ c (2 : Fin 5) t) (iblk ch m ρ c (3 : Fin 5) t) (ix2 r d)
      = ∑ j : Fin 1792, feat (rowAt (rowsA m c) T ⟨r.val, by omega⟩) (fun k => gateA m c (ix3 (exp8 ch T) k ⟨1792 * (t.val % 2) + j.val, by omega⟩))
        (fun k => upA m c (ix3 (exp8 ch T) k ⟨1792 * (t.val % 2) + j.val, by omega⟩)) (downA m c (ix3 (exp8 ch T) ⟨1792 * (t.val % 2) + j.val, by omega⟩ d)) := by
  refine (shalf_at (iblk ch m ρ c (0 : Fin 5) t) (iblk ch m ρ c (1 : Fin 5) t) (iblk ch m ρ c (2 : Fin 5) t) (iblk ch m ρ c (3 : Fin 5) t) r d).trans (Finset.sum_congr rfl fun j _ => ?_)
  congr 1
  · exact funext fun k => blk0_at ch m ρ c t _ _ T hT
  · exact funext fun k => blk1_at ch m ρ c t k j T hT h
  · exact funext fun k => blk2_at ch m ρ c t k j T hT h
  · exact blk3_at ch m ρ c t j d T hT h

/-- The two halves of the hidden width make the whole. -/
theorem ffn_halves (xs : Vec Ideal S294912x128 .f32) (wg wu : Vec Ideal S8x1024x3584 .bf16) (wd : Vec Ideal S8x3584x1024 .bf16) (T : Fin 72) (e : Fin 8) (r : Fin 512) (d : Fin 1024)
    (p q : ℕ) (hp : p % 2 = 0) (hq : q % 2 = 1) :
    (∑ j : Fin 1792, feat (rowAt xs T r) (fun k => wg (ix3 e k ⟨1792 * (p % 2) + j.val, by omega⟩)) (fun k => wu (ix3 e k ⟨1792 * (p % 2) + j.val, by omega⟩)) (wd (ix3 e ⟨1792 * (p % 2) + j.val, by omega⟩ d)))
    + (∑ j : Fin 1792, feat (rowAt xs T r) (fun k => wg (ix3 e k ⟨1792 * (q % 2) + j.val, by omega⟩)) (fun k => wu (ix3 e k ⟨1792 * (q % 2) + j.val, by omega⟩)) (wd (ix3 e ⟨1792 * (q % 2) + j.val, by omega⟩ d)))
    = ffn xs wg wu wd T e r d := by
  unfold ffn
  rw [Fin.sum_univ_two_halves 1792 1792 rfl]
  simp only [hp, hq, Nat.mul_zero, Nat.zero_add, Nat.mul_one]

/-- A dense tile's sums after its two points. -/
theorem dense_at (c : Dev nD) (t : Fin (cfgA ch).N) (ht : t.val % 2 = 1) (r : Fin 512) (d : Fin 1024) (T : Fin 72) (hT : t.val / 2 = T.val)
    (h : Scalar.cmpi .slt (BitVec.ofNat 32 T.val) (used ch) = 1#1) :
    dsum (iblk ch m ρ c (0 : Fin 5) t) (iblk ch m ρ c (1 : Fin 5) t) (iblk ch m ρ c (2 : Fin 5) t) (iblk ch m ρ c (3 : Fin 5) t)
      (dacc (iblk ch m ρ c (0 : Fin 5) (back ch t)) (iblk ch m ρ c (1 : Fin 5) (back ch t)) (iblk ch m ρ c (2 : Fin 5) (back ch t)) (iblk ch m ρ c (3 : Fin 5) (back ch t))) (ix2 r d)
      = ffn (rowsA m c) (gateA m c) (upA m c) (downA m c) T (exp8 ch T) r d := by
  have hb : (back ch t).val = t.val - 1 := rfl
  refine (dsum_at _ _ _ _ _ r d).trans ?_
  refine (congrArg₂ (· + ·) (dpoint ch m ρ c (back ch t) r d T (by omega) h) (dpoint ch m ρ c t r d T hT h)).trans ?_
  exact ffn_halves _ _ _ _ T _ r d _ _ (by omega) ht

/-- A sparse tile's sums after its two points. -/
theorem sparse_at (c : Dev nD) (t : Fin (cfgA ch).N) (ht : t.val % 2 = 1) (r : Fin 256) (d : Fin 1024) (T : Fin 72) (hT : t.val / 2 = T.val)
    (h : Scalar.cmpi .slt (BitVec.ofNat 32 T.val) (used ch) = 1#1) :
    ssum (iblk ch m ρ c (0 : Fin 5) t) (iblk ch m ρ c (1 : Fin 5) t) (iblk ch m ρ c (2 : Fin 5) t) (iblk ch m ρ c (3 : Fin 5) t)
      (sacc (iblk ch m ρ c (0 : Fin 5) (back ch t)) (iblk ch m ρ c (1 : Fin 5) (back ch t)) (iblk ch m ρ c (2 : Fin 5) (back ch t)) (iblk ch m ρ c (3 : Fin 5) (back ch t))) (ix2 r d)
      = ffn (rowsA m c) (gateA m c) (upA m c) (downA m c) T (exp8 ch T) ⟨r.val, by omega⟩ d := by
  have hb : (back ch t).val = t.val - 1 := rfl
  refine (ssum_at _ _ _ _ _ r d).trans ?_
  refine (congrArg₂ (· + ·) (spoint ch m ρ c (back ch t) r d T (by omega) h) (spoint ch m ρ c t r d T hT h)).trans ?_
  exact ffn_halves _ _ _ _ T _ _ d _ _ (by omega) ht

/-! ## The array -/

/-- The whole result: every row by its tile's expert. -/
def garr (e : Fin 72 → Fin 8) (xs : Vec Ideal S294912x128 .f32) (wg wu : Vec Ideal S8x1024x3584 .bf16) (wd : Vec Ideal S8x3584x1024 .bf16) : Vec Ideal S294912x128 .f32 := fun y =>
  ffn xs wg wu wd ⟨(y 0).val / 4096, by have : (y 0).val < 294912 := (y 0).isLt; omega⟩ (e ⟨(y 0).val / 4096, by have : (y 0).val < 294912 := (y 0).isLt; omega⟩)
    ⟨(y 0).val % 4096 / 8, by omega⟩ ⟨(y 0).val % 8 * 128 + (y 1).val, by have : (y 1).val < 128 := (y 1).isLt; omega⟩

/-- A row that holds no token, by the tables. -/
def Empty (T : Fin 72) (r : Fin 512) : Prop :=
  ¬(Scalar.cmpi .slt (BitVec.ofNat 32 T.val) (used ch) = 1#1 ∧ Scalar.cmpi .slt (BitVec.ofNat 32 r.val) (ch.T2 (ix1 T)) = 1#1)

theorem used_of1 (i : grid0.Coords) (h : P1 ch i) : Scalar.cmpi .slt (BitVec.ofNat 32 (i 0).val) (used ch) = 1#1 := by
  unfold P1 k0_cond1 at h
  dsimp only at h
  generalize Scalar.cmpi .slt (BitVec.ofNat 32 (i 0).val) (used ch) = a at h ⊢
  generalize Scalar.cmpi .sle (toks ch i) 256#32 = b at h
  revert a b; decide
theorem used_of5 (i : grid0.Coords) (h : P5 ch i) : Scalar.cmpi .slt (BitVec.ofNat 32 (i 0).val) (used ch) = 1#1 ∧ Scalar.cmpi .sle (toks ch i) 256#32 = 1#1 := by
  unfold P5 k0_cond5 at h
  dsimp only at h
  generalize Scalar.cmpi .slt (BitVec.ofNat 32 (i 0).val) (used ch) = a at h ⊢
  generalize Scalar.cmpi .sle (toks ch i) 256#32 = b at h ⊢
  revert a b; decide
theorem unused_of (i : grid0.Coords) (h1 : ¬P1 ch i) (h5 : ¬P5 ch i) : ¬Scalar.cmpi .slt (BitVec.ofNat 32 (i 0).val) (used ch) = 1#1 := by
  unfold P1 k0_cond1 at h1; unfold P5 k0_cond5 at h5
  dsimp only at h1 h5
  generalize Scalar.cmpi .slt (BitVec.ofNat 32 (i 0).val) (used ch) = a at h1 h5 ⊢
  generalize Scalar.cmpi .sle (toks ch i) 256#32 = b at h1 h5
  revert a b; decide

theorem bit_one {b : Bool} : BitVec.ofBool b = 1#1 ↔ b = true := by cases b <;> decide

/-- A count that is at most 256 is not above a row from the second half. -/
theorem past_half (w : BitVec 32) (h : Scalar.cmpi .sle w 256#32 = 1#1) (r : Fin 512) (hr : 256 ≤ r.val) : ¬Scalar.cmpi .slt (BitVec.ofNat 32 r.val) w = 1#1 := by
  have h1 : w.toInt ≤ 256 := BitVec.sle_iff_toInt_le.1 (bit_one.1 h)
  have h2 : (BitVec.ofNat 32 r.val).toInt = r.val := by
    rw [BitVec.toInt_eq_toNat_of_lt] <;> simp <;> omega
  intro h3
  have h4 := BitVec.slt_iff_toInt_lt.1 (bit_one.1 h3)
  omega

/-- What a tile's second point writes, at an index. -/
theorem outAt_at (c : Dev nD) (hz : ∀ T r, Empty ch T r → ∀ k, rowAt (rowsA m c) T r k = 0) (t : Fin (cfgA ch).N) (ht : t.val % 2 = 1) (T : Fin 72) (hT : t.val / 2 = T.val) (a : Fin 4096) (b : Fin 128) :
    outAt ch m ρ c t (ix2 a b) = ffn (rowsA m c) (gateA m c) (upA m c) (downA m c) T (exp8 ch T) ⟨a.val / 8, by omega⟩ ⟨a.val % 8 * 128 + b.val, by omega⟩ := by
  have h0 : (crd ch t 0).val = T.val := (crd_val t).1.trans hT
  have z0 : k0_pay18 (F := Ideal) (ix2 a b) = (0 : EReal) := by
    unfold k0_pay18
    pointwise
  have hk : toks ch (crd ch t) = ch.T2 (ix1 T) := congrArg ch.T2 (funext fun x => by
    obtain rfl : x = (0 : Fin 1) := Subsingleton.elim (α := Fin 1) _ _
    exact Fin.ext h0)
  by_cases h1 : P1 ch (crd ch t)
  · rw [outAt_1 ch m ρ c t h1]
    exact dense_at ch m ρ c t ht _ _ T hT (h0 ▸ used_of1 ch _ h1)
  by_cases h5 : P5 ch (crd ch t)
  · rw [outAt_5 ch m ρ c t h1 h5]
    obtain ⟨hu, hs⟩ := used_of5 ch _ h5
    by_cases hr : a.val < 2048
    · refine (dif_pos (show (ix2 a b 0).val < 2048 from hr)).trans ?_
      exact sparse_at ch m ρ c t ht _ _ T hT (h0 ▸ hu)
    · refine (dif_neg (show ¬(ix2 a b 0).val < 2048 from hr)).trans (z0.trans (ffn_zero _ _ _ _ T _ _ _ (hz T _ fun hc => ?_)).symm)
      exact past_half _ (hk ▸ hs) ⟨a.val / 8, by omega⟩ (by show 256 ≤ a.val / 8; omega) hc.2
  · rw [outAt_no ch m ρ c t h1 h5]
    refine z0.trans (ffn_zero _ _ _ _ T _ _ _ (hz T _ fun hc => ?_)).symm
    exact unused_of ch _ h1 h5 (h0.symm ▸ hc.1)

theorem split_y (y : S4096x128.Idx) : ∃ (a : Fin 4096) (b : Fin 128), y = ix2 a b := ⟨y 0, y 1, by
  funext x
  match x with
  | ⟨0, _⟩ => rfl
  | ⟨1, _⟩ => rfl⟩
theorem split_i (y : S294912x128.Idx) : ∃ (a : Fin 294912) (b : Fin 128), y = ix2 a b := ⟨y 0, y 1, by
  funext x
  match x with
  | ⟨0, _⟩ => rfl
  | ⟨1, _⟩ => rfl⟩

/-- Where the output's block puts its entries. -/
theorem emb4 (t : Fin (cfgA ch).N) (T : Fin 72) (hT : t.val / 2 = T.val) (a : Fin 4096) (b : Fin 128) :
    (((cfgA ch).win (4 : Fin 5)).blk t).view.emb (ix2 a b : S4096x128.Idx) = (ix2 (⟨4096 * T.val + a.val, by omega⟩ : Fin 294912) b : S294912x128.Idx) := by
  have h0 : (crd ch t 0).val = T.val := (crd_val t).1.trans hT
  refine funext fun x => Fin.ext ?_
  match x with
  | ⟨0, _⟩ =>
    show (BitVec.ofNat 32 (crd ch t 0).val).toNat * 4096 + 1 * a.val = 4096 * T.val + a.val
    rw [h0]; simp; omega
  | ⟨1, _⟩ =>
    show 0 * 128 + 1 * b.val = b.val
    omega

/-- The whole result at an entry of a tile. -/
theorem garr_at (e : Fin 72 → Fin 8) (xs : Vec Ideal S294912x128 .f32) (wg wu : Vec Ideal S8x1024x3584 .bf16) (wd : Vec Ideal S8x3584x1024 .bf16) (T : Fin 72) (a : Fin 4096) (b : Fin 128) :
    garr e xs wg wu wd (ix2 ⟨4096 * T.val + a.val, by omega⟩ b) = ffn xs wg wu wd T (e T) ⟨a.val / 8, by omega⟩ ⟨a.val % 8 * 128 + b.val, by omega⟩ := by
  have e1 : (⟨(4096 * T.val + a.val) / 4096, by omega⟩ : Fin 72) = T := Fin.ext (by show (4096 * T.val + a.val) / 4096 = T.val; omega)
  have e2 : (⟨(4096 * T.val + a.val) % 4096 / 8, by omega⟩ : Fin 512) = ⟨a.val / 8, by omega⟩ := Fin.ext (by show (4096 * T.val + a.val) % 4096 / 8 = a.val / 8; omega)
  have e3 : (⟨(4096 * T.val + a.val) % 8 * 128 + b.val, by omega⟩ : Fin 1024) = ⟨a.val % 8 * 128 + b.val, by omega⟩ :=
    Fin.ext (by show (4096 * T.val + a.val) % 8 * 128 + b.val = a.val % 8 * 128 + b.val; omega)
  show ffn xs wg wu wd ⟨(4096 * T.val + a.val) / 4096, _⟩ (e ⟨(4096 * T.val + a.val) / 4096, _⟩) ⟨(4096 * T.val + a.val) % 4096 / 8, _⟩ ⟨(4096 * T.val + a.val) % 8 * 128 + b.val, _⟩ = _
  rw [e1, e2, e3]

/-- The result array after the launch. -/
theorem arr_eq (c : Dev nD) (hz : ∀ T r, Empty ch T r → ∀ k, rowAt (rowsA m c) T r k = 0) :
    (dats ch m ρ 0 c).arrAt (4 : Fin 5) (cfgA ch).N = garr (exp8 ch) (rowsA m c) (gateA m c) (upA m c) (downA m c) := by
  refine (dats ch m ρ 0 c).arrAt_eq_of_emb (4 : Fin 5) _ (fun t hf y => ?_) ?_
  · rw [flush4] at hf
    have ht : t.val % 2 = 1 := of_decide_eq_true hf
    have hN : (cfgA ch).N = 144 := N_0
    have hlt : t.val < 144 := hN ▸ t.isLt
    obtain ⟨T, hT⟩ : ∃ T : Fin 72, t.val / 2 = T.val := ⟨⟨t.val / 2, by omega⟩, rfl⟩
    obtain ⟨a, b, rfl⟩ := split_y y
    refine (outAt_at ch m ρ c hz t ht T hT a b).trans ?_
    rw [emb4 ch t T hT a b, garr_at]
  · intro i
    obtain ⟨a, b, rfl⟩ := split_i i
    have hN : (cfgA ch).N = 144 := N_0
    have ha := a.isLt
    refine ⟨⟨2 * (a.val / 4096) + 1, by rw [hN]; omega⟩, ?_, ?_⟩
    · rw [flush4]; exact decide_eq_true (by show (2 * (a.val / 4096) + 1) % 2 = 1; omega)
    · have e := emb4 ch ⟨2 * (a.val / 4096) + 1, by rw [hN]; omega⟩ ⟨a.val / 4096, by omega⟩ (by show (2 * (a.val / 4096) + 1) / 2 = a.val / 4096; omega) ⟨a.val % 4096, by omega⟩ b
      have e' : (ix2 (⟨4096 * (a.val / 4096) + a.val % 4096, by omega⟩ : Fin 294912) b : S294912x128.Idx) = ix2 a b := by
        congr 1; exact Fin.ext (by show 4096 * (a.val / 4096) + a.val % 4096 = a.val; omega)
      exact (e.trans e') ▸ View.emb_mem_set _ _

end Cert.Kernel2Ideal.Expert
-- ==== Proof.IRef.lean ====
/- The reference of the experts, read at an index over the extended reals. -/
module

public import proofs.«01_k».proof.Proof.Gen.Reference2Ideal.Read
public import proofs.«01_k».proof.Proof.IValue
public import Idealize.ShloMosaic.Lib.Pointwise
public import Idealize.ShloMosaic.PureOps.Ideal.Laws

@[expose] public section

set_option maxRecDepth 16384
set_option Elab.async false

noncomputable section

namespace Cert.Reference2Ideal.Expert

open Cert.Reference2Ideal Cert.Reference2Ideal.Gen Cert.Reference2Ideal.Read Idealize.ShloMosaic Idealize.ShloMosaic.TcCoe
open Cert.Kernel2Ideal.Expert (silu feat rowAt ffn garr garr_at)

/-- A row, put together from its row-major memory. -/
theorem row_at (xs : FVec Ideal S294912x128 .f32) (T : Fin 72) (r : Fin 512) (k : Fin 1024) :
    val_main_v0 (F := Ideal) xs (ix2 ⟨512 * T.val + r.val, by omega⟩ k) = rowAt xs T r k := by
  rw [val_main_v0_apply]
  refine congrArg xs (funext fun x => Fin.ext ?_)
  match x with
  | ⟨0, _⟩ =>
    show ((512 * T.val + r.val) * 1024 + k.val) / 128 = 4096 * T.val + (8 * r.val + k.val / 128)
    omega
  | ⟨1, _⟩ =>
    show ((512 * T.val + r.val) * 1024 + k.val) % 128 = k.val % 128
    omega

/-- The gate's product. -/
theorem gate_at (xs : FVec Ideal S294912x128 .f32) (wg : FVec Ideal S8x1024x3584 .bf16) (e : Fin 8) (T : Fin 72) (r : Fin 512) (j : Fin 3584) :
    val_main_v9 (F := Ideal) xs wg (ix3 e ⟨512 * T.val + r.val, by omega⟩ j) = ∑ k, rowAt xs T r k * wg (ix3 e k j) := by
  unfold val_main_v9 val_main_v8 val_main_v1
  pointwise
  exact Finset.sum_congr rfl fun k _ => (mul_comm _ _).trans (congrArg (· * _) (row_at xs T r k))

/-- The other product. -/
theorem up_at (xs : FVec Ideal S294912x128 .f32) (wu : FVec Ideal S8x1024x3584 .bf16) (e : Fin 8) (T : Fin 72) (r : Fin 512) (j : Fin 3584) :
    val_main_v11 (F := Ideal) xs wu (ix3 e ⟨512 * T.val + r.val, by omega⟩ j) = ∑ k, rowAt xs T r k * wu (ix3 e k j) := by
  unfold val_main_v11 val_main_v10 val_main_v2
  pointwise
  exact Finset.sum_congr rfl fun k _ => (mul_comm _ _).trans (congrArg (· * _) (row_at xs T r k))

/-- The gated hidden features. -/
theorem hid_at (xs : FVec Ideal S294912x128 .f32) (wg wu : FVec Ideal S8x1024x3584 .bf16) (e : Fin 8) (T : Fin 72) (r : Fin 512) (j : Fin 3584) :
    val_main_v13 (F := Ideal) xs wg wu (ix3 e ⟨512 * T.val + r.val, by omega⟩ j)
      = silu (∑ k, rowAt xs T r k * wg (ix3 e k j)) * ∑ k, rowAt xs T r k * wu (ix3 e k j) := by
  rw [← gate_at, ← up_at]
  unfold val_main_v13 val_main_v12 val_main_call1_v5 val_main_call1_v4 val_main_call1_cst_0 val_main_call1_v3 val_main_call1_v2 val_main_call1_cst val_main_call1_v1 val_main_call1_v0 silu
  generalize val_main_v9 (F := Ideal) xs wg = g
  generalize val_main_v11 (F := Ideal) xs wu = u
  pointwise
  rw [sub_eq_add_neg, zero_add]

/-- A row's result by an expert. -/
theorem out_at (xs : FVec Ideal S294912x128 .f32) (wg wu : FVec Ideal S8x1024x3584 .bf16) (wd : FVec Ideal S8x3584x1024 .bf16) (e : Fin 8) (T : Fin 72) (r : Fin 512) (d : Fin 1024) :
    val_main_v14 (F := Ideal) xs wg wu wd (ix3 e ⟨512 * T.val + r.val, by omega⟩ d) = ffn xs wg wu wd T e r d := by
  unfold val_main_v14 val_main_v3
  pointwise
  exact Finset.sum_congr rfl fun j _ => congrArg (· * _) (hid_at xs wg wu e T r j)

/-- Which expert a row is sent to. -/
theorem hot_at (te : IVec S72 32) (h : ∀ i, (te i).toNat < 8) (e : Fin 8) (T : Fin 72) (r : Fin 512) (d : Fin 1024) :
    val_main_v17 (F := Ideal) te (ix3 e ⟨512 * T.val + r.val, by omega⟩ d) = if e = ⟨(te (ix1 T)).toNat, h _⟩ then (1 : EReal) else 0 := by
  have hv : val_main_v6 (F := Ideal) te (ix1 ⟨512 * T.val + r.val, by omega⟩) = te (ix1 T) := by
    rw [val_main_v6_apply, val_main_v5_apply, val_main_v4_apply]
    refine congrArg te (funext fun x => Fin.ext ?_)
    match x with
    | ⟨0, _⟩ => show (512 * T.val + r.val) / 512 = T.val; omega
  have hb : IntOp.cmpi .eq (te (ix1 T)) (BitVec.ofNat 32 e.val) = if e = ⟨(te (ix1 T)).toNat, h _⟩ then 1#1 else 0#1 := by
    have h8 := h (ix1 T)
    have : (te (ix1 T) == BitVec.ofNat 32 e.val) = decide (e = ⟨(te (ix1 T)).toNat, h _⟩) := by
      rw [Bool.eq_iff_iff, beq_iff_eq, decide_eq_true_iff]
      constructor
      · intro he; refine Fin.ext ?_; show e.val = (te (ix1 T)).toNat; rw [he]; simp; omega
      · intro he; rw [he]; simp
    show BitVec.ofBool (te (ix1 T) == BitVec.ofNat 32 e.val) = _
    rw [this]
    split <;> simp_all
  unfold val_main_v17 val_main_v16 val_main_v15 val_main_v7 val_main_call0_v4 val_main_call0_v3 val_main_call0_v2 val_main_call0_v1 val_main_call0_v0
  pointwise
  rw [hv, hb]
  split <;> simp [FloatOps.uitofp]

/-- A row of the reference's result. -/
theorem sum_at (te : IVec S72 32) (h : ∀ i, (te i).toNat < 8) (xs : FVec Ideal S294912x128 .f32) (wg wu : FVec Ideal S8x1024x3584 .bf16) (wd : FVec Ideal S8x3584x1024 .bf16) (T : Fin 72) (r : Fin 512) (d : Fin 1024) :
    val_main_v19 (F := Ideal) te xs wg wu wd (ix2 ⟨512 * T.val + r.val, by omega⟩ d) = ffn xs wg wu wd T ⟨(te (ix1 T)).toNat, h _⟩ r d := by
  have e : val_main_v19 (F := Ideal) te xs wg wu wd (ix2 ⟨512 * T.val + r.val, by omega⟩ d)
      = ∑ e : Fin 8, val_main_v17 (F := Ideal) te (ix3 e ⟨512 * T.val + r.val, by omega⟩ d) * val_main_v14 (F := Ideal) xs wg wu wd (ix3 e ⟨512 * T.val + r.val, by omega⟩ d) := by
    unfold val_main_v19 val_main_v18 val_main_cst
    pointwise
  rw [e]
  simp only [hot_at te h, out_at]
  simp

/-- The reference's result is every row by its tile's expert. -/
theorem ref_eq (te : IVec S72 32) (h : ∀ i, (te i).toNat < 8) (xs : FVec Ideal S294912x128 .f32) (wg wu : FVec Ideal S8x1024x3584 .bf16) (wd : FVec Ideal S8x3584x1024 .bf16) :
    val_main_v20 (F := Ideal) te xs wg wu wd = garr (fun T => ⟨(te (ix1 T)).toNat, h _⟩) xs wg wu wd := by
  funext i
  obtain ⟨y, b, rfl⟩ := Cert.Kernel2Ideal.Expert.split_i i
  obtain ⟨T, a, rfl⟩ : ∃ (T : Fin 72) (a : Fin 4096), y = ⟨4096 * T.val + a.val, by omega⟩ :=
    ⟨⟨y.val / 4096, by omega⟩, ⟨y.val % 4096, by omega⟩, Fin.ext (by show y.val = 4096 * (y.val / 4096) + y.val % 4096; omega)⟩
  rw [garr_at, ← sum_at te h, val_main_v20_apply]
  refine congrArg (val_main_v19 (F := Ideal) te xs wg wu wd) (funext fun x => Fin.ext ?_)
  match x with
  | ⟨0, _⟩ =>
    show ((4096 * T.val + a.val) * 128 + b.val) / 1024 = 512 * T.val + a.val / 8
    omega
  | ⟨1, _⟩ =>
    show ((4096 * T.val + a.val) * 128 + b.val) % 1024 = a.val % 8 * 128 + b.val
    omega

end Cert.Reference2Ideal.Expert
-- ==== Proof.Routed.lean ====
module

public import proofs.«01_k».proof.Defs
public import proofs.«01_k».proof.Proof.Pre
public import proofs.«01_k».proof.Proof.KLaunch
public import proofs.«01_k».proof.Proof.IValue
public import proofs.«01_k».proof.Proof.IRef
public import proofs.«01_k».proof.Proof.Gen.Pre_experts_in_range
public import proofs.«01_k».proof.Proof.Gen.Pre_rows_routed
public import Idealize.ShloMosaic.Lib.ReduceAll
public import Idealize.ShloMosaic.Lib.Pointwise

/-! What the experts' preconditions say, and the claims about the experts. -/

@[expose] public section
set_option maxRecDepth 16384
noncomputable section

namespace Cert.Routed
open Idealize.ShloMosaic

/-- A table entry between zero and seven, as a signed word, is below eight. -/
theorem lt_eight (x : BitVec 32) (h0 : IntOp.cmpi .sge x 0#32 = 1#1) (h8 : IntOp.cmpi .slt x 8#32 = 1#1) : x.toNat < 8 := by
  simp only [IntOp.cmpi, Cert.Kernel2Ideal.Expert.bit_one] at h0 h8
  rw [BitVec.sle_iff_toInt_le] at h0
  rw [BitVec.slt_iff_toInt_lt] at h8
  have a : (0#32).toInt = 0 := rfl
  have b : (8#32).toInt = 8 := rfl
  rw [a] at h0
  rw [b] at h8
  rw [BitVec.toInt_eq_toNat_cond] at h0 h8
  split at h0 <;> omega

end Cert.Routed

namespace Cert.Pre_experts_in_range
open Idealize.ShloMosaic

/-- A scalar has one index. -/
instance : Subsingleton S_.Idx := ⟨fun a b => funext fun i => i.elim0⟩

/-- The first precondition, read: every tile names one of the eight experts. -/
theorem range_of_fn {F : FTy → Type} [FloatOps F] [Facts] (x0 : IVec S72 32) (x1 : IVec S1 32) (x2 : IVec S72 32) (x3 : FVec F S294912x128 .f32)
    (x4 x5 : FVec F S8x1024x3584 .bf16) (x6 : FVec F S8x3584x1024 .bf16) (h : fn (F := F) x0 x1 x2 x3 x4 x5 x6 = fun _ => 1#1) (i : S72.Idx) :
    (x0 i).toNat < 8 := by
  have h := congrFun h (Shape.Idx.first Facts.h_S_)
  unfold fn at h
  have e := Host.reduce_andi_all _ _ _ _ _ h i
  obtain ⟨e0, e8⟩ := Cert.Pre_finite_scores.and_one _ _ e
  exact Cert.Routed.lt_eight _ e0 e8

end Cert.Pre_experts_in_range

namespace Cert.Pre_rows_routed
open Idealize.ShloMosaic Cert.Kernel2Ideal.Expert

/-- A scalar has one index. -/
instance : Subsingleton S_.Idx := ⟨fun a b => funext fun i => i.elim0⟩

/-- A disjunction of two bits that is one has one of them one. -/
theorem or_one (a b : BitVec 1) (h : IntOp.ori a b = 1#1) : a = 1#1 ∨ b = 1#1 := by
  revert a b; decide

/-- A number equal to zero, as the comparison reads. -/
theorem eq_of_oeq (x y : EReal) (h : Ideal.cmp .oeq x y = 1#1) : x = y := by
  by_contra hc
  simp [Ideal.cmp, hc] at h

variable [Facts]

/-- The second precondition, read: every tile names one of the eight experts, and the rows that hold no token are zero. -/
theorem routed_of_fn (x0 : IVec S72 32) (x1 : IVec S1 32) (x2 : IVec S72 32) (x3 : FVec Ideal S294912x128 .f32)
    (x4 x5 : FVec Ideal S8x1024x3584 .bf16) (x6 : FVec Ideal S8x3584x1024 .bf16) (h : fn (F := Ideal) x0 x1 x2 x3 x4 x5 x6 = fun _ => 1#1) :
    (∀ i, (x0 i).toNat < 8) ∧ ∀ (T : Fin 72) (r : Fin 512) (k : Fin 1024),
      ¬(Scalar.cmpi .slt (BitVec.ofNat 32 T.val) (x1 (ix1 (0 : Fin 1))) = 1#1 ∧ Scalar.cmpi .slt (BitVec.ofNat 32 r.val) (x2 (ix1 T)) = 1#1) → rowAt x3 T r k = 0 := by
  have h := congrFun h (Shape.Idx.first Facts.h_S_)
  unfold fn fn_part1 at h
  obtain ⟨h0, h1⟩ := Cert.Pre_finite_scores.and_one _ _ h
  refine ⟨fun i => ?_, fun T r k hn => ?_⟩
  · have e := Host.reduce_andi_all _ _ _ _ _ h0 i
    obtain ⟨e0, e8⟩ := Cert.Pre_finite_scores.and_one _ _ e
    exact Cert.Routed.lt_eight _ e0 e8
  · have e := Host.reduce_andi_all _ _ _ _ _ h1 (ix3 T r k)
    have hu : (broadcastInDim S72x512x1024 ![] Facts.bcast_S_S72x512x1024 (shapeCast S_ x1 Facts.shapeCasts_S1_S_) : IVec S72x512x1024 32) (ix3 T r k) = x1 (ix1 (0 : Fin 1)) := by
      pointwise
    have hf : (broadcastInDim S72x512x1024 ![0, 1, 2] Facts.bcast_S72x1x1_S72x512x1024_0_1_2 (broadcastInDim S72x1x1 ![0] Facts.bcast_S72_S72x1x1_0 x2) : IVec S72x512x1024 32) (ix3 T r k) = x2 (ix1 T) := by
      pointwise
    have hx : (shapeCast S72x512x1024 x3 Facts.shapeCasts_S294912x128_S72x512x1024 : FVec Ideal S72x512x1024 .f32) (ix3 T r k) = rowAt x3 T r k := by
      pointwise
      unfold rowAt
      refine congrArg x3 (funext fun x => Fin.ext ?_)
      fin_cases x
      · simp; omega
      · simp <;> omega
    have hz : (Ideal.ofBits .f32 0x00000000#32 : EReal) = 0 := by simp [Ideal.ofBits, Ideal.ieee]
    rcases or_one _ _ e with e | e
    · obtain ⟨ea, eb⟩ := Cert.Pre_finite_scores.and_one _ _ e
      refine absurd ⟨?_, ?_⟩ hn
      · rw [← hu]; exact ea
      · rw [← hf]; exact eb
    · rw [← hx, ← hz]; exact eq_of_oeq _ _ e

end Cert.Pre_rows_routed

namespace Cert.Routed
open Idealize.ShloMosaic Idealize.ShloMosaic.TcCoe Idealize.SL.Sem

/-- The expert kernel runs, leaves its arguments and ends quiet, on any tables that name experts. -/
theorem frame_k : Cert.quiescent_Kernel2 := by
  intro m ρ hp
  let c0 : Dev Cert.Kernel2.nD := (0 : Fin 1)
  refine Cert.Kernel2.Expert.frame ⟨m ((c0 : Thread Cert.Kernel2.nD Cert.Kernel2.τ).loc Cert.Kernel2.main_arg0), m ((c0 : Thread Cert.Kernel2.nD Cert.Kernel2.τ).loc Cert.Kernel2.main_arg1),
    m ((c0 : Thread Cert.Kernel2.nD Cert.Kernel2.τ).loc Cert.Kernel2.main_arg2), Cert.Pre_experts_in_range.range_of_fn _ _ _ _ _ _ _ (hp c0)⟩ m ρ ⟨fun c => ?_, fun c => ?_, fun c => ?_⟩ <;>
  · obtain rfl : c = c0 := Subsingleton.elim (α := Fin 1) _ _
    rfl

/-- The tables of a memory. -/
def tabs (m : (ℓ : Loc Cert.Kernel2Ideal.nD Cert.Kernel2Ideal.τ Cert.Kernel2Ideal.sig) → Buf (Elt Ideal) ℓ) (c0 : Dev Cert.Kernel2Ideal.nD)
    (h : ∀ i, ((m ((c0 : Thread Cert.Kernel2Ideal.nD Cert.Kernel2Ideal.τ).loc Cert.Kernel2Ideal.main_arg0) : IVec Cert.Kernel2Ideal.S72 32) i).toNat < 8) : Cert.Kernel2Ideal.Expert.Tabs :=
  ⟨m ((c0 : Thread Cert.Kernel2Ideal.nD Cert.Kernel2Ideal.τ).loc Cert.Kernel2Ideal.main_arg0), m ((c0 : Thread Cert.Kernel2Ideal.nD Cert.Kernel2Ideal.τ).loc Cert.Kernel2Ideal.main_arg1),
    m ((c0 : Thread Cert.Kernel2Ideal.nD Cert.Kernel2Ideal.τ).loc Cert.Kernel2Ideal.main_arg2), h⟩

/-- The only core's tables are the tables of all cores. -/
theorem pinned (m : (ℓ : Loc Cert.Kernel2Ideal.nD Cert.Kernel2Ideal.τ Cert.Kernel2Ideal.sig) → Buf (Elt Ideal) ℓ) (c0 : Dev Cert.Kernel2Ideal.nD)
    (h : ∀ i, ((m ((c0 : Thread Cert.Kernel2Ideal.nD Cert.Kernel2Ideal.τ).loc Cert.Kernel2Ideal.main_arg0) : IVec Cert.Kernel2Ideal.S72 32) i).toNat < 8) : Cert.Kernel2Ideal.Expert.Pinned (tabs m c0 h) m := by
  refine ⟨fun c => ?_, fun c => ?_, fun c => ?_⟩ <;>
  · obtain rfl : c = c0 := Subsingleton.elim (α := Fin 1) _ _
    rfl

/-- The idealised expert kernel runs, leaves its arguments and ends quiet, on any tables that name experts. -/
theorem frame_i : Cert.quiescent_Kernel2Ideal := fun m ρ hp =>
  Cert.Kernel2Ideal.Expert.frame (tabs m (0 : Fin 1) (Cert.Pre_experts_in_range.range_of_fn _ _ _ _ _ _ _ (hp (0 : Fin 1)))) m ρ (pinned _ _ _)

/-- The same under the value claim's precondition. -/
theorem frame_i' : Cert.quiescent_Kernel2Ideal_pre_rows_routed := fun m ρ hp =>
  Cert.Kernel2Ideal.Expert.frame (tabs m (0 : Fin 1) (Cert.Pre_rows_routed.routed_of_fn _ _ _ _ _ _ _ (hp (0 : Fin 1))).1) m ρ (pinned _ _ _)

/-- The experts' reference's frame: a host program that declares no semaphore. -/
theorem frame_r : Cert.quiescent_Reference2Ideal := by
  intro m ρ _
  exact (θ_run Cert.Reference2Ideal.defs _ _).mono (fun r h => ⟨fun c => (h c).2, sem_eq_zero_of_no_sems (by decide) r.2⟩)
    (Cert.Reference2Ideal.Value.run (F := Ideal) m ρ)

/-- The expert kernel computes the reference's result: each tile's rows by that tile's expert. -/
theorem algebraic : Cert.algebraic_Kernel2Ideal_Reference2Ideal_pre_rows_routed := by
  intro m ρ m' ρ' hpre hag
  obtain ⟨hr, hz⟩ := Cert.Pre_rows_routed.routed_of_fn _ _ _ _ _ _ _ (hpre (0 : Fin 1))
  let ch := tabs m (0 : Fin 1) hr
  have hp : Cert.Kernel2Ideal.Expert.Pinned ch m := pinned _ _ _
  refine ⟨fun c => (Cert.Kernel2Ideal.Expert.dats ch m ρ 0 c).arrAt (4 : Fin 5) (Cert.Kernel2Ideal.Expert.cfgA ch).N, ?_, ?_⟩
  · exact (θ_run Cert.Kernel2Ideal.defs _ _).mono (fun r h c => ⟨(h.1.1 c).1 (4 : Fin 5), h.2 c⟩)
      (θ_run_and (Cert.Kernel2Ideal.Expert.run_main_quiescent ch m ρ hp) (Cert.Kernel2Ideal.Expert.unchanged ch m ρ hp))
  · refine (θ_run Cert.Reference2Ideal.defs _ _).mono (fun r h c => ⟨(h c).1.trans ?_, (h c).2⟩)
      (Cert.Reference2Ideal.Value.run (F := Ideal) m' ρ')
    obtain rfl : c = (0 : Fin 1) := Subsingleton.elim (α := Fin 1) _ _
    obtain ⟨a0, a1, a2, a3, a4, a5, a6⟩ := hag (0 : Fin 1)
    rw [Cert.Reference2Ideal.Read.val_main_v20_eq, a0, a3, a4, a5, a6]
    exact (Cert.Reference2Ideal.Expert.ref_eq _ hr _ _ _ _).trans
      (Cert.Kernel2Ideal.Expert.arr_eq ch m ρ (0 : Fin 1) (fun T r hT k => hz T r k hT)).symm

end Cert.Routed
end
-- ==== Proof.Proj.lean ====
module

public import proofs.«01_k».proof.Defs
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit
public import Idealize.ShloMosaic.Lib.StableHlo.RunRead
public import Idealize.ShloMosaic.Lib.Pointwise

/-! The input projection: the kernel's tiles of a product with the reordered columns of the weight are the
reordered columns of the product. -/

@[expose] public section
set_option maxRecDepth 16384
noncomputable section
namespace Cert.Kernel3Ideal.Proj
open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

/-- The column of the layer's weight that a column of the kernel's result belongs to. -/
def colOf (n : Fin 4096) : Fin 5136 :=
  ⟨if n.val < 512 then n.val + 512 else if n.val < 1536 then n.val + 1024 else n.val + 1040, by split_ifs <;> omega⟩

/-- The reordered columns of the weight, by the operations that the host runs. -/
def mainCols (w : FVec Ideal S1024x5136 .f32) : FVec Ideal S1024x4096 .bf16 :=
  truncf .bf16 (concatenate S1024x4096 1 [⟨S1024x512, extractStridedSlice S1024x512 ![0, 512] w slices_S1024x5136_S1024x512_0_512⟩,
    ⟨S1024x1024, extractStridedSlice S1024x1024 ![0, 1536] w slices_S1024x5136_S1024x1024_0_1536⟩,
    ⟨S1024x2560, extractStridedSlice S1024x2560 ![0, 2576] w slices_S1024x5136_S1024x2560_0_2576⟩] concatenates_S1024x512_S1024x1024_S1024x2560_S1024x4096_d1) bitsLt_bf16_f32

set_option maxHeartbeats 2000000 in
/-- The reordered columns, at an index. -/
theorem mainCols_at (w : FVec Ideal S1024x5136 .f32) (k : Fin 1024) (n : Fin 4096) : mainCols w (ix2 k n) = w (ix2 k (colOf n)) := by
  unfold mainCols
  pointwise
  split_ifs <;> first | (exfalso; omega) | (refine congrArg w (funext fun x => Fin.ext ?_); fin_cases x <;> simp [colOf] <;> (try split_ifs) <;> omega)

/-- The layer's rows times the columns of the weight that the kernel keeps. -/
def garr (x : FVec Ideal S16384x1024 .bf16) (w : FVec Ideal S1024x5136 .f32) : FVec Ideal S16384x4096 .bf16 := fun y =>
  ∑ k : Fin 1024, x (ix2 ⟨(y 0).val, (y 0).isLt⟩ k) * w (ix2 k (colOf ⟨(y 1).val, (y 1).isLt⟩))

/-- Where the windows' blocks start. -/
theorem idx0 : ∀ t : Fin grid0.N, win0_0.index t = ![(grid0.coords t 0).val, 0] := by decide +kernel
/-- Where the weight's blocks start. -/
theorem idx1 : ∀ t : Fin grid0.N, win0_1.index t = ![0, (grid0.coords t 1).val] := by decide +kernel
/-- Where the result's blocks start. -/
theorem idx2 : ∀ t : Fin grid0.N, win0_2.index t = ![(grid0.coords t 0).val, (grid0.coords t 1).val] := by decide +kernel

/-- The rows' block at an index. -/
theorem blk0_at (c : Dev nD) (t : Fin cfg0.N) (r k : Fin 1024) :
    iblk m c 0 t (ix2 r k) = V m c main_arg0 (ix2 ⟨(grid0.coords t 0).val * 1024 + r.val, by have : (grid0.coords t 0).val < 16 := (grid0.coords t 0).isLt; omega⟩ k) := by
  blk_ext [iblk, idx0 t]

/-- The weight's block at an index. -/
theorem blk1_at (c : Dev nD) (t : Fin cfg0.N) (k : Fin 1024) (j : Fin 2048) :
    iblk m c 1 t (ix2 k j) = V m c main_v4 (ix2 k ⟨(grid0.coords t 1).val * 2048 + j.val, by have : (grid0.coords t 1).val < 2 := (grid0.coords t 1).isLt; omega⟩) := by
  blk_ext [iblk, idx1 t]

/-- The weight as the region finds it. -/
theorem V_w (c : Dev nD) : V m c main_v4 = mainCols (m ((c : Thread nD τ).loc main_arg1)) := by
  unfold V
  after_reads_simp
  rfl

/-- One block's product at an index. -/
theorem pay_at (x : Vec Ideal S1024x1024 .bf16) (w : Vec Ideal S1024x2048 .bf16) (r : Fin 1024) (j : Fin 2048) :
    k0_pay1 x w (ix2 r j) = ∑ k : Fin 1024, x (ix2 r k) * w (ix2 k j) := by
  unfold k0_pay1
  pointwise

/-- What a point writes, at an index. -/
theorem out_at (c : Dev nD) (t : Fin cfg0.N) (r : Fin 1024) (j : Fin 2048) :
    out0_2 (iblk m c 0 t) (iblk m c 1 t) (ix2 r j)
      = garr (m ((c : Thread nD τ).loc main_arg0)) (m ((c : Thread nD τ).loc main_arg1))
          (ix2 ⟨(grid0.coords t 0).val * 1024 + r.val, by have : (grid0.coords t 0).val < 16 := (grid0.coords t 0).isLt; omega⟩
            ⟨(grid0.coords t 1).val * 2048 + j.val, by have : (grid0.coords t 1).val < 2 := (grid0.coords t 1).isLt; omega⟩) := by
  unfold out0_2
  have he : r0_1.emb (ix2 r j) = ix2 r j := by
    funext a; refine Fin.ext ?_; fin_cases a <;> simp [r0_1, Rect.emb, Rect.unit]
  have h0 : ∀ x : Vec Ideal S1024x1024 .bf16, View.ld x r0_0 = x := by
    intro x; funext i; exact congrArg x (funext fun a => Fin.ext (by fin_cases a <;> simp [r0_0, Rect.emb, Rect.unit]))
  have h1 : ∀ x : Vec Ideal S1024x2048 .bf16, View.ld x r0_1 = x := by
    intro x; funext i; exact congrArg x (funext fun a => Fin.ext (by fin_cases a <;> simp [r0_1, Rect.emb, Rect.unit]))
  rw [h0, h1]
  conv_lhs => rw [← he]
  rw [View.canon_cons_emb, pay_at]
  unfold garr
  refine Finset.sum_congr rfl fun k _ => ?_
  rw [blk0_at, blk1_at, V_main_arg0, V_w, mainCols_at]
  rfl

/-- The kernel's whole result array. -/
theorem arr_eq (c : Dev nD) : (dats m 0 c).arrAt 2 cfg0.N
    = garr (m ((c : Thread nD τ).loc main_arg0)) (m ((c : Thread nD τ).loc main_arg1)) := by
  refine (dats m 0 c).arrAt_eq_of_covers 2 _ (by decide +kernel) fun t hf y => ?_
  blk_simp
  rw [after0_2]
  have H : ∀ y : S1024x2048.Idx, out0_2 (iblk m c 0 t) (iblk m c 1 t) y
      = garr (m ((c : Thread nD τ).loc main_arg0)) (m ((c : Thread nD τ).loc main_arg1)) ((win0_2.blk t).view.emb y) := by
    intro y
    have hy : y = ix2 ⟨(y 0).val, (y 0).isLt⟩ ⟨(y 1).val, (y 1).isLt⟩ := by
      funext a; fin_cases a <;> rfl
    have e0 : ((win0_2.blk t).view.emb y 0).val = (grid0.coords t 0).val * 1024 + (y 0).val := by
      blk_simp [idx2 t]
    have e1 : ((win0_2.blk t).view.emb y 1).val = (grid0.coords t 1).val * 2048 + (y 1).val := by
      blk_simp [idx2 t]
    refine (congrArg (out0_2 (iblk m c 0 t) (iblk m c 1 t)) hy).trans ((out_at m c t _ _).trans (congrArg _ (funext fun a => Fin.ext ?_)))
    fin_cases a
    · exact e0.symm
    · exact e1.symm
  exact H y

end Cert.Kernel3Ideal.Proj

namespace Cert.Reference3Ideal.Proj
open Cert.Reference3Ideal Cert.Reference3Ideal.Gen Cert.Reference3Ideal.Read Idealize.ShloMosaic Cert.Kernel3Ideal.Proj

/-- The reference's product at an index. -/
theorem prod_at (x : FVec Ideal S16384x1024 .bf16) (w : FVec Ideal S1024x5136 .f32) (r : Fin 16384) (n : Fin 5136) :
    val_main_v1 (F := Ideal) x w (ix2 r n) = ∑ k : Fin 1024, x (ix2 r k) * w (ix2 k n) := by
  rw [val_main_v1_apply]
  refine Finset.sum_congr rfl fun k _ => ?_
  rw [val_main_v0_apply]
  refine congr (congrArg _ (congrArg x ?_)) (congrArg w ?_) <;> · funext a; fin_cases a <;> rfl

set_option maxHeartbeats 2000000 in
/-- The reference's whole result. -/
theorem ref_eq (x : FVec Ideal S16384x1024 .bf16) (w : FVec Ideal S1024x5136 .f32) : val_main_v6 (F := Ideal) x w = garr x w := by
  funext y
  obtain ⟨r, n, rfl⟩ : ∃ (r : Fin 16384) (n : Fin 4096), y = ix2 r n :=
    ⟨⟨(y 0).val, (y 0).isLt⟩, ⟨(y 1).val, (y 1).isLt⟩, by funext a; fin_cases a <;> rfl⟩
  have hg : garr x w (ix2 r n) = val_main_v1 (F := Ideal) x w (ix2 r (colOf n)) := (prod_at x w r (colOf n)).symm
  rw [hg]
  unfold val_main_v6 val_main_v5 val_main_v4 val_main_v3 val_main_v2
  generalize val_main_v1 (F := Ideal) x w = p
  pointwise
  split_ifs <;> first | (exfalso; omega) | (refine congrArg p (funext fun x => Fin.ext ?_); fin_cases x <;> simp [colOf] <;> (try split_ifs) <;> omega)

end Cert.Reference3Ideal.Proj

namespace Cert.Proj
open Idealize.ShloMosaic Idealize.SL.Sem

/-- The projection's reference's frame: a host program that declares no semaphore. -/
theorem frame_r : Cert.quiescent_Reference3Ideal := by
  intro m ρ _
  exact (θ_run Cert.Reference3Ideal.defs _ _).mono (fun r h => ⟨fun c => (h c).2, sem_eq_zero_of_no_sems (by decide) r.2⟩)
    (Cert.Reference3Ideal.Value.run (F := Ideal) m ρ)

/-- The projection's kernel computes the reference's result. -/
theorem algebraic : Cert.algebraic_Kernel3Ideal_Reference3Ideal := by
  intro m ρ m' ρ' _ hag
  refine ⟨fun c => (Cert.Kernel3Ideal.Gen.dats m 0 c).arrAt 2 Cert.Kernel3Ideal.cfg0.N, Cert.Kernel3Ideal.Value.run_blocks m ρ, ?_⟩
  refine (θ_run Cert.Reference3Ideal.defs _ _).mono (fun r h c => ⟨(h c).1.trans ?_, (h c).2⟩) (Cert.Reference3Ideal.Value.run (F := Ideal) m' ρ')
  obtain ⟨a0, a1⟩ := hag c
  rw [Cert.Reference3Ideal.Read.val_main_v6_eq, a0, a1]
  exact (Cert.Reference3Ideal.Proj.ref_eq _ _).trans (Cert.Kernel3Ideal.Proj.arr_eq m c).symm

end Cert.Proj
end
-- ==== Proof.Merge.lean ====
module

public import proofs.«01_k».proof.Defs
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit
public import Idealize.ShloMosaic.Lib.StableHlo.RunRead
public import Idealize.ShloMosaic.Lib.Pointwise

/-! The merge of the two branches and the output projection: every row of the two results is one function of the same
row of the arguments, in the kernel and in the reference. -/

@[expose] public section
set_option maxRecDepth 16384
noncomputable section

namespace Cert.Merge
open Idealize.ShloMosaic

/-- The logistic function. -/
def sg (a : EReal) : EReal := Ideal.div (Ideal.ofBits .f32 0x3F800000#32) (Ideal.ofBits .f32 0x3F800000#32 + Ideal.exp (-a))

/-- One row of the gated sum of the two branches' products. -/
def mergedRow (ya yb : Fin 512 → EReal) (ga gb : Fin 1024 → EReal) (wa wb : Fin 512 → Fin 1024 → EReal) (k : Fin 1024) : EReal :=
  sg (ga k) * (∑ i, ya i * wa i k) + sg (gb k) * ∑ i, yb i * wb i k

/-- One row of the output product. -/
def yRow (ya yb : Fin 512 → EReal) (ga gb : Fin 1024 → EReal) (wa wb : Fin 512 → Fin 1024 → EReal) (wo : Fin 1024 → Fin 1024 → EReal)
    (n : Fin 1024) : EReal := ∑ k, mergedRow ya yb ga gb wa wb k * wo k n

/-- A row divided by its root mean square and scaled. -/
def rmsRow (u g : Fin 1024 → EReal) (n : Fin 1024) : EReal :=
  u n * Ideal.rsqrt (Ideal.div (∑ k, u k * u k) (Ideal.ofBits .f32 0x44800000#32) + Ideal.ofBits .f32 0x358637BD#32) * g n

/-- The first result as a function of its rows. -/
def x1Row (ya yb : Fin 512 → EReal) (ga gb x : Fin 1024 → EReal) (wa wb : Fin 512 → Fin 1024 → EReal) (wo : Fin 1024 → Fin 1024 → EReal)
    (g : Fin 1024 → EReal) (n : Fin 1024) : EReal := x n + rmsRow (yRow ya yb ga gb wa wb wo) g n

end Cert.Merge

namespace Cert.Kernel4Ideal.Merge
open Cert.Kernel4Ideal Cert.Kernel4Ideal.Gen Idealize.ShloMosaic Idealize.ShloMosaic.TcCoe Idealize.SL.Sem Cert.Merge
open Idealize.ShloMosaic.Pipeline (Dat)

variable (m : (ℓ : Loc nD τ sig) → Buf (Elt Ideal) ℓ)

/-- The output product of a block, at an index. -/
theorem pay3_at (v0 : Vec Ideal S1024x512 .bf16) (v1 : Vec Ideal S512x1024 .bf16) (v4 : Vec Ideal S1024x512 .bf16) (v5 : Vec Ideal S512x1024 .bf16)
    (v8 v18 v30 : Vec Ideal S1024x1024 .bf16) (r n : Fin 1024) :
    k0_pay3 v0 v1 v4 v5 v8 v18 v30 (ix2 r n) = yRow (fun i => v0 (ix2 r i)) (fun i => v4 (ix2 r i)) (fun k => v8 (ix2 r k)) (fun k => v18 (ix2 r k))
      (fun i k => v1 (ix2 i k)) (fun i k => v5 (ix2 i k)) (fun i k => v30 (ix2 i k)) n := by
  unfold k0_pay3 yRow mergedRow sg
  pointwise
  simp only [zero_sub]

/-- The first result of a block, at an index. -/
theorem pay1_at (v32 v33 : Vec Ideal S1024x1024 .f32) (v34 : Vec Ideal S1x1024 .f32) (r n : Fin 1024) :
    k0_pay1 v32 v33 v34 (ix2 r n) = v33 (ix2 r n) + rmsRow (fun k => v32 (ix2 r k)) (fun k => v34 (ix2 0 k)) n := by
  unfold k0_pay1 rmsRow
  pointwise

/-- The second result of a block, at an index. -/
theorem pay2_at (v32 v33 : Vec Ideal S1024x1024 .f32) (v34 v49 : Vec Ideal S1x1024 .f32) (r n : Fin 1024) :
    k0_pay2 v32 v33 v34 v49 (ix2 r n) = rmsRow (fun k => k0_pay1 v32 v33 v34 (ix2 r k)) (fun k => v49 (ix2 0 k)) n := by
  unfold k0_pay2 rmsRow
  generalize k0_pay1 v32 v33 v34 = q
  pointwise

/-- A block's row is a row of the array. -/
theorem row_lt (t : Fin grid0.N) (r : Fin 1024) : (grid0.coords t 0).val * 1024 + r.val < 16384 := by
  have : (grid0.coords t 0).val < 16 := (grid0.coords t 0).isLt
  omega

/-- Where the blocks of window 0 start. -/
theorem idx0 : ∀ t : Fin grid0.N, win0_0.index t = ![(grid0.coords t 0).val, 0] := by decide +kernel
/-- Where the blocks of window 1 start. -/
theorem idx1 : ∀ t : Fin grid0.N, win0_1.index t = ![(grid0.coords t 0).val, 0] := by decide +kernel
/-- Where the blocks of window 2 start. -/
theorem idx2 : ∀ t : Fin grid0.N, win0_2.index t = ![(grid0.coords t 0).val, 2] := by decide +kernel
/-- Where the blocks of window 3 start. -/
theorem idx3 : ∀ t : Fin grid0.N, win0_3.index t = ![(grid0.coords t 0).val, 3] := by decide +kernel
/-- Where the blocks of window 4 start. -/
theorem idx4 : ∀ t : Fin grid0.N, win0_4.index t = ![(grid0.coords t 0).val, 0] := by decide +kernel
/-- Where the blocks of window 5 start. -/
theorem idx5 : ∀ t : Fin grid0.N, win0_5.index t = ![0, 0] := by decide +kernel
/-- Where the blocks of window 6 start. -/
theorem idx6 : ∀ t : Fin grid0.N, win0_6.index t = ![0, 0] := by decide +kernel
/-- Where the blocks of window 7 start. -/
theorem idx7 : ∀ t : Fin grid0.N, win0_7.index t = ![0, 0] := by decide +kernel
/-- Where the blocks of window 8 start. -/
theorem idx8 : ∀ t : Fin grid0.N, win0_8.index t = ![0, 0] := by decide +kernel
/-- Where the blocks of window 9 start. -/
theorem idx9 : ∀ t : Fin grid0.N, win0_9.index t = ![0, 0] := by decide +kernel
/-- Where the blocks of window 10 start. -/
theorem idx10 : ∀ t : Fin grid0.N, win0_10.index t = ![(grid0.coords t 0).val, 0] := by decide +kernel
/-- Where the blocks of window 11 start. -/
theorem idx11 : ∀ t : Fin grid0.N, win0_11.index t = ![(grid0.coords t 0).val, 0] := by decide +kernel

/-- The block of window 0 at an index. -/
theorem blk0_at (c : Dev nD) (t : Fin cfg0.N) (r : Fin 1024) (k : Fin 512) :
    iblk m c 0 t (ix2 r k) = V m c main_arg0 (ix2 ⟨(grid0.coords t 0).val * 1024 + r.val, row_lt t r⟩ k) := by
  blk_ext [iblk, idx0 t]

/-- The block of window 1 at an index. -/
theorem blk1_at (c : Dev nD) (t : Fin cfg0.N) (r : Fin 1024) (k : Fin 512) :
    iblk m c 1 t (ix2 r k) = V m c main_arg1 (ix2 ⟨(grid0.coords t 0).val * 1024 + r.val, row_lt t r⟩ k) := by
  blk_ext [iblk, idx1 t]

/-- The block of window 2 at an index. -/
theorem blk2_at (c : Dev nD) (t : Fin cfg0.N) (r : Fin 1024) (k : Fin 1024) :
    iblk m c 2 t (ix2 r k) = V m c main_arg2 (ix2 ⟨(grid0.coords t 0).val * 1024 + r.val, row_lt t r⟩ ⟨2048 + k.val, by omega⟩) := by
  blk_ext [iblk, idx2 t]

/-- The block of window 3 at an index. -/
theorem blk3_at (c : Dev nD) (t : Fin cfg0.N) (r : Fin 1024) (k : Fin 1024) :
    iblk m c 3 t (ix2 r k) = V m c main_arg2 (ix2 ⟨(grid0.coords t 0).val * 1024 + r.val, row_lt t r⟩ ⟨3072 + k.val, by omega⟩) := by
  blk_ext [iblk, idx3 t]

/-- The block of window 4 at an index. -/
theorem blk4_at (c : Dev nD) (t : Fin cfg0.N) (r : Fin 1024) (k : Fin 1024) :
    iblk m c 4 t (ix2 r k) = V m c main_arg3 (ix2 ⟨(grid0.coords t 0).val * 1024 + r.val, row_lt t r⟩ k) := by
  blk_ext [iblk, idx4 t]

/-- The block of window 5 at an index. -/
theorem blk5_at (c : Dev nD) (t : Fin cfg0.N) (r : Fin 512) (k : Fin 1024) :
    iblk m c 5 t (ix2 r k) = V m c main_v0 (ix2 r k) := by
  blk_ext [iblk, idx5 t]

/-- The block of window 6 at an index. -/
theorem blk6_at (c : Dev nD) (t : Fin cfg0.N) (r : Fin 512) (k : Fin 1024) :
    iblk m c 6 t (ix2 r k) = V m c main_v1 (ix2 r k) := by
  blk_ext [iblk, idx6 t]

/-- The block of window 7 at an index. -/
theorem blk7_at (c : Dev nD) (t : Fin cfg0.N) (r : Fin 1024) (k : Fin 1024) :
    iblk m c 7 t (ix2 r k) = V m c main_v2 (ix2 r k) := by
  blk_ext [iblk, idx7 t]

/-- The block of window 8 at an index. -/
theorem blk8_at (c : Dev nD) (t : Fin cfg0.N) (r : Fin 1) (k : Fin 1024) :
    iblk m c 8 t (ix2 r k) = V m c main_v3 (ix2 r k) := by
  blk_ext [iblk, idx8 t]

/-- The block of window 9 at an index. -/
theorem blk9_at (c : Dev nD) (t : Fin cfg0.N) (r : Fin 1) (k : Fin 1024) :
    iblk m c 9 t (ix2 r k) = V m c main_v4 (ix2 r k) := by
  blk_ext [iblk, idx9 t]

/-- The weight of the first branch as the region finds it. -/
theorem V_v0 (c : Dev nD) : V m c main_v0 = (m ((c : Thread nD τ).loc main_arg4) : FVec Ideal S512x1024 .f32) := by
  unfold V
  after_reads_simp
  rfl

/-- The weight of the second branch as the region finds it. -/
theorem V_v1 (c : Dev nD) : V m c main_v1 = (m ((c : Thread nD τ).loc main_arg5) : FVec Ideal S512x1024 .f32) := by
  unfold V
  after_reads_simp
  rfl

/-- The weight of the output as the region finds it. -/
theorem V_v2 (c : Dev nD) : V m c main_v2 = (m ((c : Thread nD τ).loc main_arg6) : FVec Ideal S1024x1024 .f32) := by
  unfold V
  after_reads_simp
  rfl

/-- A scale as the region finds it, at an index. -/
theorem V_v3 (c : Dev nD) (k : Fin 1024) : V m c main_v3 (ix2 0 k) = m ((c : Thread nD τ).loc main_arg7) (ix1 k) := by
  have h : V m c main_v3 = shapeCast S1x1024 (m ((c : Thread nD τ).loc main_arg7) : FVec Ideal S1024 .f32) shapeCasts_S1024_S1x1024 := by
    unfold V
    after_reads_simp
    rfl
  rw [h]
  pointwise

/-- A scale as the region finds it, at an index. -/
theorem V_v4 (c : Dev nD) (k : Fin 1024) : V m c main_v4 (ix2 0 k) = m ((c : Thread nD τ).loc main_arg8) (ix1 k) := by
  have h : V m c main_v4 = shapeCast S1x1024 (m ((c : Thread nD τ).loc main_arg8) : FVec Ideal S1024 .f32) shapeCasts_S1024_S1x1024 := by
    unfold V
    after_reads_simp
    rfl
  rw [h]
  pointwise

/-- The first result, from the arguments. -/
def x1Arr (x0 x1 : FVec Ideal S16384x512 .bf16) (x2 : FVec Ideal S16384x4096 .bf16) (x3 : FVec Ideal S16384x1024 .f32) (x4 x5 : FVec Ideal S512x1024 .f32)
    (x6 : FVec Ideal S1024x1024 .f32) (x7 : FVec Ideal S1024 .f32) (r : Fin 16384) (n : Fin 1024) : EReal :=
  x1Row (fun i => x0 (ix2 r i)) (fun i => x1 (ix2 r i)) (fun k => x2 (ix2 r ⟨2048 + k.val, by omega⟩)) (fun k => x2 (ix2 r ⟨3072 + k.val, by omega⟩))
    (fun k => x3 (ix2 r k)) (fun i k => x4 (ix2 i k)) (fun i k => x5 (ix2 i k)) (fun i k => x6 (ix2 i k)) (fun k => x7 (ix1 k)) n

/-- The first result as an array. -/
def garr1 (x0 x1 : FVec Ideal S16384x512 .bf16) (x2 : FVec Ideal S16384x4096 .bf16) (x3 : FVec Ideal S16384x1024 .f32) (x4 x5 : FVec Ideal S512x1024 .f32)
    (x6 : FVec Ideal S1024x1024 .f32) (x7 : FVec Ideal S1024 .f32) : FVec Ideal S16384x1024 .f32 := fun y =>
  x1Arr x0 x1 x2 x3 x4 x5 x6 x7 ⟨(y 0).val, (y 0).isLt⟩ ⟨(y 1).val, (y 1).isLt⟩

/-- The second result as an array. -/
def garr2 (x0 x1 : FVec Ideal S16384x512 .bf16) (x2 : FVec Ideal S16384x4096 .bf16) (x3 : FVec Ideal S16384x1024 .f32) (x4 x5 : FVec Ideal S512x1024 .f32)
    (x6 : FVec Ideal S1024x1024 .f32) (x7 x8 : FVec Ideal S1024 .f32) : FVec Ideal S16384x1024 .bf16 := fun y =>
  rmsRow (x1Arr x0 x1 x2 x3 x4 x5 x6 x7 ⟨(y 0).val, (y 0).isLt⟩) (fun k => x8 (ix1 k)) ⟨(y 1).val, (y 1).isLt⟩

/-- Reading a whole block is the block. -/
theorem ld0 {e : EltTy} (x : Vec Ideal S1024x512 e) : View.ld x r0_0 = x := by
  funext i; exact congrArg x (funext fun a => Fin.ext (by fin_cases a <;> simp [r0_0, Rect.emb, Rect.unit]))
/-- Reading a whole block is the block. -/
theorem ld1 {e : EltTy} (x : Vec Ideal S512x1024 e) : View.ld x r0_1 = x := by
  funext i; exact congrArg x (funext fun a => Fin.ext (by fin_cases a <;> simp [r0_1, Rect.emb, Rect.unit]))
/-- Reading a whole block is the block. -/
theorem ld2 {e : EltTy} (x : Vec Ideal S1024x1024 e) : View.ld x r0_2 = x := by
  funext i; exact congrArg x (funext fun a => Fin.ext (by fin_cases a <;> simp [r0_2, Rect.emb, Rect.unit]))
/-- Reading a whole block is the block. -/
theorem ld3 {e : EltTy} (x : Vec Ideal S1x1024 e) : View.ld x r0_3 = x := by
  funext i; exact congrArg x (funext fun a => Fin.ext (by fin_cases a <;> simp [r0_3, Rect.emb, Rect.unit]))
/-- The stored rectangle is the whole block. -/
theorem emb2 (r n : Fin 1024) : r0_2.emb (ix2 r n) = ix2 r n := by
  funext a; refine Fin.ext ?_; fin_cases a <;> simp [r0_2, Rect.emb, Rect.unit]

/-- The first result of a point's block, before it is stored. -/
theorem x1_at (c : Dev nD) (t : Fin cfg0.N) (r n : Fin 1024) :
    k0_pay1 (k0_pay4 (iblk m c 0 t) (iblk m c 1 t) (iblk m c 2 t) (iblk m c 3 t) (iblk m c 4 t) (iblk m c 5 t) (iblk m c 6 t) (iblk m c 7 t) (iblk m c 8 t) (iblk m c 9 t))
        (iblk m c 4 t) (iblk m c 8 t) (ix2 r n)
      = x1Arr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) ⟨(grid0.coords t 0).val * 1024 + r.val, row_lt t r⟩ n := by
  rw [pay1_at]
  unfold k0_pay4 x1Arr x1Row
  rw [ld0, ld0, ld1, ld1, ld2, ld2, ld2]
  have e3 : (fun k => k0_pay3 (iblk m c 0 t) (iblk m c 5 t) (iblk m c 1 t) (iblk m c 6 t) (iblk m c 2 t) (iblk m c 3 t) (iblk m c 7 t) (ix2 r k)) = _ :=
    funext fun k => pay3_at (iblk m c 0 t) (iblk m c 5 t) (iblk m c 1 t) (iblk m c 6 t) (iblk m c 2 t) (iblk m c 3 t) (iblk m c 7 t) r k
  rw [e3]
  simp only [blk0_at, blk1_at, blk2_at, blk3_at, blk4_at, blk5_at, blk6_at, blk7_at, blk8_at]
  rw [V_main_arg0, V_main_arg1, V_main_arg2, V_main_arg3, V_v0, V_v1, V_v2, funext (V_v3 m c)]

/-- What a point writes of the first result, at an index. -/
theorem out10_at (c : Dev nD) (t : Fin cfg0.N) (r n : Fin 1024) :
    out0_10 (iblk m c 0 t) (iblk m c 1 t) (iblk m c 2 t) (iblk m c 3 t) (iblk m c 4 t) (iblk m c 5 t) (iblk m c 6 t) (iblk m c 7 t) (iblk m c 8 t) (iblk m c 9 t) (ix2 r n) = garr1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 ⟨(grid0.coords t 0).val * 1024 + r.val, row_lt t r⟩ n) := by
  unfold out0_10
  rw [ld2, ld3]
  conv_lhs => rw [← emb2]
  rw [View.canon_cons_emb, x1_at]
  rfl

/-- What a point writes of the second result, at an index. -/
theorem out11_at (c : Dev nD) (t : Fin cfg0.N) (r n : Fin 1024) :
    out0_11 (iblk m c 0 t) (iblk m c 1 t) (iblk m c 2 t) (iblk m c 3 t) (iblk m c 4 t) (iblk m c 5 t) (iblk m c 6 t) (iblk m c 7 t) (iblk m c 8 t) (iblk m c 9 t) (ix2 r n) = garr2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 ⟨(grid0.coords t 0).val * 1024 + r.val, row_lt t r⟩ n) := by
  unfold out0_11
  rw [ld2, ld3, ld3]
  conv_lhs => rw [← emb2]
  rw [View.canon_cons_emb, pay2_at]
  unfold garr2
  refine congr (congr (congrArg rmsRow (funext fun k => x1_at m c t r k)) (funext fun k => ?_)) rfl
  rw [blk9_at, V_v4]

/-- The kernel's whole array of result 1. -/
theorem arr10_eq (c : Dev nD) : (dats m 0 c).arrAt 10 cfg0.N = garr1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 10 _ (by decide +kernel) fun t hf y => ?_
  blk_simp
  rw [after0_10]
  have H : ∀ y : S1024x1024.Idx, out0_10 (iblk m c 0 t) (iblk m c 1 t) (iblk m c 2 t) (iblk m c 3 t) (iblk m c 4 t) (iblk m c 5 t) (iblk m c 6 t) (iblk m c 7 t) (iblk m c 8 t) (iblk m c 9 t) y = garr1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) ((win0_10.blk t).view.emb y) := by
    intro y
    have hy : y = ix2 ⟨(y 0).val, (y 0).isLt⟩ ⟨(y 1).val, (y 1).isLt⟩ := by
      funext a; fin_cases a <;> rfl
    have e0 : ((win0_10.blk t).view.emb y 0).val = (grid0.coords t 0).val * 1024 + (y 0).val := by
      blk_simp [idx10 t]
    have e1 : ((win0_10.blk t).view.emb y 1).val = (y 1).val := by
      blk_simp [idx10 t]
    refine (congrArg (out0_10 (iblk m c 0 t) (iblk m c 1 t) (iblk m c 2 t) (iblk m c 3 t) (iblk m c 4 t) (iblk m c 5 t) (iblk m c 6 t) (iblk m c 7 t) (iblk m c 8 t) (iblk m c 9 t)) hy).trans ((out10_at m c t _ _).trans (congrArg _ (funext fun a => Fin.ext ?_)))
    fin_cases a
    · exact e0.symm
    · exact e1.symm
  exact H y

/-- The kernel's whole array of result 2. -/
theorem arr11_eq (c : Dev nD) : (dats m 0 c).arrAt 11 cfg0.N = garr2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 11 _ (by decide +kernel) fun t hf y => ?_
  blk_simp
  rw [after0_11]
  have H : ∀ y : S1024x1024.Idx, out0_11 (iblk m c 0 t) (iblk m c 1 t) (iblk m c 2 t) (iblk m c 3 t) (iblk m c 4 t) (iblk m c 5 t) (iblk m c 6 t) (iblk m c 7 t) (iblk m c 8 t) (iblk m c 9 t) y = garr2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) ((win0_11.blk t).view.emb y) := by
    intro y
    have hy : y = ix2 ⟨(y 0).val, (y 0).isLt⟩ ⟨(y 1).val, (y 1).isLt⟩ := by
      funext a; fin_cases a <;> rfl
    have e0 : ((win0_11.blk t).view.emb y 0).val = (grid0.coords t 0).val * 1024 + (y 0).val := by
      blk_simp [idx11 t]
    have e1 : ((win0_11.blk t).view.emb y 1).val = (y 1).val := by
      blk_simp [idx11 t]
    refine (congrArg (out0_11 (iblk m c 0 t) (iblk m c 1 t) (iblk m c 2 t) (iblk m c 3 t) (iblk m c 4 t) (iblk m c 5 t) (iblk m c 6 t) (iblk m c 7 t) (iblk m c 8 t) (iblk m c 9 t)) hy).trans ((out11_at m c t _ _).trans (congrArg _ (funext fun a => Fin.ext ?_)))
    fin_cases a
    · exact e0.symm
    · exact e1.symm
  exact H y

end Cert.Kernel4Ideal.Merge

namespace Cert.Reference4Ideal.Merge
open Cert.Reference4Ideal Cert.Reference4Ideal.Gen Cert.Reference4Ideal.Read Idealize.ShloMosaic Cert.Merge Cert.Kernel4Ideal.Merge

section
variable (x0 x1 : FVec Ideal S16384x512 .bf16) (x2 : FVec Ideal S16384x4096 .bf16)
  (x3 : FVec Ideal S16384x1024 .f32) (x4 x5 : FVec Ideal S512x1024 .f32)
  (x6 : FVec Ideal S1024x1024 .f32) (x7 x8 : FVec Ideal S1024 .f32)

/-- The reference's gated sum at an index. -/
theorem merged_at (r : Fin 16384) (k : Fin 1024) : val_main_v21 (F := Ideal) x0 x1 x2 x4 x5 (ix2 r k)
    = mergedRow (fun i => x0 (ix2 r i)) (fun i => x1 (ix2 r i)) (fun k => x2 (ix2 r ⟨2048 + k.val, by omega⟩)) (fun k => x2 (ix2 r ⟨3072 + k.val, by omega⟩))
      (fun i k => x4 (ix2 i k)) (fun i k => x5 (ix2 i k)) k := by
  unfold mergedRow sg val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1 val_main_cst_2
  pointwise

/-- The reference's output product at an index. -/
theorem y_at (r : Fin 16384) (n : Fin 1024) : val_main_v22 (F := Ideal) x0 x1 x2 x4 x5 x6 (ix2 r n)
    = yRow (fun i => x0 (ix2 r i)) (fun i => x1 (ix2 r i)) (fun k => x2 (ix2 r ⟨2048 + k.val, by omega⟩)) (fun k => x2 (ix2 r ⟨3072 + k.val, by omega⟩))
      (fun i k => x4 (ix2 i k)) (fun i k => x5 (ix2 i k)) (fun i k => x6 (ix2 i k)) n := by
  rw [val_main_v22_apply]
  unfold yRow
  refine Finset.sum_congr rfl fun k _ => ?_
  rw [← merged_at]
  refine congr (congrArg _ (congrArg _ ?_)) (congrArg x6 ?_) <;> · funext a; fin_cases a <;> rfl

/-- The reference's first result at an index. -/
theorem x1_at (r : Fin 16384) (n : Fin 1024) : val_main_v36 (F := Ideal) x0 x1 x2 x3 x4 x5 x6 x7 (ix2 r n) = x1Arr x0 x1 x2 x3 x4 x5 x6 x7 r n := by
  unfold x1Arr x1Row
  have e : yRow (fun i => x0 (ix2 r i)) (fun i => x1 (ix2 r i)) (fun k => x2 (ix2 r ⟨2048 + k.val, by omega⟩)) (fun k => x2 (ix2 r ⟨3072 + k.val, by omega⟩))
      (fun i k => x4 (ix2 i k)) (fun i k => x5 (ix2 i k)) (fun i k => x6 (ix2 i k)) = fun n => val_main_v22 (F := Ideal) x0 x1 x2 x4 x5 x6 (ix2 r n) :=
    funext fun n => (y_at x0 x1 x2 x4 x5 x6 r n).symm
  rw [e]
  unfold rmsRow val_main_v36 val_main_v35 val_main_v34 val_main_v33 val_main_v32 val_main_v31 val_main_v30 val_main_v29 val_main_v28 val_main_v27 val_main_v26 val_main_v25 val_main_v24 val_main_v23 val_main_cst_3 val_main_cst_4 val_main_cst_5
  generalize val_main_v22 (F := Ideal) x0 x1 x2 x4 x5 x6 = q
  pointwise

/-- The reference's second result at an index. -/
theorem h_at (r : Fin 16384) (n : Fin 1024) : val_main_v50 (F := Ideal) x0 x1 x2 x3 x4 x5 x6 x7 x8 (ix2 r n)
    = rmsRow (x1Arr x0 x1 x2 x3 x4 x5 x6 x7 r) (fun k => x8 (ix1 k)) n := by
  have e : x1Arr x0 x1 x2 x3 x4 x5 x6 x7 r = fun n => val_main_v36 (F := Ideal) x0 x1 x2 x3 x4 x5 x6 x7 (ix2 r n) :=
    funext fun n => (x1_at x0 x1 x2 x3 x4 x5 x6 x7 r n).symm
  rw [e]
  unfold rmsRow val_main_v50 val_main_v49 val_main_v48 val_main_v47 val_main_v46 val_main_v45 val_main_v44 val_main_v43 val_main_v42 val_main_v41 val_main_v40 val_main_v39 val_main_v38 val_main_v37 val_main_cst_6 val_main_cst_7 val_main_cst_8
  generalize val_main_v36 (F := Ideal) x0 x1 x2 x3 x4 x5 x6 x7 = q
  pointwise

/-- The reference's first result. -/
theorem ref1_eq : val_main_v36 (F := Ideal) x0 x1 x2 x3 x4 x5 x6 x7 = garr1 x0 x1 x2 x3 x4 x5 x6 x7 := by
  funext y
  obtain ⟨r, n, rfl⟩ : ∃ (r : Fin 16384) (n : Fin 1024), y = ix2 r n :=
    ⟨⟨(y 0).val, (y 0).isLt⟩, ⟨(y 1).val, (y 1).isLt⟩, by funext a; fin_cases a <;> rfl⟩
  exact x1_at x0 x1 x2 x3 x4 x5 x6 x7 r n

/-- The reference's second result. -/
theorem ref2_eq : val_main_v50 (F := Ideal) x0 x1 x2 x3 x4 x5 x6 x7 x8 = garr2 x0 x1 x2 x3 x4 x5 x6 x7 x8 := by
  funext y
  obtain ⟨r, n, rfl⟩ : ∃ (r : Fin 16384) (n : Fin 1024), y = ix2 r n :=
    ⟨⟨(y 0).val, (y 0).isLt⟩, ⟨(y 1).val, (y 1).isLt⟩, by funext a; fin_cases a <;> rfl⟩
  exact h_at x0 x1 x2 x3 x4 x5 x6 x7 x8 r n

end
end Cert.Reference4Ideal.Merge

namespace Cert.Merge
open Idealize.ShloMosaic Idealize.SL.Sem

/-- The merge's reference's frame: a host program that declares no semaphore. -/
theorem frame_r : Cert.quiescent_Reference4Ideal := by
  intro m ρ _
  exact (θ_run Cert.Reference4Ideal.defs _ _).mono (fun r h => ⟨fun c => (h c).2.2, sem_eq_zero_of_no_sems (by decide) r.2⟩)
    (Cert.Reference4Ideal.Value.run (F := Ideal) m ρ)

/-- The merge's kernel computes the reference's two results. -/
theorem algebraic : Cert.algebraic_Kernel4Ideal_Reference4Ideal := by
  intro m ρ m' ρ' _ hag
  refine ⟨fun c => (Cert.Kernel4Ideal.Gen.dats m 0 c).arrAt 10 Cert.Kernel4Ideal.cfg0.N, fun c => (Cert.Kernel4Ideal.Gen.dats m 0 c).arrAt 11 Cert.Kernel4Ideal.cfg0.N,
    Cert.Kernel4Ideal.Value.run_blocks m ρ, ?_⟩
  refine (θ_run Cert.Reference4Ideal.defs _ _).mono (fun r h c => ⟨(h c).1.trans ?_, (h c).2.1.trans ?_, (h c).2.2⟩) (Cert.Reference4Ideal.Value.run (F := Ideal) m' ρ')
  · obtain ⟨a0, a1, a2, a3, a4, a5, a6, a7, a8⟩ := hag c
    rw [Cert.Reference4Ideal.Read.val_main_v36_eq, a0, a1, a2, a3, a4, a5, a6, a7]
    exact (Cert.Reference4Ideal.Merge.ref1_eq _ _ _ _ _ _ _ _).trans (Cert.Kernel4Ideal.Merge.arr10_eq m c).symm
  · obtain ⟨a0, a1, a2, a3, a4, a5, a6, a7, a8⟩ := hag c
    rw [Cert.Reference4Ideal.Read.val_main_v50_eq, a0, a1, a2, a3, a4, a5, a6, a7, a8]
    exact (Cert.Reference4Ideal.Merge.ref2_eq _ _ _ _ _ _ _ _ _).trans (Cert.Kernel4Ideal.Merge.arr11_eq m c).symm

end Cert.Merge
end
-- ==== Proof.Heads.lean ====
module

public import proofs.«01_k».proof.Defs
public import proofs.«01_k».proof.Proof.Merge
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.ValueKit
public import Idealize.ShloMosaic.Lib.StableHlo.RunRead
public import Idealize.ShloMosaic.Lib.Pointwise

/-! The norm before the mixers and the projection to the queries, the values and the gate's low rank: every entry of the
four results is an entry of the normalised rows, or of their product with the layer's weight. -/

@[expose] public section
set_option maxRecDepth 16384
noncomputable section

namespace Cert.Kernel5Ideal.Heads
open Cert.Kernel5Ideal Cert.Kernel5Ideal.Gen Idealize.ShloMosaic Idealize.ShloMosaic.TcCoe Idealize.SL.Sem Cert.Merge
open Idealize.ShloMosaic.Pipeline (Dat)

variable (m : (ℓ : Loc nD τ sig) → Buf (Elt Ideal) ℓ)

/-- The normalised rows. -/
def hRow (x : FVec Ideal S16384x1024 .f32) (g : FVec Ideal S1024 .f32) (r : Fin 16384) (k : Fin 1024) : EReal :=
  rmsRow (fun k => x (ix2 r k)) (fun k => g (ix1 k)) k

/-- The normalised rows times the layer's weight. -/
def prod (x : FVec Ideal S16384x1024 .f32) (g : FVec Ideal S1024 .f32) (w : FVec Ideal S1024x5136 .f32) (r : Fin 16384) (n : Fin 5136) : EReal :=
  ∑ k : Fin 1024, hRow x g r k * w (ix2 k n)

/-- The normalised rows as an array. -/
def gh (x : FVec Ideal S16384x1024 .f32) (g : FVec Ideal S1024 .f32) : FVec Ideal S16384x1024 .bf16 := fun y =>
  hRow x g ⟨(y 0).val, (y 0).isLt⟩ ⟨(y 1).val, (y 1).isLt⟩

/-- The transposed queries. -/
def gq (x : FVec Ideal S16384x1024 .f32) (g : FVec Ideal S1024 .f32) (w : FVec Ideal S1024x5136 .f32) : FVec Ideal S8x512x2048 .bf16 := fun y =>
  prod x g w ⟨(y 0).val * 2048 + (y 2).val, by have h0 : (y 0).val < 8 := (y 0).isLt; have h2 : (y 2).val < 2048 := (y 2).isLt; omega⟩
    ⟨(y 1).val, by have h1 : (y 1).val < 512 := (y 1).isLt; omega⟩

/-- The transposed values, in tiles of 128 places. -/
def gv (x : FVec Ideal S16384x1024 .f32) (g : FVec Ideal S1024 .f32) (w : FVec Ideal S1024x5136 .f32) : FVec Ideal S8x16x512x128 .bf16 := fun y =>
  prod x g w ⟨(y 0).val * 2048 + (y 1).val * 128 + (y 3).val, by
      have h0 : (y 0).val < 8 := (y 0).isLt; have h1 : (y 1).val < 16 := (y 1).isLt; have h3 : (y 3).val < 128 := (y 3).isLt; omega⟩
    ⟨1024 + (y 2).val, by have h2 : (y 2).val < 512 := (y 2).isLt; omega⟩

/-- A column of the gate's low rank, or a column of zeros. -/
def gdCol (w : FVec Ideal S1024x5136 .f32) (k : Fin 1024) (n : Fin 128) : EReal :=
  if h : n.val < 16 then w (ix2 k ⟨2560 + n.val, by omega⟩) else 0

/-- The gate's low rank, padded with columns of zeros. -/
def gd (x : FVec Ideal S16384x1024 .f32) (g : FVec Ideal S1024 .f32) (w : FVec Ideal S1024x5136 .f32) : FVec Ideal S16384x128 .bf16 := fun y =>
  ∑ k : Fin 1024, hRow x g ⟨(y 0).val, (y 0).isLt⟩ k * gdCol w k ⟨(y 1).val, (y 1).isLt⟩

/-- The integer zero is the number zero. -/
theorem zero_pad : (FloatOps.sitofp .f32 0#32 : Ideal .f32) = (0 : EReal) := by
  show (((0#32 : BitVec 32).toInt : ℝ) : EReal) = 0
  simp

/-- A block's normalised rows, at an index. -/
theorem pay2_at (v0 : Vec Ideal S1024x1024 .f32) (v1 : Vec Ideal S1x1024 .f32) (r k : Fin 1024) :
    k0_pay2 v0 v1 (ix2 r k) = rmsRow (fun k => v0 (ix2 r k)) (fun k => v1 (ix2 0 k)) k := by
  unfold k0_pay2 rmsRow
  pointwise

/-- A block's transposed queries, at an index. -/
theorem pay3_at (v0 : Vec Ideal S1024x1024 .f32) (v1 : Vec Ideal S1x1024 .f32) (w : Vec Ideal S512x1024 .bf16) (a : Fin 1) (f : Fin 512) (r : Fin 1024) :
    k0_pay3 v0 v1 w (ix3 a f r) = ∑ k : Fin 1024, k0_pay2 v0 v1 (ix2 r k) * w (ix2 f k) := by
  unfold k0_pay3
  generalize k0_pay2 v0 v1 = q
  refine Eq.trans (b := ∑ k : Fin 1024, w (ix2 f k) * q (ix2 r k)) ?_ (Finset.sum_congr rfl fun k _ => mul_comm _ _)
  pointwise

/-- A block's transposed values, at an index. -/
theorem pay4_at (v0 : Vec Ideal S1024x1024 .f32) (v1 : Vec Ideal S1x1024 .f32) (w : Vec Ideal S512x1024 .bf16) (f : Fin 512) (r : Fin 1024) :
    k0_pay4 v0 v1 w (ix2 f r) = ∑ k : Fin 1024, k0_pay2 v0 v1 (ix2 r k) * w (ix2 f k) := by
  unfold k0_pay4
  generalize k0_pay2 v0 v1 = q
  refine Eq.trans (b := ∑ k : Fin 1024, w (ix2 f k) * q (ix2 r k)) ?_ (Finset.sum_congr rfl fun k _ => mul_comm _ _)
  pointwise

/-- A block's low rank, at an index. -/
theorem pay1_at (q : Vec Ideal S1024x1024 .bf16) (w : Vec Ideal S1024x128 .bf16) (r : Fin 1024) (n : Fin 128) :
    k0_pay1 q w (ix2 r n) = ∑ k : Fin 1024, q (ix2 r k) * w (ix2 k n) := by
  unfold k0_pay1
  pointwise

/-- A block's row is a row of the array. -/
theorem row_lt (t : Fin grid0.N) (r : Fin 1024) : (grid0.coords t 0).val * 1024 + r.val < 16384 := by
  have : (grid0.coords t 0).val < 16 := (grid0.coords t 0).isLt
  omega

/-- Where the blocks of window 0 start. -/
theorem idx0 : ∀ t : Fin grid0.N, win0_0.index t = ![(grid0.coords t 0).val, 0] := by decide +kernel
/-- Where the blocks of window 1 start. -/
theorem idx1 : ∀ t : Fin grid0.N, win0_1.index t = ![0, 0] := by decide +kernel
/-- Where the blocks of window 2 start. -/
theorem idx2 : ∀ t : Fin grid0.N, win0_2.index t = ![0, 0] := by decide +kernel
/-- Where the blocks of window 3 start. -/
theorem idx3 : ∀ t : Fin grid0.N, win0_3.index t = ![0, 0] := by decide +kernel
/-- Where the blocks of window 4 start. -/
theorem idx4 : ∀ t : Fin grid0.N, win0_4.index t = ![0, 0] := by decide +kernel
/-- Where the blocks of window 5 start. -/
theorem idx5 : ∀ t : Fin grid0.N, win0_5.index t = ![(grid0.coords t 0).val, 0] := by decide +kernel
/-- Where the blocks of window 6 start. -/
theorem idx6 : ∀ t : Fin grid0.N, win0_6.index t = ![(grid0.coords t 0).val / 2, 0, (grid0.coords t 0).val % 2] := by decide +kernel
/-- Where the blocks of window 7 start. -/
theorem idx7 : ∀ t : Fin grid0.N, win0_7.index t = ![(grid0.coords t 0).val / 2, (grid0.coords t 0).val % 2, 0, 0] := by decide +kernel
/-- Where the blocks of window 8 start. -/
theorem idx8 : ∀ t : Fin grid0.N, win0_8.index t = ![(grid0.coords t 0).val, 0] := by decide +kernel

/-- The block of window 0 at an index. -/
theorem blk0_at (c : Dev nD) (t : Fin cfg0.N) (r : Fin 1024) (k : Fin 1024) :
    iblk m c 0 t (ix2 r k) = V m c main_arg0 (ix2 ⟨(grid0.coords t 0).val * 1024 + r.val, row_lt t r⟩ k) := by
  blk_ext [iblk, idx0 t]

/-- The block of window 1 at an index. -/
theorem blk1_at (c : Dev nD) (t : Fin cfg0.N) (r : Fin 1) (k : Fin 1024) :
    iblk m c 1 t (ix2 r k) = V m c main_v6 (ix2 r k) := by
  blk_ext [iblk, idx1 t]

/-- The block of window 2 at an index. -/
theorem blk2_at (c : Dev nD) (t : Fin cfg0.N) (r : Fin 512) (k : Fin 1024) :
    iblk m c 2 t (ix2 r k) = V m c main_v7 (ix2 r k) := by
  blk_ext [iblk, idx2 t]

/-- The block of window 3 at an index. -/
theorem blk3_at (c : Dev nD) (t : Fin cfg0.N) (r : Fin 512) (k : Fin 1024) :
    iblk m c 3 t (ix2 r k) = V m c main_v8 (ix2 r k) := by
  blk_ext [iblk, idx3 t]

/-- The block of window 4 at an index. -/
theorem blk4_at (c : Dev nD) (t : Fin cfg0.N) (r : Fin 1024) (k : Fin 128) :
    iblk m c 4 t (ix2 r k) = V m c main_v9 (ix2 r k) := by
  blk_ext [iblk, idx4 t]

/-- The scale as the region finds it, at an index. -/
theorem V_v6 (c : Dev nD) (k : Fin 1024) : V m c main_v6 (ix2 0 k) = m ((c : Thread nD τ).loc main_arg1) (ix1 k) := by
  have h : V m c main_v6 = shapeCast S1x1024 (m ((c : Thread nD τ).loc main_arg1) : FVec Ideal S1024 .f32) shapeCasts_S1024_S1x1024 := by
    unfold V
    after_reads_simp
    rfl
  rw [h]
  pointwise

/-- The queries' weight as the region finds it, at an index. -/
theorem V_v7 (c : Dev nD) (f : Fin 512) (k : Fin 1024) : V m c main_v7 (ix2 f k) = m ((c : Thread nD τ).loc main_arg2) (ix2 k ⟨f.val, by omega⟩) := by
  have h : V m c main_v7 = truncf (F := Ideal) .bf16 (transpose S512x1024 [1, 0] (extractStridedSlice S1024x512 ![0, 0] (m ((c : Thread nD τ).loc main_arg2) : FVec Ideal S1024x5136 .f32)
      slices_S1024x5136_S1024x512_0_0) transposes_S1024x512_S512x1024_1_0) bitsLt_bf16_f32 := by
    unfold V
    after_reads_simp
  rw [h]
  pointwise

/-- The values' weight as the region finds it, at an index. -/
theorem V_v8 (c : Dev nD) (f : Fin 512) (k : Fin 1024) : V m c main_v8 (ix2 f k) = m ((c : Thread nD τ).loc main_arg2) (ix2 k ⟨1024 + f.val, by omega⟩) := by
  have h : V m c main_v8 = truncf (F := Ideal) .bf16 (transpose S512x1024 [1, 0] (extractStridedSlice S1024x512 ![0, 1024] (m ((c : Thread nD τ).loc main_arg2) : FVec Ideal S1024x5136 .f32)
      slices_S1024x5136_S1024x512_0_1024) transposes_S1024x512_S512x1024_1_0) bitsLt_bf16_f32 := by
    unfold V
    after_reads_simp
  rw [h]
  pointwise

/-- The low rank's weight, padded with columns of zeros, at an index. -/
theorem padded_at (w : FVec Ideal S1024x5136 .f32) (k : Fin 1024) (n : Fin 128) :
    pad S1024x128 ![0, 0] ![0, 112] ![0, 0] (extractStridedSlice S1024x16 ![0, 2560] w slices_S1024x5136_S1024x16_0_2560)
      (sitofp (F := Ideal) .f32 (constantI S_ 32 0#32)) pads_S1024x16_S1024x128_000_01120 h_S_ (ix2 k n) = gdCol w k n := by
  unfold gdCol
  pointwise
  rw [zero_pad]

/-- The low rank's weight as the region finds it, at an index. -/
theorem V_v9 (c : Dev nD) (k : Fin 1024) (n : Fin 128) : V m c main_v9 (ix2 k n) = gdCol (m ((c : Thread nD τ).loc main_arg2)) k n := by
  have h : V m c main_v9 = truncf (F := Ideal) .bf16 (pad S1024x128 ![0, 0] ![0, 112] ![0, 0] (extractStridedSlice S1024x16 ![0, 2560] (m ((c : Thread nD τ).loc main_arg2) : FVec Ideal S1024x5136 .f32)
      slices_S1024x5136_S1024x16_0_2560) (sitofp (F := Ideal) .f32 (constantI S_ 32 0#32)) pads_S1024x16_S1024x128_000_01120 h_S_) bitsLt_bf16_f32 := by
    unfold V
    after_reads_simp
    rfl
  rw [h]
  exact padded_at _ k n

/-- Reading a whole block is the block. -/
theorem ld0 {e : EltTy} (x : Vec Ideal S1024x1024 e) : View.ld x r0_0 = x := by
  funext i; exact congrArg x (funext fun a => Fin.ext (by fin_cases a <;> simp [r0_0, Rect.emb, Rect.unit]))

/-- Reading a whole block is the block. -/
theorem ld1 {e : EltTy} (x : Vec Ideal S1x1024 e) : View.ld x r0_1 = x := by
  funext i; exact congrArg x (funext fun a => Fin.ext (by fin_cases a <;> simp [r0_1, Rect.emb, Rect.unit]))

/-- Reading a whole block is the block. -/
theorem ld2 {e : EltTy} (x : Vec Ideal S512x1024 e) : View.ld x r0_2 = x := by
  funext i; exact congrArg x (funext fun a => Fin.ext (by fin_cases a <;> simp [r0_2, Rect.emb, Rect.unit]))

/-- Reading a whole block is the block. -/
theorem ld12 {e : EltTy} (x : Vec Ideal S1024x128 e) : View.ld x r0_12 = x := by
  funext i; exact congrArg x (funext fun a => Fin.ext (by fin_cases a <;> simp [r0_12, Rect.emb, Rect.unit]))

/-- The stored rectangle is the whole block. -/
theorem emb0 (r n : Fin 1024) : r0_0.emb (ix2 r n) = ix2 r n := by
  funext a; refine Fin.ext ?_; fin_cases a <;> simp [r0_0, Rect.emb, Rect.unit]
/-- The stored rectangle is the whole block. -/
theorem emb3 (a : Fin 1) (f : Fin 512) (r : Fin 1024) : r0_3.emb (ix3 a f r) = ix3 a f r := by
  funext a; refine Fin.ext ?_; fin_cases a <;> simp [r0_3, Rect.emb, Rect.unit]
/-- The stored rectangle is the whole block. -/
theorem emb12 (r : Fin 1024) (n : Fin 128) : r0_12.emb (ix2 r n) = ix2 r n := by
  funext a; refine Fin.ext ?_; fin_cases a <;> simp [r0_12, Rect.emb, Rect.unit]

/-- A point's normalised rows. -/
theorem h_at (c : Dev nD) (t : Fin cfg0.N) (r k : Fin 1024) :
    k0_pay2 (iblk m c 0 t) (iblk m c 1 t) (ix2 r k) = hRow (m ((c : Thread nD τ).loc main_arg0)) (m ((c : Thread nD τ).loc main_arg1)) ⟨(grid0.coords t 0).val * 1024 + r.val, row_lt t r⟩ k := by
  rw [pay2_at]
  unfold hRow
  simp only [blk0_at, blk1_at]
  rw [V_main_arg0, funext (V_v6 m c)]

/-- What a point writes of the normalised rows, at an index. -/
theorem out5_at (c : Dev nD) (t : Fin cfg0.N) (r n : Fin 1024) :
    out0_5 (iblk m c 0 t) (iblk m c 1 t) (iblk m c 2 t) (iblk m c 3 t) (iblk m c 4 t) (ix2 r n) = gh (m ((c : Thread nD τ).loc main_arg0)) (m ((c : Thread nD τ).loc main_arg1)) (ix2 ⟨(grid0.coords t 0).val * 1024 + r.val, row_lt t r⟩ n) := by
  unfold out0_5
  rw [ld0, ld1]
  conv_lhs => rw [← emb0]
  rw [View.canon_cons_emb, h_at]
  rfl

/-- What a point writes of the queries, at an index. -/
theorem out6_at (c : Dev nD) (t : Fin cfg0.N) (a : Fin 1) (f : Fin 512) (r : Fin 1024) :
    out0_6 (iblk m c 0 t) (iblk m c 1 t) (iblk m c 2 t) (iblk m c 3 t) (iblk m c 4 t) (ix3 a f r) = prod (m ((c : Thread nD τ).loc main_arg0)) (m ((c : Thread nD τ).loc main_arg1)) (m ((c : Thread nD τ).loc main_arg2)) ⟨(grid0.coords t 0).val * 1024 + r.val, row_lt t r⟩ ⟨f.val, by omega⟩ := by
  unfold out0_6
  rw [ld0, ld1, ld2]
  conv_lhs => rw [← emb3]
  rw [View.canon_cons_emb, pay3_at]
  unfold prod
  refine Finset.sum_congr rfl fun k _ => ?_
  rw [h_at, blk2_at, V_v7]

/-- What a point writes of the values, at an index. -/
theorem out7_at (c : Dev nD) (t : Fin cfg0.N) (a : Fin 1) (q : Fin 8) (f : Fin 512) (l : Fin 128) :
    out0_7 (iblk m c 0 t) (iblk m c 1 t) (iblk m c 2 t) (iblk m c 3 t) (iblk m c 4 t) (ix4 a q f l) = prod (m ((c : Thread nD τ).loc main_arg0)) (m ((c : Thread nD τ).loc main_arg1)) (m ((c : Thread nD τ).loc main_arg2)) ⟨(grid0.coords t 0).val * 1024 + (q.val * 128 + l.val), row_lt t ⟨q.val * 128 + l.val, by omega⟩⟩ ⟨1024 + f.val, by omega⟩ := by
  unfold out0_7 k0_pay14
  rw [ld0, ld1, ld2]
  rw [Cert.Kernel5Ideal.Value.canon7_eq]
  refine (congrArg (k0_pay4 (iblk m c 0 t) (iblk m c 1 t) (iblk m c 3 t)) (?_ : _ = ix2 f ⟨q.val * 128 + l.val, by omega⟩)).trans ?_
  · funext a; fin_cases a <;> rfl
  rw [pay4_at]
  unfold prod
  refine Finset.sum_congr rfl fun k _ => ?_
  rw [h_at, blk3_at, V_v8]

/-- What a point writes of the low rank, at an index. -/
theorem out8_at (c : Dev nD) (t : Fin cfg0.N) (r : Fin 1024) (n : Fin 128) :
    out0_8 (iblk m c 0 t) (iblk m c 1 t) (iblk m c 2 t) (iblk m c 3 t) (iblk m c 4 t) (ix2 r n) = gd (m ((c : Thread nD τ).loc main_arg0)) (m ((c : Thread nD τ).loc main_arg1)) (m ((c : Thread nD τ).loc main_arg2)) (ix2 ⟨(grid0.coords t 0).val * 1024 + r.val, row_lt t r⟩ n) := by
  unfold out0_8
  rw [ld0, ld1, ld12]
  conv_lhs => rw [← emb12]
  rw [View.canon_cons_emb, pay1_at]
  unfold gd
  refine Finset.sum_congr rfl fun k _ => ?_
  rw [h_at, blk4_at, V_v9]
  rfl

/-- The kernel's whole array of window 5. -/
theorem arr5_eq (c : Dev nD) : (dats m 0 c).arrAt 5 cfg0.N = gh (m ((c : Thread nD τ).loc main_arg0)) (m ((c : Thread nD τ).loc main_arg1)) := by
  refine (dats m 0 c).arrAt_eq_of_covers 5 _ (by decide +kernel) fun t hf y => ?_
  blk_simp
  rw [after0_5]
  have H : ∀ y : S1024x1024.Idx, out0_5 (iblk m c 0 t) (iblk m c 1 t) (iblk m c 2 t) (iblk m c 3 t) (iblk m c 4 t) y = gh (m ((c : Thread nD τ).loc main_arg0)) (m ((c : Thread nD τ).loc main_arg1)) ((win0_5.blk t).view.emb y) := by
    intro y
    have hy : y = ix2 ⟨(y 0).val, (y 0).isLt⟩ ⟨(y 1).val, (y 1).isLt⟩ := by
      funext a; fin_cases a <;> rfl
    have e0 : ((win0_5.blk t).view.emb y 0).val = (grid0.coords t 0).val * 1024 + (y 0).val := by
      blk_simp [idx5 t]
    have e1 : ((win0_5.blk t).view.emb y 1).val = (y 1).val := by
      blk_simp [idx5 t]
    refine (congrArg (out0_5 (iblk m c 0 t) (iblk m c 1 t) (iblk m c 2 t) (iblk m c 3 t) (iblk m c 4 t)) hy).trans ((out5_at m c t _ _).trans (congrArg _ (funext fun a => Fin.ext ?_)))
    fin_cases a
    · exact e0.symm
    · exact e1.symm
  exact H y

/-- The kernel's whole array of window 8. -/
theorem arr8_eq (c : Dev nD) : (dats m 0 c).arrAt 8 cfg0.N = gd (m ((c : Thread nD τ).loc main_arg0)) (m ((c : Thread nD τ).loc main_arg1)) (m ((c : Thread nD τ).loc main_arg2)) := by
  refine (dats m 0 c).arrAt_eq_of_covers 8 _ (by decide +kernel) fun t hf y => ?_
  blk_simp
  rw [after0_8]
  have H : ∀ y : S1024x128.Idx, out0_8 (iblk m c 0 t) (iblk m c 1 t) (iblk m c 2 t) (iblk m c 3 t) (iblk m c 4 t) y = gd (m ((c : Thread nD τ).loc main_arg0)) (m ((c : Thread nD τ).loc main_arg1)) (m ((c : Thread nD τ).loc main_arg2)) ((win0_8.blk t).view.emb y) := by
    intro y
    have hy : y = ix2 ⟨(y 0).val, (y 0).isLt⟩ ⟨(y 1).val, (y 1).isLt⟩ := by
      funext a; fin_cases a <;> rfl
    have e0 : ((win0_8.blk t).view.emb y 0).val = (grid0.coords t 0).val * 1024 + (y 0).val := by
      blk_simp [idx8 t]
    have e1 : ((win0_8.blk t).view.emb y 1).val = (y 1).val := by
      blk_simp [idx8 t]
    refine (congrArg (out0_8 (iblk m c 0 t) (iblk m c 1 t) (iblk m c 2 t) (iblk m c 3 t) (iblk m c 4 t)) hy).trans ((out8_at m c t _ _).trans (congrArg _ (funext fun a => Fin.ext ?_)))
    fin_cases a
    · exact e0.symm
    · exact e1.symm
  exact H y

/-- The kernel's whole array of the queries. -/
theorem arr6_eq (c : Dev nD) : (dats m 0 c).arrAt 6 cfg0.N = gq (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  have H : ∀ y : S1x512x1024.Idx, out0_6 (iblk m c 0 t) (iblk m c 1 t) (iblk m c 2 t) (iblk m c 3 t) (iblk m c 4 t) y = gq (m ((c : Thread nD τ).loc main_arg0)) (m ((c : Thread nD τ).loc main_arg1)) (m ((c : Thread nD τ).loc main_arg2)) ((win0_6.blk t).view.emb y) := by
    intro y
    have hy : y = ix3 ⟨(y 0).val, (y 0).isLt⟩ ⟨(y 1).val, (y 1).isLt⟩ ⟨(y 2).val, (y 2).isLt⟩ := by
      funext a; fin_cases a <;> rfl
    have h0 : (y 0).val < 1 := (y 0).isLt
    have e0 : ((win0_6.blk t).view.emb y 0).val = (grid0.coords t 0).val / 2 + (y 0).val := by
      blk_simp [idx6 t]
    have e1 : ((win0_6.blk t).view.emb y 1).val = (y 1).val := by
      blk_simp [idx6 t]
    have e2 : ((win0_6.blk t).view.emb y 2).val = (grid0.coords t 0).val % 2 * 1024 + (y 2).val := by
      blk_simp [idx6 t]
    refine (congrArg (out0_6 (iblk m c 0 t) (iblk m c 1 t) (iblk m c 2 t) (iblk m c 3 t) (iblk m c 4 t)) hy).trans ((out6_at m c t _ _ _).trans (congr (congrArg _ (Fin.ext ?_)) (Fin.ext ?_)))
    · show (grid0.coords t 0).val * 1024 + (y 2).val = _ * 2048 + _
      rw [e0, e2]; omega
    · exact e1.symm
  exact H y

/-- The kernel's whole array of the values. -/
theorem arr7_eq (c : Dev nD) : (dats m 0 c).arrAt 7 cfg0.N = gv (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp
  rw [after0_7]
  have H : ∀ y : S1x8x512x128.Idx, out0_7 (iblk m c 0 t) (iblk m c 1 t) (iblk m c 2 t) (iblk m c 3 t) (iblk m c 4 t) y = gv (m ((c : Thread nD τ).loc main_arg0)) (m ((c : Thread nD τ).loc main_arg1)) (m ((c : Thread nD τ).loc main_arg2)) ((win0_7.blk t).view.emb y) := by
    intro y
    have hy : y = ix4 ⟨(y 0).val, (y 0).isLt⟩ ⟨(y 1).val, (y 1).isLt⟩ ⟨(y 2).val, (y 2).isLt⟩ ⟨(y 3).val, (y 3).isLt⟩ := by
      funext a; fin_cases a <;> rfl
    have h0 : (y 0).val < 1 := (y 0).isLt
    have e0 : ((win0_7.blk t).view.emb y 0).val = (grid0.coords t 0).val / 2 + (y 0).val := by
      blk_simp [idx7 t]
    have e1 : ((win0_7.blk t).view.emb y 1).val = (grid0.coords t 0).val % 2 * 8 + (y 1).val := by
      blk_simp [idx7 t]
    have e2 : ((win0_7.blk t).view.emb y 2).val = (y 2).val := by
      blk_simp [idx7 t]
    have e3 : ((win0_7.blk t).view.emb y 3).val = (y 3).val := by
      blk_simp [idx7 t]
    refine (congrArg (out0_7 (iblk m c 0 t) (iblk m c 1 t) (iblk m c 2 t) (iblk m c 3 t) (iblk m c 4 t)) hy).trans ((out7_at m c t _ _ _ _).trans (congr (congrArg _ (Fin.ext ?_)) (Fin.ext ?_)))
    · show (grid0.coords t 0).val * 1024 + ((y 1).val * 128 + (y 3).val) = _ * 2048 + _ * 128 + _
      rw [e0, e1, e3]; omega
    · show 1024 + (y 2).val = 1024 + _
      rw [e2]
  exact H y

end Cert.Kernel5Ideal.Heads

namespace Cert.Reference5Ideal.Heads
open Cert.Reference5Ideal Cert.Reference5Ideal.Gen Cert.Reference5Ideal.Read Idealize.ShloMosaic Cert.Merge Cert.Kernel5Ideal.Heads

section
variable (x : FVec Ideal S16384x1024 .f32) (g : FVec Ideal S1024 .f32) (w : FVec Ideal S1024x5136 .f32)

/-- The reference's normalised rows at an index. -/
theorem h_at (r : Fin 16384) (k : Fin 1024) : val_main_v12 (F := Ideal) x g (ix2 r k) = hRow x g r k := by
  unfold hRow rmsRow val_main_v12 val_main_v11 val_main_v10 val_main_v9 val_main_v8 val_main_v7 val_main_v6 val_main_v5 val_main_v4 val_main_v3 val_main_v2 val_main_v1 val_main_v0 val_main_cst val_main_cst_0 val_main_cst_1
  pointwise

/-- The reference's product at an index. -/
theorem prod_at (r : Fin 16384) (n : Fin 5136) : val_main_v13 (F := Ideal) x g w (ix2 r n) = prod x g w r n := by
  rw [val_main_v13_apply]
  unfold prod
  refine Finset.sum_congr rfl fun k _ => ?_
  rw [← h_at]
  refine congr (congrArg _ (congrArg _ ?_)) (congrArg w ?_) <;> · funext a; fin_cases a <;> rfl

/-- The reference's normalised rows. -/
theorem ref5_eq : val_main_v22 (F := Ideal) x g = gh x g := by
  funext y
  obtain ⟨r, n, rfl⟩ : ∃ (r : Fin 16384) (n : Fin 1024), y = ix2 r n :=
    ⟨⟨(y 0).val, (y 0).isLt⟩, ⟨(y 1).val, (y 1).isLt⟩, by funext a; fin_cases a <;> rfl⟩
  exact h_at x g r n

/-- The reference's transposed queries. -/
theorem ref6_eq : val_main_v23 (F := Ideal) x g w = gq x g w := by
  funext y
  have h0 : (y 0).val < 8 := (y 0).isLt
  have h1 : (y 1).val < 512 := (y 1).isLt
  have h2 : (y 2).val < 2048 := (y 2).isLt
  rw [val_main_v23_apply, val_main_v18_apply, val_main_v17_apply, val_main_v14_apply]
  refine Eq.trans ?_ (prod_at x g w _ _)
  refine congrArg (val_main_v13 (F := Ideal) x g w) (funext fun a => Fin.ext ?_)
  fin_cases a
  · show (((y 0).val * 2048 + (y 2).val) * 512 + (y 1).val) / 512 = _
    simp only [ix2]
    show _ = (y 0).val * 2048 + (y 2).val
    omega
  · show (((y 0).val * 2048 + (y 2).val) * 512 + (y 1).val) % 512 = (y 1).val
    omega

/-- The reference's transposed values. -/
theorem ref7_eq : val_main_v24 (F := Ideal) x g w = gv x g w := by
  funext y
  have h0 : (y 0).val < 8 := (y 0).isLt
  have h1 : (y 1).val < 16 := (y 1).isLt
  have h2 : (y 2).val < 512 := (y 2).isLt
  have h3 : (y 3).val < 128 := (y 3).isLt
  rw [val_main_v24_apply, val_main_v20_apply, val_main_v19_apply, val_main_v15_apply]
  refine Eq.trans ?_ (prod_at x g w _ _)
  refine congrArg (val_main_v13 (F := Ideal) x g w) (funext fun a => Fin.ext ?_)
  fin_cases a
  · show ((((y 0).val * 16 + (y 1).val) * 128 + (y 3).val) * 512 + (y 2).val) / 512 = (y 0).val * 2048 + (y 1).val * 128 + (y 3).val
    omega
  · show 1024 + ((((y 0).val * 16 + (y 1).val) * 128 + (y 3).val) * 512 + (y 2).val) % 512 = 1024 + (y 2).val
    omega

/-- The reference's padded low rank. -/
theorem ref8_eq : val_main_v25 (F := Ideal) x g w = gd x g w := by
  funext y
  obtain ⟨r, n, rfl⟩ : ∃ (r : Fin 16384) (n : Fin 128), y = ix2 r n :=
    ⟨⟨(y 0).val, (y 0).isLt⟩, ⟨(y 1).val, (y 1).isLt⟩, by funext a; fin_cases a <;> rfl⟩
  have e : gd x g w (ix2 r n) = if h : n.val < 16 then val_main_v13 (F := Ideal) x g w (ix2 r ⟨2560 + n.val, by omega⟩) else 0 := by
    show (∑ k : Fin 1024, hRow x g r k * gdCol w k n) = _
    unfold gdCol
    by_cases h : n.val < 16
    · simp only [h, dif_pos]
      exact (prod_at x g w r _).symm
    · simp only [h, dif_neg, not_false_eq_true, mul_zero, Finset.sum_const_zero]
  rw [e]
  unfold val_main_v25 val_main_v21 val_main_v16 val_main_call0_v0 val_main_c
  generalize val_main_v13 (F := Ideal) x g w = p
  pointwise
  rw [zero_pad]

end
end Cert.Reference5Ideal.Heads

namespace Cert.Heads
open Idealize.ShloMosaic Idealize.SL.Sem

/-- The projection's reference's frame: a host program that declares no semaphore. -/
theorem frame_r : Cert.quiescent_Reference5Ideal := by
  intro m ρ _
  exact (θ_run Cert.Reference5Ideal.defs _ _).mono (fun r h => ⟨fun c => (h c).2.2.2.2, sem_eq_zero_of_no_sems (by decide) r.2⟩)
    (Cert.Reference5Ideal.Value.run (F := Ideal) m ρ)

/-- The kernel computes the reference's four results. -/
theorem algebraic : Cert.algebraic_Kernel5Ideal_Reference5Ideal := by
  intro m ρ m' ρ' _ hag
  refine ⟨fun c => (Cert.Kernel5Ideal.Gen.dats m 0 c).arrAt 5 Cert.Kernel5Ideal.cfg0.N, fun c => (Cert.Kernel5Ideal.Gen.dats m 0 c).arrAt 6 Cert.Kernel5Ideal.cfg0.N,
    fun c => (Cert.Kernel5Ideal.Gen.dats m 0 c).arrAt 7 Cert.Kernel5Ideal.cfg0.N, fun c => (Cert.Kernel5Ideal.Gen.dats m 0 c).arrAt 8 Cert.Kernel5Ideal.cfg0.N,
    Cert.Kernel5Ideal.Value.run_blocks m ρ, ?_⟩
  refine (θ_run Cert.Reference5Ideal.defs _ _).mono (fun r h c => ⟨(h c).1.trans ?_, (h c).2.1.trans ?_, (h c).2.2.1.trans ?_, (h c).2.2.2.1.trans ?_, (h c).2.2.2.2⟩)
    (Cert.Reference5Ideal.Value.run (F := Ideal) m' ρ')
  all_goals obtain ⟨a0, a1, a2⟩ := hag c
  · rw [Cert.Reference5Ideal.Read.val_main_v22_eq, a0, a1]
    exact (Cert.Reference5Ideal.Heads.ref5_eq _ _).trans (Cert.Kernel5Ideal.Heads.arr5_eq m c).symm
  · rw [Cert.Reference5Ideal.Read.val_main_v23_eq, a0, a1, a2]
    exact (Cert.Reference5Ideal.Heads.ref6_eq _ _ _).trans (Cert.Kernel5Ideal.Heads.arr6_eq m c).symm
  · rw [Cert.Reference5Ideal.Read.val_main_v24_eq, a0, a1, a2]
    exact (Cert.Reference5Ideal.Heads.ref7_eq _ _ _).trans (Cert.Kernel5Ideal.Heads.arr7_eq m c).symm
  · rw [Cert.Reference5Ideal.Read.val_main_v25_eq, a0, a1, a2]
    exact (Cert.Reference5Ideal.Heads.ref8_eq _ _ _).trans (Cert.Kernel5Ideal.Heads.arr8_eq m c).symm

end Cert.Heads
end
-- ==== Proof.IMix.lean ====
module

public import proofs.«01_k».proof.Defs
public import proofs.«01_k».proof.Proof.Gen.Kernel6Ideal.Launch
public import proofs.«01_k».proof.Proof.Gen.Kernel6Ideal.Skeleton
public import proofs.«01_k».proof.Proof.Gen.Kernel6Ideal.Points
public import proofs.«01_k».proof.Proof.Gen.Kernel6Ideal.Frame
public import Idealize.ShloMosaic.Lib.Pipeline.FrameBody
public import Idealize.ShloMosaic.Lib.Claim
public import Idealize.ShloMosaic.Lib.Ring
public import Idealize.ShloMosaic.Lib.Tactic
public import Idealize.ShloMosaic.Lib.Writes
public import Idealize.ShloMosaic.Lib.WordCmp
public import Idealize.ShloMosaic.Lib.Pointwise

/-! The second layer's merge: what its body leaves in the three result blocks, the body's triple, and the run. The second
result is written as eight strided stores, one for each block of 128 columns, which together put the rows in row-major memory. -/

@[expose] public section

set_option maxRecDepth 16384

noncomputable section

namespace Cert.Kernel6Ideal.Hand

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- A block's rows in row-major memory, 128 columns to a line. -/
def lines (a : FVec F S1024x1024 .f32) : Vec F S8192x128 .f32 := fun y =>
  a (ix2 ⟨(y 0).val / 8, by have : (y 0).val < 8192 := (y 0).isLt; omega⟩ ⟨(y 0).val % 8 * 128 + (y 1).val, by have : (y 1).val < 128 := (y 1).isLt; omega⟩)

section Strided
variable {sig' : RefSig} {κ : Kind} {sp : Space} (v : View sig' κ sp S8192x128 .f32) (f : v.ty.Contents (Elt F))

/-- Under a strided store of column block `k`, the lines that are `k` modulo 8 read its payload. -/
theorem strided_hit {k : ℕ} (hk : k < 8) (inb) (sp')
    (w : (⟨⟨![k, 0], ![1024, 128], ![8, 1], inb⟩, sp'⟩ : Rect S8192x128).shape.Idx → Elt F .f32) (L) (y : S8192x128.Idx) (h : (y 0).val % 8 = k) (hn : (y 0).val / 8 < 1024) :
    v.read (Elt F) (v.writes (Elt F) f (⟨⟨⟨![k, 0], ![1024, 128], ![8, 1], inb⟩, sp'⟩, w⟩ :: L)) y
      = w (ix2 ⟨(y 0).val / 8, hn⟩ ⟨(y 1).val, (y 1).isLt⟩) := by
  have e : y = (⟨⟨![k, 0], ![1024, 128], ![8, 1], inb⟩, sp'⟩ : Rect S8192x128).emb (ix2 ⟨(y 0).val / 8, hn⟩ ⟨(y 1).val, (y 1).isLt⟩) := by
    funext a; apply Fin.ext
    fin_cases a
    · show (y 0).val = k + 8 * ((y 0).val / 8); omega
    · show (y 1).val = 0 + 1 * (y 1).val; omega
  conv_lhs => rw [e]
  exact View.read_writes_cons_emb v f _ w L _

/-- It leaves the other lines alone. -/
theorem strided_skip {k : ℕ} (hk : k < 8) (inb) (sp')
    (w : (⟨⟨![k, 0], ![1024, 128], ![8, 1], inb⟩, sp'⟩ : Rect S8192x128).shape.Idx → Elt F .f32) (L) (y : S8192x128.Idx) (h : (y 0).val % 8 ≠ k) :
    v.read (Elt F) (v.writes (Elt F) f (⟨⟨⟨![k, 0], ![1024, 128], ![8, 1], inb⟩, sp'⟩, w⟩ :: L)) y = v.read (Elt F) (v.writes (Elt F) f L) y := by
  rw [View.writes_cons, View.read_slice_write_of_not_mem]
  rw [Rect.map_emb_univ]
  intro hm
  obtain ⟨x, hx⟩ := LoadRect.exists_idx_of_mem _ hm
  have h0 : (y 0).val = k + 8 * (x 0).val := by rw [← hx]; rfl
  have hx0 : (x 0).val < 1024 := (x 0).isLt
  omega

/-- Eight strided stores of one block's column blocks put its rows in row-major memory. -/
theorem lines_of (a : FVec F S1024x1024 .f32) :
    v.read (Elt F) (v.writes (Elt F) f [⟨⟨⟨![7, 0], S1024x128.size, ![8, 1], inb_S8192x128_S1024x128_7_0_s_8_1⟩, spos_8_1⟩, extractStridedSlice S1024x128 ![0, 896] a slices_S1024x1024_o0_896_S1024x128⟩,
      ⟨⟨⟨![6, 0], S1024x128.size, ![8, 1], inb_S8192x128_S1024x128_6_0_s_8_1⟩, spos_8_1⟩, extractStridedSlice S1024x128 ![0, 768] a slices_S1024x1024_o0_768_S1024x128⟩,
      ⟨⟨⟨![5, 0], S1024x128.size, ![8, 1], inb_S8192x128_S1024x128_5_0_s_8_1⟩, spos_8_1⟩, extractStridedSlice S1024x128 ![0, 640] a slices_S1024x1024_o0_640_S1024x128⟩,
      ⟨⟨⟨![4, 0], S1024x128.size, ![8, 1], inb_S8192x128_S1024x128_4_0_s_8_1⟩, spos_8_1⟩, extractStridedSlice S1024x128 ![0, 512] a slices_S1024x1024_o0_512_S1024x128⟩,
      ⟨⟨⟨![3, 0], S1024x128.size, ![8, 1], inb_S8192x128_S1024x128_3_0_s_8_1⟩, spos_8_1⟩, extractStridedSlice S1024x128 ![0, 384] a slices_S1024x1024_o0_384_S1024x128⟩,
      ⟨⟨⟨![2, 0], S1024x128.size, ![8, 1], inb_S8192x128_S1024x128_2_0_s_8_1⟩, spos_8_1⟩, extractStridedSlice S1024x128 ![0, 256] a slices_S1024x1024_o0_256_S1024x128⟩,
      ⟨⟨⟨![1, 0], S1024x128.size, ![8, 1], inb_S8192x128_S1024x128_1_0_s_8_1⟩, spos_8_1⟩, extractStridedSlice S1024x128 ![0, 128] a slices_S1024x1024_o0_128_S1024x128⟩,
      ⟨⟨⟨![0, 0], S1024x128.size, ![8, 1], inb_S8192x128_S1024x128_0_0_s_8_1⟩, spos_8_1⟩, extractStridedSlice S1024x128 ![0, 0] a slices_S1024x1024_o0_0_S1024x128⟩]) = lines a := by
  funext y
  have hb : (y 0).val < 8192 := (y 0).isLt
  have h8 : (y 0).val % 8 < 8 := Nat.mod_lt _ (by decide)
  show _ = a (ix2 ⟨(y 0).val / 8, _⟩ ⟨(y 0).val % 8 * 128 + (y 1).val, _⟩)
  obtain hk | hk | hk | hk | hk | hk | hk | hk : (y 0).val % 8 = 0 ∨ (y 0).val % 8 = 1 ∨ (y 0).val % 8 = 2 ∨ (y 0).val % 8 = 3 ∨ (y 0).val % 8 = 4 ∨ (y 0).val % 8 = 5 ∨ (y 0).val % 8 = 6 ∨ (y 0).val % 8 = 7 := by omega
  all_goals
    repeat refine (strided_skip v f (by omega) _ _ _ _ y (by omega)).trans ?_
    refine (strided_hit v f (by omega) _ _ _ _ y hk (by omega)).trans ?_
    unfold extractStridedSlice
    apply congrArg a; funext d; apply Fin.ext; fin_cases d
    · exact Nat.zero_add _
    · show _ + _ = (y 0).val % 8 * 128 + _; rw [hk]; first | rfl | simp
end Strided

variable (m : (ℓ : Loc nD τ sig) → Buf (Elt F) ℓ) (ρ : Dev nD → PrngReg)

/-- The whole block. -/
abbrev r0_0 : Rect S1024x512 := Rect.unit (s := S1024x512) ![0, 0] S1024x512.size inb_S1024x512_S1024x512_0_0
/-- The whole block. -/
abbrev r0_1 : Rect S512x1024 := Rect.unit (s := S512x1024) ![0, 0] S512x1024.size inb_S512x1024_S512x1024_0_0
/-- The whole block. -/
abbrev r0_2 : Rect S1024x1024 := Rect.unit (s := S1024x1024) ![0, 0] S1024x1024.size inb_S1024x1024_S1024x1024_0_0
/-- The whole block. -/
abbrev r0_3 : Rect S1x1024 := Rect.unit (s := S1x1024) ![0, 0] S1x1024.size inb_S1x1024_S1x1024_0_0
/-- The whole block. -/
abbrev r0_4 : Rect S1024x128 := Rect.unit (s := S1024x128) ![0, 0] S1024x128.size inb_S1024x128_S1024x128_0_0

/-- The output product of a block. -/
def yv (x0 : Vec F S1024x512 .bf16) (x1 : Vec F S1024x512 .bf16) (x2 : Vec F S1024x1024 .bf16) (x3 : Vec F S1024x1024 .bf16) (x4 : Vec F S1024x1024 .f32) (x5 : Vec F S512x1024 .bf16) (x6 : Vec F S512x1024 .bf16) (x7 : Vec F S1024x1024 .bf16) (x8 : Vec F S1x1024 .f32) (x9 : Vec F S1x1024 .f32) (x10 : Vec F S1024x128 .bf16) : FVec F S1024x1024 .f32 :=
  k0_pay2 (View.ld x0 r0_0) (View.ld x5 r0_1) (View.ld x1 r0_0) (View.ld x6 r0_1) (View.ld x2 r0_2) (View.ld x3 r0_2) (View.ld x7 r0_2)

/-- The normalised rows of a block. -/
def hv (x0 : Vec F S1024x512 .bf16) (x1 : Vec F S1024x512 .bf16) (x2 : Vec F S1024x1024 .bf16) (x3 : Vec F S1024x1024 .bf16) (x4 : Vec F S1024x1024 .f32) (x5 : Vec F S512x1024 .bf16) (x6 : Vec F S512x1024 .bf16) (x7 : Vec F S1024x1024 .bf16) (x8 : Vec F S1x1024 .f32) (x9 : Vec F S1x1024 .f32) (x10 : Vec F S1024x128 .bf16) : FVec F S1024x1024 .f32 :=
  k0_pay4 (yv x0 x1 x2 x3 x4 x5 x6 x7 x8 x9 x10) (View.ld x4 r0_2) (View.ld x8 r0_3) (View.ld x9 r0_3)

/-- What the body leaves in the first result's block. -/
def out0_11 (x0 : Vec F S1024x512 .bf16) (x1 : Vec F S1024x512 .bf16) (x2 : Vec F S1024x1024 .bf16) (x3 : Vec F S1024x1024 .bf16) (x4 : Vec F S1024x1024 .f32) (x5 : Vec F S512x1024 .bf16) (x6 : Vec F S512x1024 .bf16) (x7 : Vec F S1024x1024 .bf16) (x8 : Vec F S1x1024 .f32) (x9 : Vec F S1x1024 .f32) (x10 : Vec F S1024x128 .bf16) : Vec F S1024x1024 .f32 :=
  View.canon [⟨r0_2, k0_pay3 (yv x0 x1 x2 x3 x4 x5 x6 x7 x8 x9 x10) (View.ld x4 r0_2) (View.ld x8 r0_3)⟩]

/-- The store covers the block. -/
theorem cover0_11 (p0 : Vec F S1024x1024 .f32) (y : S1024x1024.Idx) :
    ∃ pc ∈ ([⟨r0_2, p0⟩] : List (View.Piece (Elt F) S1024x1024 .f32)), y ∈ pc.1.set :=
  View.cover_of_tiled [⟨r0_2, p0⟩] S1024x1024.size (by rfl) y

/-- What the body leaves in the second result's block. -/
def out0_12 (x0 : Vec F S1024x512 .bf16) (x1 : Vec F S1024x512 .bf16) (x2 : Vec F S1024x1024 .bf16) (x3 : Vec F S1024x1024 .bf16) (x4 : Vec F S1024x1024 .f32) (x5 : Vec F S512x1024 .bf16) (x6 : Vec F S512x1024 .bf16) (x7 : Vec F S1024x1024 .bf16) (x8 : Vec F S1x1024 .f32) (x9 : Vec F S1x1024 .f32) (x10 : Vec F S1024x128 .bf16) : Vec F S8192x128 .f32 := lines (hv x0 x1 x2 x3 x4 x5 x6 x7 x8 x9 x10)

/-- What the body leaves in the third result's block. -/
def out0_13 (x0 : Vec F S1024x512 .bf16) (x1 : Vec F S1024x512 .bf16) (x2 : Vec F S1024x1024 .bf16) (x3 : Vec F S1024x1024 .bf16) (x4 : Vec F S1024x1024 .f32) (x5 : Vec F S512x1024 .bf16) (x6 : Vec F S512x1024 .bf16) (x7 : Vec F S1024x1024 .bf16) (x8 : Vec F S1x1024 .f32) (x9 : Vec F S1x1024 .f32) (x10 : Vec F S1024x128 .bf16) : Vec F S1024x128 .f32 :=
  View.canon [⟨r0_4, k0_pay1 (k0_pay13 (F := F)) (k0_pay15 (hv x0 x1 x2 x3 x4 x5 x6 x7 x8 x9 x10) (View.ld x10 r0_4)) (k0_pay16 (hv x0 x1 x2 x3 x4 x5 x6 x7 x8 x9 x10) (View.ld x10 r0_4)) (k0_pay18 (hv x0 x1 x2 x3 x4 x5 x6 x7 x8 x9 x10) (View.ld x10 r0_4)) (k0_pay19 (hv x0 x1 x2 x3 x4 x5 x6 x7 x8 x9 x10) (View.ld x10 r0_4)) (Scalar.ofBits .f32 0x43000000#32)⟩]

/-- The store covers the block. -/
theorem cover0_13 (p0 : Vec F S1024x128 .f32) (y : S1024x128.Idx) :
    ∃ pc ∈ ([⟨r0_4, p0⟩] : List (View.Piece (Elt F) S1024x128 .f32)), y ∈ pc.1.set :=
  View.cover_of_tiled [⟨r0_4, p0⟩] S1024x128.size (by rfl) y

set_option maxHeartbeats 2000000 in
/-- The body on whole blocks, the inputs' at their contents and the results' at anything, leaves the inputs as they were and each
    result's block at its function of the inputs. -/
theorem sound_kernel (c : Dev nD) (E : Set ℕ) (i : grid0.Coords) (arg1 : Memref sig .tc .vmem S1024x512 .bf16) (harg1 : arg1.IsWhole) (arg2 : Memref sig .tc .vmem S1024x512 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x128 .bf16) (harg11 : arg11.IsWhole) (arg12 : Memref sig .tc .vmem S1024x1024 .f32) (harg12 : arg12.IsWhole) (arg13 : Memref sig .tc .vmem S8192x128 .f32) (harg13 : arg13.IsWhole) (arg14 : Memref sig .tc .vmem S1024x128 .f32) (harg14 : arg14.IsWhole)
    (x0 : Vec F S1024x512 .bf16) (x1 : Vec F S1024x512 .bf16) (x2 : Vec F S1024x1024 .bf16) (x3 : Vec F S1024x1024 .bf16) (x4 : Vec F S1024x1024 .f32) (x5 : Vec F S512x1024 .bf16) (x6 : Vec F S512x1024 .bf16) (x7 : Vec F S1024x1024 .bf16) (x8 : Vec F S1x1024 .f32) (x9 : Vec F S1x1024 .f32) (x10 : Vec F S1024x128 .bf16) (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out0_11 x0 x1 x2 x3 x4 x5 x6 x7 x8 x9 x10) ∗ owns (c : Thread nD τ) arg13 fullShare (out0_12 x0 x1 x2 x3 x4 x5 x6 x7 x8 x9 x10) ∗ owns (c : Thread nD τ) arg14 fullShare (out0_13 x0 x1 x2 x3 x4 x5 x6 x7 x8 x9 x10)) -∗ K ⟨⟩))
      ⊢ wp frame (wpE (defs₀ (F := F)) Variants.none c none) E (cc0_mix_out i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_mix_out_eq_skeleton]; unfold cc0_mix_out_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    refine (View.read_writes_eq_canon _ _ _ (cover0_11 _)).trans ?_
    rfl
  isplitl [H12]
  · iexists _; isplitr
    swap; · iexact H12
    ipureintro
    exact lines_of _ _ _
  iexists _; isplitr
  swap; · iexact H13
  ipureintro
  refine (View.read_writes_eq_canon _ _ _ (cover0_13 _)).trans ?_
  rfl

/-- The run's data: the arrays as the region finds them, and each block after the body. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨12, _⟩ => out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.ΦA spec0 c
  q w := Pipeline.shareOf spec0 w
  owed _ := 0

/-- The arrays are the region's. -/
theorem A_eq (c : Dev nD) (w : Fin cfg0.W) : (dats m 0 c).A w = V m c (Pipeline.arrRef spec0 w) := by
  dsimp only [dats]

/-- Window 0's block after the body. -/
theorem after0_0 (c : Dev nD) (t : Fin cfg0.N) : (dats m 0 c).after 0 t = iblk m c 0 t := by dsimp only [dats]
/-- Window 1's block after the body. -/
theorem after0_1 (c : Dev nD) (t : Fin cfg0.N) : (dats m 0 c).after 1 t = iblk m c 1 t := by dsimp only [dats]
/-- Window 2's block after the body. -/
theorem after0_2 (c : Dev nD) (t : Fin cfg0.N) : (dats m 0 c).after 2 t = iblk m c 2 t := by dsimp only [dats]
/-- Window 3's block after the body. -/
theorem after0_3 (c : Dev nD) (t : Fin cfg0.N) : (dats m 0 c).after 3 t = iblk m c 3 t := by dsimp only [dats]
/-- Window 4's block after the body. -/
theorem after0_4 (c : Dev nD) (t : Fin cfg0.N) : (dats m 0 c).after 4 t = iblk m c 4 t := by dsimp only [dats]
/-- Window 5's block after the body. -/
theorem after0_5 (c : Dev nD) (t : Fin cfg0.N) : (dats m 0 c).after 5 t = iblk m c 5 t := by dsimp only [dats]
/-- Window 6's block after the body. -/
theorem after0_6 (c : Dev nD) (t : Fin cfg0.N) : (dats m 0 c).after 6 t = iblk m c 6 t := by dsimp only [dats]
/-- Window 7's block after the body. -/
theorem after0_7 (c : Dev nD) (t : Fin cfg0.N) : (dats m 0 c).after 7 t = iblk m c 7 t := by dsimp only [dats]
/-- Window 8's block after the body. -/
theorem after0_8 (c : Dev nD) (t : Fin cfg0.N) : (dats m 0 c).after 8 t = iblk m c 8 t := by dsimp only [dats]
/-- Window 9's block after the body. -/
theorem after0_9 (c : Dev nD) (t : Fin cfg0.N) : (dats m 0 c).after 9 t = iblk m c 9 t := by dsimp only [dats]
/-- Window 10's block after the body. -/
theorem after0_10 (c : Dev nD) (t : Fin cfg0.N) : (dats m 0 c).after 10 t = iblk m c 10 t := by dsimp only [dats]
/-- Window 11's block after the body. -/
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
/-- Window 12's block after the body. -/
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
/-- Window 13's block after the body. -/
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
/-- Window 0's block before the body. -/
theorem before0_0 (c : Dev nD) (t : Fin cfg0.N) (d) : (dats m 0 c).before 0 t d = iblk m c 0 t :=
  before0_0_of m (dats m 0 c) (A_eq m c 0) (after0_0 m c) t d
/-- Window 1's block before the body. -/
theorem before0_1 (c : Dev nD) (t : Fin cfg0.N) (d) : (dats m 0 c).before 1 t d = iblk m c 1 t :=
  before0_1_of m (dats m 0 c) (A_eq m c 1) (after0_1 m c) t d
/-- Window 2's block before the body. -/
theorem before0_2 (c : Dev nD) (t : Fin cfg0.N) (d) : (dats m 0 c).before 2 t d = iblk m c 2 t :=
  before0_2_of m (dats m 0 c) (A_eq m c 2) (after0_2 m c) t d
/-- Window 3's block before the body. -/
theorem before0_3 (c : Dev nD) (t : Fin cfg0.N) (d) : (dats m 0 c).before 3 t d = iblk m c 3 t :=
  before0_3_of m (dats m 0 c) (A_eq m c 3) (after0_3 m c) t d
/-- Window 4's block before the body. -/
theorem before0_4 (c : Dev nD) (t : Fin cfg0.N) (d) : (dats m 0 c).before 4 t d = iblk m c 4 t :=
  before0_4_of m (dats m 0 c) (A_eq m c 4) (after0_4 m c) t d
/-- Window 5's block before the body. -/
theorem before0_5 (c : Dev nD) (t : Fin cfg0.N) (d) : (dats m 0 c).before 5 t d = iblk m c 5 t :=
  before0_5_of m (dats m 0 c) (A_eq m c 5) (after0_5 m c) t d
/-- Window 6's block before the body. -/
theorem before0_6 (c : Dev nD) (t : Fin cfg0.N) (d) : (dats m 0 c).before 6 t d = iblk m c 6 t :=
  before0_6_of m (dats m 0 c) (A_eq m c 6) (after0_6 m c) t d
/-- Window 7's block before the body. -/
theorem before0_7 (c : Dev nD) (t : Fin cfg0.N) (d) : (dats m 0 c).before 7 t d = iblk m c 7 t :=
  before0_7_of m (dats m 0 c) (A_eq m c 7) (after0_7 m c) t d
/-- Window 8's block before the body. -/
theorem before0_8 (c : Dev nD) (t : Fin cfg0.N) (d) : (dats m 0 c).before 8 t d = iblk m c 8 t :=
  before0_8_of m (dats m 0 c) (A_eq m c 8) (after0_8 m c) t d
/-- Window 9's block before the body. -/
theorem before0_9 (c : Dev nD) (t : Fin cfg0.N) (d) : (dats m 0 c).before 9 t d = iblk m c 9 t :=
  before0_9_of m (dats m 0 c) (A_eq m c 9) (after0_9 m c) t d
/-- Window 10's block before the body. -/
theorem before0_10 (c : Dev nD) (t : Fin cfg0.N) (d) : (dats m 0 c).before 10 t d = iblk m c 10 t :=
  before0_10_of m (dats m 0 c) (A_eq m c 10) (after0_10 m c) t d

/-- What the body is called with. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- What the body returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body table's row at a point's slots. -/
theorem defs₀_row (t : Fin cfg0.N) :
    defs₀ (F := F) .tc cfg0.body (cfg0.bodyArgs t (cfg0.slots t)) = bodyAt0 t := by
  unfold defs₀; rw [Defs.onTc_tc]

/-- The body's triple at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The run: the arrays at what the data says, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The run without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

/-- The run with the two claimed results named, the arguments unchanged. -/
theorem run_blocks : θ_run defs (onTc (τ := τ) (main (F := F))) ⟨m, fun _ => 0, ρ⟩ fun r => ∀ c : Dev nD,
      r.2.mem ((c : Thread nD τ).loc main_v7_0) = (dats m 0 c).arrAt 11 cfg0.N
      ∧ r.2.mem ((c : Thread nD τ).loc main_v7_1) = (dats m 0 c).arrAt 12 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1 11, (h c).1 12,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 3).trans (((dats m 0 c).arrAt_in 3 rfl _).trans ((A_eq m c 3).trans (V_main_arg2 m c))),
      ((h c).1 4).trans (((dats m 0 c).arrAt_in 4 rfl _).trans ((A_eq m c 4).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩)
    (run_main m ρ)

end Cert.Kernel6Ideal.Hand

end
-- ==== Proof.KMix.lean ====
module

public import proofs.«01_k».proof.Defs
public import proofs.«01_k».proof.Proof.Gen.Kernel6.Launch
public import proofs.«01_k».proof.Proof.Gen.Kernel6.Skeleton
public import proofs.«01_k».proof.Proof.Gen.Kernel6.Points
public import proofs.«01_k».proof.Proof.Gen.Kernel6.Frame
public import proofs.«01_k».proof.Proof.IMix
public import Idealize.ShloMosaic.Lib.Pipeline.FrameBody
public import Idealize.ShloMosaic.Lib.Claim
public import Idealize.ShloMosaic.Lib.Ring
public import Idealize.ShloMosaic.Lib.Tactic
public import Idealize.ShloMosaic.Lib.Writes
public import Idealize.ShloMosaic.Lib.WordCmp
public import Idealize.ShloMosaic.Lib.Pointwise

/-! The second layer's merge: what its body leaves in the three result blocks, the body's triple, and the run. The second
result is written as eight strided stores, one for each block of 128 columns, which together put the rows in row-major memory. -/

@[expose] public section

set_option maxRecDepth 16384

noncomputable section

namespace Cert.Kernel6.Hand

open Cert.Kernel6 Cert.Kernel6.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal.Hand (lines lines_of)

variable {F : FTy → Type} [FloatOps F]

variable (m : (ℓ : Loc nD τ sig) → Buf (Elt F) ℓ) (ρ : Dev nD → PrngReg)

/-- The whole block. -/
abbrev r0_0 : Rect S1024x512 := Rect.unit (s := S1024x512) ![0, 0] S1024x512.size inb_S1024x512_S1024x512_0_0
/-- The whole block. -/
abbrev r0_1 : Rect S512x1024 := Rect.unit (s := S512x1024) ![0, 0] S512x1024.size inb_S512x1024_S512x1024_0_0
/-- The whole block. -/
abbrev r0_2 : Rect S1024x1024 := Rect.unit (s := S1024x1024) ![0, 0] S1024x1024.size inb_S1024x1024_S1024x1024_0_0
/-- The whole block. -/
abbrev r0_3 : Rect S1x1024 := Rect.unit (s := S1x1024) ![0, 0] S1x1024.size inb_S1x1024_S1x1024_0_0
/-- The whole block. -/
abbrev r0_4 : Rect S1024x128 := Rect.unit (s := S1024x128) ![0, 0] S1024x128.size inb_S1024x128_S1024x128_0_0

/-- The output product of a block. -/
def yv (x0 : Vec F S1024x512 .bf16) (x1 : Vec F S1024x512 .bf16) (x2 : Vec F S1024x1024 .bf16) (x3 : Vec F S1024x1024 .bf16) (x4 : Vec F S1024x1024 .f32) (x5 : Vec F S512x1024 .bf16) (x6 : Vec F S512x1024 .bf16) (x7 : Vec F S1024x1024 .bf16) (x8 : Vec F S1x1024 .f32) (x9 : Vec F S1x1024 .f32) (x10 : Vec F S1024x128 .bf16) : FVec F S1024x1024 .f32 :=
  k0_pay2 (View.ld x0 r0_0) (View.ld x5 r0_1) (View.ld x1 r0_0) (View.ld x6 r0_1) (View.ld x2 r0_2) (View.ld x3 r0_2) (View.ld x7 r0_2)

/-- The normalised rows of a block. -/
def hv (x0 : Vec F S1024x512 .bf16) (x1 : Vec F S1024x512 .bf16) (x2 : Vec F S1024x1024 .bf16) (x3 : Vec F S1024x1024 .bf16) (x4 : Vec F S1024x1024 .f32) (x5 : Vec F S512x1024 .bf16) (x6 : Vec F S512x1024 .bf16) (x7 : Vec F S1024x1024 .bf16) (x8 : Vec F S1x1024 .f32) (x9 : Vec F S1x1024 .f32) (x10 : Vec F S1024x128 .bf16) : FVec F S1024x1024 .f32 :=
  k0_pay4 (yv x0 x1 x2 x3 x4 x5 x6 x7 x8 x9 x10) (View.ld x4 r0_2) (View.ld x8 r0_3) (View.ld x9 r0_3)

/-- What the body leaves in the first result's block. -/
def out0_11 (x0 : Vec F S1024x512 .bf16) (x1 : Vec F S1024x512 .bf16) (x2 : Vec F S1024x1024 .bf16) (x3 : Vec F S1024x1024 .bf16) (x4 : Vec F S1024x1024 .f32) (x5 : Vec F S512x1024 .bf16) (x6 : Vec F S512x1024 .bf16) (x7 : Vec F S1024x1024 .bf16) (x8 : Vec F S1x1024 .f32) (x9 : Vec F S1x1024 .f32) (x10 : Vec F S1024x128 .bf16) : Vec F S1024x1024 .f32 :=
  View.canon [⟨r0_2, k0_pay3 (yv x0 x1 x2 x3 x4 x5 x6 x7 x8 x9 x10) (View.ld x4 r0_2) (View.ld x8 r0_3)⟩]

/-- The store covers the block. -/
theorem cover0_11 (p0 : Vec F S1024x1024 .f32) (y : S1024x1024.Idx) :
    ∃ pc ∈ ([⟨r0_2, p0⟩] : List (View.Piece (Elt F) S1024x1024 .f32)), y ∈ pc.1.set :=
  View.cover_of_tiled [⟨r0_2, p0⟩] S1024x1024.size (by rfl) y

/-- What the body leaves in the second result's block. -/
def out0_12 (x0 : Vec F S1024x512 .bf16) (x1 : Vec F S1024x512 .bf16) (x2 : Vec F S1024x1024 .bf16) (x3 : Vec F S1024x1024 .bf16) (x4 : Vec F S1024x1024 .f32) (x5 : Vec F S512x1024 .bf16) (x6 : Vec F S512x1024 .bf16) (x7 : Vec F S1024x1024 .bf16) (x8 : Vec F S1x1024 .f32) (x9 : Vec F S1x1024 .f32) (x10 : Vec F S1024x128 .bf16) : Vec F S8192x128 .f32 := lines (hv x0 x1 x2 x3 x4 x5 x6 x7 x8 x9 x10)

/-- What the body leaves in the third result's block. -/
def out0_13 (x0 : Vec F S1024x512 .bf16) (x1 : Vec F S1024x512 .bf16) (x2 : Vec F S1024x1024 .bf16) (x3 : Vec F S1024x1024 .bf16) (x4 : Vec F S1024x1024 .f32) (x5 : Vec F S512x1024 .bf16) (x6 : Vec F S512x1024 .bf16) (x7 : Vec F S1024x1024 .bf16) (x8 : Vec F S1x1024 .f32) (x9 : Vec F S1x1024 .f32) (x10 : Vec F S1024x128 .bf16) : Vec F S1024x128 .f32 :=
  View.canon [⟨r0_4, k0_pay1 (k0_pay13 (F := F)) (k0_pay15 (hv x0 x1 x2 x3 x4 x5 x6 x7 x8 x9 x10) (View.ld x10 r0_4)) (k0_pay16 (hv x0 x1 x2 x3 x4 x5 x6 x7 x8 x9 x10) (View.ld x10 r0_4)) (k0_pay18 (hv x0 x1 x2 x3 x4 x5 x6 x7 x8 x9 x10) (View.ld x10 r0_4)) (k0_pay19 (hv x0 x1 x2 x3 x4 x5 x6 x7 x8 x9 x10) (View.ld x10 r0_4)) (Scalar.ofBits .f32 0x43000000#32)⟩]

/-- The store covers the block. -/
theorem cover0_13 (p0 : Vec F S1024x128 .f32) (y : S1024x128.Idx) :
    ∃ pc ∈ ([⟨r0_4, p0⟩] : List (View.Piece (Elt F) S1024x128 .f32)), y ∈ pc.1.set :=
  View.cover_of_tiled [⟨r0_4, p0⟩] S1024x128.size (by rfl) y

set_option maxHeartbeats 2000000 in
/-- The body on whole blocks, the inputs' at their contents and the results' at anything, leaves the inputs as they were and each
    result's block at its function of the inputs. -/
theorem sound_kernel (c : Dev nD) (E : Set ℕ) (i : grid0.Coords) (arg1 : Memref sig .tc .vmem S1024x512 .bf16) (harg1 : arg1.IsWhole) (arg2 : Memref sig .tc .vmem S1024x512 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x128 .bf16) (harg11 : arg11.IsWhole) (arg12 : Memref sig .tc .vmem S1024x1024 .f32) (harg12 : arg12.IsWhole) (arg13 : Memref sig .tc .vmem S8192x128 .f32) (harg13 : arg13.IsWhole) (arg14 : Memref sig .tc .vmem S1024x128 .f32) (harg14 : arg14.IsWhole)
    (x0 : Vec F S1024x512 .bf16) (x1 : Vec F S1024x512 .bf16) (x2 : Vec F S1024x1024 .bf16) (x3 : Vec F S1024x1024 .bf16) (x4 : Vec F S1024x1024 .f32) (x5 : Vec F S512x1024 .bf16) (x6 : Vec F S512x1024 .bf16) (x7 : Vec F S1024x1024 .bf16) (x8 : Vec F S1x1024 .f32) (x9 : Vec F S1x1024 .f32) (x10 : Vec F S1024x128 .bf16) (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out0_11 x0 x1 x2 x3 x4 x5 x6 x7 x8 x9 x10) ∗ owns (c : Thread nD τ) arg13 fullShare (out0_12 x0 x1 x2 x3 x4 x5 x6 x7 x8 x9 x10) ∗ owns (c : Thread nD τ) arg14 fullShare (out0_13 x0 x1 x2 x3 x4 x5 x6 x7 x8 x9 x10)) -∗ K ⟨⟩))
      ⊢ wp frame (wpE (defs₀ (F := F)) Variants.none c none) E (cc0_mix_out i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_mix_out_eq_skeleton]; unfold cc0_mix_out_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    refine (View.read_writes_eq_canon _ _ _ (cover0_11 _)).trans ?_
    rfl
  isplitl [H12]
  · iexists _; isplitr
    swap; · iexact H12
    ipureintro
    exact lines_of _ _ _
  iexists _; isplitr
  swap; · iexact H13
  ipureintro
  refine (View.read_writes_eq_canon _ _ _ (cover0_13 _)).trans ?_
  rfl

/-- The run's data: the arrays as the region finds them, and each block after the body. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨12, _⟩ => out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.ΦA spec0 c
  q w := Pipeline.shareOf spec0 w
  owed _ := 0

/-- The arrays are the region's. -/
theorem A_eq (c : Dev nD) (w : Fin cfg0.W) : (dats m 0 c).A w = V m c (Pipeline.arrRef spec0 w) := by
  dsimp only [dats]

/-- Window 0's block after the body. -/
theorem after0_0 (c : Dev nD) (t : Fin cfg0.N) : (dats m 0 c).after 0 t = iblk m c 0 t := by dsimp only [dats]
/-- Window 1's block after the body. -/
theorem after0_1 (c : Dev nD) (t : Fin cfg0.N) : (dats m 0 c).after 1 t = iblk m c 1 t := by dsimp only [dats]
/-- Window 2's block after the body. -/
theorem after0_2 (c : Dev nD) (t : Fin cfg0.N) : (dats m 0 c).after 2 t = iblk m c 2 t := by dsimp only [dats]
/-- Window 3's block after the body. -/
theorem after0_3 (c : Dev nD) (t : Fin cfg0.N) : (dats m 0 c).after 3 t = iblk m c 3 t := by dsimp only [dats]
/-- Window 4's block after the body. -/
theorem after0_4 (c : Dev nD) (t : Fin cfg0.N) : (dats m 0 c).after 4 t = iblk m c 4 t := by dsimp only [dats]
/-- Window 5's block after the body. -/
theorem after0_5 (c : Dev nD) (t : Fin cfg0.N) : (dats m 0 c).after 5 t = iblk m c 5 t := by dsimp only [dats]
/-- Window 6's block after the body. -/
theorem after0_6 (c : Dev nD) (t : Fin cfg0.N) : (dats m 0 c).after 6 t = iblk m c 6 t := by dsimp only [dats]
/-- Window 7's block after the body. -/
theorem after0_7 (c : Dev nD) (t : Fin cfg0.N) : (dats m 0 c).after 7 t = iblk m c 7 t := by dsimp only [dats]
/-- Window 8's block after the body. -/
theorem after0_8 (c : Dev nD) (t : Fin cfg0.N) : (dats m 0 c).after 8 t = iblk m c 8 t := by dsimp only [dats]
/-- Window 9's block after the body. -/
theorem after0_9 (c : Dev nD) (t : Fin cfg0.N) : (dats m 0 c).after 9 t = iblk m c 9 t := by dsimp only [dats]
/-- Window 10's block after the body. -/
theorem after0_10 (c : Dev nD) (t : Fin cfg0.N) : (dats m 0 c).after 10 t = iblk m c 10 t := by dsimp only [dats]
/-- Window 11's block after the body. -/
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
/-- Window 12's block after the body. -/
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
/-- Window 13's block after the body. -/
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
/-- Window 0's block before the body. -/
theorem before0_0 (c : Dev nD) (t : Fin cfg0.N) (d) : (dats m 0 c).before 0 t d = iblk m c 0 t :=
  before0_0_of m (dats m 0 c) (A_eq m c 0) (after0_0 m c) t d
/-- Window 1's block before the body. -/
theorem before0_1 (c : Dev nD) (t : Fin cfg0.N) (d) : (dats m 0 c).before 1 t d = iblk m c 1 t :=
  before0_1_of m (dats m 0 c) (A_eq m c 1) (after0_1 m c) t d
/-- Window 2's block before the body. -/
theorem before0_2 (c : Dev nD) (t : Fin cfg0.N) (d) : (dats m 0 c).before 2 t d = iblk m c 2 t :=
  before0_2_of m (dats m 0 c) (A_eq m c 2) (after0_2 m c) t d
/-- Window 3's block before the body. -/
theorem before0_3 (c : Dev nD) (t : Fin cfg0.N) (d) : (dats m 0 c).before 3 t d = iblk m c 3 t :=
  before0_3_of m (dats m 0 c) (A_eq m c 3) (after0_3 m c) t d
/-- Window 4's block before the body. -/
theorem before0_4 (c : Dev nD) (t : Fin cfg0.N) (d) : (dats m 0 c).before 4 t d = iblk m c 4 t :=
  before0_4_of m (dats m 0 c) (A_eq m c 4) (after0_4 m c) t d
/-- Window 5's block before the body. -/
theorem before0_5 (c : Dev nD) (t : Fin cfg0.N) (d) : (dats m 0 c).before 5 t d = iblk m c 5 t :=
  before0_5_of m (dats m 0 c) (A_eq m c 5) (after0_5 m c) t d
/-- Window 6's block before the body. -/
theorem before0_6 (c : Dev nD) (t : Fin cfg0.N) (d) : (dats m 0 c).before 6 t d = iblk m c 6 t :=
  before0_6_of m (dats m 0 c) (A_eq m c 6) (after0_6 m c) t d
/-- Window 7's block before the body. -/
theorem before0_7 (c : Dev nD) (t : Fin cfg0.N) (d) : (dats m 0 c).before 7 t d = iblk m c 7 t :=
  before0_7_of m (dats m 0 c) (A_eq m c 7) (after0_7 m c) t d
/-- Window 8's block before the body. -/
theorem before0_8 (c : Dev nD) (t : Fin cfg0.N) (d) : (dats m 0 c).before 8 t d = iblk m c 8 t :=
  before0_8_of m (dats m 0 c) (A_eq m c 8) (after0_8 m c) t d
/-- Window 9's block before the body. -/
theorem before0_9 (c : Dev nD) (t : Fin cfg0.N) (d) : (dats m 0 c).before 9 t d = iblk m c 9 t :=
  before0_9_of m (dats m 0 c) (A_eq m c 9) (after0_9 m c) t d
/-- Window 10's block before the body. -/
theorem before0_10 (c : Dev nD) (t : Fin cfg0.N) (d) : (dats m 0 c).before 10 t d = iblk m c 10 t :=
  before0_10_of m (dats m 0 c) (A_eq m c 10) (after0_10 m c) t d

/-- What the body is called with. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- What the body returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body table's row at a point's slots. -/
theorem defs₀_row (t : Fin cfg0.N) :
    defs₀ (F := F) .tc cfg0.body (cfg0.bodyArgs t (cfg0.slots t)) = bodyAt0 t := by
  unfold defs₀; rw [Defs.onTc_tc]

/-- The body's triple at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The run: the arrays at what the data says, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The run without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.Kernel6.Hand

end
-- ==== Proof.Merge2.lean ====
module

public import proofs.«01_k».proof.Defs
public import proofs.«01_k».proof.Proof.Merge
public import proofs.«01_k».proof.Proof.IMix
public import proofs.«01_k».proof.Proof.Gen.Reference6Ideal.Run
public import proofs.«01_k».proof.Proof.Gen.Reference6Ideal.Read
public import Idealize.ShloMosaic.Lib.Pipeline.ValueKit
public import Idealize.ShloMosaic.Lib.StableHlo.RunRead
public import Idealize.ShloMosaic.Lib.Pointwise

/-! The second layer's merge: its first result is the same function of its rows as the first layer's, its second result the
normalised rows in row-major memory. -/

@[expose] public section
set_option maxRecDepth 16384
noncomputable section

namespace Cert.Kernel6Ideal.Merge
open Cert.Kernel6Ideal Cert.Kernel6Ideal.Gen Cert.Kernel6Ideal.Hand Idealize.ShloMosaic Idealize.ShloMosaic.TcCoe Idealize.SL.Sem Cert.Merge
open Cert.Kernel4Ideal.Merge (x1Arr garr1)
open Idealize.ShloMosaic.Pipeline (Dat)

variable (m : (ℓ : Loc nD τ sig) → Buf (Elt Ideal) ℓ)

/-- The output product of a block, at an index. -/
theorem pay2_at (v0 : Vec Ideal S1024x512 .bf16) (v1 : Vec Ideal S512x1024 .bf16) (v4 : Vec Ideal S1024x512 .bf16) (v5 : Vec Ideal S512x1024 .bf16)
    (v8 v18 v30 : Vec Ideal S1024x1024 .bf16) (r n : Fin 1024) :
    k0_pay2 v0 v1 v4 v5 v8 v18 v30 (ix2 r n) = yRow (fun i => v0 (ix2 r i)) (fun i => v4 (ix2 r i)) (fun k => v8 (ix2 r k)) (fun k => v18 (ix2 r k))
      (fun i k => v1 (ix2 i k)) (fun i k => v5 (ix2 i k)) (fun i k => v30 (ix2 i k)) n :=
  Cert.Kernel4Ideal.Merge.pay3_at v0 v1 v4 v5 v8 v18 v30 r n

/-- The first result of a block, at an index. -/
theorem pay3_at (v32 v33 : Vec Ideal S1024x1024 .f32) (v34 : Vec Ideal S1x1024 .f32) (r n : Fin 1024) :
    k0_pay3 v32 v33 v34 (ix2 r n) = v33 (ix2 r n) + rmsRow (fun k => v32 (ix2 r k)) (fun k => v34 (ix2 0 k)) n :=
  Cert.Kernel4Ideal.Merge.pay1_at v32 v33 v34 r n

/-- The second result of a block, at an index. -/
theorem pay4_at (v32 v33 : Vec Ideal S1024x1024 .f32) (v34 v49 : Vec Ideal S1x1024 .f32) (r n : Fin 1024) :
    k0_pay4 v32 v33 v34 v49 (ix2 r n) = rmsRow (fun k => k0_pay3 v32 v33 v34 (ix2 r k)) (fun k => v49 (ix2 0 k)) n :=
  Cert.Kernel4Ideal.Merge.pay2_at v32 v33 v34 v49 r n

/-- A block's row is a row of the array. -/
theorem row_lt (t : Fin grid0.N) (r : Fin 1024) : (grid0.coords t 0).val * 1024 + r.val < 16384 := by
  have : (grid0.coords t 0).val < 16 := (grid0.coords t 0).isLt
  omega

/-- Where the blocks of window 0 start. -/
theorem idx0 : ∀ t : Fin grid0.N, win0_0.index t = ![(grid0.coords t 0).val, 0] := by decide +kernel
/-- Where the blocks of window 1 start. -/
theorem idx1 : ∀ t : Fin grid0.N, win0_1.index t = ![(grid0.coords t 0).val, 0] := by decide +kernel
/-- Where the blocks of window 2 start. -/
theorem idx2 : ∀ t : Fin grid0.N, win0_2.index t = ![(grid0.coords t 0).val, 2] := by decide +kernel
/-- Where the blocks of window 3 start. -/
theorem idx3 : ∀ t : Fin grid0.N, win0_3.index t = ![(grid0.coords t 0).val, 3] := by decide +kernel
/-- Where the blocks of window 4 start. -/
theorem idx4 : ∀ t : Fin grid0.N, win0_4.index t = ![(grid0.coords t 0).val, 0] := by decide +kernel
/-- Where the blocks of window 5 start. -/
theorem idx5 : ∀ t : Fin grid0.N, win0_5.index t = ![0, 0] := by decide +kernel
/-- Where the blocks of window 6 start. -/
theorem idx6 : ∀ t : Fin grid0.N, win0_6.index t = ![0, 0] := by decide +kernel
/-- Where the blocks of window 7 start. -/
theorem idx7 : ∀ t : Fin grid0.N, win0_7.index t = ![0, 0] := by decide +kernel
/-- Where the blocks of window 8 start. -/
theorem idx8 : ∀ t : Fin grid0.N, win0_8.index t = ![0, 0] := by decide +kernel
/-- Where the blocks of window 9 start. -/
theorem idx9 : ∀ t : Fin grid0.N, win0_9.index t = ![0, 0] := by decide +kernel
/-- Where the blocks of window 11 start. -/
theorem idx11 : ∀ t : Fin grid0.N, win0_11.index t = ![(grid0.coords t 0).val, 0] := by decide +kernel
/-- Where the blocks of window 12 start. -/
theorem idx12 : ∀ t : Fin grid0.N, win0_12.index t = ![(grid0.coords t 0).val, 0] := by decide +kernel

/-- The block of window 0 at an index. -/
theorem blk0_at (c : Dev nD) (t : Fin cfg0.N) (r : Fin 1024) (k : Fin 512) :
    iblk m c 0 t (ix2 r k) = V m c main_arg0 (ix2 ⟨(grid0.coords t 0).val * 1024 + r.val, row_lt t r⟩ k) := by
  blk_ext [iblk, idx0 t]

/-- The block of window 1 at an index. -/
theorem blk1_at (c : Dev nD) (t : Fin cfg0.N) (r : Fin 1024) (k : Fin 512) :
    iblk m c 1 t (ix2 r k) = V m c main_arg1 (ix2 ⟨(grid0.coords t 0).val * 1024 + r.val, row_lt t r⟩ k) := by
  blk_ext [iblk, idx1 t]

/-- The block of window 2 at an index. -/
theorem blk2_at (c : Dev nD) (t : Fin cfg0.N) (r : Fin 1024) (k : Fin 1024) :
    iblk m c 2 t (ix2 r k) = V m c main_arg2 (ix2 ⟨(grid0.coords t 0).val * 1024 + r.val, row_lt t r⟩ ⟨2048 + k.val, by omega⟩) := by
  blk_ext [iblk, idx2 t]

/-- The block of window 3 at an index. -/
theorem blk3_at (c : Dev nD) (t : Fin cfg0.N) (r : Fin 1024) (k : Fin 1024) :
    iblk m c 3 t (ix2 r k) = V m c main_arg2 (ix2 ⟨(grid0.coords t 0).val * 1024 + r.val, row_lt t r⟩ ⟨3072 + k.val, by omega⟩) := by
  blk_ext [iblk, idx3 t]

/-- The block of window 4 at an index. -/
theorem blk4_at (c : Dev nD) (t : Fin cfg0.N) (r : Fin 1024) (k : Fin 1024) :
    iblk m c 4 t (ix2 r k) = V m c main_arg3 (ix2 ⟨(grid0.coords t 0).val * 1024 + r.val, row_lt t r⟩ k) := by
  blk_ext [iblk, idx4 t]

/-- The block of window 5 at an index. -/
theorem blk5_at (c : Dev nD) (t : Fin cfg0.N) (r : Fin 512) (k : Fin 1024) :
    iblk m c 5 t (ix2 r k) = V m c main_v2 (ix2 r k) := by
  blk_ext [iblk, idx5 t]

/-- The block of window 6 at an index. -/
theorem blk6_at (c : Dev nD) (t : Fin cfg0.N) (r : Fin 512) (k : Fin 1024) :
    iblk m c 6 t (ix2 r k) = V m c main_v3 (ix2 r k) := by
  blk_ext [iblk, idx6 t]

/-- The block of window 7 at an index. -/
theorem blk7_at (c : Dev nD) (t : Fin cfg0.N) (r : Fin 1024) (k : Fin 1024) :
    iblk m c 7 t (ix2 r k) = V m c main_v4 (ix2 r k) := by
  blk_ext [iblk, idx7 t]

/-- The block of window 8 at an index. -/
theorem blk8_at (c : Dev nD) (t : Fin cfg0.N) (r : Fin 1) (k : Fin 1024) :
    iblk m c 8 t (ix2 r k) = V m c main_v5 (ix2 r k) := by
  blk_ext [iblk, idx8 t]

/-- The block of window 9 at an index. -/
theorem blk9_at (c : Dev nD) (t : Fin cfg0.N) (r : Fin 1) (k : Fin 1024) :
    iblk m c 9 t (ix2 r k) = V m c main_v6 (ix2 r k) := by
  blk_ext [iblk, idx9 t]

/-- The weight of the first branch as the region finds it. -/
theorem V_v2 (c : Dev nD) : V m c main_v2 = (m ((c : Thread nD τ).loc main_arg4) : FVec Ideal S512x1024 .f32) := by
  unfold V
  after_reads_simp
  rfl

/-- The weight of the second branch as the region finds it. -/
theorem V_v3 (c : Dev nD) : V m c main_v3 = (m ((c : Thread nD τ).loc main_arg5) : FVec Ideal S512x1024 .f32) := by
  unfold V
  after_reads_simp
  rfl

/-- The weight of the output as the region finds it. -/
theorem V_v4 (c : Dev nD) : V m c main_v4 = (m ((c : Thread nD τ).loc main_arg6) : FVec Ideal S1024x1024 .f32) := by
  unfold V
  after_reads_simp
  rfl

/-- A scale as the region finds it, at an index. -/
theorem V_v5 (c : Dev nD) (k : Fin 1024) : V m c main_v5 (ix2 0 k) = m ((c : Thread nD τ).loc main_arg7) (ix1 k) := by
  have h : V m c main_v5 = shapeCast S1x1024 (m ((c : Thread nD τ).loc main_arg7) : FVec Ideal S1024 .f32) shapeCasts_S1024_S1x1024 := by
    unfold V
    after_reads_simp
    rfl
  rw [h]
  pointwise

/-- A scale as the region finds it, at an index. -/
theorem V_v6 (c : Dev nD) (k : Fin 1024) : V m c main_v6 (ix2 0 k) = m ((c : Thread nD τ).loc main_arg8) (ix1 k) := by
  have h : V m c main_v6 = shapeCast S1x1024 (m ((c : Thread nD τ).loc main_arg8) : FVec Ideal S1024 .f32) shapeCasts_S1024_S1x1024 := by
    unfold V
    after_reads_simp
    rfl
  rw [h]
  pointwise

/-- The second result: the normalised rows in row-major memory, 128 columns to a line. -/
def garr2 (x0 x1 : FVec Ideal S16384x512 .bf16) (x2 : FVec Ideal S16384x4096 .bf16) (x3 : FVec Ideal S16384x1024 .f32) (x4 x5 : FVec Ideal S512x1024 .f32)
    (x6 : FVec Ideal S1024x1024 .f32) (x7 x8 : FVec Ideal S1024 .f32) : FVec Ideal S131072x128 .f32 := fun y =>
  rmsRow (x1Arr x0 x1 x2 x3 x4 x5 x6 x7 ⟨(y 0).val / 8, by have : (y 0).val < 131072 := (y 0).isLt; omega⟩) (fun k => x8 (ix1 k))
    ⟨(y 0).val % 8 * 128 + (y 1).val, by have : (y 1).val < 128 := (y 1).isLt; omega⟩

/-- Reading a whole block is the block. -/
theorem ld0 {e : EltTy} (x : Vec Ideal S1024x512 e) : View.ld x r0_0 = x := by
  funext i; exact congrArg x (funext fun a => Fin.ext (by fin_cases a <;> simp [r0_0, Rect.emb, Rect.unit]))
/-- Reading a whole block is the block. -/
theorem ld1 {e : EltTy} (x : Vec Ideal S512x1024 e) : View.ld x r0_1 = x := by
  funext i; exact congrArg x (funext fun a => Fin.ext (by fin_cases a <;> simp [r0_1, Rect.emb, Rect.unit]))
/-- Reading a whole block is the block. -/
theorem ld2 {e : EltTy} (x : Vec Ideal S1024x1024 e) : View.ld x r0_2 = x := by
  funext i; exact congrArg x (funext fun a => Fin.ext (by fin_cases a <;> simp [r0_2, Rect.emb, Rect.unit]))
/-- Reading a whole block is the block. -/
theorem ld3 {e : EltTy} (x : Vec Ideal S1x1024 e) : View.ld x r0_3 = x := by
  funext i; exact congrArg x (funext fun a => Fin.ext (by fin_cases a <;> simp [r0_3, Rect.emb, Rect.unit]))
/-- The stored rectangle is the whole block. -/
theorem emb2 (r n : Fin 1024) : r0_2.emb (ix2 r n) = ix2 r n := by
  funext a; refine Fin.ext ?_; fin_cases a <;> simp [r0_2, Rect.emb, Rect.unit]

/-- The first result of a point's block, before it is stored. -/
theorem x1_at (c : Dev nD) (t : Fin cfg0.N) (r n : Fin 1024) :
    k0_pay3 (yv (iblk m c 0 t) (iblk m c 1 t) (iblk m c 2 t) (iblk m c 3 t) (iblk m c 4 t) (iblk m c 5 t) (iblk m c 6 t) (iblk m c 7 t) (iblk m c 8 t) (iblk m c 9 t) (iblk m c 10 t))
        (iblk m c 4 t) (iblk m c 8 t) (ix2 r n)
      = x1Arr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) ⟨(grid0.coords t 0).val * 1024 + r.val, row_lt t r⟩ n := by
  rw [pay3_at]
  unfold yv x1Arr x1Row
  rw [ld0, ld0, ld1, ld1, ld2, ld2, ld2]
  have e3 : (fun k => k0_pay2 (iblk m c 0 t) (iblk m c 5 t) (iblk m c 1 t) (iblk m c 6 t) (iblk m c 2 t) (iblk m c 3 t) (iblk m c 7 t) (ix2 r k)) = _ :=
    funext fun k => pay2_at (iblk m c 0 t) (iblk m c 5 t) (iblk m c 1 t) (iblk m c 6 t) (iblk m c 2 t) (iblk m c 3 t) (iblk m c 7 t) r k
  rw [e3]
  simp only [blk0_at, blk1_at, blk2_at, blk3_at, blk4_at, blk5_at, blk6_at, blk7_at, blk8_at]
  rw [V_main_arg0, V_main_arg1, V_main_arg2, V_main_arg3, V_v2, V_v3, V_v4, funext (V_v5 m c)]

/-- What a point writes of the first result, at an index. -/
theorem out11_at (c : Dev nD) (t : Fin cfg0.N) (r n : Fin 1024) :
    out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r n) = garr1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 ⟨(grid0.coords t 0).val * 1024 + r.val, row_lt t r⟩ n) := by
  unfold out0_11
  rw [ld2, ld3]
  conv_lhs => rw [← emb2]
  rw [View.canon_cons_emb, x1_at]
  rfl

/-- A point's normalised rows, at an index. -/
theorem hv_at (c : Dev nD) (t : Fin cfg0.N) (r n : Fin 1024) :
    hv (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r n)
      = rmsRow (x1Arr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) ⟨(grid0.coords t 0).val * 1024 + r.val, row_lt t r⟩) (fun k => (m ((c : Thread nD τ).loc main_arg8) : FVec Ideal S1024 .f32) (ix1 k)) n := by
  unfold hv
  rw [ld2, ld3, ld3, pay4_at]
  refine congr (congr (congrArg rmsRow (funext fun k => x1_at m c t r k)) (funext fun k => ?_)) rfl
  rw [blk9_at, V_v6]

/-- The kernel's whole array of result 1. -/
theorem arr11_eq (c : Dev nD) : (dats m 0 c).arrAt 11 cfg0.N = garr1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 11 _ (by decide +kernel) fun t hf y => ?_
  blk_simp
  rw [after0_11]
  have H : ∀ y : S1024x1024.Idx, out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) y = garr1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) ((win0_11.blk t).view.emb y) := by
    intro y
    have hy : y = ix2 ⟨(y 0).val, (y 0).isLt⟩ ⟨(y 1).val, (y 1).isLt⟩ := by
      funext a; fin_cases a <;> rfl
    have e0 : ((win0_11.blk t).view.emb y 0).val = (grid0.coords t 0).val * 1024 + (y 0).val := by
      blk_simp [idx11 t]
    have e1 : ((win0_11.blk t).view.emb y 1).val = (y 1).val := by
      blk_simp [idx11 t]
    refine (congrArg (out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)) hy).trans ((out11_at m c t _ _).trans (congrArg _ (funext fun a => Fin.ext ?_)))
    fin_cases a
    · exact e0.symm
    · exact e1.symm
  exact H y

/-- The kernel's whole array of result 2. -/
theorem arr12_eq (c : Dev nD) : (dats m 0 c).arrAt 12 cfg0.N = garr2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 12 _ (by decide +kernel) fun t hf y => ?_
  blk_simp
  rw [after0_12]
  have H : ∀ y : S8192x128.Idx, out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) y = garr2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) ((win0_12.blk t).view.emb y) := by
    intro y
    have hb : (y 0).val < 8192 := (y 0).isLt
    have e0 : ((win0_12.blk t).view.emb y 0).val = (grid0.coords t 0).val * 8192 + (y 0).val := by
      blk_simp [idx12 t]
    have e1 : ((win0_12.blk t).view.emb y 1).val = (y 1).val := by
      blk_simp [idx12 t]
    unfold out0_12 lines garr2
    refine (hv_at m c t _ _).trans (congr (congr (congrArg rmsRow (congrArg _ (Fin.ext ?_))) rfl) (Fin.ext ?_))
    · show (grid0.coords t 0).val * 1024 + (y 0).val / 8 = ((win0_12.blk t).view.emb y 0).val / 8
      rw [e0]; omega
    · show (y 0).val % 8 * 128 + (y 1).val = ((win0_12.blk t).view.emb y 0).val % 8 * 128 + ((win0_12.blk t).view.emb y 1).val
      rw [e0, e1]; omega
  exact H y

end Cert.Kernel6Ideal.Merge

namespace Cert.Reference6Ideal.Merge
open Cert.Reference6Ideal Cert.Reference6Ideal.Gen Cert.Reference6Ideal.Read Idealize.ShloMosaic Cert.Merge Cert.Kernel6Ideal.Merge
open Cert.Kernel4Ideal.Merge (x1Arr garr1)

section
variable (x0 x1 : FVec Ideal S16384x512 .bf16) (x2 : FVec Ideal S16384x4096 .bf16)
  (x3 : FVec Ideal S16384x1024 .f32) (x4 x5 : FVec Ideal S512x1024 .f32)
  (x6 : FVec Ideal S1024x1024 .f32) (x7 x8 : FVec Ideal S1024 .f32)

/-- The reference's normalised rows at an index: the first layer's reference, before its rounding. -/
theorem h_at (r : Fin 16384) (n : Fin 1024) : val_main_v49 (F := Ideal) x0 x1 x2 x3 x4 x5 x6 x7 x8 (ix2 r n)
    = rmsRow (x1Arr x0 x1 x2 x3 x4 x5 x6 x7 r) (fun k => x8 (ix1 k)) n :=
  Cert.Reference4Ideal.Merge.h_at x0 x1 x2 x3 x4 x5 x6 x7 x8 r n

/-- The reference's first result: the first layer's reference's. -/
theorem ref1_eq : val_main_v36 (F := Ideal) x0 x1 x2 x3 x4 x5 x6 x7 = garr1 x0 x1 x2 x3 x4 x5 x6 x7 :=
  Cert.Reference4Ideal.Merge.ref1_eq x0 x1 x2 x3 x4 x5 x6 x7

/-- The reference's second result. -/
theorem ref2_eq : val_main_v50 (F := Ideal) x0 x1 x2 x3 x4 x5 x6 x7 x8 = garr2 x0 x1 x2 x3 x4 x5 x6 x7 x8 := by
  funext y
  have h0 : (y 0).val < 131072 := (y 0).isLt
  have h1 : (y 1).val < 128 := (y 1).isLt
  have e : val_main_v50 (F := Ideal) x0 x1 x2 x3 x4 x5 x6 x7 x8 y
      = val_main_v49 (F := Ideal) x0 x1 x2 x3 x4 x5 x6 x7 x8 (ix2 ⟨(y 0).val / 8, by omega⟩ ⟨(y 0).val % 8 * 128 + (y 1).val, by omega⟩) := by
    rw [val_main_v50_apply]
    apply congrArg; funext a; apply Fin.ext; fin_cases a
    · show _ = (y 0).val / 8; simp; omega
    · show _ = (y 0).val % 8 * 128 + (y 1).val; simp; omega
  exact e.trans (h_at x0 x1 x2 x3 x4 x5 x6 x7 x8 _ _)

end
end Cert.Reference6Ideal.Merge

namespace Cert.Merge2
open Idealize.ShloMosaic Idealize.SL.Sem

/-- The second layer's merge's reference's frame: a host program that declares no semaphore. -/
theorem frame_r : Cert.quiescent_Reference6Ideal := by
  intro m ρ _
  exact (θ_run Cert.Reference6Ideal.defs _ _).mono (fun r h => ⟨fun c => (h c).2.2, sem_eq_zero_of_no_sems (by decide) r.2⟩)
    (Cert.Reference6Ideal.Value.run (F := Ideal) m ρ)

/-- The second layer's merge's kernel computes the reference's two results. -/
theorem algebraic : Cert.algebraic_Kernel6Ideal_Reference6Ideal := by
  intro m ρ m' ρ' _ hag
  refine ⟨fun c => (Cert.Kernel6Ideal.Hand.dats m 0 c).arrAt 11 Cert.Kernel6Ideal.cfg0.N, fun c => (Cert.Kernel6Ideal.Hand.dats m 0 c).arrAt 12 Cert.Kernel6Ideal.cfg0.N,
    Cert.Kernel6Ideal.Hand.run_blocks m ρ, ?_⟩
  refine (θ_run Cert.Reference6Ideal.defs _ _).mono (fun r h c => ⟨(h c).1.trans ?_, (h c).2.1.trans ?_, (h c).2.2⟩) (Cert.Reference6Ideal.Value.run (F := Ideal) m' ρ')
  · obtain ⟨a0, a1, a2, a3, a4, a5, a6, a7, a8, a9⟩ := hag c
    rw [Cert.Reference6Ideal.Read.val_main_v36_eq, a0, a1, a2, a3, a4, a5, a6, a7]
    exact (Cert.Reference6Ideal.Merge.ref1_eq _ _ _ _ _ _ _ _).trans (Cert.Kernel6Ideal.Merge.arr11_eq m c).symm
  · obtain ⟨a0, a1, a2, a3, a4, a5, a6, a7, a8, a9⟩ := hag c
    rw [Cert.Reference6Ideal.Read.val_main_v50_eq, a0, a1, a2, a3, a4, a5, a6, a7, a8]
    exact (Cert.Reference6Ideal.Merge.ref2_eq _ _ _ _ _ _ _ _ _).trans (Cert.Kernel6Ideal.Merge.arr12_eq m c).symm

end Cert.Merge2
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_experts_in_range
public import proofs.«01_k».proof.Proof.Gen.Pre_rows_routed
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Match
public import proofs.«01_k».proof.Proof.Pre
public import proofs.«01_k».proof.Proof.Routed
public import proofs.«01_k».proof.Proof.Proj
public import proofs.«01_k».proof.Proof.Merge
public import proofs.«01_k».proof.Proof.Heads
public import proofs.«01_k».proof.Proof.KMix
public import proofs.«01_k».proof.Proof.IMix
public import proofs.«01_k».proof.Proof.Merge2
public import Idealize.ShloMosaic.Adequacy
public import Idealize.ShloMosaic.Lib.Quiescent
public import Idealize.ShloMosaic.Init

@[expose] public section

noncomputable section

namespace Cert.Proof

open Idealize.ShloMosaic Idealize.SL.Sem Cert.Kernel

/-- The reference's frame: a host program that declares no semaphore. -/
theorem frame_r : Cert.quiescent_ReferenceIdeal := by
  intro m ρ _
  exact (θ_run Cert.ReferenceIdeal.defs _ _).mono (fun r h => ⟨fun c => (h c).2,
      sem_eq_zero_of_no_sems (by decide) r.2⟩)
    (Cert.ReferenceIdeal.Value.run (F := Ideal) m ρ)

/-- The optimised attention computes the plain one's result, for finite queries, keys and biases. -/
theorem algebraic (hPre : Cert.Pre_finite_scores.Facts) :
    Cert.algebraic_KernelIdeal_ReferenceIdeal_pre_finite_scores (hPre_finite_scores := hPre) := by
  intro m ρ m' ρ' hpre hag
  refine ⟨fun c => (Cert.KernelIdeal.Gen.dats m 0 c).arrAt 4 Cert.KernelIdeal.cfg0.N, Cert.KernelIdeal.Value.run_blocks m ρ, ?_⟩
  refine (θ_run Cert.ReferenceIdeal.defs _ _).mono (fun r h c => ⟨(h c).1.trans ?_, (h c).2⟩)
    (Cert.ReferenceIdeal.Value.run (F := Ideal) m' ρ')
  obtain ⟨a0, a1, a2, a3⟩ := hag c
  obtain ⟨h0, h1, h3⟩ := Cert.Pre_finite_scores.finite_of_fn _ _ _ _ (hpre c)
  rw [Cert.ReferenceIdeal.Read.val_main_v76_eq, a0, a1, a2, a3]
  exact ((Cert.KernelIdeal.Attn.arr_eq m c).trans (Cert.Match.arr_ref _ _ _ _ h0 h1 h3)).symm

/-- The certificate's claim. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Pre_finite_scores.facts, Cert.Pre_experts_in_range.Gen.facts, Cert.Pre_rows_routed.Gen.facts,
  fun m ρ _ => Cert.Kernel.Gen.frame m ρ,
  fun m ρ _ => Cert.KernelIdeal.Gen.frame m ρ,
  fun m ρ _ => Cert.KernelIdeal.Gen.frame m ρ,
  frame_r,
  fun m ρ _ => frame_r m ρ trivial,
  Cert.Routed.frame_k,
  Cert.Routed.frame_i,
  Cert.Routed.frame_i',
  Cert.Routed.frame_r,
  fun m ρ _ => Cert.Routed.frame_r m ρ trivial,
  fun m ρ _ => Cert.Kernel3.Gen.frame m ρ,
  fun m ρ _ => Cert.Kernel3Ideal.Gen.frame m ρ,
  Cert.Proj.frame_r,
  fun m ρ _ => Cert.Kernel4.Gen.frame m ρ,
  fun m ρ _ => Cert.Kernel4Ideal.Gen.frame m ρ,
  Cert.Merge.frame_r,
  fun m ρ _ => Cert.Kernel5.Gen.frame m ρ,
  fun m ρ _ => Cert.Kernel5Ideal.Gen.frame m ρ,
  Cert.Heads.frame_r,
  fun m ρ _ => Cert.Kernel6.Hand.frame m ρ,
  fun m ρ _ => Cert.Kernel6Ideal.Hand.frame m ρ,
  Cert.Merge2.frame_r,
  IdealRules.named_const.statement Cert.KernelIdeal.κ "mask" .f32 0xF149F2CA#32 ⊥ rfl,
  algebraic _,
  trivial,
  Cert.Routed.algebraic,
  trivial,
  Cert.Proj.algebraic,
  trivial,
  Cert.Merge.algebraic,
  trivial,
  Cert.Heads.algebraic,
  trivial,
  Cert.Merge2.algebraic⟩

end Cert.Proof

end
